-- ==== Defs.lean ====
def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_finite [hPre_finite : Cert.Pre_finite.Facts] (m : (ℓ : Loc Cert.MlpIdeal.nD Cert.MlpIdeal.τ Cert.MlpIdeal.sig) → Buf (Elt Ideal) ℓ) : Prop :=
  ∀ c : Dev Cert.MlpIdeal.nD,
    (Cert.Pre_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10))) = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_finite [hPre_finite : Cert.Pre_finite.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Layers (m : (ℓ : Loc Cert.Layers.nD Cert.Layers.τ Cert.Layers.sig) → Buf (Elt Bits) ℓ) : Prop :=
  True

def Pre_LayersIdeal (m : (ℓ : Loc Cert.LayersIdeal.nD Cert.LayersIdeal.τ Cert.LayersIdeal.sig) → Buf (Elt Ideal) ℓ) : Prop :=
  True

def Pre_LayersIdeal_finite_layers [hPre_finite_layers : Cert.Pre_finite_layers.Facts] (m : (ℓ : Loc Cert.LayersIdeal.nD Cert.LayersIdeal.τ Cert.LayersIdeal.sig) → Buf (Elt Ideal) ℓ) : Prop :=
  ∀ c : Dev Cert.LayersIdeal.nD,
    (Cert.Pre_finite_layers.fn (F := Ideal) (m ((c.tc : Thread Cert.LayersIdeal.nD Cert.LayersIdeal.τ).loc Cert.LayersIdeal.main_arg0)) (m ((c.tc : Thread Cert.LayersIdeal.nD Cert.LayersIdeal.τ).loc Cert.LayersIdeal.main_arg1)) (m ((c.tc : Thread Cert.LayersIdeal.nD Cert.LayersIdeal.τ).loc Cert.LayersIdeal.main_arg2)) (m ((c.tc : Thread Cert.LayersIdeal.nD Cert.LayersIdeal.τ).loc Cert.LayersIdeal.main_arg3)) (m ((c.tc : Thread Cert.LayersIdeal.nD Cert.LayersIdeal.τ).loc Cert.LayersIdeal.main_arg4)) (m ((c.tc : Thread Cert.LayersIdeal.nD Cert.LayersIdeal.τ).loc Cert.LayersIdeal.main_arg5)) (m ((c.tc : Thread Cert.LayersIdeal.nD Cert.LayersIdeal.τ).loc Cert.LayersIdeal.main_arg6)) (m ((c.tc : Thread Cert.LayersIdeal.nD Cert.LayersIdeal.τ).loc Cert.LayersIdeal.main_arg7)) (m ((c.tc : Thread Cert.LayersIdeal.nD Cert.LayersIdeal.τ).loc Cert.LayersIdeal.main_arg8)) (m ((c.tc : Thread Cert.LayersIdeal.nD Cert.LayersIdeal.τ).loc Cert.LayersIdeal.main_arg9)) (m ((c.tc : Thread Cert.LayersIdeal.nD Cert.LayersIdeal.τ).loc Cert.LayersIdeal.main_arg10)) (m ((c.tc : Thread Cert.LayersIdeal.nD Cert.LayersIdeal.τ).loc Cert.LayersIdeal.main_arg11)) (m ((c.tc : Thread Cert.LayersIdeal.nD Cert.LayersIdeal.τ).loc Cert.LayersIdeal.main_arg12)) (m ((c.tc : Thread Cert.LayersIdeal.nD Cert.LayersIdeal.τ).loc Cert.LayersIdeal.main_arg13)) (m ((c.tc : Thread Cert.LayersIdeal.nD Cert.LayersIdeal.τ).loc Cert.LayersIdeal.main_arg14)) (m ((c.tc : Thread Cert.LayersIdeal.nD Cert.LayersIdeal.τ).loc Cert.LayersIdeal.main_arg15)) (m ((c.tc : Thread Cert.LayersIdeal.nD Cert.LayersIdeal.τ).loc Cert.LayersIdeal.main_arg16)) (m ((c.tc : Thread Cert.LayersIdeal.nD Cert.LayersIdeal.τ).loc Cert.LayersIdeal.main_arg17)) (m ((c.tc : Thread Cert.LayersIdeal.nD Cert.LayersIdeal.τ).loc Cert.LayersIdeal.main_arg18)) (m ((c.tc : Thread Cert.LayersIdeal.nD Cert.LayersIdeal.τ).loc Cert.LayersIdeal.main_arg19)) (m ((c.tc : Thread Cert.LayersIdeal.nD Cert.LayersIdeal.τ).loc Cert.LayersIdeal.main_arg20)) (m ((c.tc : Thread Cert.LayersIdeal.nD Cert.LayersIdeal.τ).loc Cert.LayersIdeal.main_arg21)) (m ((c.tc : Thread Cert.LayersIdeal.nD Cert.LayersIdeal.τ).loc Cert.LayersIdeal.main_arg22)) (m ((c.tc : Thread Cert.LayersIdeal.nD Cert.LayersIdeal.τ).loc Cert.LayersIdeal.main_arg23)) (m ((c.tc : Thread Cert.LayersIdeal.nD Cert.LayersIdeal.τ).loc Cert.LayersIdeal.main_arg24)) (m ((c.tc : Thread Cert.LayersIdeal.nD Cert.LayersIdeal.τ).loc Cert.LayersIdeal.main_arg25)) (m ((c.tc : Thread Cert.LayersIdeal.nD Cert.LayersIdeal.τ).loc Cert.LayersIdeal.main_arg26)) (m ((c.tc : Thread Cert.LayersIdeal.nD Cert.LayersIdeal.τ).loc Cert.LayersIdeal.main_arg27))) = (fun _ => 1#1)

def Pre_LayersRefIdeal (m : (ℓ : Loc Cert.LayersRefIdeal.nD Cert.LayersRefIdeal.τ Cert.LayersRefIdeal.sig) → Buf (Elt Ideal) ℓ) : Prop :=
  True

def Pre_LayersRefIdeal_finite_layers [hPre_finite_layers : Cert.Pre_finite_layers.Facts] (m : (ℓ : Loc Cert.LayersRefIdeal.nD Cert.LayersRefIdeal.τ Cert.LayersRefIdeal.sig) → Buf (Elt Ideal) ℓ) : Prop :=
  ∀ c : Dev Cert.LayersRefIdeal.nD,
    (Cert.Pre_finite_layers.fn (F := Ideal) (m ((c.tc : Thread Cert.LayersRefIdeal.nD Cert.LayersRefIdeal.τ).loc Cert.LayersRefIdeal.main_arg0)) (m ((c.tc : Thread Cert.LayersRefIdeal.nD Cert.LayersRefIdeal.τ).loc Cert.LayersRefIdeal.main_arg1)) (m ((c.tc : Thread Cert.LayersRefIdeal.nD Cert.LayersRefIdeal.τ).loc Cert.LayersRefIdeal.main_arg2)) (m ((c.tc : Thread Cert.LayersRefIdeal.nD Cert.LayersRefIdeal.τ).loc Cert.LayersRefIdeal.main_arg3)) (m ((c.tc : Thread Cert.LayersRefIdeal.nD Cert.LayersRefIdeal.τ).loc Cert.LayersRefIdeal.main_arg4)) (m ((c.tc : Thread Cert.LayersRefIdeal.nD Cert.LayersRefIdeal.τ).loc Cert.LayersRefIdeal.main_arg5)) (m ((c.tc : Thread Cert.LayersRefIdeal.nD Cert.LayersRefIdeal.τ).loc Cert.LayersRefIdeal.main_arg6)) (m ((c.tc : Thread Cert.LayersRefIdeal.nD Cert.LayersRefIdeal.τ).loc Cert.LayersRefIdeal.main_arg7)) (m ((c.tc : Thread Cert.LayersRefIdeal.nD Cert.LayersRefIdeal.τ).loc Cert.LayersRefIdeal.main_arg8)) (m ((c.tc : Thread Cert.LayersRefIdeal.nD Cert.LayersRefIdeal.τ).loc Cert.LayersRefIdeal.main_arg9)) (m ((c.tc : Thread Cert.LayersRefIdeal.nD Cert.LayersRefIdeal.τ).loc Cert.LayersRefIdeal.main_arg10)) (m ((c.tc : Thread Cert.LayersRefIdeal.nD Cert.LayersRefIdeal.τ).loc Cert.LayersRefIdeal.main_arg11)) (m ((c.tc : Thread Cert.LayersRefIdeal.nD Cert.LayersRefIdeal.τ).loc Cert.LayersRefIdeal.main_arg12)) (m ((c.tc : Thread Cert.LayersRefIdeal.nD Cert.LayersRefIdeal.τ).loc Cert.LayersRefIdeal.main_arg13)) (m ((c.tc : Thread Cert.LayersRefIdeal.nD Cert.LayersRefIdeal.τ).loc Cert.LayersRefIdeal.main_arg14)) (m ((c.tc : Thread Cert.LayersRefIdeal.nD Cert.LayersRefIdeal.τ).loc Cert.LayersRefIdeal.main_arg15)) (m ((c.tc : Thread Cert.LayersRefIdeal.nD Cert.LayersRefIdeal.τ).loc Cert.LayersRefIdeal.main_arg16)) (m ((c.tc : Thread Cert.LayersRefIdeal.nD Cert.LayersRefIdeal.τ).loc Cert.LayersRefIdeal.main_arg17)) (m ((c.tc : Thread Cert.LayersRefIdeal.nD Cert.LayersRefIdeal.τ).loc Cert.LayersRefIdeal.main_arg18)) (m ((c.tc : Thread Cert.LayersRefIdeal.nD Cert.LayersRefIdeal.τ).loc Cert.LayersRefIdeal.main_arg19)) (m ((c.tc : Thread Cert.LayersRefIdeal.nD Cert.LayersRefIdeal.τ).loc Cert.LayersRefIdeal.main_arg20)) (m ((c.tc : Thread Cert.LayersRefIdeal.nD Cert.LayersRefIdeal.τ).loc Cert.LayersRefIdeal.main_arg21)) (m ((c.tc : Thread Cert.LayersRefIdeal.nD Cert.LayersRefIdeal.τ).loc Cert.LayersRefIdeal.main_arg22)) (m ((c.tc : Thread Cert.LayersRefIdeal.nD Cert.LayersRefIdeal.τ).loc Cert.LayersRefIdeal.main_arg23)) (m ((c.tc : Thread Cert.LayersRefIdeal.nD Cert.LayersRefIdeal.τ).loc Cert.LayersRefIdeal.main_arg24)) (m ((c.tc : Thread Cert.LayersRefIdeal.nD Cert.LayersRefIdeal.τ).loc Cert.LayersRefIdeal.main_arg25)) (m ((c.tc : Thread Cert.LayersRefIdeal.nD Cert.LayersRefIdeal.τ).loc Cert.LayersRefIdeal.main_arg26)) (m ((c.tc : Thread Cert.LayersRefIdeal.nD Cert.LayersRefIdeal.τ).loc Cert.LayersRefIdeal.main_arg27))) = (fun _ => 1#1)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9)
      ∧ r.2.mem ((c.tc : Thread Cert.Mlp.nD Cert.Mlp.τ).loc Cert.Mlp.main_arg10) = m ((c.tc : Thread Cert.Mlp.nD Cert.Mlp.τ).loc Cert.Mlp.main_arg10))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10))
      ∧ r.2.sem = fun _ => 0)

def quiescent_MlpIdeal_pre_finite [hMlpIdeal : Cert.MlpIdeal.Facts] [hPre_finite : Cert.Pre_finite.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_finite m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10))
      ∧ r.2.sem = fun _ => 0)

def quiescent_MlpRefIdeal_pre_finite [hMlpRefIdeal : Cert.MlpRefIdeal.Facts] [hPre_finite : Cert.Pre_finite.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_finite m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8)
      ∧ r.2.mem ((c.tc : Thread Cert.Attn.nD Cert.Attn.τ).loc Cert.Attn.main_arg9) = m ((c.tc : Thread Cert.Attn.nD Cert.Attn.τ).loc Cert.Attn.main_arg9)
      ∧ r.2.mem ((c.tc : Thread Cert.Attn.nD Cert.Attn.τ).loc Cert.Attn.main_arg10) = m ((c.tc : Thread Cert.Attn.nD Cert.Attn.τ).loc Cert.Attn.main_arg10)
      ∧ r.2.mem ((c.tc : Thread Cert.Attn.nD Cert.Attn.τ).loc Cert.Attn.main_arg11) = m ((c.tc : Thread Cert.Attn.nD Cert.Attn.τ).loc Cert.Attn.main_arg11)
      ∧ r.2.mem ((c.tc : Thread Cert.Attn.nD Cert.Attn.τ).loc Cert.Attn.main_arg12) = m ((c.tc : Thread Cert.Attn.nD Cert.Attn.τ).loc Cert.Attn.main_arg12)
      ∧ r.2.mem ((c.tc : Thread Cert.Attn.nD Cert.Attn.τ).loc Cert.Attn.main_arg13) = m ((c.tc : Thread Cert.Attn.nD Cert.Attn.τ).loc Cert.Attn.main_arg13)
      ∧ r.2.mem ((c.tc : Thread Cert.Attn.nD Cert.Attn.τ).loc Cert.Attn.main_arg14) = m ((c.tc : Thread Cert.Attn.nD Cert.Attn.τ).loc Cert.Attn.main_arg14))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
      ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10)
      ∧ r.2.mem ((c.tc : Thread Cert.AttnIdeal.nD Cert.AttnIdeal.τ).loc Cert.AttnIdeal.main_arg11) = m ((c.tc : Thread Cert.AttnIdeal.nD Cert.AttnIdeal.τ).loc Cert.AttnIdeal.main_arg11)
      ∧ r.2.mem ((c.tc : Thread Cert.AttnIdeal.nD Cert.AttnIdeal.τ).loc Cert.AttnIdeal.main_arg12) = m ((c.tc : Thread Cert.AttnIdeal.nD Cert.AttnIdeal.τ).loc Cert.AttnIdeal.main_arg12)
      ∧ r.2.mem ((c.tc : Thread Cert.AttnIdeal.nD Cert.AttnIdeal.τ).loc Cert.AttnIdeal.main_arg13) = m ((c.tc : Thread Cert.AttnIdeal.nD Cert.AttnIdeal.τ).loc Cert.AttnIdeal.main_arg13)
      ∧ r.2.mem ((c.tc : Thread Cert.AttnIdeal.nD Cert.AttnIdeal.τ).loc Cert.AttnIdeal.main_arg14) = m ((c.tc : Thread Cert.AttnIdeal.nD Cert.AttnIdeal.τ).loc Cert.AttnIdeal.main_arg14))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9)
      ∧ r.2.mem ((c.tc : Thread Cert.AttnRefIdeal.nD Cert.AttnRefIdeal.τ).loc Cert.AttnRefIdeal.main_arg10) = m ((c.tc : Thread Cert.AttnRefIdeal.nD Cert.AttnRefIdeal.τ).loc Cert.AttnRefIdeal.main_arg10)
      ∧ r.2.mem ((c.tc : Thread Cert.AttnRefIdeal.nD Cert.AttnRefIdeal.τ).loc Cert.AttnRefIdeal.main_arg11) = m ((c.tc : Thread Cert.AttnRefIdeal.nD Cert.AttnRefIdeal.τ).loc Cert.AttnRefIdeal.main_arg11)
      ∧ r.2.mem ((c.tc : Thread Cert.AttnRefIdeal.nD Cert.AttnRefIdeal.τ).loc Cert.AttnRefIdeal.main_arg12) = m ((c.tc : Thread Cert.AttnRefIdeal.nD Cert.AttnRefIdeal.τ).loc Cert.AttnRefIdeal.main_arg12)
      ∧ r.2.mem ((c.tc : Thread Cert.AttnRefIdeal.nD Cert.AttnRefIdeal.τ).loc Cert.AttnRefIdeal.main_arg13) = m ((c.tc : Thread Cert.AttnRefIdeal.nD Cert.AttnRefIdeal.τ).loc Cert.AttnRefIdeal.main_arg13)
      ∧ r.2.mem ((c.tc : Thread Cert.AttnRefIdeal.nD Cert.AttnRefIdeal.τ).loc Cert.AttnRefIdeal.main_arg14) = m ((c.tc : Thread Cert.AttnRefIdeal.nD Cert.AttnRefIdeal.τ).loc Cert.AttnRefIdeal.main_arg14))
      ∧ r.2.sem = fun _ => 0)

def quiescent_Layers [hLayers : Cert.Layers.Facts] : Prop :=
  ∀ (m : (ℓ : Loc Cert.Layers.nD Cert.Layers.τ Cert.Layers.sig) → Buf (Elt Bits) ℓ) (g : Dev Cert.Layers.nD → PrngReg), Pre_Layers m →
    θ_run (Cert.Layers.defs (F := Bits)) (onTc (τ := Cert.Layers.τ) (Cert.Layers.main (F := Bits))) ⟨m, fun _ => 0, g⟩ (fun r => (∀ c : Dev Cert.Layers.nD,
      r.2.mem ((c.tc : Thread Cert.Layers.nD Cert.Layers.τ).loc Cert.Layers.main_arg0) = m ((c.tc : Thread Cert.Layers.nD Cert.Layers.τ).loc Cert.Layers.main_arg0)
      ∧ r.2.mem ((c.tc : Thread Cert.Layers.nD Cert.Layers.τ).loc Cert.Layers.main_arg1) = m ((c.tc : Thread Cert.Layers.nD Cert.Layers.τ).loc Cert.Layers.main_arg1)
      ∧ r.2.mem ((c.tc : Thread Cert.Layers.nD Cert.Layers.τ).loc Cert.Layers.main_arg2) = m ((c.tc : Thread Cert.Layers.nD Cert.Layers.τ).loc Cert.Layers.main_arg2)
      ∧ r.2.mem ((c.tc : Thread Cert.Layers.nD Cert.Layers.τ).loc Cert.Layers.main_arg3) = m ((c.tc : Thread Cert.Layers.nD Cert.Layers.τ).loc Cert.Layers.main_arg3)
      ∧ r.2.mem ((c.tc : Thread Cert.Layers.nD Cert.Layers.τ).loc Cert.Layers.main_arg4) = m ((c.tc : Thread Cert.Layers.nD Cert.Layers.τ).loc Cert.Layers.main_arg4)
      ∧ r.2.mem ((c.tc : Thread Cert.Layers.nD Cert.Layers.τ).loc Cert.Layers.main_arg5) = m ((c.tc : Thread Cert.Layers.nD Cert.Layers.τ).loc Cert.Layers.main_arg5)
      ∧ r.2.mem ((c.tc : Thread Cert.Layers.nD Cert.Layers.τ).loc Cert.Layers.main_arg6) = m ((c.tc : Thread Cert.Layers.nD Cert.Layers.τ).loc Cert.Layers.main_arg6)
      ∧ r.2.mem ((c.tc : Thread Cert.Layers.nD Cert.Layers.τ).loc Cert.Layers.main_arg7) = m ((c.tc : Thread Cert.Layers.nD Cert.Layers.τ).loc Cert.Layers.main_arg7)
      ∧ r.2.mem ((c.tc : Thread Cert.Layers.nD Cert.Layers.τ).loc Cert.Layers.main_arg8) = m ((c.tc : Thread Cert.Layers.nD Cert.Layers.τ).loc Cert.Layers.main_arg8)
      ∧ r.2.mem ((c.tc : Thread Cert.Layers.nD Cert.Layers.τ).loc Cert.Layers.main_arg9) = m ((c.tc : Thread Cert.Layers.nD Cert.Layers.τ).loc Cert.Layers.main_arg9)
      ∧ r.2.mem ((c.tc : Thread Cert.Layers.nD Cert.Layers.τ).loc Cert.Layers.main_arg10) = m ((c.tc : Thread Cert.Layers.nD Cert.Layers.τ).loc Cert.Layers.main_arg10)
      ∧ r.2.mem ((c.tc : Thread Cert.Layers.nD Cert.Layers.τ).loc Cert.Layers.main_arg11) = m ((c.tc : Thread Cert.Layers.nD Cert.Layers.τ).loc Cert.Layers.main_arg11)
      ∧ r.2.mem ((c.tc : Thread Cert.Layers.nD Cert.Layers.τ).loc Cert.Layers.main_arg12) = m ((c.tc : Thread Cert.Layers.nD Cert.Layers.τ).loc Cert.Layers.main_arg12)
      ∧ r.2.mem ((c.tc : Thread Cert.Layers.nD Cert.Layers.τ).loc Cert.Layers.main_arg13) = m ((c.tc : Thread Cert.Layers.nD Cert.Layers.τ).loc Cert.Layers.main_arg13)
      ∧ r.2.mem ((c.tc : Thread Cert.Layers.nD Cert.Layers.τ).loc Cert.Layers.main_arg14) = m ((c.tc : Thread Cert.Layers.nD Cert.Layers.τ).loc Cert.Layers.main_arg14)
      ∧ r.2.mem ((c.tc : Thread Cert.Layers.nD Cert.Layers.τ).loc Cert.Layers.main_arg15) = m ((c.tc : Thread Cert.Layers.nD Cert.Layers.τ).loc Cert.Layers.main_arg15)
      ∧ r.2.mem ((c.tc : Thread Cert.Layers.nD Cert.Layers.τ).loc Cert.Layers.main_arg16) = m ((c.tc : Thread Cert.Layers.nD Cert.Layers.τ).loc Cert.Layers.main_arg16)
      ∧ r.2.mem ((c.tc : Thread Cert.Layers.nD Cert.Layers.τ).loc Cert.Layers.main_arg17) = m ((c.tc : Thread Cert.Layers.nD Cert.Layers.τ).loc Cert.Layers.main_arg17)
      ∧ r.2.mem ((c.tc : Thread Cert.Layers.nD Cert.Layers.τ).loc Cert.Layers.main_arg18) = m ((c.tc : Thread Cert.Layers.nD Cert.Layers.τ).loc Cert.Layers.main_arg18)
      ∧ r.2.mem ((c.tc : Thread Cert.Layers.nD Cert.Layers.τ).loc Cert.Layers.main_arg19) = m ((c.tc : Thread Cert.Layers.nD Cert.Layers.τ).loc Cert.Layers.main_arg19)
      ∧ r.2.mem ((c.tc : Thread Cert.Layers.nD Cert.Layers.τ).loc Cert.Layers.main_arg20) = m ((c.tc : Thread Cert.Layers.nD Cert.Layers.τ).loc Cert.Layers.main_arg20)
      ∧ r.2.mem ((c.tc : Thread Cert.Layers.nD Cert.Layers.τ).loc Cert.Layers.main_arg21) = m ((c.tc : Thread Cert.Layers.nD Cert.Layers.τ).loc Cert.Layers.main_arg21)
      ∧ r.2.mem ((c.tc : Thread Cert.Layers.nD Cert.Layers.τ).loc Cert.Layers.main_arg22) = m ((c.tc : Thread Cert.Layers.nD Cert.Layers.τ).loc Cert.Layers.main_arg22)
      ∧ r.2.mem ((c.tc : Thread Cert.Layers.nD Cert.Layers.τ).loc Cert.Layers.main_arg23) = m ((c.tc : Thread Cert.Layers.nD Cert.Layers.τ).loc Cert.Layers.main_arg23)
      ∧ r.2.mem ((c.tc : Thread Cert.Layers.nD Cert.Layers.τ).loc Cert.Layers.main_arg24) = m ((c.tc : Thread Cert.Layers.nD Cert.Layers.τ).loc Cert.Layers.main_arg24)
      ∧ r.2.mem ((c.tc : Thread Cert.Layers.nD Cert.Layers.τ).loc Cert.Layers.main_arg25) = m ((c.tc : Thread Cert.Layers.nD Cert.Layers.τ).loc Cert.Layers.main_arg25)
      ∧ r.2.mem ((c.tc : Thread Cert.Layers.nD Cert.Layers.τ).loc Cert.Layers.main_arg26) = m ((c.tc : Thread Cert.Layers.nD Cert.Layers.τ).loc Cert.Layers.main_arg26)
      ∧ r.2.mem ((c.tc : Thread Cert.Layers.nD Cert.Layers.τ).loc Cert.Layers.main_arg27) = m ((c.tc : Thread Cert.Layers.nD Cert.Layers.τ).loc Cert.Layers.main_arg27))
      ∧ r.2.sem = fun _ => 0)

def quiescent_LayersIdeal [hLayersIdeal : Cert.LayersIdeal.Facts] : Prop :=
  ∀ (m : (ℓ : Loc Cert.LayersIdeal.nD Cert.LayersIdeal.τ Cert.LayersIdeal.sig) → Buf (Elt Ideal) ℓ) (g : Dev Cert.LayersIdeal.nD → PrngReg), Pre_LayersIdeal m →
    θ_run (Cert.LayersIdeal.defs (F := Ideal)) (onTc (τ := Cert.LayersIdeal.τ) (Cert.LayersIdeal.main (F := Ideal))) ⟨m, fun _ => 0, g⟩ (fun r => (∀ c : Dev Cert.LayersIdeal.nD,
      r.2.mem ((c.tc : Thread Cert.LayersIdeal.nD Cert.LayersIdeal.τ).loc Cert.LayersIdeal.main_arg0) = m ((c.tc : Thread Cert.LayersIdeal.nD Cert.LayersIdeal.τ).loc Cert.LayersIdeal.main_arg0)
      ∧ r.2.mem ((c.tc : Thread Cert.LayersIdeal.nD Cert.LayersIdeal.τ).loc Cert.LayersIdeal.main_arg1) = m ((c.tc : Thread Cert.LayersIdeal.nD Cert.LayersIdeal.τ).loc Cert.LayersIdeal.main_arg1)
      ∧ r.2.mem ((c.tc : Thread Cert.LayersIdeal.nD Cert.LayersIdeal.τ).loc Cert.LayersIdeal.main_arg2) = m ((c.tc : Thread Cert.LayersIdeal.nD Cert.LayersIdeal.τ).loc Cert.LayersIdeal.main_arg2)
      ∧ r.2.mem ((c.tc : Thread Cert.LayersIdeal.nD Cert.LayersIdeal.τ).loc Cert.LayersIdeal.main_arg3) = m ((c.tc : Thread Cert.LayersIdeal.nD Cert.LayersIdeal.τ).loc Cert.LayersIdeal.main_arg3)
      ∧ r.2.mem ((c.tc : Thread Cert.LayersIdeal.nD Cert.LayersIdeal.τ).loc Cert.LayersIdeal.main_arg4) = m ((c.tc : Thread Cert.LayersIdeal.nD Cert.LayersIdeal.τ).loc Cert.LayersIdeal.main_arg4)
      ∧ r.2.mem ((c.tc : Thread Cert.LayersIdeal.nD Cert.LayersIdeal.τ).loc Cert.LayersIdeal.main_arg5) = m ((c.tc : Thread Cert.LayersIdeal.nD Cert.LayersIdeal.τ).loc Cert.LayersIdeal.main_arg5)
      ∧ r.2.mem ((c.tc : Thread Cert.LayersIdeal.nD Cert.LayersIdeal.τ).loc Cert.LayersIdeal.main_arg6) = m ((c.tc : Thread Cert.LayersIdeal.nD Cert.LayersIdeal.τ).loc Cert.LayersIdeal.main_arg6)
      ∧ r.2.mem ((c.tc : Thread Cert.LayersIdeal.nD Cert.LayersIdeal.τ).loc Cert.LayersIdeal.main_arg7) = m ((c.tc : Thread Cert.LayersIdeal.nD Cert.LayersIdeal.τ).loc Cert.LayersIdeal.main_arg7)
      ∧ r.2.mem ((c.tc : Thread Cert.LayersIdeal.nD Cert.LayersIdeal.τ).loc Cert.LayersIdeal.main_arg8) = m ((c.tc : Thread Cert.LayersIdeal.nD Cert.LayersIdeal.τ).loc Cert.LayersIdeal.main_arg8)
      ∧ r.2.mem ((c.tc : Thread Cert.LayersIdeal.nD Cert.LayersIdeal.τ).loc Cert.LayersIdeal.main_arg9) = m ((c.tc : Thread Cert.LayersIdeal.nD Cert.LayersIdeal.τ).loc Cert.LayersIdeal.main_arg9)
      ∧ r.2.mem ((c.tc : Thread Cert.LayersIdeal.nD Cert.LayersIdeal.τ).loc Cert.LayersIdeal.main_arg10) = m ((c.tc : Thread Cert.LayersIdeal.nD Cert.LayersIdeal.τ).loc Cert.LayersIdeal.main_arg10)
      ∧ r.2.mem ((c.tc : Thread Cert.LayersIdeal.nD Cert.LayersIdeal.τ).loc Cert.LayersIdeal.main_arg11) = m ((c.tc : Thread Cert.LayersIdeal.nD Cert.LayersIdeal.τ).loc Cert.LayersIdeal.main_arg11)
      ∧ r.2.mem ((c.tc : Thread Cert.LayersIdeal.nD Cert.LayersIdeal.τ).loc Cert.LayersIdeal.main_arg12) = m ((c.tc : Thread Cert.LayersIdeal.nD Cert.LayersIdeal.τ).loc Cert.LayersIdeal.main_arg12)
      ∧ r.2.mem ((c.tc : Thread Cert.LayersIdeal.nD Cert.LayersIdeal.τ).loc Cert.LayersIdeal.main_arg13) = m ((c.tc : Thread Cert.LayersIdeal.nD Cert.LayersIdeal.τ).loc Cert.LayersIdeal.main_arg13)
      ∧ r.2.mem ((c.tc : Thread Cert.LayersIdeal.nD Cert.LayersIdeal.τ).loc Cert.LayersIdeal.main_arg14) = m ((c.tc : Thread Cert.LayersIdeal.nD Cert.LayersIdeal.τ).loc Cert.LayersIdeal.main_arg14)
      ∧ r.2.mem ((c.tc : Thread Cert.LayersIdeal.nD Cert.LayersIdeal.τ).loc Cert.LayersIdeal.main_arg15) = m ((c.tc : Thread Cert.LayersIdeal.nD Cert.LayersIdeal.τ).loc Cert.LayersIdeal.main_arg15)
      ∧ r.2.mem ((c.tc : Thread Cert.LayersIdeal.nD Cert.LayersIdeal.τ).loc Cert.LayersIdeal.main_arg16) = m ((c.tc : Thread Cert.LayersIdeal.nD Cert.LayersIdeal.τ).loc Cert.LayersIdeal.main_arg16)
      ∧ r.2.mem ((c.tc : Thread Cert.LayersIdeal.nD Cert.LayersIdeal.τ).loc Cert.LayersIdeal.main_arg17) = m ((c.tc : Thread Cert.LayersIdeal.nD Cert.LayersIdeal.τ).loc Cert.LayersIdeal.main_arg17)
      ∧ r.2.mem ((c.tc : Thread Cert.LayersIdeal.nD Cert.LayersIdeal.τ).loc Cert.LayersIdeal.main_arg18) = m ((c.tc : Thread Cert.LayersIdeal.nD Cert.LayersIdeal.τ).loc Cert.LayersIdeal.main_arg18)
      ∧ r.2.mem ((c.tc : Thread Cert.LayersIdeal.nD Cert.LayersIdeal.τ).loc Cert.LayersIdeal.main_arg19) = m ((c.tc : Thread Cert.LayersIdeal.nD Cert.LayersIdeal.τ).loc Cert.LayersIdeal.main_arg19)
      ∧ r.2.mem ((c.tc : Thread Cert.LayersIdeal.nD Cert.LayersIdeal.τ).loc Cert.LayersIdeal.main_arg20) = m ((c.tc : Thread Cert.LayersIdeal.nD Cert.LayersIdeal.τ).loc Cert.LayersIdeal.main_arg20)
      ∧ r.2.mem ((c.tc : Thread Cert.LayersIdeal.nD Cert.LayersIdeal.τ).loc Cert.LayersIdeal.main_arg21) = m ((c.tc : Thread Cert.LayersIdeal.nD Cert.LayersIdeal.τ).loc Cert.LayersIdeal.main_arg21)
      ∧ r.2.mem ((c.tc : Thread Cert.LayersIdeal.nD Cert.LayersIdeal.τ).loc Cert.LayersIdeal.main_arg22) = m ((c.tc : Thread Cert.LayersIdeal.nD Cert.LayersIdeal.τ).loc Cert.LayersIdeal.main_arg22)
      ∧ r.2.mem ((c.tc : Thread Cert.LayersIdeal.nD Cert.LayersIdeal.τ).loc Cert.LayersIdeal.main_arg23) = m ((c.tc : Thread Cert.LayersIdeal.nD Cert.LayersIdeal.τ).loc Cert.LayersIdeal.main_arg23)
      ∧ r.2.mem ((c.tc : Thread Cert.LayersIdeal.nD Cert.LayersIdeal.τ).loc Cert.LayersIdeal.main_arg24) = m ((c.tc : Thread Cert.LayersIdeal.nD Cert.LayersIdeal.τ).loc Cert.LayersIdeal.main_arg24)
      ∧ r.2.mem ((c.tc : Thread Cert.LayersIdeal.nD Cert.LayersIdeal.τ).loc Cert.LayersIdeal.main_arg25) = m ((c.tc : Thread Cert.LayersIdeal.nD Cert.LayersIdeal.τ).loc Cert.LayersIdeal.main_arg25)
      ∧ r.2.mem ((c.tc : Thread Cert.LayersIdeal.nD Cert.LayersIdeal.τ).loc Cert.LayersIdeal.main_arg26) = m ((c.tc : Thread Cert.LayersIdeal.nD Cert.LayersIdeal.τ).loc Cert.LayersIdeal.main_arg26)
      ∧ r.2.mem ((c.tc : Thread Cert.LayersIdeal.nD Cert.LayersIdeal.τ).loc Cert.LayersIdeal.main_arg27) = m ((c.tc : Thread Cert.LayersIdeal.nD Cert.LayersIdeal.τ).loc Cert.LayersIdeal.main_arg27))
      ∧ r.2.sem = fun _ => 0)

def quiescent_LayersIdeal_pre_finite_layers [hLayersIdeal : Cert.LayersIdeal.Facts] [hPre_finite_layers : Cert.Pre_finite_layers.Facts] : Prop :=
  ∀ (m : (ℓ : Loc Cert.LayersIdeal.nD Cert.LayersIdeal.τ Cert.LayersIdeal.sig) → Buf (Elt Ideal) ℓ) (g : Dev Cert.LayersIdeal.nD → PrngReg), Pre_LayersIdeal_finite_layers m →
    θ_run (Cert.LayersIdeal.defs (F := Ideal)) (onTc (τ := Cert.LayersIdeal.τ) (Cert.LayersIdeal.main (F := Ideal))) ⟨m, fun _ => 0, g⟩ (fun r => (∀ c : Dev Cert.LayersIdeal.nD,
      r.2.mem ((c.tc : Thread Cert.LayersIdeal.nD Cert.LayersIdeal.τ).loc Cert.LayersIdeal.main_arg0) = m ((c.tc : Thread Cert.LayersIdeal.nD Cert.LayersIdeal.τ).loc Cert.LayersIdeal.main_arg0)
      ∧ r.2.mem ((c.tc : Thread Cert.LayersIdeal.nD Cert.LayersIdeal.τ).loc Cert.LayersIdeal.main_arg1) = m ((c.tc : Thread Cert.LayersIdeal.nD Cert.LayersIdeal.τ).loc Cert.LayersIdeal.main_arg1)
      ∧ r.2.mem ((c.tc : Thread Cert.LayersIdeal.nD Cert.LayersIdeal.τ).loc Cert.LayersIdeal.main_arg2) = m ((c.tc : Thread Cert.LayersIdeal.nD Cert.LayersIdeal.τ).loc Cert.LayersIdeal.main_arg2)
      ∧ r.2.mem ((c.tc : Thread Cert.LayersIdeal.nD Cert.LayersIdeal.τ).loc Cert.LayersIdeal.main_arg3) = m ((c.tc : Thread Cert.LayersIdeal.nD Cert.LayersIdeal.τ).loc Cert.LayersIdeal.main_arg3)
      ∧ r.2.mem ((c.tc : Thread Cert.LayersIdeal.nD Cert.LayersIdeal.τ).loc Cert.LayersIdeal.main_arg4) = m ((c.tc : Thread Cert.LayersIdeal.nD Cert.LayersIdeal.τ).loc Cert.LayersIdeal.main_arg4)
      ∧ r.2.mem ((c.tc : Thread Cert.LayersIdeal.nD Cert.LayersIdeal.τ).loc Cert.LayersIdeal.main_arg5) = m ((c.tc : Thread Cert.LayersIdeal.nD Cert.LayersIdeal.τ).loc Cert.LayersIdeal.main_arg5)
      ∧ r.2.mem ((c.tc : Thread Cert.LayersIdeal.nD Cert.LayersIdeal.τ).loc Cert.LayersIdeal.main_arg6) = m ((c.tc : Thread Cert.LayersIdeal.nD Cert.LayersIdeal.τ).loc Cert.LayersIdeal.main_arg6)
      ∧ r.2.mem ((c.tc : Thread Cert.LayersIdeal.nD Cert.LayersIdeal.τ).loc Cert.LayersIdeal.main_arg7) = m ((c.tc : Thread Cert.LayersIdeal.nD Cert.LayersIdeal.τ).loc Cert.LayersIdeal.main_arg7)
      ∧ r.2.mem ((c.tc : Thread Cert.LayersIdeal.nD Cert.LayersIdeal.τ).loc Cert.LayersIdeal.main_arg8) = m ((c.tc : Thread Cert.LayersIdeal.nD Cert.LayersIdeal.τ).loc Cert.LayersIdeal.main_arg8)
      ∧ r.2.mem ((c.tc : Thread Cert.LayersIdeal.nD Cert.LayersIdeal.τ).loc Cert.LayersIdeal.main_arg9) = m ((c.tc : Thread Cert.LayersIdeal.nD Cert.LayersIdeal.τ).loc Cert.LayersIdeal.main_arg9)
      ∧ r.2.mem ((c.tc : Thread Cert.LayersIdeal.nD Cert.LayersIdeal.τ).loc Cert.LayersIdeal.main_arg10) = m ((c.tc : Thread Cert.LayersIdeal.nD Cert.LayersIdeal.τ).loc Cert.LayersIdeal.main_arg10)
      ∧ r.2.mem ((c.tc : Thread Cert.LayersIdeal.nD Cert.LayersIdeal.τ).loc Cert.LayersIdeal.main_arg11) = m ((c.tc : Thread Cert.LayersIdeal.nD Cert.LayersIdeal.τ).loc Cert.LayersIdeal.main_arg11)
      ∧ r.2.mem ((c.tc : Thread Cert.LayersIdeal.nD Cert.LayersIdeal.τ).loc Cert.LayersIdeal.main_arg12) = m ((c.tc : Thread Cert.LayersIdeal.nD Cert.LayersIdeal.τ).loc Cert.LayersIdeal.main_arg12)
      ∧ r.2.mem ((c.tc : Thread Cert.LayersIdeal.nD Cert.LayersIdeal.τ).loc Cert.LayersIdeal.main_arg13) = m ((c.tc : Thread Cert.LayersIdeal.nD Cert.LayersIdeal.τ).loc Cert.LayersIdeal.main_arg13)
      ∧ r.2.mem ((c.tc : Thread Cert.LayersIdeal.nD Cert.LayersIdeal.τ).loc Cert.LayersIdeal.main_arg14) = m ((c.tc : Thread Cert.LayersIdeal.nD Cert.LayersIdeal.τ).loc Cert.LayersIdeal.main_arg14)
      ∧ r.2.mem ((c.tc : Thread Cert.LayersIdeal.nD Cert.LayersIdeal.τ).loc Cert.LayersIdeal.main_arg15) = m ((c.tc : Thread Cert.LayersIdeal.nD Cert.LayersIdeal.τ).loc Cert.LayersIdeal.main_arg15)
      ∧ r.2.mem ((c.tc : Thread Cert.LayersIdeal.nD Cert.LayersIdeal.τ).loc Cert.LayersIdeal.main_arg16) = m ((c.tc : Thread Cert.LayersIdeal.nD Cert.LayersIdeal.τ).loc Cert.LayersIdeal.main_arg16)
      ∧ r.2.mem ((c.tc : Thread Cert.LayersIdeal.nD Cert.LayersIdeal.τ).loc Cert.LayersIdeal.main_arg17) = m ((c.tc : Thread Cert.LayersIdeal.nD Cert.LayersIdeal.τ).loc Cert.LayersIdeal.main_arg17)
      ∧ r.2.mem ((c.tc : Thread Cert.LayersIdeal.nD Cert.LayersIdeal.τ).loc Cert.LayersIdeal.main_arg18) = m ((c.tc : Thread Cert.LayersIdeal.nD Cert.LayersIdeal.τ).loc Cert.LayersIdeal.main_arg18)
      ∧ r.2.mem ((c.tc : Thread Cert.LayersIdeal.nD Cert.LayersIdeal.τ).loc Cert.LayersIdeal.main_arg19) = m ((c.tc : Thread Cert.LayersIdeal.nD Cert.LayersIdeal.τ).loc Cert.LayersIdeal.main_arg19)
      ∧ r.2.mem ((c.tc : Thread Cert.LayersIdeal.nD Cert.LayersIdeal.τ).loc Cert.LayersIdeal.main_arg20) = m ((c.tc : Thread Cert.LayersIdeal.nD Cert.LayersIdeal.τ).loc Cert.LayersIdeal.main_arg20)
      ∧ r.2.mem ((c.tc : Thread Cert.LayersIdeal.nD Cert.LayersIdeal.τ).loc Cert.LayersIdeal.main_arg21) = m ((c.tc : Thread Cert.LayersIdeal.nD Cert.LayersIdeal.τ).loc Cert.LayersIdeal.main_arg21)
      ∧ r.2.mem ((c.tc : Thread Cert.LayersIdeal.nD Cert.LayersIdeal.τ).loc Cert.LayersIdeal.main_arg22) = m ((c.tc : Thread Cert.LayersIdeal.nD Cert.LayersIdeal.τ).loc Cert.LayersIdeal.main_arg22)
      ∧ r.2.mem ((c.tc : Thread Cert.LayersIdeal.nD Cert.LayersIdeal.τ).loc Cert.LayersIdeal.main_arg23) = m ((c.tc : Thread Cert.LayersIdeal.nD Cert.LayersIdeal.τ).loc Cert.LayersIdeal.main_arg23)
      ∧ r.2.mem ((c.tc : Thread Cert.LayersIdeal.nD Cert.LayersIdeal.τ).loc Cert.LayersIdeal.main_arg24) = m ((c.tc : Thread Cert.LayersIdeal.nD Cert.LayersIdeal.τ).loc Cert.LayersIdeal.main_arg24)
      ∧ r.2.mem ((c.tc : Thread Cert.LayersIdeal.nD Cert.LayersIdeal.τ).loc Cert.LayersIdeal.main_arg25) = m ((c.tc : Thread Cert.LayersIdeal.nD Cert.LayersIdeal.τ).loc Cert.LayersIdeal.main_arg25)
      ∧ r.2.mem ((c.tc : Thread Cert.LayersIdeal.nD Cert.LayersIdeal.τ).loc Cert.LayersIdeal.main_arg26) = m ((c.tc : Thread Cert.LayersIdeal.nD Cert.LayersIdeal.τ).loc Cert.LayersIdeal.main_arg26)
      ∧ r.2.mem ((c.tc : Thread Cert.LayersIdeal.nD Cert.LayersIdeal.τ).loc Cert.LayersIdeal.main_arg27) = m ((c.tc : Thread Cert.LayersIdeal.nD Cert.LayersIdeal.τ).loc Cert.LayersIdeal.main_arg27))
      ∧ r.2.sem = fun _ => 0)

def quiescent_LayersRefIdeal [hLayersRefIdeal : Cert.LayersRefIdeal.Facts] : Prop :=
  ∀ (m : (ℓ : Loc Cert.LayersRefIdeal.nD Cert.LayersRefIdeal.τ Cert.LayersRefIdeal.sig) → Buf (Elt Ideal) ℓ) (g : Dev Cert.LayersRefIdeal.nD → PrngReg), Pre_LayersRefIdeal m →
    θ_run (Cert.LayersRefIdeal.defs (F := Ideal)) (onTc (τ := Cert.LayersRefIdeal.τ) (Cert.LayersRefIdeal.main (F := Ideal))) ⟨m, fun _ => 0, g⟩ (fun r => (∀ c : Dev Cert.LayersRefIdeal.nD,
      r.2.mem ((c.tc : Thread Cert.LayersRefIdeal.nD Cert.LayersRefIdeal.τ).loc Cert.LayersRefIdeal.main_arg0) = m ((c.tc : Thread Cert.LayersRefIdeal.nD Cert.LayersRefIdeal.τ).loc Cert.LayersRefIdeal.main_arg0)
      ∧ r.2.mem ((c.tc : Thread Cert.LayersRefIdeal.nD Cert.LayersRefIdeal.τ).loc Cert.LayersRefIdeal.main_arg1) = m ((c.tc : Thread Cert.LayersRefIdeal.nD Cert.LayersRefIdeal.τ).loc Cert.LayersRefIdeal.main_arg1)
      ∧ r.2.mem ((c.tc : Thread Cert.LayersRefIdeal.nD Cert.LayersRefIdeal.τ).loc Cert.LayersRefIdeal.main_arg2) = m ((c.tc : Thread Cert.LayersRefIdeal.nD Cert.LayersRefIdeal.τ).loc Cert.LayersRefIdeal.main_arg2)
      ∧ r.2.mem ((c.tc : Thread Cert.LayersRefIdeal.nD Cert.LayersRefIdeal.τ).loc Cert.LayersRefIdeal.main_arg3) = m ((c.tc : Thread Cert.LayersRefIdeal.nD Cert.LayersRefIdeal.τ).loc Cert.LayersRefIdeal.main_arg3)
      ∧ r.2.mem ((c.tc : Thread Cert.LayersRefIdeal.nD Cert.LayersRefIdeal.τ).loc Cert.LayersRefIdeal.main_arg4) = m ((c.tc : Thread Cert.LayersRefIdeal.nD Cert.LayersRefIdeal.τ).loc Cert.LayersRefIdeal.main_arg4)
      ∧ r.2.mem ((c.tc : Thread Cert.LayersRefIdeal.nD Cert.LayersRefIdeal.τ).loc Cert.LayersRefIdeal.main_arg5) = m ((c.tc : Thread Cert.LayersRefIdeal.nD Cert.LayersRefIdeal.τ).loc Cert.LayersRefIdeal.main_arg5)
      ∧ r.2.mem ((c.tc : Thread Cert.LayersRefIdeal.nD Cert.LayersRefIdeal.τ).loc Cert.LayersRefIdeal.main_arg6) = m ((c.tc : Thread Cert.LayersRefIdeal.nD Cert.LayersRefIdeal.τ).loc Cert.LayersRefIdeal.main_arg6)
      ∧ r.2.mem ((c.tc : Thread Cert.LayersRefIdeal.nD Cert.LayersRefIdeal.τ).loc Cert.LayersRefIdeal.main_arg7) = m ((c.tc : Thread Cert.LayersRefIdeal.nD Cert.LayersRefIdeal.τ).loc Cert.LayersRefIdeal.main_arg7)
      ∧ r.2.mem ((c.tc : Thread Cert.LayersRefIdeal.nD Cert.LayersRefIdeal.τ).loc Cert.LayersRefIdeal.main_arg8) = m ((c.tc : Thread Cert.LayersRefIdeal.nD Cert.LayersRefIdeal.τ).loc Cert.LayersRefIdeal.main_arg8)
      ∧ r.2.mem ((c.tc : Thread Cert.LayersRefIdeal.nD Cert.LayersRefIdeal.τ).loc Cert.LayersRefIdeal.main_arg9) = m ((c.tc : Thread Cert.LayersRefIdeal.nD Cert.LayersRefIdeal.τ).loc Cert.LayersRefIdeal.main_arg9)
      ∧ r.2.mem ((c.tc : Thread Cert.LayersRefIdeal.nD Cert.LayersRefIdeal.τ).loc Cert.LayersRefIdeal.main_arg10) = m ((c.tc : Thread Cert.LayersRefIdeal.nD Cert.LayersRefIdeal.τ).loc Cert.LayersRefIdeal.main_arg10)
      ∧ r.2.mem ((c.tc : Thread Cert.LayersRefIdeal.nD Cert.LayersRefIdeal.τ).loc Cert.LayersRefIdeal.main_arg11) = m ((c.tc : Thread Cert.LayersRefIdeal.nD Cert.LayersRefIdeal.τ).loc Cert.LayersRefIdeal.main_arg11)
      ∧ r.2.mem ((c.tc : Thread Cert.LayersRefIdeal.nD Cert.LayersRefIdeal.τ).loc Cert.LayersRefIdeal.main_arg12) = m ((c.tc : Thread Cert.LayersRefIdeal.nD Cert.LayersRefIdeal.τ).loc Cert.LayersRefIdeal.main_arg12)
      ∧ r.2.mem ((c.tc : Thread Cert.LayersRefIdeal.nD Cert.LayersRefIdeal.τ).loc Cert.LayersRefIdeal.main_arg13) = m ((c.tc : Thread Cert.LayersRefIdeal.nD Cert.LayersRefIdeal.τ).loc Cert.LayersRefIdeal.main_arg13)
      ∧ r.2.mem ((c.tc : Thread Cert.LayersRefIdeal.nD Cert.LayersRefIdeal.τ).loc Cert.LayersRefIdeal.main_arg14) = m ((c.tc : Thread Cert.LayersRefIdeal.nD Cert.LayersRefIdeal.τ).loc Cert.LayersRefIdeal.main_arg14)
      ∧ r.2.mem ((c.tc : Thread Cert.LayersRefIdeal.nD Cert.LayersRefIdeal.τ).loc Cert.LayersRefIdeal.main_arg15) = m ((c.tc : Thread Cert.LayersRefIdeal.nD Cert.LayersRefIdeal.τ).loc Cert.LayersRefIdeal.main_arg15)
      ∧ r.2.mem ((c.tc : Thread Cert.LayersRefIdeal.nD Cert.LayersRefIdeal.τ).loc Cert.LayersRefIdeal.main_arg16) = m ((c.tc : Thread Cert.LayersRefIdeal.nD Cert.LayersRefIdeal.τ).loc Cert.LayersRefIdeal.main_arg16)
      ∧ r.2.mem ((c.tc : Thread Cert.LayersRefIdeal.nD Cert.LayersRefIdeal.τ).loc Cert.LayersRefIdeal.main_arg17) = m ((c.tc : Thread Cert.LayersRefIdeal.nD Cert.LayersRefIdeal.τ).loc Cert.LayersRefIdeal.main_arg17)
      ∧ r.2.mem ((c.tc : Thread Cert.LayersRefIdeal.nD Cert.LayersRefIdeal.τ).loc Cert.LayersRefIdeal.main_arg18) = m ((c.tc : Thread Cert.LayersRefIdeal.nD Cert.LayersRefIdeal.τ).loc Cert.LayersRefIdeal.main_arg18)
      ∧ r.2.mem ((c.tc : Thread Cert.LayersRefIdeal.nD Cert.LayersRefIdeal.τ).loc Cert.LayersRefIdeal.main_arg19) = m ((c.tc : Thread Cert.LayersRefIdeal.nD Cert.LayersRefIdeal.τ).loc Cert.LayersRefIdeal.main_arg19)
      ∧ r.2.mem ((c.tc : Thread Cert.LayersRefIdeal.nD Cert.LayersRefIdeal.τ).loc Cert.LayersRefIdeal.main_arg20) = m ((c.tc : Thread Cert.LayersRefIdeal.nD Cert.LayersRefIdeal.τ).loc Cert.LayersRefIdeal.main_arg20)
      ∧ r.2.mem ((c.tc : Thread Cert.LayersRefIdeal.nD Cert.LayersRefIdeal.τ).loc Cert.LayersRefIdeal.main_arg21) = m ((c.tc : Thread Cert.LayersRefIdeal.nD Cert.LayersRefIdeal.τ).loc Cert.LayersRefIdeal.main_arg21)
      ∧ r.2.mem ((c.tc : Thread Cert.LayersRefIdeal.nD Cert.LayersRefIdeal.τ).loc Cert.LayersRefIdeal.main_arg22) = m ((c.tc : Thread Cert.LayersRefIdeal.nD Cert.LayersRefIdeal.τ).loc Cert.LayersRefIdeal.main_arg22)
      ∧ r.2.mem ((c.tc : Thread Cert.LayersRefIdeal.nD Cert.LayersRefIdeal.τ).loc Cert.LayersRefIdeal.main_arg23) = m ((c.tc : Thread Cert.LayersRefIdeal.nD Cert.LayersRefIdeal.τ).loc Cert.LayersRefIdeal.main_arg23)
      ∧ r.2.mem ((c.tc : Thread Cert.LayersRefIdeal.nD Cert.LayersRefIdeal.τ).loc Cert.LayersRefIdeal.main_arg24) = m ((c.tc : Thread Cert.LayersRefIdeal.nD Cert.LayersRefIdeal.τ).loc Cert.LayersRefIdeal.main_arg24)
      ∧ r.2.mem ((c.tc : Thread Cert.LayersRefIdeal.nD Cert.LayersRefIdeal.τ).loc Cert.LayersRefIdeal.main_arg25) = m ((c.tc : Thread Cert.LayersRefIdeal.nD Cert.LayersRefIdeal.τ).loc Cert.LayersRefIdeal.main_arg25)
      ∧ r.2.mem ((c.tc : Thread Cert.LayersRefIdeal.nD Cert.LayersRefIdeal.τ).loc Cert.LayersRefIdeal.main_arg26) = m ((c.tc : Thread Cert.LayersRefIdeal.nD Cert.LayersRefIdeal.τ).loc Cert.LayersRefIdeal.main_arg26)
      ∧ r.2.mem ((c.tc : Thread Cert.LayersRefIdeal.nD Cert.LayersRefIdeal.τ).loc Cert.LayersRefIdeal.main_arg27) = m ((c.tc : Thread Cert.LayersRefIdeal.nD Cert.LayersRefIdeal.τ).loc Cert.LayersRefIdeal.main_arg27))
      ∧ r.2.sem = fun _ => 0)

def quiescent_LayersRefIdeal_pre_finite_layers [hLayersRefIdeal : Cert.LayersRefIdeal.Facts] [hPre_finite_layers : Cert.Pre_finite_layers.Facts] : Prop :=
  ∀ (m : (ℓ : Loc Cert.LayersRefIdeal.nD Cert.LayersRefIdeal.τ Cert.LayersRefIdeal.sig) → Buf (Elt Ideal) ℓ) (g : Dev Cert.LayersRefIdeal.nD → PrngReg), Pre_LayersRefIdeal_finite_layers m →
    θ_run (Cert.LayersRefIdeal.defs (F := Ideal)) (onTc (τ := Cert.LayersRefIdeal.τ) (Cert.LayersRefIdeal.main (F := Ideal))) ⟨m, fun _ => 0, g⟩ (fun r => (∀ c : Dev Cert.LayersRefIdeal.nD,
      r.2.mem ((c.tc : Thread Cert.LayersRefIdeal.nD Cert.LayersRefIdeal.τ).loc Cert.LayersRefIdeal.main_arg0) = m ((c.tc : Thread Cert.LayersRefIdeal.nD Cert.LayersRefIdeal.τ).loc Cert.LayersRefIdeal.main_arg0)
      ∧ r.2.mem ((c.tc : Thread Cert.LayersRefIdeal.nD Cert.LayersRefIdeal.τ).loc Cert.LayersRefIdeal.main_arg1) = m ((c.tc : Thread Cert.LayersRefIdeal.nD Cert.LayersRefIdeal.τ).loc Cert.LayersRefIdeal.main_arg1)
      ∧ r.2.mem ((c.tc : Thread Cert.LayersRefIdeal.nD Cert.LayersRefIdeal.τ).loc Cert.LayersRefIdeal.main_arg2) = m ((c.tc : Thread Cert.LayersRefIdeal.nD Cert.LayersRefIdeal.τ).loc Cert.LayersRefIdeal.main_arg2)
      ∧ r.2.mem ((c.tc : Thread Cert.LayersRefIdeal.nD Cert.LayersRefIdeal.τ).loc Cert.LayersRefIdeal.main_arg3) = m ((c.tc : Thread Cert.LayersRefIdeal.nD Cert.LayersRefIdeal.τ).loc Cert.LayersRefIdeal.main_arg3)
      ∧ r.2.mem ((c.tc : Thread Cert.LayersRefIdeal.nD Cert.LayersRefIdeal.τ).loc Cert.LayersRefIdeal.main_arg4) = m ((c.tc : Thread Cert.LayersRefIdeal.nD Cert.LayersRefIdeal.τ).loc Cert.LayersRefIdeal.main_arg4)
      ∧ r.2.mem ((c.tc : Thread Cert.LayersRefIdeal.nD Cert.LayersRefIdeal.τ).loc Cert.LayersRefIdeal.main_arg5) = m ((c.tc : Thread Cert.LayersRefIdeal.nD Cert.LayersRefIdeal.τ).loc Cert.LayersRefIdeal.main_arg5)
      ∧ r.2.mem ((c.tc : Thread Cert.LayersRefIdeal.nD Cert.LayersRefIdeal.τ).loc Cert.LayersRefIdeal.main_arg6) = m ((c.tc : Thread Cert.LayersRefIdeal.nD Cert.LayersRefIdeal.τ).loc Cert.LayersRefIdeal.main_arg6)
      ∧ r.2.mem ((c.tc : Thread Cert.LayersRefIdeal.nD Cert.LayersRefIdeal.τ).loc Cert.LayersRefIdeal.main_arg7) = m ((c.tc : Thread Cert.LayersRefIdeal.nD Cert.LayersRefIdeal.τ).loc Cert.LayersRefIdeal.main_arg7)
      ∧ r.2.mem ((c.tc : Thread Cert.LayersRefIdeal.nD Cert.LayersRefIdeal.τ).loc Cert.LayersRefIdeal.main_arg8) = m ((c.tc : Thread Cert.LayersRefIdeal.nD Cert.LayersRefIdeal.τ).loc Cert.LayersRefIdeal.main_arg8)
      ∧ r.2.mem ((c.tc : Thread Cert.LayersRefIdeal.nD Cert.LayersRefIdeal.τ).loc Cert.LayersRefIdeal.main_arg9) = m ((c.tc : Thread Cert.LayersRefIdeal.nD Cert.LayersRefIdeal.τ).loc Cert.LayersRefIdeal.main_arg9)
      ∧ r.2.mem ((c.tc : Thread Cert.LayersRefIdeal.nD Cert.LayersRefIdeal.τ).loc Cert.LayersRefIdeal.main_arg10) = m ((c.tc : Thread Cert.LayersRefIdeal.nD Cert.LayersRefIdeal.τ).loc Cert.LayersRefIdeal.main_arg10)
      ∧ r.2.mem ((c.tc : Thread Cert.LayersRefIdeal.nD Cert.LayersRefIdeal.τ).loc Cert.LayersRefIdeal.main_arg11) = m ((c.tc : Thread Cert.LayersRefIdeal.nD Cert.LayersRefIdeal.τ).loc Cert.LayersRefIdeal.main_arg11)
      ∧ r.2.mem ((c.tc : Thread Cert.LayersRefIdeal.nD Cert.LayersRefIdeal.τ).loc Cert.LayersRefIdeal.main_arg12) = m ((c.tc : Thread Cert.LayersRefIdeal.nD Cert.LayersRefIdeal.τ).loc Cert.LayersRefIdeal.main_arg12)
      ∧ r.2.mem ((c.tc : Thread Cert.LayersRefIdeal.nD Cert.LayersRefIdeal.τ).loc Cert.LayersRefIdeal.main_arg13) = m ((c.tc : Thread Cert.LayersRefIdeal.nD Cert.LayersRefIdeal.τ).loc Cert.LayersRefIdeal.main_arg13)
      ∧ r.2.mem ((c.tc : Thread Cert.LayersRefIdeal.nD Cert.LayersRefIdeal.τ).loc Cert.LayersRefIdeal.main_arg14) = m ((c.tc : Thread Cert.LayersRefIdeal.nD Cert.LayersRefIdeal.τ).loc Cert.LayersRefIdeal.main_arg14)
      ∧ r.2.mem ((c.tc : Thread Cert.LayersRefIdeal.nD Cert.LayersRefIdeal.τ).loc Cert.LayersRefIdeal.main_arg15) = m ((c.tc : Thread Cert.LayersRefIdeal.nD Cert.LayersRefIdeal.τ).loc Cert.LayersRefIdeal.main_arg15)
      ∧ r.2.mem ((c.tc : Thread Cert.LayersRefIdeal.nD Cert.LayersRefIdeal.τ).loc Cert.LayersRefIdeal.main_arg16) = m ((c.tc : Thread Cert.LayersRefIdeal.nD Cert.LayersRefIdeal.τ).loc Cert.LayersRefIdeal.main_arg16)
      ∧ r.2.mem ((c.tc : Thread Cert.LayersRefIdeal.nD Cert.LayersRefIdeal.τ).loc Cert.LayersRefIdeal.main_arg17) = m ((c.tc : Thread Cert.LayersRefIdeal.nD Cert.LayersRefIdeal.τ).loc Cert.LayersRefIdeal.main_arg17)
      ∧ r.2.mem ((c.tc : Thread Cert.LayersRefIdeal.nD Cert.LayersRefIdeal.τ).loc Cert.LayersRefIdeal.main_arg18) = m ((c.tc : Thread Cert.LayersRefIdeal.nD Cert.LayersRefIdeal.τ).loc Cert.LayersRefIdeal.main_arg18)
      ∧ r.2.mem ((c.tc : Thread Cert.LayersRefIdeal.nD Cert.LayersRefIdeal.τ).loc Cert.LayersRefIdeal.main_arg19) = m ((c.tc : Thread Cert.LayersRefIdeal.nD Cert.LayersRefIdeal.τ).loc Cert.LayersRefIdeal.main_arg19)
      ∧ r.2.mem ((c.tc : Thread Cert.LayersRefIdeal.nD Cert.LayersRefIdeal.τ).loc Cert.LayersRefIdeal.main_arg20) = m ((c.tc : Thread Cert.LayersRefIdeal.nD Cert.LayersRefIdeal.τ).loc Cert.LayersRefIdeal.main_arg20)
      ∧ r.2.mem ((c.tc : Thread Cert.LayersRefIdeal.nD Cert.LayersRefIdeal.τ).loc Cert.LayersRefIdeal.main_arg21) = m ((c.tc : Thread Cert.LayersRefIdeal.nD Cert.LayersRefIdeal.τ).loc Cert.LayersRefIdeal.main_arg21)
      ∧ r.2.mem ((c.tc : Thread Cert.LayersRefIdeal.nD Cert.LayersRefIdeal.τ).loc Cert.LayersRefIdeal.main_arg22) = m ((c.tc : Thread Cert.LayersRefIdeal.nD Cert.LayersRefIdeal.τ).loc Cert.LayersRefIdeal.main_arg22)
      ∧ r.2.mem ((c.tc : Thread Cert.LayersRefIdeal.nD Cert.LayersRefIdeal.τ).loc Cert.LayersRefIdeal.main_arg23) = m ((c.tc : Thread Cert.LayersRefIdeal.nD Cert.LayersRefIdeal.τ).loc Cert.LayersRefIdeal.main_arg23)
      ∧ r.2.mem ((c.tc : Thread Cert.LayersRefIdeal.nD Cert.LayersRefIdeal.τ).loc Cert.LayersRefIdeal.main_arg24) = m ((c.tc : Thread Cert.LayersRefIdeal.nD Cert.LayersRefIdeal.τ).loc Cert.LayersRefIdeal.main_arg24)
      ∧ r.2.mem ((c.tc : Thread Cert.LayersRefIdeal.nD Cert.LayersRefIdeal.τ).loc Cert.LayersRefIdeal.main_arg25) = m ((c.tc : Thread Cert.LayersRefIdeal.nD Cert.LayersRefIdeal.τ).loc Cert.LayersRefIdeal.main_arg25)
      ∧ r.2.mem ((c.tc : Thread Cert.LayersRefIdeal.nD Cert.LayersRefIdeal.τ).loc Cert.LayersRefIdeal.main_arg26) = m ((c.tc : Thread Cert.LayersRefIdeal.nD Cert.LayersRefIdeal.τ).loc Cert.LayersRefIdeal.main_arg26)
      ∧ r.2.mem ((c.tc : Thread Cert.LayersRefIdeal.nD Cert.LayersRefIdeal.τ).loc Cert.LayersRefIdeal.main_arg27) = m ((c.tc : Thread Cert.LayersRefIdeal.nD Cert.LayersRefIdeal.τ).loc Cert.LayersRefIdeal.main_arg27))
      ∧ r.2.sem = fun _ => 0)

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)
      ∧ m' ((c.tc : Thread Cert.FinalRefIdeal.nD Cert.FinalRefIdeal.τ).loc Cert.FinalRefIdeal.main_arg4) = m ((c.tc : Thread Cert.FinalIdeal.nD Cert.FinalIdeal.τ).loc Cert.FinalIdeal.main_arg4)) →
    ∃ (v0 : (c : Dev Cert.FinalIdeal.nD) → Buf (Elt Ideal) ((c.tc : Thread Cert.FinalIdeal.nD Cert.FinalIdeal.τ).loc Cert.FinalIdeal.main_v1_0)) (v1 : (c : Dev Cert.FinalIdeal.nD) → Buf (Elt Ideal) ((c.tc : Thread Cert.FinalIdeal.nD Cert.FinalIdeal.τ).loc Cert.FinalIdeal.main_v1_1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1_0) = v0 c
          ∧ r.2.mem ((c.tc : Thread Cert.FinalIdeal.nD Cert.FinalIdeal.τ).loc Cert.FinalIdeal.main_v1_1) = v1 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v13) = v0 c
          ∧ r.2.mem ((c.tc : Thread Cert.FinalRefIdeal.nD Cert.FinalRefIdeal.τ).loc Cert.FinalRefIdeal.main_v17) = v1 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3)
          ∧ r.2.mem ((c.tc : Thread Cert.FinalRefIdeal.nD Cert.FinalRefIdeal.τ).loc Cert.FinalRefIdeal.main_arg4) = m' ((c.tc : Thread Cert.FinalRefIdeal.nD Cert.FinalRefIdeal.τ).loc Cert.FinalRefIdeal.main_arg4))

def preserves_Mlp_MlpIdeal : Prop :=
  True

def algebraic_MlpIdeal_MlpRefIdeal_pre_finite [hMlpIdeal : Cert.MlpIdeal.Facts] [hMlpRefIdeal : Cert.MlpRefIdeal.Facts] [hPre_finite : Cert.Pre_finite.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal_finite m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)
      ∧ m' ((c.tc : Thread Cert.MlpRefIdeal.nD Cert.MlpRefIdeal.τ).loc Cert.MlpRefIdeal.main_arg9) = m ((c.tc : Thread Cert.MlpIdeal.nD Cert.MlpIdeal.τ).loc Cert.MlpIdeal.main_arg9)
      ∧ m' ((c.tc : Thread Cert.MlpRefIdeal.nD Cert.MlpRefIdeal.τ).loc Cert.MlpRefIdeal.main_arg10) = m ((c.tc : Thread Cert.MlpIdeal.nD Cert.MlpIdeal.τ).loc Cert.MlpIdeal.main_arg10)) →
    ∃ (v0 : (c : Dev Cert.MlpIdeal.nD) → Buf (Elt Ideal) ((c.tc : Thread Cert.MlpIdeal.nD Cert.MlpIdeal.τ).loc Cert.MlpIdeal.main_v0)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
          ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v21) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8)
          ∧ r.2.mem ((c.tc : Thread Cert.MlpRefIdeal.nD Cert.MlpRefIdeal.τ).loc Cert.MlpRefIdeal.main_arg9) = m' ((c.tc : Thread Cert.MlpRefIdeal.nD Cert.MlpRefIdeal.τ).loc Cert.MlpRefIdeal.main_arg9)
          ∧ r.2.mem ((c.tc : Thread Cert.MlpRefIdeal.nD Cert.MlpRefIdeal.τ).loc Cert.MlpRefIdeal.main_arg10) = m' ((c.tc : Thread Cert.MlpRefIdeal.nD Cert.MlpRefIdeal.τ).loc Cert.MlpRefIdeal.main_arg10))

def preserves_Attn_AttnIdeal : Prop :=
  IdealRules.named_const.Statement Cert.AttnIdeal.κ "mask" .f32 0xCE6E6B28#32 ⊥

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)
      ∧ m' ((c.tc : Thread Cert.AttnRefIdeal.nD Cert.AttnRefIdeal.τ).loc Cert.AttnRefIdeal.main_arg8) = m ((c.tc : Thread Cert.AttnIdeal.nD Cert.AttnIdeal.τ).loc Cert.AttnIdeal.main_arg8)
      ∧ m' ((c.tc : Thread Cert.AttnRefIdeal.nD Cert.AttnRefIdeal.τ).loc Cert.AttnRefIdeal.main_arg9) = m ((c.tc : Thread Cert.AttnIdeal.nD Cert.AttnIdeal.τ).loc Cert.AttnIdeal.main_arg9)
      ∧ m' ((c.tc : Thread Cert.AttnRefIdeal.nD Cert.AttnRefIdeal.τ).loc Cert.AttnRefIdeal.main_arg10) = m ((c.tc : Thread Cert.AttnIdeal.nD Cert.AttnIdeal.τ).loc Cert.AttnIdeal.main_arg10)
      ∧ m' ((c.tc : Thread Cert.AttnRefIdeal.nD Cert.AttnRefIdeal.τ).loc Cert.AttnRefIdeal.main_arg11) = m ((c.tc : Thread Cert.AttnIdeal.nD Cert.AttnIdeal.τ).loc Cert.AttnIdeal.main_arg11)
      ∧ m' ((c.tc : Thread Cert.AttnRefIdeal.nD Cert.AttnRefIdeal.τ).loc Cert.AttnRefIdeal.main_arg12) = m ((c.tc : Thread Cert.AttnIdeal.nD Cert.AttnIdeal.τ).loc Cert.AttnIdeal.main_arg12)
      ∧ m' ((c.tc : Thread Cert.AttnRefIdeal.nD Cert.AttnRefIdeal.τ).loc Cert.AttnRefIdeal.main_arg13) = m ((c.tc : Thread Cert.AttnIdeal.nD Cert.AttnIdeal.τ).loc Cert.AttnIdeal.main_arg13)
      ∧ m' ((c.tc : Thread Cert.AttnRefIdeal.nD Cert.AttnRefIdeal.τ).loc Cert.AttnRefIdeal.main_arg14) = m ((c.tc : Thread Cert.AttnIdeal.nD Cert.AttnIdeal.τ).loc Cert.AttnIdeal.main_arg14)) →
    ∃ (v0 : (c : Dev Cert.AttnIdeal.nD) → Buf (Elt Ideal) ((c.tc : Thread Cert.AttnIdeal.nD Cert.AttnIdeal.τ).loc Cert.AttnIdeal.main_v24_0)) (v1 : (c : Dev Cert.AttnIdeal.nD) → Buf (Elt Ideal) ((c.tc : Thread Cert.AttnIdeal.nD Cert.AttnIdeal.τ).loc Cert.AttnIdeal.main_v24_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v24_0) = v0 c
          ∧ r.2.mem ((c.tc : Thread Cert.AttnIdeal.nD Cert.AttnIdeal.τ).loc Cert.AttnIdeal.main_v24_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
          ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
          ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10)
          ∧ r.2.mem ((c.tc : Thread Cert.AttnIdeal.nD Cert.AttnIdeal.τ).loc Cert.AttnIdeal.main_arg11) = m ((c.tc : Thread Cert.AttnIdeal.nD Cert.AttnIdeal.τ).loc Cert.AttnIdeal.main_arg11)
          ∧ r.2.mem ((c.tc : Thread Cert.AttnIdeal.nD Cert.AttnIdeal.τ).loc Cert.AttnIdeal.main_arg12) = m ((c.tc : Thread Cert.AttnIdeal.nD Cert.AttnIdeal.τ).loc Cert.AttnIdeal.main_arg12)
          ∧ r.2.mem ((c.tc : Thread Cert.AttnIdeal.nD Cert.AttnIdeal.τ).loc Cert.AttnIdeal.main_arg13) = m ((c.tc : Thread Cert.AttnIdeal.nD Cert.AttnIdeal.τ).loc Cert.AttnIdeal.main_arg13)
          ∧ r.2.mem ((c.tc : Thread Cert.AttnIdeal.nD Cert.AttnIdeal.τ).loc Cert.AttnIdeal.main_arg14) = m ((c.tc : Thread Cert.AttnIdeal.nD Cert.AttnIdeal.τ).loc Cert.AttnIdeal.main_arg14))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v104) = v0 c
          ∧ r.2.mem ((c.tc : Thread Cert.AttnRefIdeal.nD Cert.AttnRefIdeal.τ).loc Cert.AttnRefIdeal.main_v118) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7)
          ∧ r.2.mem ((c.tc : Thread Cert.AttnRefIdeal.nD Cert.AttnRefIdeal.τ).loc Cert.AttnRefIdeal.main_arg8) = m' ((c.tc : Thread Cert.AttnRefIdeal.nD Cert.AttnRefIdeal.τ).loc Cert.AttnRefIdeal.main_arg8)
          ∧ r.2.mem ((c.tc : Thread Cert.AttnRefIdeal.nD Cert.AttnRefIdeal.τ).loc Cert.AttnRefIdeal.main_arg9) = m' ((c.tc : Thread Cert.AttnRefIdeal.nD Cert.AttnRefIdeal.τ).loc Cert.AttnRefIdeal.main_arg9)
          ∧ r.2.mem ((c.tc : Thread Cert.AttnRefIdeal.nD Cert.AttnRefIdeal.τ).loc Cert.AttnRefIdeal.main_arg10) = m' ((c.tc : Thread Cert.AttnRefIdeal.nD Cert.AttnRefIdeal.τ).loc Cert.AttnRefIdeal.main_arg10)
          ∧ r.2.mem ((c.tc : Thread Cert.AttnRefIdeal.nD Cert.AttnRefIdeal.τ).loc Cert.AttnRefIdeal.main_arg11) = m' ((c.tc : Thread Cert.AttnRefIdeal.nD Cert.AttnRefIdeal.τ).loc Cert.AttnRefIdeal.main_arg11)
          ∧ r.2.mem ((c.tc : Thread Cert.AttnRefIdeal.nD Cert.AttnRefIdeal.τ).loc Cert.AttnRefIdeal.main_arg12) = m' ((c.tc : Thread Cert.AttnRefIdeal.nD Cert.AttnRefIdeal.τ).loc Cert.AttnRefIdeal.main_arg12)
          ∧ r.2.mem ((c.tc : Thread Cert.AttnRefIdeal.nD Cert.AttnRefIdeal.τ).loc Cert.AttnRefIdeal.main_arg13) = m' ((c.tc : Thread Cert.AttnRefIdeal.nD Cert.AttnRefIdeal.τ).loc Cert.AttnRefIdeal.main_arg13)
          ∧ r.2.mem ((c.tc : Thread Cert.AttnRefIdeal.nD Cert.AttnRefIdeal.τ).loc Cert.AttnRefIdeal.main_arg14) = m' ((c.tc : Thread Cert.AttnRefIdeal.nD Cert.AttnRefIdeal.τ).loc Cert.AttnRefIdeal.main_arg14))

def preserves_Layers_LayersIdeal : Prop :=
  IdealRules.named_const.Statement Cert.LayersIdeal.κ "mask" .f32 0xCE6E6B28#32 ⊥

def algebraic_LayersIdeal_LayersRefIdeal_pre_finite_layers [hLayersIdeal : Cert.LayersIdeal.Facts] [hLayersRefIdeal : Cert.LayersRefIdeal.Facts] [hPre_finite_layers : Cert.Pre_finite_layers.Facts] : Prop :=
  ∀ (m : (ℓ : Loc Cert.LayersIdeal.nD Cert.LayersIdeal.τ Cert.LayersIdeal.sig) → Buf (Elt Ideal) ℓ) (g : Dev Cert.LayersIdeal.nD → PrngReg)
    (m' : (ℓ : Loc Cert.LayersRefIdeal.nD Cert.LayersRefIdeal.τ Cert.LayersRefIdeal.sig) → Buf (Elt Ideal) ℓ) (g' : Dev Cert.LayersRefIdeal.nD → PrngReg), Pre_LayersIdeal_finite_layers m →
    (∀ c : Dev Cert.LayersIdeal.nD,
      m' ((c.tc : Thread Cert.LayersRefIdeal.nD Cert.LayersRefIdeal.τ).loc Cert.LayersRefIdeal.main_arg0) = m ((c.tc : Thread Cert.LayersIdeal.nD Cert.LayersIdeal.τ).loc Cert.LayersIdeal.main_arg0)
      ∧ m' ((c.tc : Thread Cert.LayersRefIdeal.nD Cert.LayersRefIdeal.τ).loc Cert.LayersRefIdeal.main_arg1) = m ((c.tc : Thread Cert.LayersIdeal.nD Cert.LayersIdeal.τ).loc Cert.LayersIdeal.main_arg1)
      ∧ m' ((c.tc : Thread Cert.LayersRefIdeal.nD Cert.LayersRefIdeal.τ).loc Cert.LayersRefIdeal.main_arg2) = m ((c.tc : Thread Cert.LayersIdeal.nD Cert.LayersIdeal.τ).loc Cert.LayersIdeal.main_arg2)
      ∧ m' ((c.tc : Thread Cert.LayersRefIdeal.nD Cert.LayersRefIdeal.τ).loc Cert.LayersRefIdeal.main_arg3) = m ((c.tc : Thread Cert.LayersIdeal.nD Cert.LayersIdeal.τ).loc Cert.LayersIdeal.main_arg3)
      ∧ m' ((c.tc : Thread Cert.LayersRefIdeal.nD Cert.LayersRefIdeal.τ).loc Cert.LayersRefIdeal.main_arg4) = m ((c.tc : Thread Cert.LayersIdeal.nD Cert.LayersIdeal.τ).loc Cert.LayersIdeal.main_arg4)
      ∧ m' ((c.tc : Thread Cert.LayersRefIdeal.nD Cert.LayersRefIdeal.τ).loc Cert.LayersRefIdeal.main_arg5) = m ((c.tc : Thread Cert.LayersIdeal.nD Cert.LayersIdeal.τ).loc Cert.LayersIdeal.main_arg5)
      ∧ m' ((c.tc : Thread Cert.LayersRefIdeal.nD Cert.LayersRefIdeal.τ).loc Cert.LayersRefIdeal.main_arg6) = m ((c.tc : Thread Cert.LayersIdeal.nD Cert.LayersIdeal.τ).loc Cert.LayersIdeal.main_arg6)
      ∧ m' ((c.tc : Thread Cert.LayersRefIdeal.nD Cert.LayersRefIdeal.τ).loc Cert.LayersRefIdeal.main_arg7) = m ((c.tc : Thread Cert.LayersIdeal.nD Cert.LayersIdeal.τ).loc Cert.LayersIdeal.main_arg7)
      ∧ m' ((c.tc : Thread Cert.LayersRefIdeal.nD Cert.LayersRefIdeal.τ).loc Cert.LayersRefIdeal.main_arg8) = m ((c.tc : Thread Cert.LayersIdeal.nD Cert.LayersIdeal.τ).loc Cert.LayersIdeal.main_arg8)
      ∧ m' ((c.tc : Thread Cert.LayersRefIdeal.nD Cert.LayersRefIdeal.τ).loc Cert.LayersRefIdeal.main_arg9) = m ((c.tc : Thread Cert.LayersIdeal.nD Cert.LayersIdeal.τ).loc Cert.LayersIdeal.main_arg9)
      ∧ m' ((c.tc : Thread Cert.LayersRefIdeal.nD Cert.LayersRefIdeal.τ).loc Cert.LayersRefIdeal.main_arg10) = m ((c.tc : Thread Cert.LayersIdeal.nD Cert.LayersIdeal.τ).loc Cert.LayersIdeal.main_arg10)
      ∧ m' ((c.tc : Thread Cert.LayersRefIdeal.nD Cert.LayersRefIdeal.τ).loc Cert.LayersRefIdeal.main_arg11) = m ((c.tc : Thread Cert.LayersIdeal.nD Cert.LayersIdeal.τ).loc Cert.LayersIdeal.main_arg11)
      ∧ m' ((c.tc : Thread Cert.LayersRefIdeal.nD Cert.LayersRefIdeal.τ).loc Cert.LayersRefIdeal.main_arg12) = m ((c.tc : Thread Cert.LayersIdeal.nD Cert.LayersIdeal.τ).loc Cert.LayersIdeal.main_arg12)
      ∧ m' ((c.tc : Thread Cert.LayersRefIdeal.nD Cert.LayersRefIdeal.τ).loc Cert.LayersRefIdeal.main_arg13) = m ((c.tc : Thread Cert.LayersIdeal.nD Cert.LayersIdeal.τ).loc Cert.LayersIdeal.main_arg13)
      ∧ m' ((c.tc : Thread Cert.LayersRefIdeal.nD Cert.LayersRefIdeal.τ).loc Cert.LayersRefIdeal.main_arg14) = m ((c.tc : Thread Cert.LayersIdeal.nD Cert.LayersIdeal.τ).loc Cert.LayersIdeal.main_arg14)
      ∧ m' ((c.tc : Thread Cert.LayersRefIdeal.nD Cert.LayersRefIdeal.τ).loc Cert.LayersRefIdeal.main_arg15) = m ((c.tc : Thread Cert.LayersIdeal.nD Cert.LayersIdeal.τ).loc Cert.LayersIdeal.main_arg15)
      ∧ m' ((c.tc : Thread Cert.LayersRefIdeal.nD Cert.LayersRefIdeal.τ).loc Cert.LayersRefIdeal.main_arg16) = m ((c.tc : Thread Cert.LayersIdeal.nD Cert.LayersIdeal.τ).loc Cert.LayersIdeal.main_arg16)
      ∧ m' ((c.tc : Thread Cert.LayersRefIdeal.nD Cert.LayersRefIdeal.τ).loc Cert.LayersRefIdeal.main_arg17) = m ((c.tc : Thread Cert.LayersIdeal.nD Cert.LayersIdeal.τ).loc Cert.LayersIdeal.main_arg17)
      ∧ m' ((c.tc : Thread Cert.LayersRefIdeal.nD Cert.LayersRefIdeal.τ).loc Cert.LayersRefIdeal.main_arg18) = m ((c.tc : Thread Cert.LayersIdeal.nD Cert.LayersIdeal.τ).loc Cert.LayersIdeal.main_arg18)
      ∧ m' ((c.tc : Thread Cert.LayersRefIdeal.nD Cert.LayersRefIdeal.τ).loc Cert.LayersRefIdeal.main_arg19) = m ((c.tc : Thread Cert.LayersIdeal.nD Cert.LayersIdeal.τ).loc Cert.LayersIdeal.main_arg19)
      ∧ m' ((c.tc : Thread Cert.LayersRefIdeal.nD Cert.LayersRefIdeal.τ).loc Cert.LayersRefIdeal.main_arg20) = m ((c.tc : Thread Cert.LayersIdeal.nD Cert.LayersIdeal.τ).loc Cert.LayersIdeal.main_arg20)
      ∧ m' ((c.tc : Thread Cert.LayersRefIdeal.nD Cert.LayersRefIdeal.τ).loc Cert.LayersRefIdeal.main_arg21) = m ((c.tc : Thread Cert.LayersIdeal.nD Cert.LayersIdeal.τ).loc Cert.LayersIdeal.main_arg21)
      ∧ m' ((c.tc : Thread Cert.LayersRefIdeal.nD Cert.LayersRefIdeal.τ).loc Cert.LayersRefIdeal.main_arg22) = m ((c.tc : Thread Cert.LayersIdeal.nD Cert.LayersIdeal.τ).loc Cert.LayersIdeal.main_arg22)
      ∧ m' ((c.tc : Thread Cert.LayersRefIdeal.nD Cert.LayersRefIdeal.τ).loc Cert.LayersRefIdeal.main_arg23) = m ((c.tc : Thread Cert.LayersIdeal.nD Cert.LayersIdeal.τ).loc Cert.LayersIdeal.main_arg23)
      ∧ m' ((c.tc : Thread Cert.LayersRefIdeal.nD Cert.LayersRefIdeal.τ).loc Cert.LayersRefIdeal.main_arg24) = m ((c.tc : Thread Cert.LayersIdeal.nD Cert.LayersIdeal.τ).loc Cert.LayersIdeal.main_arg24)
      ∧ m' ((c.tc : Thread Cert.LayersRefIdeal.nD Cert.LayersRefIdeal.τ).loc Cert.LayersRefIdeal.main_arg25) = m ((c.tc : Thread Cert.LayersIdeal.nD Cert.LayersIdeal.τ).loc Cert.LayersIdeal.main_arg25)
      ∧ m' ((c.tc : Thread Cert.LayersRefIdeal.nD Cert.LayersRefIdeal.τ).loc Cert.LayersRefIdeal.main_arg26) = m ((c.tc : Thread Cert.LayersIdeal.nD Cert.LayersIdeal.τ).loc Cert.LayersIdeal.main_arg26)
      ∧ m' ((c.tc : Thread Cert.LayersRefIdeal.nD Cert.LayersRefIdeal.τ).loc Cert.LayersRefIdeal.main_arg27) = m ((c.tc : Thread Cert.LayersIdeal.nD Cert.LayersIdeal.τ).loc Cert.LayersIdeal.main_arg27)) →
    ∃ (v0 : (c : Dev Cert.LayersIdeal.nD) → Buf (Elt Ideal) ((c.tc : Thread Cert.LayersIdeal.nD Cert.LayersIdeal.τ).loc Cert.LayersIdeal.main_v123_0)) (v1 : (c : Dev Cert.LayersIdeal.nD) → Buf (Elt Ideal) ((c.tc : Thread Cert.LayersIdeal.nD Cert.LayersIdeal.τ).loc Cert.LayersIdeal.main_v123_1)),
      θ_run (Cert.LayersIdeal.defs (F := Ideal)) (onTc (τ := Cert.LayersIdeal.τ) (Cert.LayersIdeal.main (F := Ideal))) ⟨m, fun _ => 0, g⟩ (fun r => ∀ c : Dev Cert.LayersIdeal.nD,
          r.2.mem ((c.tc : Thread Cert.LayersIdeal.nD Cert.LayersIdeal.τ).loc Cert.LayersIdeal.main_v123_0) = v0 c
          ∧ r.2.mem ((c.tc : Thread Cert.LayersIdeal.nD Cert.LayersIdeal.τ).loc Cert.LayersIdeal.main_v123_1) = v1 c
          ∧ r.2.mem ((c.tc : Thread Cert.LayersIdeal.nD Cert.LayersIdeal.τ).loc Cert.LayersIdeal.main_arg0) = m ((c.tc : Thread Cert.LayersIdeal.nD Cert.LayersIdeal.τ).loc Cert.LayersIdeal.main_arg0)
          ∧ r.2.mem ((c.tc : Thread Cert.LayersIdeal.nD Cert.LayersIdeal.τ).loc Cert.LayersIdeal.main_arg1) = m ((c.tc : Thread Cert.LayersIdeal.nD Cert.LayersIdeal.τ).loc Cert.LayersIdeal.main_arg1)
          ∧ r.2.mem ((c.tc : Thread Cert.LayersIdeal.nD Cert.LayersIdeal.τ).loc Cert.LayersIdeal.main_arg2) = m ((c.tc : Thread Cert.LayersIdeal.nD Cert.LayersIdeal.τ).loc Cert.LayersIdeal.main_arg2)
          ∧ r.2.mem ((c.tc : Thread Cert.LayersIdeal.nD Cert.LayersIdeal.τ).loc Cert.LayersIdeal.main_arg3) = m ((c.tc : Thread Cert.LayersIdeal.nD Cert.LayersIdeal.τ).loc Cert.LayersIdeal.main_arg3)
          ∧ r.2.mem ((c.tc : Thread Cert.LayersIdeal.nD Cert.LayersIdeal.τ).loc Cert.LayersIdeal.main_arg4) = m ((c.tc : Thread Cert.LayersIdeal.nD Cert.LayersIdeal.τ).loc Cert.LayersIdeal.main_arg4)
          ∧ r.2.mem ((c.tc : Thread Cert.LayersIdeal.nD Cert.LayersIdeal.τ).loc Cert.LayersIdeal.main_arg5) = m ((c.tc : Thread Cert.LayersIdeal.nD Cert.LayersIdeal.τ).loc Cert.LayersIdeal.main_arg5)
          ∧ r.2.mem ((c.tc : Thread Cert.LayersIdeal.nD Cert.LayersIdeal.τ).loc Cert.LayersIdeal.main_arg6) = m ((c.tc : Thread Cert.LayersIdeal.nD Cert.LayersIdeal.τ).loc Cert.LayersIdeal.main_arg6)
          ∧ r.2.mem ((c.tc : Thread Cert.LayersIdeal.nD Cert.LayersIdeal.τ).loc Cert.LayersIdeal.main_arg7) = m ((c.tc : Thread Cert.LayersIdeal.nD Cert.LayersIdeal.τ).loc Cert.LayersIdeal.main_arg7)
          ∧ r.2.mem ((c.tc : Thread Cert.LayersIdeal.nD Cert.LayersIdeal.τ).loc Cert.LayersIdeal.main_arg8) = m ((c.tc : Thread Cert.LayersIdeal.nD Cert.LayersIdeal.τ).loc Cert.LayersIdeal.main_arg8)
          ∧ r.2.mem ((c.tc : Thread Cert.LayersIdeal.nD Cert.LayersIdeal.τ).loc Cert.LayersIdeal.main_arg9) = m ((c.tc : Thread Cert.LayersIdeal.nD Cert.LayersIdeal.τ).loc Cert.LayersIdeal.main_arg9)
          ∧ r.2.mem ((c.tc : Thread Cert.LayersIdeal.nD Cert.LayersIdeal.τ).loc Cert.LayersIdeal.main_arg10) = m ((c.tc : Thread Cert.LayersIdeal.nD Cert.LayersIdeal.τ).loc Cert.LayersIdeal.main_arg10)
          ∧ r.2.mem ((c.tc : Thread Cert.LayersIdeal.nD Cert.LayersIdeal.τ).loc Cert.LayersIdeal.main_arg11) = m ((c.tc : Thread Cert.LayersIdeal.nD Cert.LayersIdeal.τ).loc Cert.LayersIdeal.main_arg11)
          ∧ r.2.mem ((c.tc : Thread Cert.LayersIdeal.nD Cert.LayersIdeal.τ).loc Cert.LayersIdeal.main_arg12) = m ((c.tc : Thread Cert.LayersIdeal.nD Cert.LayersIdeal.τ).loc Cert.LayersIdeal.main_arg12)
          ∧ r.2.mem ((c.tc : Thread Cert.LayersIdeal.nD Cert.LayersIdeal.τ).loc Cert.LayersIdeal.main_arg13) = m ((c.tc : Thread Cert.LayersIdeal.nD Cert.LayersIdeal.τ).loc Cert.LayersIdeal.main_arg13)
          ∧ r.2.mem ((c.tc : Thread Cert.LayersIdeal.nD Cert.LayersIdeal.τ).loc Cert.LayersIdeal.main_arg14) = m ((c.tc : Thread Cert.LayersIdeal.nD Cert.LayersIdeal.τ).loc Cert.LayersIdeal.main_arg14)
          ∧ r.2.mem ((c.tc : Thread Cert.LayersIdeal.nD Cert.LayersIdeal.τ).loc Cert.LayersIdeal.main_arg15) = m ((c.tc : Thread Cert.LayersIdeal.nD Cert.LayersIdeal.τ).loc Cert.LayersIdeal.main_arg15)
          ∧ r.2.mem ((c.tc : Thread Cert.LayersIdeal.nD Cert.LayersIdeal.τ).loc Cert.LayersIdeal.main_arg16) = m ((c.tc : Thread Cert.LayersIdeal.nD Cert.LayersIdeal.τ).loc Cert.LayersIdeal.main_arg16)
          ∧ r.2.mem ((c.tc : Thread Cert.LayersIdeal.nD Cert.LayersIdeal.τ).loc Cert.LayersIdeal.main_arg17) = m ((c.tc : Thread Cert.LayersIdeal.nD Cert.LayersIdeal.τ).loc Cert.LayersIdeal.main_arg17)
          ∧ r.2.mem ((c.tc : Thread Cert.LayersIdeal.nD Cert.LayersIdeal.τ).loc Cert.LayersIdeal.main_arg18) = m ((c.tc : Thread Cert.LayersIdeal.nD Cert.LayersIdeal.τ).loc Cert.LayersIdeal.main_arg18)
          ∧ r.2.mem ((c.tc : Thread Cert.LayersIdeal.nD Cert.LayersIdeal.τ).loc Cert.LayersIdeal.main_arg19) = m ((c.tc : Thread Cert.LayersIdeal.nD Cert.LayersIdeal.τ).loc Cert.LayersIdeal.main_arg19)
          ∧ r.2.mem ((c.tc : Thread Cert.LayersIdeal.nD Cert.LayersIdeal.τ).loc Cert.LayersIdeal.main_arg20) = m ((c.tc : Thread Cert.LayersIdeal.nD Cert.LayersIdeal.τ).loc Cert.LayersIdeal.main_arg20)
          ∧ r.2.mem ((c.tc : Thread Cert.LayersIdeal.nD Cert.LayersIdeal.τ).loc Cert.LayersIdeal.main_arg21) = m ((c.tc : Thread Cert.LayersIdeal.nD Cert.LayersIdeal.τ).loc Cert.LayersIdeal.main_arg21)
          ∧ r.2.mem ((c.tc : Thread Cert.LayersIdeal.nD Cert.LayersIdeal.τ).loc Cert.LayersIdeal.main_arg22) = m ((c.tc : Thread Cert.LayersIdeal.nD Cert.LayersIdeal.τ).loc Cert.LayersIdeal.main_arg22)
          ∧ r.2.mem ((c.tc : Thread Cert.LayersIdeal.nD Cert.LayersIdeal.τ).loc Cert.LayersIdeal.main_arg23) = m ((c.tc : Thread Cert.LayersIdeal.nD Cert.LayersIdeal.τ).loc Cert.LayersIdeal.main_arg23)
          ∧ r.2.mem ((c.tc : Thread Cert.LayersIdeal.nD Cert.LayersIdeal.τ).loc Cert.LayersIdeal.main_arg24) = m ((c.tc : Thread Cert.LayersIdeal.nD Cert.LayersIdeal.τ).loc Cert.LayersIdeal.main_arg24)
          ∧ r.2.mem ((c.tc : Thread Cert.LayersIdeal.nD Cert.LayersIdeal.τ).loc Cert.LayersIdeal.main_arg25) = m ((c.tc : Thread Cert.LayersIdeal.nD Cert.LayersIdeal.τ).loc Cert.LayersIdeal.main_arg25)
          ∧ r.2.mem ((c.tc : Thread Cert.LayersIdeal.nD Cert.LayersIdeal.τ).loc Cert.LayersIdeal.main_arg26) = m ((c.tc : Thread Cert.LayersIdeal.nD Cert.LayersIdeal.τ).loc Cert.LayersIdeal.main_arg26)
          ∧ r.2.mem ((c.tc : Thread Cert.LayersIdeal.nD Cert.LayersIdeal.τ).loc Cert.LayersIdeal.main_arg27) = m ((c.tc : Thread Cert.LayersIdeal.nD Cert.LayersIdeal.τ).loc Cert.LayersIdeal.main_arg27))
      ∧ θ_run (Cert.LayersRefIdeal.defs (F := Ideal)) (onTc (τ := Cert.LayersRefIdeal.τ) (Cert.LayersRefIdeal.main (F := Ideal))) ⟨m', fun _ => 0, g'⟩ (fun r => ∀ c : Dev Cert.LayersRefIdeal.nD,
          r.2.mem ((c.tc : Thread Cert.LayersRefIdeal.nD Cert.LayersRefIdeal.τ).loc Cert.LayersRefIdeal.main_v361) = v0 c
          ∧ r.2.mem ((c.tc : Thread Cert.LayersRefIdeal.nD Cert.LayersRefIdeal.τ).loc Cert.LayersRefIdeal.main_v365) = v1 c
          ∧ r.2.mem ((c.tc : Thread Cert.LayersRefIdeal.nD Cert.LayersRefIdeal.τ).loc Cert.LayersRefIdeal.main_arg0) = m' ((c.tc : Thread Cert.LayersRefIdeal.nD Cert.LayersRefIdeal.τ).loc Cert.LayersRefIdeal.main_arg0)
          ∧ r.2.mem ((c.tc : Thread Cert.LayersRefIdeal.nD Cert.LayersRefIdeal.τ).loc Cert.LayersRefIdeal.main_arg1) = m' ((c.tc : Thread Cert.LayersRefIdeal.nD Cert.LayersRefIdeal.τ).loc Cert.LayersRefIdeal.main_arg1)
          ∧ r.2.mem ((c.tc : Thread Cert.LayersRefIdeal.nD Cert.LayersRefIdeal.τ).loc Cert.LayersRefIdeal.main_arg2) = m' ((c.tc : Thread Cert.LayersRefIdeal.nD Cert.LayersRefIdeal.τ).loc Cert.LayersRefIdeal.main_arg2)
          ∧ r.2.mem ((c.tc : Thread Cert.LayersRefIdeal.nD Cert.LayersRefIdeal.τ).loc Cert.LayersRefIdeal.main_arg3) = m' ((c.tc : Thread Cert.LayersRefIdeal.nD Cert.LayersRefIdeal.τ).loc Cert.LayersRefIdeal.main_arg3)
          ∧ r.2.mem ((c.tc : Thread Cert.LayersRefIdeal.nD Cert.LayersRefIdeal.τ).loc Cert.LayersRefIdeal.main_arg4) = m' ((c.tc : Thread Cert.LayersRefIdeal.nD Cert.LayersRefIdeal.τ).loc Cert.LayersRefIdeal.main_arg4)
          ∧ r.2.mem ((c.tc : Thread Cert.LayersRefIdeal.nD Cert.LayersRefIdeal.τ).loc Cert.LayersRefIdeal.main_arg5) = m' ((c.tc : Thread Cert.LayersRefIdeal.nD Cert.LayersRefIdeal.τ).loc Cert.LayersRefIdeal.main_arg5)
          ∧ r.2.mem ((c.tc : Thread Cert.LayersRefIdeal.nD Cert.LayersRefIdeal.τ).loc Cert.LayersRefIdeal.main_arg6) = m' ((c.tc : Thread Cert.LayersRefIdeal.nD Cert.LayersRefIdeal.τ).loc Cert.LayersRefIdeal.main_arg6)
          ∧ r.2.mem ((c.tc : Thread Cert.LayersRefIdeal.nD Cert.LayersRefIdeal.τ).loc Cert.LayersRefIdeal.main_arg7) = m' ((c.tc : Thread Cert.LayersRefIdeal.nD Cert.LayersRefIdeal.τ).loc Cert.LayersRefIdeal.main_arg7)
          ∧ r.2.mem ((c.tc : Thread Cert.LayersRefIdeal.nD Cert.LayersRefIdeal.τ).loc Cert.LayersRefIdeal.main_arg8) = m' ((c.tc : Thread Cert.LayersRefIdeal.nD Cert.LayersRefIdeal.τ).loc Cert.LayersRefIdeal.main_arg8)
          ∧ r.2.mem ((c.tc : Thread Cert.LayersRefIdeal.nD Cert.LayersRefIdeal.τ).loc Cert.LayersRefIdeal.main_arg9) = m' ((c.tc : Thread Cert.LayersRefIdeal.nD Cert.LayersRefIdeal.τ).loc Cert.LayersRefIdeal.main_arg9)
          ∧ r.2.mem ((c.tc : Thread Cert.LayersRefIdeal.nD Cert.LayersRefIdeal.τ).loc Cert.LayersRefIdeal.main_arg10) = m' ((c.tc : Thread Cert.LayersRefIdeal.nD Cert.LayersRefIdeal.τ).loc Cert.LayersRefIdeal.main_arg10)
          ∧ r.2.mem ((c.tc : Thread Cert.LayersRefIdeal.nD Cert.LayersRefIdeal.τ).loc Cert.LayersRefIdeal.main_arg11) = m' ((c.tc : Thread Cert.LayersRefIdeal.nD Cert.LayersRefIdeal.τ).loc Cert.LayersRefIdeal.main_arg11)
          ∧ r.2.mem ((c.tc : Thread Cert.LayersRefIdeal.nD Cert.LayersRefIdeal.τ).loc Cert.LayersRefIdeal.main_arg12) = m' ((c.tc : Thread Cert.LayersRefIdeal.nD Cert.LayersRefIdeal.τ).loc Cert.LayersRefIdeal.main_arg12)
          ∧ r.2.mem ((c.tc : Thread Cert.LayersRefIdeal.nD Cert.LayersRefIdeal.τ).loc Cert.LayersRefIdeal.main_arg13) = m' ((c.tc : Thread Cert.LayersRefIdeal.nD Cert.LayersRefIdeal.τ).loc Cert.LayersRefIdeal.main_arg13)
          ∧ r.2.mem ((c.tc : Thread Cert.LayersRefIdeal.nD Cert.LayersRefIdeal.τ).loc Cert.LayersRefIdeal.main_arg14) = m' ((c.tc : Thread Cert.LayersRefIdeal.nD Cert.LayersRefIdeal.τ).loc Cert.LayersRefIdeal.main_arg14)
          ∧ r.2.mem ((c.tc : Thread Cert.LayersRefIdeal.nD Cert.LayersRefIdeal.τ).loc Cert.LayersRefIdeal.main_arg15) = m' ((c.tc : Thread Cert.LayersRefIdeal.nD Cert.LayersRefIdeal.τ).loc Cert.LayersRefIdeal.main_arg15)
          ∧ r.2.mem ((c.tc : Thread Cert.LayersRefIdeal.nD Cert.LayersRefIdeal.τ).loc Cert.LayersRefIdeal.main_arg16) = m' ((c.tc : Thread Cert.LayersRefIdeal.nD Cert.LayersRefIdeal.τ).loc Cert.LayersRefIdeal.main_arg16)
          ∧ r.2.mem ((c.tc : Thread Cert.LayersRefIdeal.nD Cert.LayersRefIdeal.τ).loc Cert.LayersRefIdeal.main_arg17) = m' ((c.tc : Thread Cert.LayersRefIdeal.nD Cert.LayersRefIdeal.τ).loc Cert.LayersRefIdeal.main_arg17)
          ∧ r.2.mem ((c.tc : Thread Cert.LayersRefIdeal.nD Cert.LayersRefIdeal.τ).loc Cert.LayersRefIdeal.main_arg18) = m' ((c.tc : Thread Cert.LayersRefIdeal.nD Cert.LayersRefIdeal.τ).loc Cert.LayersRefIdeal.main_arg18)
          ∧ r.2.mem ((c.tc : Thread Cert.LayersRefIdeal.nD Cert.LayersRefIdeal.τ).loc Cert.LayersRefIdeal.main_arg19) = m' ((c.tc : Thread Cert.LayersRefIdeal.nD Cert.LayersRefIdeal.τ).loc Cert.LayersRefIdeal.main_arg19)
          ∧ r.2.mem ((c.tc : Thread Cert.LayersRefIdeal.nD Cert.LayersRefIdeal.τ).loc Cert.LayersRefIdeal.main_arg20) = m' ((c.tc : Thread Cert.LayersRefIdeal.nD Cert.LayersRefIdeal.τ).loc Cert.LayersRefIdeal.main_arg20)
          ∧ r.2.mem ((c.tc : Thread Cert.LayersRefIdeal.nD Cert.LayersRefIdeal.τ).loc Cert.LayersRefIdeal.main_arg21) = m' ((c.tc : Thread Cert.LayersRefIdeal.nD Cert.LayersRefIdeal.τ).loc Cert.LayersRefIdeal.main_arg21)
          ∧ r.2.mem ((c.tc : Thread Cert.LayersRefIdeal.nD Cert.LayersRefIdeal.τ).loc Cert.LayersRefIdeal.main_arg22) = m' ((c.tc : Thread Cert.LayersRefIdeal.nD Cert.LayersRefIdeal.τ).loc Cert.LayersRefIdeal.main_arg22)
          ∧ r.2.mem ((c.tc : Thread Cert.LayersRefIdeal.nD Cert.LayersRefIdeal.τ).loc Cert.LayersRefIdeal.main_arg23) = m' ((c.tc : Thread Cert.LayersRefIdeal.nD Cert.LayersRefIdeal.τ).loc Cert.LayersRefIdeal.main_arg23)
          ∧ r.2.mem ((c.tc : Thread Cert.LayersRefIdeal.nD Cert.LayersRefIdeal.τ).loc Cert.LayersRefIdeal.main_arg24) = m' ((c.tc : Thread Cert.LayersRefIdeal.nD Cert.LayersRefIdeal.τ).loc Cert.LayersRefIdeal.main_arg24)
          ∧ r.2.mem ((c.tc : Thread Cert.LayersRefIdeal.nD Cert.LayersRefIdeal.τ).loc Cert.LayersRefIdeal.main_arg25) = m' ((c.tc : Thread Cert.LayersRefIdeal.nD Cert.LayersRefIdeal.τ).loc Cert.LayersRefIdeal.main_arg25)
          ∧ r.2.mem ((c.tc : Thread Cert.LayersRefIdeal.nD Cert.LayersRefIdeal.τ).loc Cert.LayersRefIdeal.main_arg26) = m' ((c.tc : Thread Cert.LayersRefIdeal.nD Cert.LayersRefIdeal.τ).loc Cert.LayersRefIdeal.main_arg26)
          ∧ r.2.mem ((c.tc : Thread Cert.LayersRefIdeal.nD Cert.LayersRefIdeal.τ).loc Cert.LayersRefIdeal.main_arg27) = m' ((c.tc : Thread Cert.LayersRefIdeal.nD Cert.LayersRefIdeal.τ).loc Cert.LayersRefIdeal.main_arg27))

def Claim : Prop :=
  ∃ (hFinal : Cert.Final.Facts) (hFinalIdeal : Cert.FinalIdeal.Facts) (hFinalRefIdeal : Cert.FinalRefIdeal.Facts) (hMlp : Cert.Mlp.Facts) (hMlpIdeal : Cert.MlpIdeal.Facts) (hMlpRefIdeal : Cert.MlpRefIdeal.Facts) (hAttn : Cert.Attn.Facts) (hAttnIdeal : Cert.AttnIdeal.Facts) (hAttnRefIdeal : Cert.AttnRefIdeal.Facts) (hLayers : Cert.Layers.Facts) (hLayersIdeal : Cert.LayersIdeal.Facts) (hLayersRefIdeal : Cert.LayersRefIdeal.Facts) (hPre_finite : Cert.Pre_finite.Facts) (hPre_finite_layers : Cert.Pre_finite_layers.Facts),
    quiescent_Final (hFinal := hFinal)
    ∧ quiescent_FinalIdeal (hFinalIdeal := hFinalIdeal)
    ∧ quiescent_FinalRefIdeal (hFinalRefIdeal := hFinalRefIdeal)
    ∧ quiescent_Mlp (hMlp := hMlp)
    ∧ quiescent_MlpIdeal (hMlpIdeal := hMlpIdeal)
    ∧ quiescent_MlpIdeal_pre_finite (hMlpIdeal := hMlpIdeal) (hPre_finite := hPre_finite)
    ∧ quiescent_MlpRefIdeal (hMlpRefIdeal := hMlpRefIdeal)
    ∧ quiescent_MlpRefIdeal_pre_finite (hMlpRefIdeal := hMlpRefIdeal) (hPre_finite := hPre_finite)
    ∧ quiescent_Attn (hAttn := hAttn)
    ∧ quiescent_AttnIdeal (hAttnIdeal := hAttnIdeal)
    ∧ quiescent_AttnRefIdeal (hAttnRefIdeal := hAttnRefIdeal)
    ∧ quiescent_Layers (hLayers := hLayers)
    ∧ quiescent_LayersIdeal (hLayersIdeal := hLayersIdeal)
    ∧ quiescent_LayersIdeal_pre_finite_layers (hLayersIdeal := hLayersIdeal) (hPre_finite_layers := hPre_finite_layers)
    ∧ quiescent_LayersRefIdeal (hLayersRefIdeal := hLayersRefIdeal)
    ∧ quiescent_LayersRefIdeal_pre_finite_layers (hLayersRefIdeal := hLayersRefIdeal) (hPre_finite_layers := hPre_finite_layers)
    ∧ preserves_Final_FinalIdeal
    ∧ algebraic_FinalIdeal_FinalRefIdeal (hFinalIdeal := hFinalIdeal) (hFinalRefIdeal := hFinalRefIdeal)
    ∧ preserves_Mlp_MlpIdeal
    ∧ algebraic_MlpIdeal_MlpRefIdeal_pre_finite (hMlpIdeal := hMlpIdeal) (hMlpRefIdeal := hMlpRefIdeal) (hPre_finite := hPre_finite)
    ∧ preserves_Attn_AttnIdeal
    ∧ algebraic_AttnIdeal_AttnRefIdeal (hAttnIdeal := hAttnIdeal) (hAttnRefIdeal := hAttnRefIdeal)
    ∧ preserves_Layers_LayersIdeal
    ∧ algebraic_LayersIdeal_LayersRefIdeal_pre_finite_layers (hLayersIdeal := hLayersIdeal) (hLayersRefIdeal := hLayersRefIdeal) (hPre_finite_layers := hPre_finite_layers)
-- ==== Pre_finite.lean ====
abbrev S1024x1024 : Shape := ⟨2, ![1024, 1024]⟩
abbrev S1024x4096 : Shape := ⟨2, ![1024, 4096]⟩
abbrev S1024x16 : Shape := ⟨2, ![1024, 16]⟩
abbrev S16x4096 : Shape := ⟨2, ![16, 4096]⟩
abbrev S4096x1024 : Shape := ⟨2, ![4096, 1024]⟩
abbrev S4096x16 : Shape := ⟨2, ![4096, 16]⟩
abbrev S16x1024 : Shape := ⟨2, ![16, 1024]⟩
abbrev S_ : Shape := ⟨0, ![]⟩

class Facts : Prop where
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1024x16 : S_.BroadcastsInDim S1024x16 (![] : Fin 0 → Fin S1024x16.rank)
  reducesTo_S1024x16_S_d0_1 : S1024x16.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S16x1024 : S_.BroadcastsInDim S16x1024 (![] : Fin 0 → Fin S16x1024.rank)
  reducesTo_S16x1024_S_d0_1 : S16x1024.ReducesTo [0, 1] S_

variable [Facts]

def fn_part2 {F : FTy → Type} [FloatOps F] (main_arg9 : FVec F S4096x16 .f32) (main_arg10 : FVec F S16x1024 .f32) (main_v29 : IVec S_ 1) (main_v33 : IVec S_ 1) : IVec S_ 1 :=
  let main_v34 : IVec S_ 1 := andi main_v29 main_v33
  let main_v35 : FVec F S4096x16 .f32 := Host.absf main_arg9
  let main_cst_12 : FVec F S_ .f32 := constant S_ .f32 0x7F800000#32
  let main_v36 : FVec F S4096x16 .f32 := broadcastInDim S4096x16 ![] bcast_S_S4096x16 main_cst_12
  let main_v37 : IVec S4096x16 1 := cmpf .olt main_v35 main_v36
  let main_c_13 : IVec S_ 1 := constantI S_ 1 1#1
  let main_v38 : IVec S_ 1 := (fun x v => Host.reduce IntOp.andi x v reducesTo_S4096x16_S_d0_1 h_S_) main_v37 main_c_13
  let main_v39 : IVec S_ 1 := andi main_v34 main_v38
  let main_v40 : FVec F S16x1024 .f32 := Host.absf main_arg10
  let main_cst_14 : FVec F S_ .f32 := constant S_ .f32 0x7F800000#32
  let main_v41 : FVec F S16x1024 .f32 := broadcastInDim S16x1024 ![] bcast_S_S16x1024 main_cst_14
  let main_v42 : IVec S16x1024 1 := cmpf .olt main_v40 main_v41
  let main_c_15 : IVec S_ 1 := constantI S_ 1 1#1
  let main_v43 : IVec S_ 1 := (fun x v => Host.reduce IntOp.andi x v reducesTo_S16x1024_S_d0_1 h_S_) main_v42 main_c_15
  let main_v44 : IVec S_ 1 := andi main_v39 main_v43
  main_v44

def fn_part1 {F : FTy → Type} [FloatOps F] (main_arg5 : FVec F S1024x4096 .f32) (main_arg6 : FVec F S1024x16 .f32) (main_arg7 : FVec F S16x4096 .f32) (main_arg9 : FVec F S4096x16 .f32) (main_arg10 : FVec F S16x1024 .f32) (main_v14 : IVec S_ 1) (main_v15 : FVec F S16x4096 .f32) (main_v16 : FVec F S16x4096 .f32) : IVec S_ 1 :=
  let main_v17 : IVec S16x4096 1 := cmpf .olt main_v15 main_v16
  let main_c_5 : IVec S_ 1 := constantI S_ 1 1#1
  let main_v18 : IVec S_ 1 := (fun x v => Host.reduce IntOp.andi x v reducesTo_S16x4096_S_d0_1 h_S_) main_v17 main_c_5
  let main_v19 : IVec S_ 1 := andi main_v14 main_v18
  let main_v20 : FVec F S1024x4096 .f32 := Host.absf main_arg5
  let main_cst_6 : FVec F S_ .f32 := constant S_ .f32 0x7F800000#32
  let main_v21 : FVec F S1024x4096 .f32 := broadcastInDim S1024x4096 ![] bcast_S_S1024x4096 main_cst_6
  let main_v22 : IVec S1024x4096 1 := cmpf .olt main_v20 main_v21
  let main_c_7 : IVec S_ 1 := constantI S_ 1 1#1
  let main_v23 : IVec S_ 1 := (fun x v => Host.reduce IntOp.andi x v reducesTo_S1024x4096_S_d0_1 h_S_) main_v22 main_c_7
  let main_v24 : IVec S_ 1 := andi main_v19 main_v23
  let main_v25 : FVec F S1024x16 .f32 := Host.absf main_arg6
  let main_cst_8 : FVec F S_ .f32 := constant S_ .f32 0x7F800000#32
  let main_v26 : FVec F S1024x16 .f32 := broadcastInDim S1024x16 ![] bcast_S_S1024x16 main_cst_8
  let main_v27 : IVec S1024x16 1 := cmpf .olt main_v25 main_v26
  let main_c_9 : IVec S_ 1 := constantI S_ 1 1#1
  let main_v28 : IVec S_ 1 := (fun x v => Host.reduce IntOp.andi x v reducesTo_S1024x16_S_d0_1 h_S_) main_v27 main_c_9
  let main_v29 : IVec S_ 1 := andi main_v24 main_v28
  let main_v30 : FVec F S16x4096 .f32 := Host.absf main_arg7
  let main_cst_10 : FVec F S_ .f32 := constant S_ .f32 0x7F800000#32
  let main_v31 : FVec F S16x4096 .f32 := broadcastInDim S16x4096 ![] bcast_S_S16x4096 main_cst_10
  let main_v32 : IVec S16x4096 1 := cmpf .olt main_v30 main_v31
  let main_c_11 : IVec S_ 1 := constantI S_ 1 1#1
  let main_v33 : IVec S_ 1 := (fun x v => Host.reduce IntOp.andi x v reducesTo_S16x4096_S_d0_1 h_S_) main_v32 main_c_11
  fn_part2 (F := F) main_arg9 main_arg10 main_v29 main_v33

def fn {F : FTy → Type} [FloatOps F] (main_arg0 : FVec F S1024x1024 .bf16) (main_arg1 : FVec F S1024x1024 .f32) (main_arg2 : FVec F S1024x4096 .f32) (main_arg3 : FVec F S1024x16 .f32) (main_arg4 : FVec F S16x4096 .f32) (main_arg5 : FVec F S1024x4096 .f32) (main_arg6 : FVec F S1024x16 .f32) (main_arg7 : FVec F S16x4096 .f32) (main_arg8 : FVec F S4096x1024 .f32) (main_arg9 : FVec F S4096x16 .f32) (main_arg10 : FVec F S16x1024 .f32) : IVec S_ 1 :=
  let main_v0 : FVec F S1024x1024 .f32 := (extf .f32 · bitsLt_bf16_f32) main_arg0
  let main_v1 : FVec F S1024x1024 .f32 := Host.absf main_v0
  let main_cst : FVec F S_ .f32 := constant S_ .f32 0x7F800000#32
  let main_v2 : FVec F S1024x1024 .f32 := broadcastInDim S1024x1024 ![] bcast_S_S1024x1024 main_cst
  let main_v3 : IVec S1024x1024 1 := cmpf .olt main_v1 main_v2
  let main_c : IVec S_ 1 := constantI S_ 1 1#1
  let main_v4 : IVec S_ 1 := (fun x v => Host.reduce IntOp.andi x v reducesTo_S1024x1024_S_d0_1 h_S_) main_v3 main_c
  let main_v5 : FVec F S1024x4096 .f32 := Host.absf main_arg2
  let main_cst_0 : FVec F S_ .f32 := constant S_ .f32 0x7F800000#32
  let main_v6 : FVec F S1024x4096 .f32 := broadcastInDim S1024x4096 ![] bcast_S_S1024x4096 main_cst_0
  let main_v7 : IVec S1024x4096 1 := cmpf .olt main_v5 main_v6
  let main_c_1 : IVec S_ 1 := constantI S_ 1 1#1
  let main_v8 : IVec S_ 1 := (fun x v => Host.reduce IntOp.andi x v reducesTo_S1024x4096_S_d0_1 h_S_) main_v7 main_c_1
  let main_v9 : IVec S_ 1 := andi main_v4 main_v8
  let main_v10 : FVec F S1024x16 .f32 := Host.absf main_arg3
  let main_cst_2 : FVec F S_ .f32 := constant S_ .f32 0x7F800000#32
  let main_v11 : FVec F S1024x16 .f32 := broadcastInDim S1024x16 ![] bcast_S_S1024x16 main_cst_2
  let main_v12 : IVec S1024x16 1 := cmpf .olt main_v10 main_v11
  let main_c_3 : IVec S_ 1 := constantI S_ 1 1#1
  let main_v13 : IVec S_ 1 := (fun x v => Host.reduce IntOp.andi x v reducesTo_S1024x16_S_d0_1 h_S_) main_v12 main_c_3
  let main_v14 : IVec S_ 1 := andi main_v9 main_v13
  let main_v15 : FVec F S16x4096 .f32 := Host.absf main_arg4
  let main_cst_4 : FVec F S_ .f32 := constant S_ .f32 0x7F800000#32
  let main_v16 : FVec F S16x4096 .f32 := broadcastInDim S16x4096 ![] bcast_S_S16x4096 main_cst_4
  fn_part1 (F := F) main_arg5 main_arg6 main_arg7 main_arg9 main_arg10 main_v14 main_v15 main_v16
-- ==== Pre_finite_layers.lean ====
abbrev S1024x1024 : Shape := ⟨2, ![1024, 1024]⟩
abbrev S2x1024 : Shape := ⟨2, ![2, 1024]⟩
abbrev S2x1024x1024 : Shape := ⟨3, ![2, 1024, 1024]⟩
abbrev S2x1024x16 : Shape := ⟨3, ![2, 1024, 16]⟩
abbrev S2x16x1024 : Shape := ⟨3, ![2, 16, 1024]⟩
abbrev S2x1024x4096 : Shape := ⟨3, ![2, 1024, 4096]⟩
abbrev S2x16x4096 : Shape := ⟨3, ![2, 16, 4096]⟩
abbrev S2x4096x1024 : Shape := ⟨3, ![2, 4096, 1024]⟩
abbrev S2x4096x16 : Shape := ⟨3, ![2, 4096, 16]⟩
abbrev S1024 : Shape := ⟨1, ![1024]⟩
abbrev S1024x32000 : Shape := ⟨2, ![1024, 32000]⟩
abbrev S1024x1 : Shape := ⟨2, ![1024, 1]⟩
abbrev S1 : Shape := ⟨1, ![1]⟩
abbrev S_ : Shape := ⟨0, ![]⟩

class Facts : Prop where
  bcast_S_S2x1024 : S_.BroadcastsInDim S2x1024 (![] : Fin 0 → Fin S2x1024.rank)
  reducesTo_S2x1024_S_d0_1 : S2x1024.ReducesTo [0, 1] S_
  h_S_ : 0 < S_.numel
  bcast_S_S2x1024x4096 : S_.BroadcastsInDim S2x1024x4096 (![] : Fin 0 → Fin S2x1024x4096.rank)
  reducesTo_S2x1024x4096_S_d0_1_2 : S2x1024x4096.ReducesTo [0, 1, 2] S_
  bcast_S_S2x1024x16 : S_.BroadcastsInDim S2x1024x16 (![] : Fin 0 → Fin S2x1024x16.rank)
  reducesTo_S2x1024x16_S_d0_1_2 : S2x1024x16.ReducesTo [0, 1, 2] S_
  bcast_S_S2x16x4096 : S_.BroadcastsInDim S2x16x4096 (![] : Fin 0 → Fin S2x16x4096.rank)
  reducesTo_S2x16x4096_S_d0_1_2 : S2x16x4096.ReducesTo [0, 1, 2] S_
  bcast_S_S2x4096x16 : S_.BroadcastsInDim S2x4096x16 (![] : Fin 0 → Fin S2x4096x16.rank)
  reducesTo_S2x4096x16_S_d0_1_2 : S2x4096x16.ReducesTo [0, 1, 2] S_
  bcast_S_S2x16x1024 : S_.BroadcastsInDim S2x16x1024 (![] : Fin 0 → Fin S2x16x1024.rank)
  reducesTo_S2x16x1024_S_d0_1_2 : S2x16x1024.ReducesTo [0, 1, 2] S_

variable [Facts]

def fn_part2 {F : FTy → Type} [FloatOps F] (main_arg22 : FVec F S2x4096x16 .f32) (main_arg23 : FVec F S2x16x1024 .f32) (main_v33 : IVec S_ 1) : IVec S_ 1 :=
  let main_v34 : FVec F S2x4096x16 .f32 := Host.absf main_arg22
  let main_cst_12 : FVec F S_ .f32 := constant S_ .f32 0x7F800000#32
  let main_v35 : FVec F S2x4096x16 .f32 := broadcastInDim S2x4096x16 ![] bcast_S_S2x4096x16 main_cst_12
  let main_v36 : IVec S2x4096x16 1 := cmpf .olt main_v34 main_v35
  let main_c_13 : IVec S_ 1 := constantI S_ 1 1#1
  let main_v37 : IVec S_ 1 := (fun x v => Host.reduce IntOp.andi x v reducesTo_S2x4096x16_S_d0_1_2 h_S_) main_v36 main_c_13
  let main_v38 : IVec S_ 1 := andi main_v33 main_v37
  let main_v39 : FVec F S2x16x1024 .f32 := Host.absf main_arg23
  let main_cst_14 : FVec F S_ .f32 := constant S_ .f32 0x7F800000#32
  let main_v40 : FVec F S2x16x1024 .f32 := broadcastInDim S2x16x1024 ![] bcast_S_S2x16x1024 main_cst_14
  let main_v41 : IVec S2x16x1024 1 := cmpf .olt main_v39 main_v40
  let main_c_15 : IVec S_ 1 := constantI S_ 1 1#1
  let main_v42 : IVec S_ 1 := (fun x v => Host.reduce IntOp.andi x v reducesTo_S2x16x1024_S_d0_1_2 h_S_) main_v41 main_c_15
  let main_v43 : IVec S_ 1 := andi main_v38 main_v42
  main_v43

def fn_part1 {F : FTy → Type} [FloatOps F] (main_arg18 : FVec F S2x1024x4096 .f32) (main_arg19 : FVec F S2x1024x16 .f32) (main_arg20 : FVec F S2x16x4096 .f32) (main_arg22 : FVec F S2x4096x16 .f32) (main_arg23 : FVec F S2x16x1024 .f32) (main_v13 : IVec S_ 1) (main_v16 : IVec S2x16x4096 1) : IVec S_ 1 :=
  let main_c_5 : IVec S_ 1 := constantI S_ 1 1#1
  let main_v17 : IVec S_ 1 := (fun x v => Host.reduce IntOp.andi x v reducesTo_S2x16x4096_S_d0_1_2 h_S_) main_v16 main_c_5
  let main_v18 : IVec S_ 1 := andi main_v13 main_v17
  let main_v19 : FVec F S2x1024x4096 .f32 := Host.absf main_arg18
  let main_cst_6 : FVec F S_ .f32 := constant S_ .f32 0x7F800000#32
  let main_v20 : FVec F S2x1024x4096 .f32 := broadcastInDim S2x1024x4096 ![] bcast_S_S2x1024x4096 main_cst_6
  let main_v21 : IVec S2x1024x4096 1 := cmpf .olt main_v19 main_v20
  let main_c_7 : IVec S_ 1 := constantI S_ 1 1#1
  let main_v22 : IVec S_ 1 := (fun x v => Host.reduce IntOp.andi x v reducesTo_S2x1024x4096_S_d0_1_2 h_S_) main_v21 main_c_7
  let main_v23 : IVec S_ 1 := andi main_v18 main_v22
  let main_v24 : FVec F S2x1024x16 .f32 := Host.absf main_arg19
  let main_cst_8 : FVec F S_ .f32 := constant S_ .f32 0x7F800000#32
  let main_v25 : FVec F S2x1024x16 .f32 := broadcastInDim S2x1024x16 ![] bcast_S_S2x1024x16 main_cst_8
  let main_v26 : IVec S2x1024x16 1 := cmpf .olt main_v24 main_v25
  let main_c_9 : IVec S_ 1 := constantI S_ 1 1#1
  let main_v27 : IVec S_ 1 := (fun x v => Host.reduce IntOp.andi x v reducesTo_S2x1024x16_S_d0_1_2 h_S_) main_v26 main_c_9
  let main_v28 : IVec S_ 1 := andi main_v23 main_v27
  let main_v29 : FVec F S2x16x4096 .f32 := Host.absf main_arg20
  let main_cst_10 : FVec F S_ .f32 := constant S_ .f32 0x7F800000#32
  let main_v30 : FVec F S2x16x4096 .f32 := broadcastInDim S2x16x4096 ![] bcast_S_S2x16x4096 main_cst_10
  let main_v31 : IVec S2x16x4096 1 := cmpf .olt main_v29 main_v30
  let main_c_11 : IVec S_ 1 := constantI S_ 1 1#1
  let main_v32 : IVec S_ 1 := (fun x v => Host.reduce IntOp.andi x v reducesTo_S2x16x4096_S_d0_1_2 h_S_) main_v31 main_c_11
  let main_v33 : IVec S_ 1 := andi main_v28 main_v32
  fn_part2 (F := F) main_arg22 main_arg23 main_v33

def fn {F : FTy → Type} [FloatOps F] (main_arg0 : FVec F S1024x1024 .f32) (main_arg1 : FVec F S2x1024 .f32) (main_arg2 : FVec F S2x1024 .f32) (main_arg3 : FVec F S2x1024x1024 .f32) (main_arg4 : FVec F S2x1024x16 .f32) (main_arg5 : FVec F S2x16x1024 .f32) (main_arg6 : FVec F S2x1024x1024 .f32) (main_arg7 : FVec F S2x1024x16 .f32) (main_arg8 : FVec F S2x16x1024 .f32) (main_arg9 : FVec F S2x1024x1024 .f32) (main_arg10 : FVec F S2x1024x16 .f32) (main_arg11 : FVec F S2x16x1024 .f32) (main_arg12 : FVec F S2x1024x1024 .f32) (main_arg13 : FVec F S2x1024x16 .f32) (main_arg14 : FVec F S2x16x1024 .f32) (main_arg15 : FVec F S2x1024x4096 .f32) (main_arg16 : FVec F S2x1024x16 .f32) (main_arg17 : FVec F S2x16x4096 .f32) (main_arg18 : FVec F S2x1024x4096 .f32) (main_arg19 : FVec F S2x1024x16 .f32) (main_arg20 : FVec F S2x16x4096 .f32) (main_arg21 : FVec F S2x4096x1024 .f32) (main_arg22 : FVec F S2x4096x16 .f32) (main_arg23 : FVec F S2x16x1024 .f32) (main_arg24 : FVec F S1024 .f32) (main_arg25 : FVec F S1024x32000 .f32) (main_arg26 : FVec F S1024x1 .f32) (main_arg27 : FVec F S1 .f32) : IVec S_ 1 :=
  let main_v0 : FVec F S2x1024 .f32 := Host.absf main_arg2
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  let main_c : IVec S_ 1 := constantI S_ 1 1#1
  let main_v3 : IVec S_ 1 := (fun x v => Host.reduce IntOp.andi x v reducesTo_S2x1024_S_d0_1 h_S_) main_v2 main_c
  let main_v4 : FVec F S2x1024x4096 .f32 := Host.absf main_arg15
  let main_cst_0 : FVec F S_ .f32 := constant S_ .f32 0x7F800000#32
  let main_v5 : FVec F S2x1024x4096 .f32 := broadcastInDim S2x1024x4096 ![] bcast_S_S2x1024x4096 main_cst_0
  let main_v6 : IVec S2x1024x4096 1 := cmpf .olt main_v4 main_v5
  let main_c_1 : IVec S_ 1 := constantI S_ 1 1#1
  let main_v7 : IVec S_ 1 := (fun x v => Host.reduce IntOp.andi x v reducesTo_S2x1024x4096_S_d0_1_2 h_S_) main_v6 main_c_1
  let main_v8 : IVec S_ 1 := andi main_v3 main_v7
  let main_v9 : FVec F S2x1024x16 .f32 := Host.absf main_arg16
  let main_cst_2 : FVec F S_ .f32 := constant S_ .f32 0x7F800000#32
  let main_v10 : FVec F S2x1024x16 .f32 := broadcastInDim S2x1024x16 ![] bcast_S_S2x1024x16 main_cst_2
  let main_v11 : IVec S2x1024x16 1 := cmpf .olt main_v9 main_v10
  let main_c_3 : IVec S_ 1 := constantI S_ 1 1#1
  let main_v12 : IVec S_ 1 := (fun x v => Host.reduce IntOp.andi x v reducesTo_S2x1024x16_S_d0_1_2 h_S_) main_v11 main_c_3
  let main_v13 : IVec S_ 1 := andi main_v8 main_v12
  let main_v14 : FVec F S2x16x4096 .f32 := Host.absf main_arg17
  let main_cst_4 : FVec F S_ .f32 := constant S_ .f32 0x7F800000#32
  let main_v15 : FVec F S2x16x4096 .f32 := broadcastInDim S2x16x4096 ![] bcast_S_S2x16x4096 main_cst_4
  let main_v16 : IVec S2x16x4096 1 := cmpf .olt main_v14 main_v15
  fn_part1 (F := F) main_arg18 main_arg19 main_arg20 main_arg22 main_arg23 main_v13 main_v16
-- ==== Final.lean ====
abbrev S1024x1024 : Shape := ⟨2, ![1024, 1024]⟩
abbrev S1024 : Shape := ⟨1, ![1024]⟩
abbrev S1024x32000 : Shape := ⟨2, ![1024, 32000]⟩
abbrev S1024x1 : Shape := ⟨2, ![1024, 1]⟩
abbrev S1 : Shape := ⟨1, ![1]⟩
abbrev S1x1024 : Shape := ⟨2, ![1, 1024]⟩
abbrev S1024x1280 : Shape := ⟨2, ![1024, 1280]⟩

abbrev nBuf : Space → Nat
  | .hbm => 8
  | .vmem => 9
  | .smem => 1
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x32000, .f32⟩
  | .hbm, ⟨3, _⟩ => ⟨S1024x1, .f32⟩
  | .hbm, ⟨4, _⟩ => ⟨S1, .f32⟩
  | .hbm, ⟨5, _⟩ => ⟨S1x1024, .f32⟩
  | .hbm, ⟨6, _⟩ => ⟨S1024x32000, .f32⟩
  | .hbm, ⟨7, _⟩ => ⟨S1024x1, .f32⟩
  | .local _ .vmem, ⟨0, _⟩ => ⟨S1024x1024, .f32⟩
  | .local _ .vmem, ⟨1, _⟩ => ⟨S1x1024, .f32⟩
  | .local _ .vmem, ⟨2, _⟩ => ⟨S1024x1280, .f32⟩
  | .local _ .vmem, ⟨3, _⟩ => ⟨S1024x1280, .f32⟩
  | .local _ .vmem, ⟨4, _⟩ => ⟨S1024x1, .f32⟩
  | .local _ .vmem, ⟨5, _⟩ => ⟨S1024x1280, .f32⟩
  | .local _ .vmem, ⟨6, _⟩ => ⟨S1024x1280, .f32⟩
  | .local _ .vmem, ⟨7, _⟩ => ⟨S1024x1, .f32⟩
  | .local _ .vmem, ⟨8, _⟩ => ⟨S1024x1024, .bf16⟩
  | .local _ .smem, ⟨0, _⟩ => ⟨S1, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_scratch0 : Ref sig .tc := ⟨.vmem, 8, rfl⟩
abbrev cc0_stg4_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FinalRefIdeal.lean ====
abbrev S1024x1024 : Shape := ⟨2, ![1024, 1024]⟩
abbrev S1024 : Shape := ⟨1, ![1024]⟩
abbrev S1024x32000 : Shape := ⟨2, ![1024, 32000]⟩
abbrev S1024x1 : Shape := ⟨2, ![1024, 1]⟩
abbrev S1 : Shape := ⟨1, ![1]⟩
abbrev S_ : Shape := ⟨0, ![]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x32000, .f32⟩
  | .hbm, ⟨3, _⟩ => ⟨S1024x1, .f32⟩
  | .hbm, ⟨4, _⟩ => ⟨S1, .f32⟩
  | .hbm, ⟨5, _⟩ => ⟨S1024x1024, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S1024x1, .f32⟩
  | .hbm, ⟨16, _⟩ => ⟨S1024x1024, .f32⟩
  | .hbm, ⟨17, _⟩ => ⟨S1024x1024, .f32⟩
  | .hbm, ⟨18, _⟩ => ⟨S1x1024, .f32⟩
  | .hbm, ⟨19, _⟩ => ⟨S1024x1024, .f32⟩
  | .hbm, ⟨20, _⟩ => ⟨S1024x1024, .f32⟩
  | .hbm, ⟨21, _⟩ => ⟨S1024x32000, .f32⟩
  | .hbm, ⟨22, _⟩ => ⟨S1024x1, .f32⟩
  | .hbm, ⟨23, _⟩ => ⟨S_, .f32⟩
  | .hbm, ⟨24, _⟩ => ⟨S1024x1, .f32⟩
  | .hbm, ⟨25, _⟩ => ⟨S1024x1, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Mlp.lean ====
abbrev S1024x1024 : Shape := ⟨2, ![1024, 1024]⟩
abbrev S1024x4096 : Shape := ⟨2, ![1024, 4096]⟩
abbrev S1024x16 : Shape := ⟨2, ![1024, 16]⟩
abbrev S16x4096 : Shape := ⟨2, ![16, 4096]⟩
abbrev S4096x1024 : Shape := ⟨2, ![4096, 1024]⟩
abbrev S4096x16 : Shape := ⟨2, ![4096, 16]⟩
abbrev S16x1024 : Shape := ⟨2, ![16, 1024]⟩
abbrev S512x1024 : Shape := ⟨2, ![512, 1024]⟩
abbrev S512x16 : Shape := ⟨2, ![512, 16]⟩

abbrev nBuf : Space → Nat
  | .hbm => 12
  | .vmem => 21
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .f32⟩
  | .hbm, ⟨2, _⟩ => ⟨S1024x4096, .f32⟩
  | .hbm, ⟨3, _⟩ => ⟨S1024x16, .f32⟩
  | .hbm, ⟨4, _⟩ => ⟨S16x4096, .f32⟩
  | .hbm, ⟨5, _⟩ => ⟨S1024x4096, .f32⟩
  | .hbm, ⟨6, _⟩ => ⟨S1024x16, .f32⟩
  | .hbm, ⟨7, _⟩ => ⟨S16x4096, .f32⟩
  | .hbm, ⟨8, _⟩ => ⟨S4096x1024, .f32⟩
  | .hbm, ⟨9, _⟩ => ⟨S4096x16, .f32⟩
  | .hbm, ⟨10, _⟩ => ⟨S16x1024, .f32⟩
  | .hbm, ⟨11, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | .local _ .vmem, ⟨6, _⟩ => ⟨S1024x16, .f32⟩
  | .local _ .vmem, ⟨7, _⟩ => ⟨S16x1024, .f32⟩
  | .local _ .vmem, ⟨8, _⟩ => ⟨S16x1024, .f32⟩
  | .local _ .vmem, ⟨9, _⟩ => ⟨S1024x1024, .f32⟩
  | .local _ .vmem, ⟨10, _⟩ => ⟨S1024x1024, .f32⟩
  | .local _ .vmem, ⟨11, _⟩ => ⟨S1024x16, .f32⟩
  | .local _ .vmem, ⟨12, _⟩ => ⟨S16x1024, .f32⟩
  | .local _ .vmem, ⟨13, _⟩ => ⟨S16x1024, .f32⟩
  | .local _ .vmem, ⟨14, _⟩ => ⟨S1024x1024, .f32⟩
  | .local _ .vmem, ⟨15, _⟩ => ⟨S1024x1024, .f32⟩
  | .local _ .vmem, ⟨16, _⟩ => ⟨S1024x16, .f32⟩
  | .local _ .vmem, ⟨17, _⟩ => ⟨S1024x16, .f32⟩
  | .local _ .vmem, ⟨18, _⟩ => ⟨S16x1024, .f32⟩
  | .local _ .vmem, ⟨19, _⟩ => ⟨S512x1024, .f32⟩
  | .local _ .vmem, ⟨20, _⟩ => ⟨S512x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v44 : BitVec 1 := Scalar.cmpi .eq arg1 c0_i32
  let v45 : BitVec 32 := Scalar.extui v44
  let c0_i32_30 : BitVec 32 := 0#32
  let v46 : BitVec 1 := Scalar.cmpi .ne v45 c0_i32_30
  v46

def k0_cond2 (i : grid0.Coords) : BitVec 1 :=
  let arg1 : BitVec 32 := BitVec.ofNat 32 (i 1).val
  let c0_i32_31 : BitVec 32 := 0#32
  let v47 : BitVec 1 := Scalar.cmpi .ne arg1 c0_i32_31
  let v48 : BitVec 32 := Scalar.extui v47
  let c0_i32_32 : BitVec 32 := 0#32
  let v49 : BitVec 1 := Scalar.cmpi .ne v48 c0_i32_32
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1024x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S16x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== MlpRefIdeal.lean ====
abbrev S1024x1024 : Shape := ⟨2, ![1024, 1024]⟩
abbrev S1024x4096 : Shape := ⟨2, ![1024, 4096]⟩
abbrev S1024x16 : Shape := ⟨2, ![1024, 16]⟩
abbrev S16x4096 : Shape := ⟨2, ![16, 4096]⟩
abbrev S4096x1024 : Shape := ⟨2, ![4096, 1024]⟩
abbrev S4096x16 : Shape := ⟨2, ![4096, 16]⟩
abbrev S16x1024 : Shape := ⟨2, ![16, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .f32⟩
  | .hbm, ⟨2, _⟩ => ⟨S1024x4096, .f32⟩
  | .hbm, ⟨3, _⟩ => ⟨S1024x16, .f32⟩
  | .hbm, ⟨4, _⟩ => ⟨S16x4096, .f32⟩
  | .hbm, ⟨5, _⟩ => ⟨S1024x4096, .f32⟩
  | .hbm, ⟨6, _⟩ => ⟨S1024x16, .f32⟩
  | .hbm, ⟨7, _⟩ => ⟨S16x4096, .f32⟩
  | .hbm, ⟨8, _⟩ => ⟨S4096x1024, .f32⟩
  | .hbm, ⟨9, _⟩ => ⟨S4096x16, .f32⟩
  | .hbm, ⟨10, _⟩ => ⟨S16x1024, .f32⟩
  | .hbm, ⟨11, _⟩ => ⟨S1024x1024, .f32⟩
  | .hbm, ⟨12, _⟩ => ⟨S1024x4096, .f32⟩
  | .hbm, ⟨13, _⟩ => ⟨S1024x16, .f32⟩
  | .hbm, ⟨14, _⟩ => ⟨S1024x4096, .f32⟩
  | .hbm, ⟨15, _⟩ => ⟨S_, .f32⟩
  | .hbm, ⟨16, _⟩ => ⟨S1024x4096, .f32⟩
  | .hbm, ⟨17, _⟩ => ⟨S1024x4096, .f32⟩
  | .hbm, ⟨18, _⟩ => ⟨S1024x4096, .f32⟩
  | .hbm, ⟨19, _⟩ => ⟨S1024x4096, .f32⟩
  | .hbm, ⟨20, _⟩ => ⟨S1024x4096, .f32⟩
  | .hbm, ⟨21, _⟩ => ⟨S_, .f32⟩
  | .hbm, ⟨22, _⟩ => ⟨S1024x4096, .f32⟩
  | .hbm, ⟨23, _⟩ => ⟨S1024x4096, .f32⟩
  | .hbm, ⟨24, _⟩ => ⟨S_, .f32⟩
  | .hbm, ⟨25, _⟩ => ⟨S1024x4096, .f32⟩
  | .hbm, ⟨26, _⟩ => ⟨S1024x4096, .f32⟩
  | .hbm, ⟨27, _⟩ => ⟨S1024x4096, .f32⟩
  | .hbm, ⟨28, _⟩ => ⟨S1024x4096, .f32⟩
  | .hbm, ⟨29, _⟩ => ⟨S1024x16, .f32⟩
  | .hbm, ⟨30, _⟩ => ⟨S1024x4096, .f32⟩
  | .hbm, ⟨31, _⟩ => ⟨S_, .f32⟩
  | .hbm, ⟨32, _⟩ => ⟨S1024x4096, .f32⟩
  | .hbm, ⟨33, _⟩ => ⟨S1024x4096, .f32⟩
  | .hbm, ⟨34, _⟩ => ⟨S1024x4096, .f32⟩
  | .hbm, ⟨35, _⟩ => ⟨S1024x4096, .f32⟩
  | .hbm, ⟨36, _⟩ => ⟨S1024x1024, .f32⟩
  | .hbm, ⟨37, _⟩ => ⟨S1024x16, .f32⟩
  | .hbm, ⟨38, _⟩ => ⟨S1024x1024, .f32⟩
  | .hbm, ⟨39, _⟩ => ⟨S_, .f32⟩
  | .hbm, ⟨40, _⟩ => ⟨S1024x1024, .f32⟩
  | .hbm, ⟨41, _⟩ => ⟨S1024x1024, .f32⟩
  | .hbm, ⟨42, _⟩ => ⟨S1024x1024, .f32⟩
  | .hbm, ⟨43, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩

abbrev nD : Nat := 1
abbrev τ : Topo := Topo.v7x

variable {F : FTy → Type} [FloatOps F]
-- ==== Attn.lean ====
abbrev S1024x1024 : Shape := ⟨2, ![1024, 1024]⟩
abbrev S1024 : Shape := ⟨1, ![1024]⟩
abbrev S1024x16 : Shape := ⟨2, ![1024, 16]⟩
abbrev S16x1024 : Shape := ⟨2, ![16, 1024]⟩
abbrev S32 : Shape := ⟨1, ![32]⟩
abbrev S_ : Shape := ⟨0, ![]⟩
abbrev S512 : Shape := ⟨1, ![512]⟩
abbrev S512x1 : Shape := ⟨2, ![512, 1]⟩
abbrev S1x32 : Shape := ⟨2, ![1, 32]⟩
abbrev S512x32 : Shape := ⟨2, ![512, 32]⟩
abbrev S512x64 : Shape := ⟨2, ![512, 64]⟩
abbrev S1x512x1x64 : Shape := ⟨4, ![1, 512, 1, 64]⟩
abbrev S1x512x16x64 : Shape := ⟨4, ![1, 512, 16, 64]⟩
abbrev S512x1024 : Shape := ⟨2, ![512, 1024]⟩
abbrev S1x1024 : Shape := ⟨2, ![1, 1024]⟩
abbrev S512x16 : Shape := ⟨2, ![512, 16]⟩
abbrev S512x512 : Shape := ⟨2, ![512, 512]⟩

abbrev nBuf : Space → Nat
  | .hbm => 44
  | .vmem => 25
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S1024x16, .f32⟩
  | .hbm, ⟨5, _⟩ => ⟨S16x1024, .f32⟩
  | .hbm, ⟨6, _⟩ => ⟨S1024x1024, .f32⟩
  | .hbm, ⟨7, _⟩ => ⟨S1024x16, .f32⟩
  | .hbm, ⟨8, _⟩ => ⟨S16x1024, .f32⟩
  | .hbm, ⟨9, _⟩ => ⟨S1024x1024, .f32⟩
  | .hbm, ⟨10, _⟩ => ⟨S1024x16, .f32⟩
  | .hbm, ⟨11, _⟩ => ⟨S16x1024, .f32⟩
  | .hbm, ⟨12, _⟩ => ⟨S1024x1024, .f32⟩
  | .hbm, ⟨13, _⟩ => ⟨S1024x16, .f32⟩
  | .hbm, ⟨14, _⟩ => ⟨S16x1024, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S512, .f32⟩
  | .hbm, ⟨26, _⟩ => ⟨S512x1, .f32⟩
  | .hbm, ⟨27, _⟩ => ⟨S1x32, .f32⟩
  | .hbm, ⟨28, _⟩ => ⟨S512x32, .f32⟩
  | .hbm, ⟨29, _⟩ => ⟨S512x32, .f32⟩
  | .hbm, ⟨30, _⟩ => ⟨S512x32, .f32⟩
  | .hbm, ⟨31, _⟩ => ⟨S512x64, .f32⟩
  | .hbm, ⟨32, _⟩ => ⟨S512x64, .f32⟩
  | .hbm, ⟨33, _⟩ => ⟨S1x512x1x64, .f32⟩
  | .hbm, ⟨34, _⟩ => ⟨S1x512x16x64, .f32⟩
  | .hbm, ⟨35, _⟩ => ⟨S512x1024, .f32⟩
  | .hbm, ⟨36, _⟩ => ⟨S512x64, .f32⟩
  | .hbm, ⟨37, _⟩ => ⟨S1x512x1x64, .f32⟩
  | .hbm, ⟨38, _⟩ => ⟨S1x512x16x64, .f32⟩
  | .hbm, ⟨39, _⟩ => ⟨S512x1024, .f32⟩
  | .hbm, ⟨40, _⟩ => ⟨S1x1024, .f32⟩
  | .hbm, ⟨41, _⟩ => ⟨S1x1024, .f32⟩
  | .hbm, ⟨42, _⟩ => ⟨S1024x1024, .f32⟩
  | .hbm, ⟨43, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .f32⟩
  | .local _ .vmem, ⟨7, _⟩ => ⟨S1024x16, .f32⟩
  | .local _ .vmem, ⟨8, _⟩ => ⟨S16x1024, .f32⟩
  | .local _ .vmem, ⟨9, _⟩ => ⟨S1024x1024, .f32⟩
  | .local _ .vmem, ⟨10, _⟩ => ⟨S1024x16, .f32⟩
  | .local _ .vmem, ⟨11, _⟩ => ⟨S16x1024, .f32⟩
  | .local _ .vmem, ⟨12, _⟩ => ⟨S1024x1024, .f32⟩
  | .local _ .vmem, ⟨13, _⟩ => ⟨S1024x16, .f32⟩
  | .local _ .vmem, ⟨14, _⟩ => ⟨S16x1024, .f32⟩
  | .local _ .vmem, ⟨15, _⟩ => ⟨S1024x1024, .f32⟩
  | .local _ .vmem, ⟨16, _⟩ => ⟨S1024x16, .f32⟩
  | .local _ .vmem, ⟨17, _⟩ => ⟨S16x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24_0 : Ref sig .tc := ⟨.hbm, 42, rfl⟩
abbrev main_v24_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc0_sem18_0 : DmaSem sig := 20
abbrev cc0_sem18_1 : DmaSem sig := 21

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S16x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== AttnIdeal.lean ====
variable {F : FTy → Type} [FloatOps F] [Named F]
def κ : String → Option EReal := fun
  | "mask" => some ⊥
  | _ => none
-- ==== AttnRefIdeal.lean ====
abbrev S1024x1024 : Shape := ⟨2, ![1024, 1024]⟩
abbrev S1024 : Shape := ⟨1, ![1024]⟩
abbrev S1024x16 : Shape := ⟨2, ![1024, 16]⟩
abbrev S16x1024 : Shape := ⟨2, ![16, 1024]⟩
abbrev S32 : Shape := ⟨1, ![32]⟩
abbrev S_ : Shape := ⟨0, ![]⟩
abbrev S512 : Shape := ⟨1, ![512]⟩
abbrev S512x1 : Shape := ⟨2, ![512, 1]⟩
abbrev S1x32 : Shape := ⟨2, ![1, 32]⟩
abbrev S512x32 : Shape := ⟨2, ![512, 32]⟩
abbrev S512x64 : Shape := ⟨2, ![512, 64]⟩
abbrev S512x512 : Shape := ⟨2, ![512, 512]⟩
abbrev S1x1x512x512 : Shape := ⟨4, ![1, 1, 512, 512]⟩
abbrev S1024x1 : Shape := ⟨2, ![1024, 1]⟩
abbrev S1x1024 : Shape := ⟨2, ![1, 1024]⟩
abbrev S2x512x16x64 : Shape := ⟨4, ![2, 512, 16, 64]⟩
abbrev S2x512x16x32 : Shape := ⟨4, ![2, 512, 16, 32]⟩
abbrev S1x512x1x64 : Shape := ⟨4, ![1, 512, 1, 64]⟩
abbrev S2x16x512x512 : Shape := ⟨4, ![2, 16, 512, 512]⟩
abbrev S2x16x512 : Shape := ⟨3, ![2, 16, 512]⟩
abbrev S2x16x512x1 : Shape := ⟨4, ![2, 16, 512, 1]⟩
abbrev S2x16x64x512 : Shape := ⟨4, ![2, 16, 64, 512]⟩

abbrev nBuf : Space → Nat
  | .hbm => 165
  | .vmem => 0
  | .smem => 0
  | _ => 0

abbrev hbmTy0_0 (i : Nat) : BufTy := match i % 128 with
  | 0 => ⟨S1024x1024, .f32⟩
  | 1 => ⟨S1024, .f32⟩
  | 2 => ⟨S1024, .f32⟩
  | 3 => ⟨S1024x1024, .f32⟩
  | 4 => ⟨S1024x16, .f32⟩
  | 5 => ⟨S16x1024, .f32⟩
  | 6 => ⟨S1024x1024, .f32⟩
  | 7 => ⟨S1024x16, .f32⟩
  | 8 => ⟨S16x1024, .f32⟩
  | 9 => ⟨S1024x1024, .f32⟩
  | 10 => ⟨S1024x16, .f32⟩
  | 11 => ⟨S16x1024, .f32⟩
  | 12 => ⟨S1024x1024, .f32⟩
  | 13 => ⟨S1024x16, .f32⟩
  | 14 => ⟨S16x1024, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S512, .f32⟩
  | 26 => ⟨S512x1, .f32⟩
  | 27 => ⟨S1x32, .f32⟩
  | 28 => ⟨S512x32, .f32⟩
  | 29 => ⟨S512x32, .f32⟩
  | 30 => ⟨S512x32, .f32⟩
  | 31 => ⟨S512x64, .f32⟩
  | 32 => ⟨S512x64, .f32⟩
  | 33 => ⟨S512x64, .f32⟩
  | 34 => ⟨S_, .i1⟩
  | 35 => ⟨S512x512, .i1⟩
  | 36 => ⟨S512x512, .i32⟩
  | 37 => ⟨S_, .i32⟩
  | 38 => ⟨S512x512, .i32⟩
  | 39 => ⟨S512x512, .i32⟩
  | 40 => ⟨S512x512, .i32⟩
  | 41 => ⟨S512x512, .i1⟩
  | 42 => ⟨S_, .i1⟩
  | 43 => ⟨S512x512, .i1⟩
  | 44 => ⟨S512x512, .i1⟩
  | 45 => ⟨S1x1x512x512, .i1⟩
  | 46 => ⟨S_, .f32⟩
  | 47 => ⟨S_, .f32⟩
  | 48 => ⟨S1x1x512x512, .f32⟩
  | 49 => ⟨S1x1x512x512, .f32⟩
  | 50 => ⟨S1x1x512x512, .f32⟩
  | 51 => ⟨S_, .f32⟩
  | 52 => ⟨S_, .f32⟩
  | 53 => ⟨S_, .f32⟩
  | 54 => ⟨S_, .f32⟩
  | 55 => ⟨S1024x1024, .f32⟩
  | 56 => ⟨S_, .f32⟩
  | 57 => ⟨S1024, .f32⟩
  | 58 => ⟨S1024x1, .f32⟩
  | 59 => ⟨S_, .f32⟩
  | 60 => ⟨S1024x1, .f32⟩
  | 61 => ⟨S1024x1, .f32⟩
  | 62 => ⟨S_, .f32⟩
  | 63 => ⟨S1024x1, .f32⟩
  | 64 => ⟨S1024x1, .f32⟩
  | 65 => ⟨S1024x1, .f32⟩
  | 66 => ⟨S1024x1024, .f32⟩
  | 67 => ⟨S1024x1024, .f32⟩
  | 68 => ⟨S1x1024, .f32⟩
  | 69 => ⟨S1024x1024, .f32⟩
  | 70 => ⟨S1024x1024, .f32⟩
  | 71 => ⟨S1024x1024, .f32⟩
  | 72 => ⟨S1024x16, .f32⟩
  | 73 => ⟨S1024x1024, .f32⟩
  | 74 => ⟨S_, .f32⟩
  | 75 => ⟨S1024x1024, .f32⟩
  | 76 => ⟨S1024x1024, .f32⟩
  | 77 => ⟨S1024x1024, .f32⟩
  | 78 => ⟨S2x512x16x64, .f32⟩
  | 79 => ⟨S1024x1024, .f32⟩
  | 80 => ⟨S1024x16, .f32⟩
  | 81 => ⟨S1024x1024, .f32⟩
  | 82 => ⟨S_, .f32⟩
  | 83 => ⟨S1024x1024, .f32⟩
  | 84 => ⟨S1024x1024, .f32⟩
  | 85 => ⟨S1024x1024, .f32⟩
  | 86 => ⟨S2x512x16x64, .f32⟩
  | 87 => ⟨S1024x1024, .f32⟩
  | 88 => ⟨S1024x16, .f32⟩
  | 89 => ⟨S1024x1024, .f32⟩
  | 90 => ⟨S_, .f32⟩
  | 91 => ⟨S1024x1024, .f32⟩
  | 92 => ⟨S1024x1024, .f32⟩
  | 93 => ⟨S1024x1024, .f32⟩
  | 94 => ⟨S2x512x16x64, .f32⟩
  | 95 => ⟨S2x512x16x32, .f32⟩
  | 96 => ⟨S2x512x16x32, .f32⟩
  | 97 => ⟨S2x512x16x32, .f32⟩
  | 98 => ⟨S2x512x16x64, .f32⟩
  | 99 => ⟨S1x512x1x64, .f32⟩
  | 100 => ⟨S2x512x16x64, .f32⟩
  | 101 => ⟨S2x512x16x64, .f32⟩
  | 102 => ⟨S1x512x1x64, .f32⟩
  | 103 => ⟨S2x512x16x64, .f32⟩
  | 104 => ⟨S2x512x16x64, .f32⟩
  | 105 => ⟨S2x512x16x64, .f32⟩
  | 106 => ⟨S2x512x16x32, .f32⟩
  | 107 => ⟨S2x512x16x32, .f32⟩
  | 108 => ⟨S2x512x16x32, .f32⟩
  | 109 => ⟨S2x512x16x64, .f32⟩
  | 110 => ⟨S1x512x1x64, .f32⟩
  | 111 => ⟨S2x512x16x64, .f32⟩
  | 112 => ⟨S2x512x16x64, .f32⟩
  | 113 => ⟨S1x512x1x64, .f32⟩
  | 114 => ⟨S2x512x16x64, .f32⟩
  | 115 => ⟨S2x512x16x64, .f32⟩
  | 116 => ⟨S2x512x16x64, .f32⟩
  | 117 => ⟨S2x16x512x512, .f32⟩
  | 118 => ⟨S2x16x512x512, .f32⟩
  | 119 => ⟨S2x16x512x512, .f32⟩
  | 120 => ⟨S1x1x512x512, .f32⟩
  | 121 => ⟨S2x16x512x512, .f32⟩
  | 122 => ⟨S2x16x512x512, .f32⟩
  | 123 => ⟨S_, .f32⟩
  | 124 => ⟨S2x16x512, .f32⟩
  | 125 => ⟨S_, .f32⟩
  | 126 => ⟨S2x16x512, .f32⟩
  | 127 => ⟨S2x16x512, .f32⟩
  | _ => ⟨S1024x1024, .f32⟩

abbrev hbmTy0_1 (i : Nat) : BufTy := match i % 128 with
  | 0 => ⟨S2x16x512x1, .f32⟩
  | 1 => ⟨S2x16x512x512, .f32⟩
  | 2 => ⟨S2x16x512x512, .f32⟩
  | 3 => ⟨S2x16x512x512, .f32⟩
  | 4 => ⟨S_, .f32⟩
  | 5 => ⟨S2x16x512, .f32⟩
  | 6 => ⟨S2x16x512x1, .f32⟩
  | 7 => ⟨S2x16x512x512, .f32⟩
  | 8 => ⟨S2x16x512x512, .f32⟩
  | 9 => ⟨S2x16x64x512, .f32⟩
  | 10 => ⟨S2x512x16x64, .f32⟩
  | 11 => ⟨S1024x1024, .f32⟩
  | 12 => ⟨S1024x1024, .f32⟩
  | 13 => ⟨S1024x16, .f32⟩
  | 14 => ⟨S1024x1024, .f32⟩
  | 15 => ⟨S_, .f32⟩
  | 16 => ⟨S1024x1024, .f32⟩
  | 17 => ⟨S1024x1024, .f32⟩
  | 18 => ⟨S1024x1024, .f32⟩
  | 19 => ⟨S1024x1024, .f32⟩
  | 20 => ⟨S1024x1024, .f32⟩
  | 21 => ⟨S_, .f32⟩
  | 22 => ⟨S1024, .f32⟩
  | 23 => ⟨S1024x1, .f32⟩
  | 24 => ⟨S_, .f32⟩
  | 25 => ⟨S1024x1, .f32⟩
  | 26 => ⟨S1024x1, .f32⟩
  | 27 => ⟨S_, .f32⟩
  | 28 => ⟨S1024x1, .f32⟩
  | 29 => ⟨S1024x1, .f32⟩
  | 30 => ⟨S1024x1, .f32⟩
  | 31 => ⟨S1024x1024, .f32⟩
  | 32 => ⟨S1024x1024, .f32⟩
  | 33 => ⟨S1x1024, .f32⟩
  | 34 => ⟨S1024x1024, .f32⟩
  | 35 => ⟨S1024x1024, .f32⟩
  | 36 => ⟨S1024x1024, .bf16⟩
  | _ => ⟨S1024x1024, .f32⟩

abbrev hbmTy (i : Nat) : BufTy := match i / 128 with
  | 0 => hbmTy0_0 i
  | 1 => hbmTy0_1 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_call0_v0 : Ref sig .tc := ⟨.hbm, 36, rfl⟩
abbrev main_call0_c : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_c_0 : Ref sig .tc := ⟨.hbm, 42, rfl⟩
abbrev main_call0_v5 : Ref sig .tc := ⟨.hbm, 43, rfl⟩
abbrev main_v17 : Ref sig .tc := ⟨.hbm, 44, rfl⟩
abbrev main_v18 : Ref sig .tc := ⟨.hbm, 45, rfl⟩
abbrev main_cst_2 : Ref sig .tc := ⟨.hbm, 46, rfl⟩
abbrev main_cst_3 : Ref sig .tc := ⟨.hbm, 47, rfl⟩
abbrev main_call1_v0 : Ref sig .tc := ⟨.hbm, 48, rfl⟩
abbrev main_call1_v1 : Ref sig .tc := ⟨.hbm, 49, rfl⟩
abbrev main_v19 : Ref sig .tc := ⟨.hbm, 50, rfl⟩
abbrev main_cst_4 : Ref sig .tc := ⟨.hbm, 51, rfl⟩
abbrev main_v20 : Ref sig .tc := ⟨.hbm, 52, rfl⟩
abbrev main_cst_5 : Ref sig .tc := ⟨.hbm, 53, rfl⟩
abbrev main_v21 : Ref sig .tc := ⟨.hbm, 54, rfl⟩
abbrev main_v22 : Ref sig .tc := ⟨.hbm, 55, rfl⟩
abbrev main_cst_6 : Ref sig .tc := ⟨.hbm, 56, rfl⟩
abbrev main_v23 : Ref sig .tc := ⟨.hbm, 57, rfl⟩
abbrev main_v24 : Ref sig .tc := ⟨.hbm, 58, rfl⟩
abbrev main_cst_7 : Ref sig .tc := ⟨.hbm, 59, rfl⟩
abbrev main_v25 : Ref sig .tc := ⟨.hbm, 60, rfl⟩
abbrev main_v26 : Ref sig .tc := ⟨.hbm, 61, rfl⟩
abbrev main_cst_8 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_cst_9 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_10 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_11 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_12 : Ref sig .tc := ⟨.hbm, 123, rfl⟩
abbrev main_v84 : Ref sig .tc := ⟨.hbm, 124, rfl⟩
abbrev main_cst_13 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_14 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_15 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_16 : Ref sig .tc := ⟨.hbm, 149, rfl⟩
abbrev main_v106 : Ref sig .tc := ⟨.hbm, 150, rfl⟩
abbrev main_v107 : Ref sig .tc := ⟨.hbm, 151, rfl⟩
abbrev main_cst_17 : Ref sig .tc := ⟨.hbm, 152, rfl⟩
abbrev main_v108 : Ref sig .tc := ⟨.hbm, 153, rfl⟩
abbrev main_v109 : Ref sig .tc := ⟨.hbm, 154, rfl⟩
abbrev main_cst_18 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩

abbrev nD : Nat := 1
abbrev τ : Topo := Topo.v7x

variable {F : FTy → Type} [FloatOps F]
-- ==== Layers.lean ====
abbrev S1024x1024 : Shape := ⟨2, ![1024, 1024]⟩
abbrev S2x1024 : Shape := ⟨2, ![2, 1024]⟩
abbrev S2x1024x1024 : Shape := ⟨3, ![2, 1024, 1024]⟩
abbrev S2x1024x16 : Shape := ⟨3, ![2, 1024, 16]⟩
abbrev S2x16x1024 : Shape := ⟨3, ![2, 16, 1024]⟩
abbrev S2x1024x4096 : Shape := ⟨3, ![2, 1024, 4096]⟩
abbrev S2x16x4096 : Shape := ⟨3, ![2, 16, 4096]⟩
abbrev S2x4096x1024 : Shape := ⟨3, ![2, 4096, 1024]⟩
abbrev S2x4096x16 : Shape := ⟨3, ![2, 4096, 16]⟩
abbrev S1024 : Shape := ⟨1, ![1024]⟩
abbrev S1024x32000 : Shape := ⟨2, ![1024, 32000]⟩
abbrev S1024x1 : Shape := ⟨2, ![1024, 1]⟩
abbrev S1 : Shape := ⟨1, ![1]⟩
abbrev S32 : Shape := ⟨1, ![32]⟩
abbrev S_ : Shape := ⟨0, ![]⟩
abbrev S512 : Shape := ⟨1, ![512]⟩
abbrev S512x1 : Shape := ⟨2, ![512, 1]⟩
abbrev S1x32 : Shape := ⟨2, ![1, 32]⟩
abbrev S512x32 : Shape := ⟨2, ![512, 32]⟩
abbrev S512x64 : Shape := ⟨2, ![512, 64]⟩
abbrev S1x512x1x64 : Shape := ⟨4, ![1, 512, 1, 64]⟩
abbrev S1x512x16x64 : Shape := ⟨4, ![1, 512, 16, 64]⟩
abbrev S512x1024 : Shape := ⟨2, ![512, 1024]⟩
abbrev S1x1024 : Shape := ⟨2, ![1, 1024]⟩
abbrev S1x1024x1024 : Shape := ⟨3, ![1, 1024, 1024]⟩
abbrev S1x1024x16 : Shape := ⟨3, ![1, 1024, 16]⟩
abbrev S1024x16 : Shape := ⟨2, ![1024, 16]⟩
abbrev S1x16x1024 : Shape := ⟨3, ![1, 16, 1024]⟩
abbrev S16x1024 : Shape := ⟨2, ![16, 1024]⟩
abbrev S512x16 : Shape := ⟨2, ![512, 16]⟩
abbrev S512x512 : Shape := ⟨2, ![512, 512]⟩
abbrev S1x1024x4096 : Shape := ⟨3, ![1, 1024, 4096]⟩
abbrev S1024x4096 : Shape := ⟨2, ![1024, 4096]⟩
abbrev S1x16x4096 : Shape := ⟨3, ![1, 16, 4096]⟩
abbrev S16x4096 : Shape := ⟨2, ![16, 4096]⟩
abbrev S1x4096x1024 : Shape := ⟨3, ![1, 4096, 1024]⟩
abbrev S4096x1024 : Shape := ⟨2, ![4096, 1024]⟩
abbrev S1x4096x16 : Shape := ⟨3, ![1, 4096, 16]⟩
abbrev S4096x16 : Shape := ⟨2, ![4096, 16]⟩
abbrev S1024x1280 : Shape := ⟨2, ![1024, 1280]⟩

abbrev nBuf : Space → Nat
  | .hbm => 158
  | .vmem => 101
  | .smem => 1
  | _ => 0

abbrev hbmTy0_0 (i : Nat) : BufTy := match i % 128 with
  | 0 => ⟨S1024x1024, .f32⟩
  | 1 => ⟨S2x1024, .f32⟩
  | 2 => ⟨S2x1024, .f32⟩
  | 3 => ⟨S2x1024x1024, .f32⟩
  | 4 => ⟨S2x1024x16, .f32⟩
  | 5 => ⟨S2x16x1024, .f32⟩
  | 6 => ⟨S2x1024x1024, .f32⟩
  | 7 => ⟨S2x1024x16, .f32⟩
  | 8 => ⟨S2x16x1024, .f32⟩
  | 9 => ⟨S2x1024x1024, .f32⟩
  | 10 => ⟨S2x1024x16, .f32⟩
  | 11 => ⟨S2x16x1024, .f32⟩
  | 12 => ⟨S2x1024x1024, .f32⟩
  | 13 => ⟨S2x1024x16, .f32⟩
  | 14 => ⟨S2x16x1024, .f32⟩
  | 15 => ⟨S2x1024x4096, .f32⟩
  | 16 => ⟨S2x1024x16, .f32⟩
  | 17 => ⟨S2x16x4096, .f32⟩
  | 18 => ⟨S2x1024x4096, .f32⟩
  | 19 => ⟨S2x1024x16, .f32⟩
  | 20 => ⟨S2x16x4096, .f32⟩
  | 21 => ⟨S2x4096x1024, .f32⟩
  | 22 => ⟨S2x4096x16, .f32⟩
  | 23 => ⟨S2x16x1024, .f32⟩
  | 24 => ⟨S1024, .f32⟩
  | 25 => ⟨S1024x32000, .f32⟩
  | 26 => ⟨S1024x1, .f32⟩
  | 27 => ⟨S1, .f32⟩
  | 28 => ⟨S32, .f32⟩
  | 29 => ⟨S_, .f32⟩
  | 30 => ⟨S32, .f32⟩
  | 31 => ⟨S32, .f32⟩
  | 32 => ⟨S_, .f32⟩
  | 33 => ⟨S32, .f32⟩
  | 34 => ⟨S32, .f32⟩
  | 35 => ⟨S_, .f32⟩
  | 36 => ⟨S32, .f32⟩
  | 37 => ⟨S32, .f32⟩
  | 38 => ⟨S512, .f32⟩
  | 39 => ⟨S512x1, .f32⟩
  | 40 => ⟨S1x32, .f32⟩
  | 41 => ⟨S512x32, .f32⟩
  | 42 => ⟨S512x32, .f32⟩
  | 43 => ⟨S512x32, .f32⟩
  | 44 => ⟨S512x64, .f32⟩
  | 45 => ⟨S512x64, .f32⟩
  | 46 => ⟨S1x512x1x64, .f32⟩
  | 47 => ⟨S1x512x16x64, .f32⟩
  | 48 => ⟨S512x1024, .f32⟩
  | 49 => ⟨S512x64, .f32⟩
  | 50 => ⟨S1x512x1x64, .f32⟩
  | 51 => ⟨S1x512x16x64, .f32⟩
  | 52 => ⟨S512x1024, .f32⟩
  | 53 => ⟨S1x1024, .f32⟩
  | 54 => ⟨S1024, .f32⟩
  | 55 => ⟨S1x1024, .f32⟩
  | 56 => ⟨S1024, .f32⟩
  | 57 => ⟨S1x1024x1024, .f32⟩
  | 58 => ⟨S1024x1024, .f32⟩
  | 59 => ⟨S1x1024x16, .f32⟩
  | 60 => ⟨S1024x16, .f32⟩
  | 61 => ⟨S1x16x1024, .f32⟩
  | 62 => ⟨S16x1024, .f32⟩
  | 63 => ⟨S1x1024x1024, .f32⟩
  | 64 => ⟨S1024x1024, .f32⟩
  | 65 => ⟨S1x1024x16, .f32⟩
  | 66 => ⟨S1024x16, .f32⟩
  | 67 => ⟨S1x16x1024, .f32⟩
  | 68 => ⟨S16x1024, .f32⟩
  | 69 => ⟨S1x1024x1024, .f32⟩
  | 70 => ⟨S1024x1024, .f32⟩
  | 71 => ⟨S1x1024x16, .f32⟩
  | 72 => ⟨S1024x16, .f32⟩
  | 73 => ⟨S1x16x1024, .f32⟩
  | 74 => ⟨S16x1024, .f32⟩
  | 75 => ⟨S1x1024x1024, .f32⟩
  | 76 => ⟨S1024x1024, .f32⟩
  | 77 => ⟨S1x1024x16, .f32⟩
  | 78 => ⟨S1024x16, .f32⟩
  | 79 => ⟨S1x16x1024, .f32⟩
  | 80 => ⟨S16x1024, .f32⟩
  | 81 => ⟨S1x1024, .f32⟩
  | 82 => ⟨S1x1024, .f32⟩
  | 83 => ⟨S1024x1024, .f32⟩
  | 84 => ⟨S1024x1024, .bf16⟩
  | 85 => ⟨S1x1024x4096, .f32⟩
  | 86 => ⟨S1024x4096, .f32⟩
  | 87 => ⟨S1x1024x16, .f32⟩
  | 88 => ⟨S1024x16, .f32⟩
  | 89 => ⟨S1x16x4096, .f32⟩
  | 90 => ⟨S16x4096, .f32⟩
  | 91 => ⟨S1x1024x4096, .f32⟩
  | 92 => ⟨S1024x4096, .f32⟩
  | 93 => ⟨S1x1024x16, .f32⟩
  | 94 => ⟨S1024x16, .f32⟩
  | 95 => ⟨S1x16x4096, .f32⟩
  | 96 => ⟨S16x4096, .f32⟩
  | 97 => ⟨S1x4096x1024, .f32⟩
  | 98 => ⟨S4096x1024, .f32⟩
  | 99 => ⟨S1x4096x16, .f32⟩
  | 100 => ⟨S4096x16, .f32⟩
  | 101 => ⟨S1x16x1024, .f32⟩
  | 102 => ⟨S16x1024, .f32⟩
  | 103 => ⟨S1024x1024, .f32⟩
  | 104 => ⟨S1x1024, .f32⟩
  | 105 => ⟨S1024, .f32⟩
  | 106 => ⟨S1x1024, .f32⟩
  | 107 => ⟨S1024, .f32⟩
  | 108 => ⟨S1x1024x1024, .f32⟩
  | 109 => ⟨S1024x1024, .f32⟩
  | 110 => ⟨S1x1024x16, .f32⟩
  | 111 => ⟨S1024x16, .f32⟩
  | 112 => ⟨S1x16x1024, .f32⟩
  | 113 => ⟨S16x1024, .f32⟩
  | 114 => ⟨S1x1024x1024, .f32⟩
  | 115 => ⟨S1024x1024, .f32⟩
  | 116 => ⟨S1x1024x16, .f32⟩
  | 117 => ⟨S1024x16, .f32⟩
  | 118 => ⟨S1x16x1024, .f32⟩
  | 119 => ⟨S16x1024, .f32⟩
  | 120 => ⟨S1x1024x1024, .f32⟩
  | 121 => ⟨S1024x1024, .f32⟩
  | 122 => ⟨S1x1024x16, .f32⟩
  | 123 => ⟨S1024x16, .f32⟩
  | 124 => ⟨S1x16x1024, .f32⟩
  | 125 => ⟨S16x1024, .f32⟩
  | 126 => ⟨S1x1024x1024, .f32⟩
  | 127 => ⟨S1024x1024, .f32⟩
  | _ => ⟨S1024x1024, .f32⟩

abbrev hbmTy0_1 (i : Nat) : BufTy := match i % 128 with
  | 0 => ⟨S1x1024x16, .f32⟩
  | 1 => ⟨S1024x16, .f32⟩
  | 2 => ⟨S1x16x1024, .f32⟩
  | 3 => ⟨S16x1024, .f32⟩
  | 4 => ⟨S1x1024, .f32⟩
  | 5 => ⟨S1x1024, .f32⟩
  | 6 => ⟨S1024x1024, .f32⟩
  | 7 => ⟨S1024x1024, .bf16⟩
  | 8 => ⟨S1x1024x4096, .f32⟩
  | 9 => ⟨S1024x4096, .f32⟩
  | 10 => ⟨S1x1024x16, .f32⟩
  | 11 => ⟨S1024x16, .f32⟩
  | 12 => ⟨S1x16x4096, .f32⟩
  | 13 => ⟨S16x4096, .f32⟩
  | 14 => ⟨S1x1024x4096, .f32⟩
  | 15 => ⟨S1024x4096, .f32⟩
  | 16 => ⟨S1x1024x16, .f32⟩
  | 17 => ⟨S1024x16, .f32⟩
  | 18 => ⟨S1x16x4096, .f32⟩
  | 19 => ⟨S16x4096, .f32⟩
  | 20 => ⟨S1x4096x1024, .f32⟩
  | 21 => ⟨S4096x1024, .f32⟩
  | 22 => ⟨S1x4096x16, .f32⟩
  | 23 => ⟨S4096x16, .f32⟩
  | 24 => ⟨S1x16x1024, .f32⟩
  | 25 => ⟨S16x1024, .f32⟩
  | 26 => ⟨S1024x1024, .f32⟩
  | 27 => ⟨S1x1024, .f32⟩
  | 28 => ⟨S1024x32000, .f32⟩
  | 29 => ⟨S1024x1, .f32⟩
  | _ => ⟨S1024x1024, .f32⟩

abbrev hbmTy (i : Nat) : BufTy := match i / 128 with
  | 0 => hbmTy0_0 i
  | 1 => hbmTy0_1 i
  | _ => ⟨S1024x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .f32⟩
  | .local _ .vmem, ⟨7, _⟩ => ⟨S1024x16, .f32⟩
  | .local _ .vmem, ⟨8, _⟩ => ⟨S16x1024, .f32⟩
  | .local _ .vmem, ⟨9, _⟩ => ⟨S1024x1024, .f32⟩
  | .local _ .vmem, ⟨10, _⟩ => ⟨S1024x16, .f32⟩
  | .local _ .vmem, ⟨11, _⟩ => ⟨S16x1024, .f32⟩
  | .local _ .vmem, ⟨12, _⟩ => ⟨S1024x1024, .f32⟩
  | .local _ .vmem, ⟨13, _⟩ => ⟨S1024x16, .f32⟩
  | .local _ .vmem, ⟨14, _⟩ => ⟨S16x1024, .f32⟩
  | .local _ .vmem, ⟨15, _⟩ => ⟨S1024x1024, .f32⟩
  | .local _ .vmem, ⟨16, _⟩ => ⟨S1024x16, .f32⟩
  | .local _ .vmem, ⟨17, _⟩ => ⟨S16x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .f32⟩
  | .local _ .vmem, ⟨28, _⟩ => ⟨S512x1024, .f32⟩
  | .local _ .vmem, ⟨29, _⟩ => ⟨S1024x1024, .f32⟩
  | .local _ .vmem, ⟨30, _⟩ => ⟨S1024x1024, .f32⟩
  | .local _ .vmem, ⟨31, _⟩ => ⟨S1024x16, .f32⟩
  | .local _ .vmem, ⟨32, _⟩ => ⟨S16x1024, .f32⟩
  | .local _ .vmem, ⟨33, _⟩ => ⟨S16x1024, .f32⟩
  | .local _ .vmem, ⟨34, _⟩ => ⟨S1024x1024, .f32⟩
  | .local _ .vmem, ⟨35, _⟩ => ⟨S1024x1024, .f32⟩
  | .local _ .vmem, ⟨36, _⟩ => ⟨S1024x16, .f32⟩
  | .local _ .vmem, ⟨37, _⟩ => ⟨S16x1024, .f32⟩
  | .local _ .vmem, ⟨38, _⟩ => ⟨S16x1024, .f32⟩
  | .local _ .vmem, ⟨39, _⟩ => ⟨S1024x1024, .f32⟩
  | .local _ .vmem, ⟨40, _⟩ => ⟨S1024x1024, .f32⟩
  | .local _ .vmem, ⟨41, _⟩ => ⟨S1024x16, .f32⟩
  | .local _ .vmem, ⟨42, _⟩ => ⟨S1024x16, .f32⟩
  | .local _ .vmem, ⟨43, _⟩ => ⟨S16x1024, .f32⟩
  | .local _ .vmem, ⟨44, _⟩ => ⟨S512x1024, .f32⟩
  | .local _ .vmem, ⟨45, _⟩ => ⟨S512x1024, .f32⟩
  | .local _ .vmem, ⟨46, _⟩ => ⟨S512x1024, .f32⟩
  | .local _ .vmem, ⟨47, _⟩ => ⟨S512x1024, .f32⟩
  | .local _ .vmem, ⟨48, _⟩ => ⟨S1x1024, .f32⟩
  | .local _ .vmem, ⟨49, _⟩ => ⟨S1x1024, .f32⟩
  | .local _ .vmem, ⟨50, _⟩ => ⟨S512x1024, .f32⟩
  | .local _ .vmem, ⟨51, _⟩ => ⟨S512x1024, .f32⟩
  | .local _ .vmem, ⟨52, _⟩ => ⟨S1024x1024, .f32⟩
  | .local _ .vmem, ⟨53, _⟩ => ⟨S1024x16, .f32⟩
  | .local _ .vmem, ⟨54, _⟩ => ⟨S16x1024, .f32⟩
  | .local _ .vmem, ⟨55, _⟩ => ⟨S1024x1024, .f32⟩
  | .local _ .vmem, ⟨56, _⟩ => ⟨S1024x16, .f32⟩
  | .local _ .vmem, ⟨57, _⟩ => ⟨S16x1024, .f32⟩
  | .local _ .vmem, ⟨58, _⟩ => ⟨S1024x1024, .f32⟩
  | .local _ .vmem, ⟨59, _⟩ => ⟨S1024x16, .f32⟩
  | .local _ .vmem, ⟨60, _⟩ => ⟨S16x1024, .f32⟩
  | .local _ .vmem, ⟨61, _⟩ => ⟨S1024x1024, .f32⟩
  | .local _ .vmem, ⟨62, _⟩ => ⟨S1024x16, .f32⟩
  | .local _ .vmem, ⟨63, _⟩ => ⟨S16x1024, .f32⟩
  | .local _ .vmem, ⟨64, _⟩ => ⟨S512x1024, .f32⟩
  | .local _ .vmem, ⟨65, _⟩ => ⟨S512x1024, .f32⟩
  | .local _ .vmem, ⟨66, _⟩ => ⟨S512x1024, .bf16⟩
  | .local _ .vmem, ⟨67, _⟩ => ⟨S512x1024, .bf16⟩
  | .local _ .vmem, ⟨68, _⟩ => ⟨S512x1024, .bf16⟩
  | .local _ .vmem, ⟨69, _⟩ => ⟨S512x1024, .bf16⟩
  | .local _ .vmem, ⟨70, _⟩ => ⟨S512x1024, .bf16⟩
  | .local _ .vmem, ⟨71, _⟩ => ⟨S512x1024, .bf16⟩
  | .local _ .vmem, ⟨72, _⟩ => ⟨S512x1024, .bf16⟩
  | .local _ .vmem, ⟨73, _⟩ => ⟨S512x1024, .f32⟩
  | .local _ .vmem, ⟨74, _⟩ => ⟨S512x1024, .f32⟩
  | .local _ .vmem, ⟨75, _⟩ => ⟨S1024x1024, .f32⟩
  | .local _ .vmem, ⟨76, _⟩ => ⟨S1024x1024, .f32⟩
  | .local _ .vmem, ⟨77, _⟩ => ⟨S1024x16, .f32⟩
  | .local _ .vmem, ⟨78, _⟩ => ⟨S16x1024, .f32⟩
  | .local _ .vmem, ⟨79, _⟩ => ⟨S16x1024, .f32⟩
  | .local _ .vmem, ⟨80, _⟩ => ⟨S1024x1024, .f32⟩
  | .local _ .vmem, ⟨81, _⟩ => ⟨S1024x1024, .f32⟩
  | .local _ .vmem, ⟨82, _⟩ => ⟨S1024x16, .f32⟩
  | .local _ .vmem, ⟨83, _⟩ => ⟨S16x1024, .f32⟩
  | .local _ .vmem, ⟨84, _⟩ => ⟨S16x1024, .f32⟩
  | .local _ .vmem, ⟨85, _⟩ => ⟨S1024x1024, .f32⟩
  | .local _ .vmem, ⟨86, _⟩ => ⟨S1024x1024, .f32⟩
  | .local _ .vmem, ⟨87, _⟩ => ⟨S1024x16, .f32⟩
  | .local _ .vmem, ⟨88, _⟩ => ⟨S1024x16, .f32⟩
  | .local _ .vmem, ⟨89, _⟩ => ⟨S16x1024, .f32⟩
  | .local _ .vmem, ⟨90, _⟩ => ⟨S512x1024, .f32⟩
  | .local _ .vmem, ⟨91, _⟩ => ⟨S512x1024, .f32⟩
  | .local _ .vmem, ⟨92, _⟩ => ⟨S1024x1024, .f32⟩
  | .local _ .vmem, ⟨93, _⟩ => ⟨S1x1024, .f32⟩
  | .local _ .vmem, ⟨94, _⟩ => ⟨S1024x1280, .f32⟩
  | .local _ .vmem, ⟨95, _⟩ => ⟨S1024x1280, .f32⟩
  | .local _ .vmem, ⟨96, _⟩ => ⟨S1024x1, .f32⟩
  | .local _ .vmem, ⟨97, _⟩ => ⟨S1024x1280, .f32⟩
  | .local _ .vmem, ⟨98, _⟩ => ⟨S1024x1280, .f32⟩
  | .local _ .vmem, ⟨99, _⟩ => ⟨S1024x1, .f32⟩
  | .local _ .vmem, ⟨100, _⟩ => ⟨S1024x1024, .bf16⟩
  | .local _ .smem, ⟨0, _⟩ => ⟨S1, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .smem, ⟨0, _⟩ => true
  | _, _ => false

abbrev semScoped : Fin 0 → Bool
  | ⟨_, h⟩ => absurd h (Nat.not_lt_zero _)

abbrev dmaSemScoped : Fin 95 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | _ => false

abbrev sig : RefSig :=
  ofTc nBuf bufTy 0 95 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_cst : Ref sig .tc := ⟨.hbm, 29, rfl⟩
abbrev main_v1 : Ref sig .tc := ⟨.hbm, 30, rfl⟩
abbrev main_v2 : Ref sig .tc := ⟨.hbm, 31, rfl⟩
abbrev main_cst_0 : Ref sig .tc := ⟨.hbm, 32, rfl⟩
abbrev main_v3 : Ref sig .tc := ⟨.hbm, 33, rfl⟩
abbrev main_v4 : Ref sig .tc := ⟨.hbm, 34, rfl⟩
abbrev main_cst_1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52_0 : Ref sig .tc := ⟨.hbm, 83, rfl⟩
abbrev main_v52_1 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102_0 : Ref sig .tc := ⟨.hbm, 134, rfl⟩
abbrev main_v102_1 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123_0 : Ref sig .tc := ⟨.hbm, 156, rfl⟩
abbrev main_v123_1 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc1_stg0_0 : Ref sig .tc := ⟨.vmem, 25, rfl⟩
abbrev cc1_stg0_1 : Ref sig .tc := ⟨.vmem, 26, rfl⟩
abbrev cc1_stg1_0 : Ref sig .tc := ⟨.vmem, 27, rfl⟩
abbrev cc1_stg1_1 : Ref sig .tc := ⟨.vmem, 28, rfl⟩
abbrev cc1_stg2_0 : Ref sig .tc := ⟨.vmem, 29, rfl⟩
abbrev cc1_stg2_1 : Ref sig .tc := ⟨.vmem, 30, rfl⟩
abbrev cc1_stg3_0 : Ref sig .tc := ⟨.vmem, 31, rfl⟩
abbrev cc1_stg4_0 : Ref sig .tc := ⟨.vmem, 32, rfl⟩
abbrev cc1_stg4_1 : Ref sig .tc := ⟨.vmem, 33, rfl⟩
abbrev cc1_stg5_0 : Ref sig .tc := ⟨.vmem, 34, rfl⟩
abbrev cc1_stg5_1 : Ref sig .tc := ⟨.vmem, 35, rfl⟩
abbrev cc1_stg6_0 : Ref sig .tc := ⟨.vmem, 36, rfl⟩
abbrev cc1_stg7_0 : Ref sig .tc := ⟨.vmem, 37, rfl⟩
abbrev cc1_stg7_1 : Ref sig .tc := ⟨.vmem, 38, rfl⟩
abbrev cc1_stg8_0 : Ref sig .tc := ⟨.vmem, 39, rfl⟩
abbrev cc1_stg8_1 : Ref sig .tc := ⟨.vmem, 40, rfl⟩
abbrev cc1_stg9_0 : Ref sig .tc := ⟨.vmem, 41, rfl⟩
abbrev cc1_stg9_1 : Ref sig .tc := ⟨.vmem, 42, rfl⟩
abbrev cc1_stg10_0 : Ref sig .tc := ⟨.vmem, 43, rfl⟩
abbrev cc1_stg11_0 : Ref sig .tc := ⟨.vmem, 44, rfl⟩
abbrev cc1_stg11_1 : Ref sig .tc := ⟨.vmem, 45, rfl⟩
abbrev cc2_stg0_0 : Ref sig .tc := ⟨.vmem, 46, rfl⟩
abbrev cc2_stg0_1 : Ref sig .tc := ⟨.vmem, 47, rfl⟩
abbrev cc2_stg1_0 : Ref sig .tc := ⟨.vmem, 48, rfl⟩
abbrev cc2_stg2_0 : Ref sig .tc := ⟨.vmem, 49, rfl⟩
abbrev cc2_stg3_0 : Ref sig .tc := ⟨.vmem, 50, rfl⟩
abbrev cc2_stg4_0 : Ref sig .tc := ⟨.vmem, 51, rfl⟩
abbrev cc2_stg5_0 : Ref sig .tc := ⟨.vmem, 52, rfl⟩
abbrev cc2_stg6_0 : Ref sig .tc := ⟨.vmem, 53, rfl⟩
abbrev cc2_stg7_0 : Ref sig .tc := ⟨.vmem, 54, rfl⟩
abbrev cc2_stg8_0 : Ref sig .tc := ⟨.vmem, 55, rfl⟩
abbrev cc2_stg9_0 : Ref sig .tc := ⟨.vmem, 56, rfl⟩
abbrev cc2_stg10_0 : Ref sig .tc := ⟨.vmem, 57, rfl⟩
abbrev cc2_stg11_0 : Ref sig .tc := ⟨.vmem, 58, rfl⟩
abbrev cc2_stg12_0 : Ref sig .tc := ⟨.vmem, 59, rfl⟩
abbrev cc2_stg13_0 : Ref sig .tc := ⟨.vmem, 60, rfl⟩
abbrev cc2_stg14_0 : Ref sig .tc := ⟨.vmem, 61, rfl⟩
abbrev cc2_stg15_0 : Ref sig .tc := ⟨.vmem, 62, rfl⟩
abbrev cc2_stg16_0 : Ref sig .tc := ⟨.vmem, 63, rfl⟩
abbrev cc2_stg17_0 : Ref sig .tc := ⟨.vmem, 64, rfl⟩
abbrev cc2_stg17_1 : Ref sig .tc := ⟨.vmem, 65, rfl⟩
abbrev cc2_stg18_0 : Ref sig .tc := ⟨.vmem, 66, rfl⟩
abbrev cc2_stg18_1 : Ref sig .tc := ⟨.vmem, 67, rfl⟩
abbrev cc2_scratch0 : Ref sig .tc := ⟨.vmem, 68, rfl⟩
abbrev cc2_scratch1 : Ref sig .tc := ⟨.vmem, 69, rfl⟩
abbrev cc2_scratch2 : Ref sig .tc := ⟨.vmem, 70, rfl⟩
abbrev cc3_stg0_0 : Ref sig .tc := ⟨.vmem, 71, rfl⟩
abbrev cc3_stg0_1 : Ref sig .tc := ⟨.vmem, 72, rfl⟩
abbrev cc3_stg1_0 : Ref sig .tc := ⟨.vmem, 73, rfl⟩
abbrev cc3_stg1_1 : Ref sig .tc := ⟨.vmem, 74, rfl⟩
abbrev cc3_stg2_0 : Ref sig .tc := ⟨.vmem, 75, rfl⟩
abbrev cc3_stg2_1 : Ref sig .tc := ⟨.vmem, 76, rfl⟩
abbrev cc3_stg3_0 : Ref sig .tc := ⟨.vmem, 77, rfl⟩
abbrev cc3_stg4_0 : Ref sig .tc := ⟨.vmem, 78, rfl⟩
abbrev cc3_stg4_1 : Ref sig .tc := ⟨.vmem, 79, rfl⟩
abbrev cc3_stg5_0 : Ref sig .tc := ⟨.vmem, 80, rfl⟩
abbrev cc3_stg5_1 : Ref sig .tc := ⟨.vmem, 81, rfl⟩
abbrev cc3_stg6_0 : Ref sig .tc := ⟨.vmem, 82, rfl⟩
abbrev cc3_stg7_0 : Ref sig .tc := ⟨.vmem, 83, rfl⟩
abbrev cc3_stg7_1 : Ref sig .tc := ⟨.vmem, 84, rfl⟩
abbrev cc3_stg8_0 : Ref sig .tc := ⟨.vmem, 85, rfl⟩
abbrev cc3_stg8_1 : Ref sig .tc := ⟨.vmem, 86, rfl⟩
abbrev cc3_stg9_0 : Ref sig .tc := ⟨.vmem, 87, rfl⟩
abbrev cc3_stg9_1 : Ref sig .tc := ⟨.vmem, 88, rfl⟩
abbrev cc3_stg10_0 : Ref sig .tc := ⟨.vmem, 89, rfl⟩
abbrev cc3_stg11_0 : Ref sig .tc := ⟨.vmem, 90, rfl⟩
abbrev cc3_stg11_1 : Ref sig .tc := ⟨.vmem, 91, rfl⟩
abbrev cc4_stg0_0 : Ref sig .tc := ⟨.vmem, 92, rfl⟩
abbrev cc4_stg1_0 : Ref sig .tc := ⟨.vmem, 93, rfl⟩
abbrev cc4_stg2_0 : Ref sig .tc := ⟨.vmem, 94, rfl⟩
abbrev cc4_stg2_1 : Ref sig .tc := ⟨.vmem, 95, rfl⟩
abbrev cc4_stg3_0 : Ref sig .tc := ⟨.vmem, 96, rfl⟩
abbrev cc4_stg5_0 : Ref sig .tc := ⟨.vmem, 97, rfl⟩
abbrev cc4_stg5_1 : Ref sig .tc := ⟨.vmem, 98, rfl⟩
abbrev cc4_stg6_0 : Ref sig .tc := ⟨.vmem, 99, rfl⟩
abbrev cc4_scratch0 : Ref sig .tc := ⟨.vmem, 100, rfl⟩
abbrev cc4_stg4_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc0_sem18_0 : DmaSem sig := 20
abbrev cc0_sem18_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem4_0 : DmaSem sig := 29
abbrev cc1_sem4_1 : DmaSem sig := 30
abbrev cc1_sem5_0 : DmaSem sig := 31
abbrev cc1_sem5_1 : DmaSem sig := 32
abbrev cc1_sem6_0 : DmaSem sig := 33
abbrev cc1_sem7_0 : DmaSem sig := 34
abbrev cc1_sem7_1 : DmaSem sig := 35
abbrev cc1_sem8_0 : DmaSem sig := 36
abbrev cc1_sem8_1 : DmaSem sig := 37
abbrev cc1_sem9_0 : DmaSem sig := 38
abbrev cc1_sem9_1 : DmaSem sig := 39
abbrev cc1_sem10_0 : DmaSem sig := 40
abbrev cc1_sem11_0 : DmaSem sig := 41
abbrev cc1_sem11_1 : DmaSem sig := 42
abbrev cc2_sem0_0 : DmaSem sig := 43
abbrev cc2_sem0_1 : DmaSem sig := 44
abbrev cc2_sem1_0 : DmaSem sig := 45
abbrev cc2_sem2_0 : DmaSem sig := 46
abbrev cc2_sem3_0 : DmaSem sig := 47
abbrev cc2_sem4_0 : DmaSem sig := 48
abbrev cc2_sem5_0 : DmaSem sig := 49
abbrev cc2_sem6_0 : DmaSem sig := 50
abbrev cc2_sem7_0 : DmaSem sig := 51
abbrev cc2_sem8_0 : DmaSem sig := 52
abbrev cc2_sem9_0 : DmaSem sig := 53
abbrev cc2_sem10_0 : DmaSem sig := 54
abbrev cc2_sem11_0 : DmaSem sig := 55
abbrev cc2_sem12_0 : DmaSem sig := 56
abbrev cc2_sem13_0 : DmaSem sig := 57
abbrev cc2_sem14_0 : DmaSem sig := 58
abbrev cc2_sem15_0 : DmaSem sig := 59
abbrev cc2_sem16_0 : DmaSem sig := 60
abbrev cc2_sem17_0 : DmaSem sig := 61
abbrev cc2_sem17_1 : DmaSem sig := 62
abbrev cc2_sem18_0 : DmaSem sig := 63
abbrev cc2_sem18_1 : DmaSem sig := 64
abbrev cc3_sem0_0 : DmaSem sig := 65
abbrev cc3_sem0_1 : DmaSem sig := 66
abbrev cc3_sem1_0 : DmaSem sig := 67
abbrev cc3_sem1_1 : DmaSem sig := 68
abbrev cc3_sem2_0 : DmaSem sig := 69
abbrev cc3_sem2_1 : DmaSem sig := 70
abbrev cc3_sem3_0 : DmaSem sig := 71
abbrev cc3_sem4_0 : DmaSem sig := 72
abbrev cc3_sem4_1 : DmaSem sig := 73
abbrev cc3_sem5_0 : DmaSem sig := 74
abbrev cc3_sem5_1 : DmaSem sig := 75
abbrev cc3_sem6_0 : DmaSem sig := 76
abbrev cc3_sem7_0 : DmaSem sig := 77
abbrev cc3_sem7_1 : DmaSem sig := 78
abbrev cc3_sem8_0 : DmaSem sig := 79
abbrev cc3_sem8_1 : DmaSem sig := 80
abbrev cc3_sem9_0 : DmaSem sig := 81
abbrev cc3_sem9_1 : DmaSem sig := 82
abbrev cc3_sem10_0 : DmaSem sig := 83
abbrev cc3_sem11_0 : DmaSem sig := 84
abbrev cc3_sem11_1 : DmaSem sig := 85
abbrev cc4_sem0_0 : DmaSem sig := 86
abbrev cc4_sem1_0 : DmaSem sig := 87
abbrev cc4_sem2_0 : DmaSem sig := 88
abbrev cc4_sem2_1 : DmaSem sig := 89
abbrev cc4_sem3_0 : DmaSem sig := 90
abbrev cc4_sem4_0 : DmaSem sig := 91
abbrev cc4_sem5_0 : DmaSem sig := 92
abbrev cc4_sem5_1 : DmaSem sig := 93
abbrev cc4_sem6_0 : DmaSem sig := 94

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S16x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev grid1 : Pipeline.Grid := ⟨2, ![2, 4], ![false, false]⟩

def k1_cond1 (i : grid1.Coords) : BitVec 1 :=
  let arg1 : BitVec 32 := BitVec.ofNat 32 (i 1).val
  let c0_i32 : BitVec 32 := 0#32
  let v54 : BitVec 1 := Scalar.cmpi .eq arg1 c0_i32
  let v55 : BitVec 32 := Scalar.extui v54
  let c0_i32_30 : BitVec 32 := 0#32
  let v56 : BitVec 1 := Scalar.cmpi .ne v55 c0_i32_30
  v56

def k1_cond2 (i : grid1.Coords) : BitVec 1 :=
  let arg1 : BitVec 32 := BitVec.ofNat 32 (i 1).val
  let c0_i32_31 : BitVec 32 := 0#32
  let v57 : BitVec 1 := Scalar.cmpi .ne arg1 c0_i32_31
  let v58 : BitVec 32 := Scalar.extui v57
  let c0_i32_32 : BitVec 32 := 0#32
  let v59 : BitVec 1 := Scalar.cmpi .ne v58 c0_i32_32
  v59

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1024x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S16x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 1 → Memref sig .tc .vmem S1024x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S16x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S1024x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![false, true]

abbrev stage1_9 : Fin 2 → Memref sig .tc .vmem S1024x16 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![false, true]

abbrev stage1_10 : Fin 1 → Memref sig .tc .vmem S16x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 2 → Memref sig .tc .vmem S512x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_18 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1024x16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S16x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1024x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1024x16 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S16x1024 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1024x1024 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1024x16 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S16x1024 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1024x1024 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S1024x16 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S16x1024 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 2 → Memref sig .tc .vmem S512x1024 .f32 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true]

abbrev stage2_18 : Fin 2 → Memref sig .tc .vmem S512x1024 .bf16 := fun | 0 => Memref.whole cc2_stg18_0 | 1 => Memref.whole cc2_stg18_1 | ⟨_ + 2, h⟩ => absurd h (Nat.not_lt.2 (Nat.le_add_left _ _))
abbrev sem2_18 : Fin 2 → DmaSem sig := fun | 0 => cc2_sem18_0 | 1 => cc2_sem18_1 | ⟨_ + 2, h⟩ => absurd h (Nat.not_lt.2 (Nat.le_add_left _ _))
abbrev reads2_18 : Fin grid2.rank → Bool := ![true]

abbrev grid3 : Pipeline.Grid := ⟨2, ![2, 4], ![false, false]⟩

def k3_cond1 (i : grid3.Coords) : BitVec 1 :=
  let arg1 : BitVec 32 := BitVec.ofNat 32 (i 1).val
  let c0_i32 : BitVec 32 := 0#32
  let v54 : BitVec 1 := Scalar.cmpi .eq arg1 c0_i32
  let v55 : BitVec 32 := Scalar.extui v54
  let c0_i32_30 : BitVec 32 := 0#32
  let v56 : BitVec 1 := Scalar.cmpi .ne v55 c0_i32_30
  v56

def k3_cond2 (i : grid3.Coords) : BitVec 1 :=
  let arg1 : BitVec 32 := BitVec.ofNat 32 (i 1).val
  let c0_i32_31 : BitVec 32 := 0#32
  let v57 : BitVec 1 := Scalar.cmpi .ne arg1 c0_i32_31
  let v58 : BitVec 32 := Scalar.extui v57
  let c0_i32_32 : BitVec 32 := 0#32
  let v59 : BitVec 1 := Scalar.cmpi .ne v58 c0_i32_32
  v59

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 1 → Memref sig .tc .vmem S1024x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S16x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![false, true]

abbrev stage3_5 : Fin 2 → Memref sig .tc .vmem S1024x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![false, true]

abbrev stage3_6 : Fin 1 → Memref sig .tc .vmem S1024x16 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 2 → Memref sig .tc .vmem S16x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![false, true]

abbrev stage3_8 : Fin 2 → Memref sig .tc .vmem S1024x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![false, true]

abbrev stage3_9 : Fin 2 → Memref sig .tc .vmem S1024x16 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![false, true]

abbrev stage3_10 : Fin 1 → Memref sig .tc .vmem S16x1024 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false, false]

abbrev stage3_11 : Fin 2 → Memref sig .tc .vmem S512x1024 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true, false]

abbrev grid4 : Pipeline.Grid := ⟨1, ![25], ![false]⟩

def k4_cond1 (i : grid4.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1024x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S1x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1024x1280 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1024x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .smem S1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1024x1280 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1024x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]
-- ==== LayersIdeal.lean ====
variable {F : FTy → Type} [FloatOps F] [Named F]
def κ : String → Option EReal := fun
  | "mask" => some ⊥
  | _ => none
-- ==== LayersRefIdeal.lean ====
abbrev S1024x1024 : Shape := ⟨2, ![1024, 1024]⟩
abbrev S2x1024 : Shape := ⟨2, ![2, 1024]⟩
abbrev S2x1024x1024 : Shape := ⟨3, ![2, 1024, 1024]⟩
abbrev S2x1024x16 : Shape := ⟨3, ![2, 1024, 16]⟩
abbrev S2x16x1024 : Shape := ⟨3, ![2, 16, 1024]⟩
abbrev S2x1024x4096 : Shape := ⟨3, ![2, 1024, 4096]⟩
abbrev S2x16x4096 : Shape := ⟨3, ![2, 16, 4096]⟩
abbrev S2x4096x1024 : Shape := ⟨3, ![2, 4096, 1024]⟩
abbrev S2x4096x16 : Shape := ⟨3, ![2, 4096, 16]⟩
abbrev S1024 : Shape := ⟨1, ![1024]⟩
abbrev S1024x32000 : Shape := ⟨2, ![1024, 32000]⟩
abbrev S1024x1 : Shape := ⟨2, ![1024, 1]⟩
abbrev S1 : Shape := ⟨1, ![1]⟩
abbrev S32 : Shape := ⟨1, ![32]⟩
abbrev S_ : Shape := ⟨0, ![]⟩
abbrev S512 : Shape := ⟨1, ![512]⟩
abbrev S512x1 : Shape := ⟨2, ![512, 1]⟩
abbrev S1x32 : Shape := ⟨2, ![1, 32]⟩
abbrev S512x32 : Shape := ⟨2, ![512, 32]⟩
abbrev S512x64 : Shape := ⟨2, ![512, 64]⟩
abbrev S512x512 : Shape := ⟨2, ![512, 512]⟩
abbrev S1x1x512x512 : Shape := ⟨4, ![1, 1, 512, 512]⟩
abbrev S1x1024 : Shape := ⟨2, ![1, 1024]⟩
abbrev S1x1024x1024 : Shape := ⟨3, ![1, 1024, 1024]⟩
abbrev S1x1024x16 : Shape := ⟨3, ![1, 1024, 16]⟩
abbrev S1024x16 : Shape := ⟨2, ![1024, 16]⟩
abbrev S1x16x1024 : Shape := ⟨3, ![1, 16, 1024]⟩
abbrev S16x1024 : Shape := ⟨2, ![16, 1024]⟩
abbrev S2x512x16x64 : Shape := ⟨4, ![2, 512, 16, 64]⟩
abbrev S2x512x16x32 : Shape := ⟨4, ![2, 512, 16, 32]⟩
abbrev S1x512x1x64 : Shape := ⟨4, ![1, 512, 1, 64]⟩
abbrev S2x16x512x512 : Shape := ⟨4, ![2, 16, 512, 512]⟩
abbrev S2x16x512 : Shape := ⟨3, ![2, 16, 512]⟩
abbrev S2x16x512x1 : Shape := ⟨4, ![2, 16, 512, 1]⟩
abbrev S2x16x64x512 : Shape := ⟨4, ![2, 16, 64, 512]⟩
abbrev S1x1024x4096 : Shape := ⟨3, ![1, 1024, 4096]⟩
abbrev S1024x4096 : Shape := ⟨2, ![1024, 4096]⟩
abbrev S1x16x4096 : Shape := ⟨3, ![1, 16, 4096]⟩
abbrev S16x4096 : Shape := ⟨2, ![16, 4096]⟩
abbrev S1x4096x1024 : Shape := ⟨3, ![1, 4096, 1024]⟩
abbrev S4096x1024 : Shape := ⟨2, ![4096, 1024]⟩
abbrev S1x4096x16 : Shape := ⟨3, ![1, 4096, 16]⟩
abbrev S4096x16 : Shape := ⟨2, ![4096, 16]⟩

abbrev nBuf : Space → Nat
  | .hbm => 463
  | .vmem => 0
  | .smem => 0
  | _ => 0

abbrev hbmTy0_0 (i : Nat) : BufTy := match i % 128 with
  | 0 => ⟨S1024x1024, .f32⟩
  | 1 => ⟨S2x1024, .f32⟩
  | 2 => ⟨S2x1024, .f32⟩
  | 3 => ⟨S2x1024x1024, .f32⟩
  | 4 => ⟨S2x1024x16, .f32⟩
  | 5 => ⟨S2x16x1024, .f32⟩
  | 6 => ⟨S2x1024x1024, .f32⟩
  | 7 => ⟨S2x1024x16, .f32⟩
  | 8 => ⟨S2x16x1024, .f32⟩
  | 9 => ⟨S2x1024x1024, .f32⟩
  | 10 => ⟨S2x1024x16, .f32⟩
  | 11 => ⟨S2x16x1024, .f32⟩
  | 12 => ⟨S2x1024x1024, .f32⟩
  | 13 => ⟨S2x1024x16, .f32⟩
  | 14 => ⟨S2x16x1024, .f32⟩
  | 15 => ⟨S2x1024x4096, .f32⟩
  | 16 => ⟨S2x1024x16, .f32⟩
  | 17 => ⟨S2x16x4096, .f32⟩
  | 18 => ⟨S2x1024x4096, .f32⟩
  | 19 => ⟨S2x1024x16, .f32⟩
  | 20 => ⟨S2x16x4096, .f32⟩
  | 21 => ⟨S2x4096x1024, .f32⟩
  | 22 => ⟨S2x4096x16, .f32⟩
  | 23 => ⟨S2x16x1024, .f32⟩
  | 24 => ⟨S1024, .f32⟩
  | 25 => ⟨S1024x32000, .f32⟩
  | 26 => ⟨S1024x1, .f32⟩
  | 27 => ⟨S1, .f32⟩
  | 28 => ⟨S32, .f32⟩
  | 29 => ⟨S_, .f32⟩
  | 30 => ⟨S32, .f32⟩
  | 31 => ⟨S32, .f32⟩
  | 32 => ⟨S_, .f32⟩
  | 33 => ⟨S32, .f32⟩
  | 34 => ⟨S32, .f32⟩
  | 35 => ⟨S_, .f32⟩
  | 36 => ⟨S32, .f32⟩
  | 37 => ⟨S32, .f32⟩
  | 38 => ⟨S512, .f32⟩
  | 39 => ⟨S512x1, .f32⟩
  | 40 => ⟨S1x32, .f32⟩
  | 41 => ⟨S512x32, .f32⟩
  | 42 => ⟨S512x32, .f32⟩
  | 43 => ⟨S512x32, .f32⟩
  | 44 => ⟨S512x64, .f32⟩
  | 45 => ⟨S512x64, .f32⟩
  | 46 => ⟨S512x64, .f32⟩
  | 47 => ⟨S_, .i1⟩
  | 48 => ⟨S512x512, .i1⟩
  | 49 => ⟨S512x512, .i32⟩
  | 50 => ⟨S_, .i32⟩
  | 51 => ⟨S512x512, .i32⟩
  | 52 => ⟨S512x512, .i32⟩
  | 53 => ⟨S512x512, .i32⟩
  | 54 => ⟨S512x512, .i1⟩
  | 55 => ⟨S_, .i1⟩
  | 56 => ⟨S512x512, .i1⟩
  | 57 => ⟨S512x512, .i1⟩
  | 58 => ⟨S1x1x512x512, .i1⟩
  | 59 => ⟨S_, .f32⟩
  | 60 => ⟨S_, .f32⟩
  | 61 => ⟨S1x1x512x512, .f32⟩
  | 62 => ⟨S1x1x512x512, .f32⟩
  | 63 => ⟨S1x1x512x512, .f32⟩
  | 64 => ⟨S_, .f32⟩
  | 65 => ⟨S_, .f32⟩
  | 66 => ⟨S_, .f32⟩
  | 67 => ⟨S_, .f32⟩
  | 68 => ⟨S1x1024, .f32⟩
  | 69 => ⟨S1024, .f32⟩
  | 70 => ⟨S1024x1024, .f32⟩
  | 71 => ⟨S_, .f32⟩
  | 72 => ⟨S1024, .f32⟩
  | 73 => ⟨S1024x1, .f32⟩
  | 74 => ⟨S_, .f32⟩
  | 75 => ⟨S1024x1, .f32⟩
  | 76 => ⟨S1024x1, .f32⟩
  | 77 => ⟨S_, .f32⟩
  | 78 => ⟨S1024x1, .f32⟩
  | 79 => ⟨S1024x1, .f32⟩
  | 80 => ⟨S1024x1, .f32⟩
  | 81 => ⟨S1024x1024, .f32⟩
  | 82 => ⟨S1024x1024, .f32⟩
  | 83 => ⟨S1x1024, .f32⟩
  | 84 => ⟨S1024x1024, .f32⟩
  | 85 => ⟨S1024x1024, .f32⟩
  | 86 => ⟨S1x1024x1024, .f32⟩
  | 87 => ⟨S1024x1024, .f32⟩
  | 88 => ⟨S1x1024x16, .f32⟩
  | 89 => ⟨S1024x16, .f32⟩
  | 90 => ⟨S1x16x1024, .f32⟩
  | 91 => ⟨S16x1024, .f32⟩
  | 92 => ⟨S1024x1024, .f32⟩
  | 93 => ⟨S1024x16, .f32⟩
  | 94 => ⟨S1024x1024, .f32⟩
  | 95 => ⟨S_, .f32⟩
  | 96 => ⟨S1024x1024, .f32⟩
  | 97 => ⟨S1024x1024, .f32⟩
  | 98 => ⟨S1024x1024, .f32⟩
  | 99 => ⟨S2x512x16x64, .f32⟩
  | 100 => ⟨S1x1024x1024, .f32⟩
  | 101 => ⟨S1024x1024, .f32⟩
  | 102 => ⟨S1x1024x16, .f32⟩
  | 103 => ⟨S1024x16, .f32⟩
  | 104 => ⟨S1x16x1024, .f32⟩
  | 105 => ⟨S16x1024, .f32⟩
  | 106 => ⟨S1024x1024, .f32⟩
  | 107 => ⟨S1024x16, .f32⟩
  | 108 => ⟨S1024x1024, .f32⟩
  | 109 => ⟨S_, .f32⟩
  | 110 => ⟨S1024x1024, .f32⟩
  | 111 => ⟨S1024x1024, .f32⟩
  | 112 => ⟨S1024x1024, .f32⟩
  | 113 => ⟨S2x512x16x64, .f32⟩
  | 114 => ⟨S1x1024x1024, .f32⟩
  | 115 => ⟨S1024x1024, .f32⟩
  | 116 => ⟨S1x1024x16, .f32⟩
  | 117 => ⟨S1024x16, .f32⟩
  | 118 => ⟨S1x16x1024, .f32⟩
  | 119 => ⟨S16x1024, .f32⟩
  | 120 => ⟨S1024x1024, .f32⟩
  | 121 => ⟨S1024x16, .f32⟩
  | 122 => ⟨S1024x1024, .f32⟩
  | 123 => ⟨S_, .f32⟩
  | 124 => ⟨S1024x1024, .f32⟩
  | 125 => ⟨S1024x1024, .f32⟩
  | 126 => ⟨S1024x1024, .f32⟩
  | 127 => ⟨S2x512x16x64, .f32⟩
  | _ => ⟨S1024x1024, .f32⟩

abbrev hbmTy0_1 (i : Nat) : BufTy := match i % 128 with
  | 0 => ⟨S2x512x16x32, .f32⟩
  | 1 => ⟨S2x512x16x32, .f32⟩
  | 2 => ⟨S2x512x16x32, .f32⟩
  | 3 => ⟨S2x512x16x64, .f32⟩
  | 4 => ⟨S1x512x1x64, .f32⟩
  | 5 => ⟨S2x512x16x64, .f32⟩
  | 6 => ⟨S2x512x16x64, .f32⟩
  | 7 => ⟨S1x512x1x64, .f32⟩
  | 8 => ⟨S2x512x16x64, .f32⟩
  | 9 => ⟨S2x512x16x64, .f32⟩
  | 10 => ⟨S2x512x16x64, .f32⟩
  | 11 => ⟨S2x512x16x32, .f32⟩
  | 12 => ⟨S2x512x16x32, .f32⟩
  | 13 => ⟨S2x512x16x32, .f32⟩
  | 14 => ⟨S2x512x16x64, .f32⟩
  | 15 => ⟨S1x512x1x64, .f32⟩
  | 16 => ⟨S2x512x16x64, .f32⟩
  | 17 => ⟨S2x512x16x64, .f32⟩
  | 18 => ⟨S1x512x1x64, .f32⟩
  | 19 => ⟨S2x512x16x64, .f32⟩
  | 20 => ⟨S2x512x16x64, .f32⟩
  | 21 => ⟨S2x512x16x64, .f32⟩
  | 22 => ⟨S2x16x512x512, .f32⟩
  | 23 => ⟨S2x16x512x512, .f32⟩
  | 24 => ⟨S2x16x512x512, .f32⟩
  | 25 => ⟨S1x1x512x512, .f32⟩
  | 26 => ⟨S2x16x512x512, .f32⟩
  | 27 => ⟨S2x16x512x512, .f32⟩
  | 28 => ⟨S_, .f32⟩
  | 29 => ⟨S2x16x512, .f32⟩
  | 30 => ⟨S_, .f32⟩
  | 31 => ⟨S2x16x512, .f32⟩
  | 32 => ⟨S2x16x512, .f32⟩
  | 33 => ⟨S2x16x512x1, .f32⟩
  | 34 => ⟨S2x16x512x512, .f32⟩
  | 35 => ⟨S2x16x512x512, .f32⟩
  | 36 => ⟨S2x16x512x512, .f32⟩
  | 37 => ⟨S_, .f32⟩
  | 38 => ⟨S2x16x512, .f32⟩
  | 39 => ⟨S2x16x512x1, .f32⟩
  | 40 => ⟨S2x16x512x512, .f32⟩
  | 41 => ⟨S2x16x512x512, .f32⟩
  | 42 => ⟨S2x16x64x512, .f32⟩
  | 43 => ⟨S2x512x16x64, .f32⟩
  | 44 => ⟨S1024x1024, .f32⟩
  | 45 => ⟨S1x1024x1024, .f32⟩
  | 46 => ⟨S1024x1024, .f32⟩
  | 47 => ⟨S1x1024x16, .f32⟩
  | 48 => ⟨S1024x16, .f32⟩
  | 49 => ⟨S1x16x1024, .f32⟩
  | 50 => ⟨S16x1024, .f32⟩
  | 51 => ⟨S1024x1024, .f32⟩
  | 52 => ⟨S1024x16, .f32⟩
  | 53 => ⟨S1024x1024, .f32⟩
  | 54 => ⟨S_, .f32⟩
  | 55 => ⟨S1024x1024, .f32⟩
  | 56 => ⟨S1024x1024, .f32⟩
  | 57 => ⟨S1024x1024, .f32⟩
  | 58 => ⟨S1024x1024, .f32⟩
  | 59 => ⟨S1x1024, .f32⟩
  | 60 => ⟨S1024, .f32⟩
  | 61 => ⟨S1024x1024, .f32⟩
  | 62 => ⟨S_, .f32⟩
  | 63 => ⟨S1024, .f32⟩
  | 64 => ⟨S1024x1, .f32⟩
  | 65 => ⟨S_, .f32⟩
  | 66 => ⟨S1024x1, .f32⟩
  | 67 => ⟨S1024x1, .f32⟩
  | 68 => ⟨S_, .f32⟩
  | 69 => ⟨S1024x1, .f32⟩
  | 70 => ⟨S1024x1, .f32⟩
  | 71 => ⟨S1024x1, .f32⟩
  | 72 => ⟨S1024x1024, .f32⟩
  | 73 => ⟨S1024x1024, .f32⟩
  | 74 => ⟨S1x1024, .f32⟩
  | 75 => ⟨S1024x1024, .f32⟩
  | 76 => ⟨S1024x1024, .f32⟩
  | 77 => ⟨S1x1024x4096, .f32⟩
  | 78 => ⟨S1024x4096, .f32⟩
  | 79 => ⟨S1x1024x16, .f32⟩
  | 80 => ⟨S1024x16, .f32⟩
  | 81 => ⟨S1x16x4096, .f32⟩
  | 82 => ⟨S16x4096, .f32⟩
  | 83 => ⟨S1024x4096, .f32⟩
  | 84 => ⟨S1024x16, .f32⟩
  | 85 => ⟨S1024x4096, .f32⟩
  | 86 => ⟨S_, .f32⟩
  | 87 => ⟨S1024x4096, .f32⟩
  | 88 => ⟨S1024x4096, .f32⟩
  | 89 => ⟨S1024x4096, .f32⟩
  | 90 => ⟨S1024x4096, .f32⟩
  | 91 => ⟨S1024x4096, .f32⟩
  | 92 => ⟨S_, .f32⟩
  | 93 => ⟨S1024x4096, .f32⟩
  | 94 => ⟨S1024x4096, .f32⟩
  | 95 => ⟨S_, .f32⟩
  | 96 => ⟨S1024x4096, .f32⟩
  | 97 => ⟨S1024x4096, .f32⟩
  | 98 => ⟨S1024x4096, .f32⟩
  | 99 => ⟨S1x1024x4096, .f32⟩
  | 100 => ⟨S1024x4096, .f32⟩
  | 101 => ⟨S1x1024x16, .f32⟩
  | 102 => ⟨S1024x16, .f32⟩
  | 103 => ⟨S1x16x4096, .f32⟩
  | 104 => ⟨S16x4096, .f32⟩
  | 105 => ⟨S1024x4096, .f32⟩
  | 106 => ⟨S1024x16, .f32⟩
  | 107 => ⟨S1024x4096, .f32⟩
  | 108 => ⟨S_, .f32⟩
  | 109 => ⟨S1024x4096, .f32⟩
  | 110 => ⟨S1024x4096, .f32⟩
  | 111 => ⟨S1024x4096, .f32⟩
  | 112 => ⟨S1024x4096, .f32⟩
  | 113 => ⟨S1x4096x1024, .f32⟩
  | 114 => ⟨S4096x1024, .f32⟩
  | 115 => ⟨S1x4096x16, .f32⟩
  | 116 => ⟨S4096x16, .f32⟩
  | 117 => ⟨S1x16x1024, .f32⟩
  | 118 => ⟨S16x1024, .f32⟩
  | 119 => ⟨S1024x1024, .f32⟩
  | 120 => ⟨S1024x16, .f32⟩
  | 121 => ⟨S1024x1024, .f32⟩
  | 122 => ⟨S_, .f32⟩
  | 123 => ⟨S1024x1024, .f32⟩
  | 124 => ⟨S1024x1024, .f32⟩
  | 125 => ⟨S1024x1024, .f32⟩
  | 126 => ⟨S1024x1024, .f32⟩
  | 127 => ⟨S1x1024, .f32⟩
  | _ => ⟨S1024x1024, .f32⟩

abbrev hbmTy0_2 (i : Nat) : BufTy := match i % 128 with
  | 0 => ⟨S1024, .f32⟩
  | 1 => ⟨S1024x1024, .f32⟩
  | 2 => ⟨S_, .f32⟩
  | 3 => ⟨S1024, .f32⟩
  | 4 => ⟨S1024x1, .f32⟩
  | 5 => ⟨S_, .f32⟩
  | 6 => ⟨S1024x1, .f32⟩
  | 7 => ⟨S1024x1, .f32⟩
  | 8 => ⟨S_, .f32⟩
  | 9 => ⟨S1024x1, .f32⟩
  | 10 => ⟨S1024x1, .f32⟩
  | 11 => ⟨S1024x1, .f32⟩
  | 12 => ⟨S1024x1024, .f32⟩
  | 13 => ⟨S1024x1024, .f32⟩
  | 14 => ⟨S1x1024, .f32⟩
  | 15 => ⟨S1024x1024, .f32⟩
  | 16 => ⟨S1024x1024, .f32⟩
  | 17 => ⟨S1x1024x1024, .f32⟩
  | 18 => ⟨S1024x1024, .f32⟩
  | 19 => ⟨S1x1024x16, .f32⟩
  | 20 => ⟨S1024x16, .f32⟩
  | 21 => ⟨S1x16x1024, .f32⟩
  | 22 => ⟨S16x1024, .f32⟩
  | 23 => ⟨S1024x1024, .f32⟩
  | 24 => ⟨S1024x16, .f32⟩
  | 25 => ⟨S1024x1024, .f32⟩
  | 26 => ⟨S_, .f32⟩
  | 27 => ⟨S1024x1024, .f32⟩
  | 28 => ⟨S1024x1024, .f32⟩
  | 29 => ⟨S1024x1024, .f32⟩
  | 30 => ⟨S2x512x16x64, .f32⟩
  | 31 => ⟨S1x1024x1024, .f32⟩
  | 32 => ⟨S1024x1024, .f32⟩
  | 33 => ⟨S1x1024x16, .f32⟩
  | 34 => ⟨S1024x16, .f32⟩
  | 35 => ⟨S1x16x1024, .f32⟩
  | 36 => ⟨S16x1024, .f32⟩
  | 37 => ⟨S1024x1024, .f32⟩
  | 38 => ⟨S1024x16, .f32⟩
  | 39 => ⟨S1024x1024, .f32⟩
  | 40 => ⟨S_, .f32⟩
  | 41 => ⟨S1024x1024, .f32⟩
  | 42 => ⟨S1024x1024, .f32⟩
  | 43 => ⟨S1024x1024, .f32⟩
  | 44 => ⟨S2x512x16x64, .f32⟩
  | 45 => ⟨S1x1024x1024, .f32⟩
  | 46 => ⟨S1024x1024, .f32⟩
  | 47 => ⟨S1x1024x16, .f32⟩
  | 48 => ⟨S1024x16, .f32⟩
  | 49 => ⟨S1x16x1024, .f32⟩
  | 50 => ⟨S16x1024, .f32⟩
  | 51 => ⟨S1024x1024, .f32⟩
  | 52 => ⟨S1024x16, .f32⟩
  | 53 => ⟨S1024x1024, .f32⟩
  | 54 => ⟨S_, .f32⟩
  | 55 => ⟨S1024x1024, .f32⟩
  | 56 => ⟨S1024x1024, .f32⟩
  | 57 => ⟨S1024x1024, .f32⟩
  | 58 => ⟨S2x512x16x64, .f32⟩
  | 59 => ⟨S2x512x16x32, .f32⟩
  | 60 => ⟨S2x512x16x32, .f32⟩
  | 61 => ⟨S2x512x16x32, .f32⟩
  | 62 => ⟨S2x512x16x64, .f32⟩
  | 63 => ⟨S1x512x1x64, .f32⟩
  | 64 => ⟨S2x512x16x64, .f32⟩
  | 65 => ⟨S2x512x16x64, .f32⟩
  | 66 => ⟨S1x512x1x64, .f32⟩
  | 67 => ⟨S2x512x16x64, .f32⟩
  | 68 => ⟨S2x512x16x64, .f32⟩
  | 69 => ⟨S2x512x16x64, .f32⟩
  | 70 => ⟨S2x512x16x32, .f32⟩
  | 71 => ⟨S2x512x16x32, .f32⟩
  | 72 => ⟨S2x512x16x32, .f32⟩
  | 73 => ⟨S2x512x16x64, .f32⟩
  | 74 => ⟨S1x512x1x64, .f32⟩
  | 75 => ⟨S2x512x16x64, .f32⟩
  | 76 => ⟨S2x512x16x64, .f32⟩
  | 77 => ⟨S1x512x1x64, .f32⟩
  | 78 => ⟨S2x512x16x64, .f32⟩
  | 79 => ⟨S2x512x16x64, .f32⟩
  | 80 => ⟨S2x512x16x64, .f32⟩
  | 81 => ⟨S2x16x512x512, .f32⟩
  | 82 => ⟨S2x16x512x512, .f32⟩
  | 83 => ⟨S2x16x512x512, .f32⟩
  | 84 => ⟨S1x1x512x512, .f32⟩
  | 85 => ⟨S2x16x512x512, .f32⟩
  | 86 => ⟨S2x16x512x512, .f32⟩
  | 87 => ⟨S_, .f32⟩
  | 88 => ⟨S2x16x512, .f32⟩
  | 89 => ⟨S_, .f32⟩
  | 90 => ⟨S2x16x512, .f32⟩
  | 91 => ⟨S2x16x512, .f32⟩
  | 92 => ⟨S2x16x512x1, .f32⟩
  | 93 => ⟨S2x16x512x512, .f32⟩
  | 94 => ⟨S2x16x512x512, .f32⟩
  | 95 => ⟨S2x16x512x512, .f32⟩
  | 96 => ⟨S_, .f32⟩
  | 97 => ⟨S2x16x512, .f32⟩
  | 98 => ⟨S2x16x512x1, .f32⟩
  | 99 => ⟨S2x16x512x512, .f32⟩
  | 100 => ⟨S2x16x512x512, .f32⟩
  | 101 => ⟨S2x16x64x512, .f32⟩
  | 102 => ⟨S2x512x16x64, .f32⟩
  | 103 => ⟨S1024x1024, .f32⟩
  | 104 => ⟨S1x1024x1024, .f32⟩
  | 105 => ⟨S1024x1024, .f32⟩
  | 106 => ⟨S1x1024x16, .f32⟩
  | 107 => ⟨S1024x16, .f32⟩
  | 108 => ⟨S1x16x1024, .f32⟩
  | 109 => ⟨S16x1024, .f32⟩
  | 110 => ⟨S1024x1024, .f32⟩
  | 111 => ⟨S1024x16, .f32⟩
  | 112 => ⟨S1024x1024, .f32⟩
  | 113 => ⟨S_, .f32⟩
  | 114 => ⟨S1024x1024, .f32⟩
  | 115 => ⟨S1024x1024, .f32⟩
  | 116 => ⟨S1024x1024, .f32⟩
  | 117 => ⟨S1024x1024, .f32⟩
  | 118 => ⟨S1x1024, .f32⟩
  | 119 => ⟨S1024, .f32⟩
  | 120 => ⟨S1024x1024, .f32⟩
  | 121 => ⟨S_, .f32⟩
  | 122 => ⟨S1024, .f32⟩
  | 123 => ⟨S1024x1, .f32⟩
  | 124 => ⟨S_, .f32⟩
  | 125 => ⟨S1024x1, .f32⟩
  | 126 => ⟨S1024x1, .f32⟩
  | 127 => ⟨S_, .f32⟩
  | _ => ⟨S1024x1024, .f32⟩

abbrev hbmTy0_3 (i : Nat) : BufTy := match i % 128 with
  | 0 => ⟨S1024x1, .f32⟩
  | 1 => ⟨S1024x1, .f32⟩
  | 2 => ⟨S1024x1, .f32⟩
  | 3 => ⟨S1024x1024, .f32⟩
  | 4 => ⟨S1024x1024, .f32⟩
  | 5 => ⟨S1x1024, .f32⟩
  | 6 => ⟨S1024x1024, .f32⟩
  | 7 => ⟨S1024x1024, .f32⟩
  | 8 => ⟨S1x1024x4096, .f32⟩
  | 9 => ⟨S1024x4096, .f32⟩
  | 10 => ⟨S1x1024x16, .f32⟩
  | 11 => ⟨S1024x16, .f32⟩
  | 12 => ⟨S1x16x4096, .f32⟩
  | 13 => ⟨S16x4096, .f32⟩
  | 14 => ⟨S1024x4096, .f32⟩
  | 15 => ⟨S1024x16, .f32⟩
  | 16 => ⟨S1024x4096, .f32⟩
  | 17 => ⟨S_, .f32⟩
  | 18 => ⟨S1024x4096, .f32⟩
  | 19 => ⟨S1024x4096, .f32⟩
  | 20 => ⟨S1024x4096, .f32⟩
  | 21 => ⟨S1024x4096, .f32⟩
  | 22 => ⟨S1024x4096, .f32⟩
  | 23 => ⟨S_, .f32⟩
  | 24 => ⟨S1024x4096, .f32⟩
  | 25 => ⟨S1024x4096, .f32⟩
  | 26 => ⟨S_, .f32⟩
  | 27 => ⟨S1024x4096, .f32⟩
  | 28 => ⟨S1024x4096, .f32⟩
  | 29 => ⟨S1024x4096, .f32⟩
  | 30 => ⟨S1x1024x4096, .f32⟩
  | 31 => ⟨S1024x4096, .f32⟩
  | 32 => ⟨S1x1024x16, .f32⟩
  | 33 => ⟨S1024x16, .f32⟩
  | 34 => ⟨S1x16x4096, .f32⟩
  | 35 => ⟨S16x4096, .f32⟩
  | 36 => ⟨S1024x4096, .f32⟩
  | 37 => ⟨S1024x16, .f32⟩
  | 38 => ⟨S1024x4096, .f32⟩
  | 39 => ⟨S_, .f32⟩
  | 40 => ⟨S1024x4096, .f32⟩
  | 41 => ⟨S1024x4096, .f32⟩
  | 42 => ⟨S1024x4096, .f32⟩
  | 43 => ⟨S1024x4096, .f32⟩
  | 44 => ⟨S1x4096x1024, .f32⟩
  | 45 => ⟨S4096x1024, .f32⟩
  | 46 => ⟨S1x4096x16, .f32⟩
  | 47 => ⟨S4096x16, .f32⟩
  | 48 => ⟨S1x16x1024, .f32⟩
  | 49 => ⟨S16x1024, .f32⟩
  | 50 => ⟨S1024x1024, .f32⟩
  | 51 => ⟨S1024x16, .f32⟩
  | 52 => ⟨S1024x1024, .f32⟩
  | 53 => ⟨S_, .f32⟩
  | 54 => ⟨S1024x1024, .f32⟩
  | 55 => ⟨S1024x1024, .f32⟩
  | 56 => ⟨S1024x1024, .f32⟩
  | 57 => ⟨S1024x1024, .f32⟩
  | 58 => ⟨S1024x1024, .f32⟩
  | 59 => ⟨S_, .f32⟩
  | 60 => ⟨S1024, .f32⟩
  | 61 => ⟨S1024x1, .f32⟩
  | 62 => ⟨S_, .f32⟩
  | 63 => ⟨S1024x1, .f32⟩
  | 64 => ⟨S1024x1, .f32⟩
  | 65 => ⟨S_, .f32⟩
  | 66 => ⟨S1024x1, .f32⟩
  | 67 => ⟨S1024x1, .f32⟩
  | 68 => ⟨S1024x1, .f32⟩
  | 69 => ⟨S1024x1024, .f32⟩
  | 70 => ⟨S1024x1024, .f32⟩
  | 71 => ⟨S1x1024, .f32⟩
  | 72 => ⟨S1024x1024, .f32⟩
  | 73 => ⟨S1024x1024, .f32⟩
  | 74 => ⟨S1024x32000, .f32⟩
  | 75 => ⟨S1024x1, .f32⟩
  | 76 => ⟨S_, .f32⟩
  | 77 => ⟨S1024x1, .f32⟩
  | 78 => ⟨S1024x1, .f32⟩
  | _ => ⟨S1024x1024, .f32⟩

abbrev hbmTy (i : Nat) : BufTy := match i / 128 with
  | 0 => hbmTy0_0 i
  | 1 => hbmTy0_1 i
  | 2 => hbmTy0_2 i
  | 3 => hbmTy0_3 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_cst : Ref sig .tc := ⟨.hbm, 29, rfl⟩
abbrev main_v1 : Ref sig .tc := ⟨.hbm, 30, rfl⟩
abbrev main_v2 : Ref sig .tc := ⟨.hbm, 31, rfl⟩
abbrev main_cst_0 : Ref sig .tc := ⟨.hbm, 32, rfl⟩
abbrev main_v3 : Ref sig .tc := ⟨.hbm, 33, rfl⟩
abbrev main_v4 : Ref sig .tc := ⟨.hbm, 34, rfl⟩
abbrev main_cst_1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_c : Ref sig .tc := ⟨.hbm, 47, rfl⟩
abbrev main_v16 : Ref sig .tc := ⟨.hbm, 48, rfl⟩
abbrev main_call0_v0 : Ref sig .tc := ⟨.hbm, 49, rfl⟩
abbrev main_call0_c : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_c_0 : Ref sig .tc := ⟨.hbm, 55, rfl⟩
abbrev main_call0_v5 : Ref sig .tc := ⟨.hbm, 56, rfl⟩
abbrev main_v17 : Ref sig .tc := ⟨.hbm, 57, rfl⟩
abbrev main_v18 : Ref sig .tc := ⟨.hbm, 58, rfl⟩
abbrev main_cst_2 : Ref sig .tc := ⟨.hbm, 59, rfl⟩
abbrev main_cst_3 : Ref sig .tc := ⟨.hbm, 60, rfl⟩
abbrev main_call1_v0 : Ref sig .tc := ⟨.hbm, 61, rfl⟩
abbrev main_call1_v1 : Ref sig .tc := ⟨.hbm, 62, rfl⟩
abbrev main_v19 : Ref sig .tc := ⟨.hbm, 63, rfl⟩
abbrev main_cst_4 : Ref sig .tc := ⟨.hbm, 64, rfl⟩
abbrev main_v20 : Ref sig .tc := ⟨.hbm, 65, rfl⟩
abbrev main_cst_5 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_cst_6 : Ref sig .tc := ⟨.hbm, 71, rfl⟩
abbrev main_v25 : Ref sig .tc := ⟨.hbm, 72, rfl⟩
abbrev main_v26 : Ref sig .tc := ⟨.hbm, 73, rfl⟩
abbrev main_cst_7 : Ref sig .tc := ⟨.hbm, 74, rfl⟩
abbrev main_v27 : Ref sig .tc := ⟨.hbm, 75, rfl⟩
abbrev main_v28 : Ref sig .tc := ⟨.hbm, 76, rfl⟩
abbrev main_cst_8 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_cst_9 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_10 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_cst_11 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_cst_12 : Ref sig .tc := ⟨.hbm, 156, rfl⟩
abbrev main_v104 : Ref sig .tc := ⟨.hbm, 157, rfl⟩
abbrev main_cst_13 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_cst_14 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_cst_15 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_cst_16 : Ref sig .tc := ⟨.hbm, 190, rfl⟩
abbrev main_v134 : Ref sig .tc := ⟨.hbm, 191, rfl⟩
abbrev main_v135 : Ref sig .tc := ⟨.hbm, 192, rfl⟩
abbrev main_cst_17 : Ref sig .tc := ⟨.hbm, 193, rfl⟩
abbrev main_v136 : Ref sig .tc := ⟨.hbm, 194, rfl⟩
abbrev main_v137 : Ref sig .tc := ⟨.hbm, 195, rfl⟩
abbrev main_cst_18 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_cst_19 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_call2_v0 : Ref sig .tc := ⟨.hbm, 218, rfl⟩
abbrev main_call2_v1 : Ref sig .tc := ⟨.hbm, 219, rfl⟩
abbrev main_call2_cst : Ref sig .tc := ⟨.hbm, 220, rfl⟩
abbrev main_call2_v2 : Ref sig .tc := ⟨.hbm, 221, rfl⟩
abbrev main_call2_v3 : Ref sig .tc := ⟨.hbm, 222, rfl⟩
abbrev main_call2_cst_0 : Ref sig .tc := ⟨.hbm, 223, rfl⟩
abbrev main_call2_v4 : Ref sig .tc := ⟨.hbm, 224, rfl⟩
abbrev main_call2_v5 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_cst_20 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_cst_21 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_cst_22 : Ref sig .tc := ⟨.hbm, 258, rfl⟩
abbrev main_v188 : Ref sig .tc := ⟨.hbm, 259, rfl⟩
abbrev main_v189 : Ref sig .tc := ⟨.hbm, 260, rfl⟩
abbrev main_cst_23 : Ref sig .tc := ⟨.hbm, 261, rfl⟩
abbrev main_v190 : Ref sig .tc := ⟨.hbm, 262, rfl⟩
abbrev main_v191 : Ref sig .tc := ⟨.hbm, 263, rfl⟩
abbrev main_cst_24 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_cst_25 : Ref sig .tc := ⟨.hbm, 282, rfl⟩
abbrev main_v209 : Ref sig .tc := ⟨.hbm, 283, rfl⟩
abbrev main_v210 : Ref sig .tc := ⟨.hbm, 284, rfl⟩
abbrev main_v211 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_v216 : Ref sig .tc := ⟨.hbm, 290, rfl⟩
abbrev main_v217 : Ref sig .tc := ⟨.hbm, 291, rfl⟩
abbrev main_v218 : Ref sig .tc := ⟨.hbm, 292, rfl⟩
abbrev main_v219 : Ref sig .tc := ⟨.hbm, 293, rfl⟩
abbrev main_v220 : Ref sig .tc := ⟨.hbm, 294, rfl⟩
abbrev main_v221 : Ref sig .tc := ⟨.hbm, 295, rfl⟩
abbrev main_cst_26 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_v229 : Ref sig .tc := ⟨.hbm, 304, rfl⟩
abbrev main_v230 : Ref sig .tc := ⟨.hbm, 305, rfl⟩
abbrev main_v231 : Ref sig .tc := ⟨.hbm, 306, rfl⟩
abbrev main_v232 : Ref sig .tc := ⟨.hbm, 307, rfl⟩
abbrev main_v233 : Ref sig .tc := ⟨.hbm, 308, rfl⟩
abbrev main_v234 : Ref sig .tc := ⟨.hbm, 309, rfl⟩
abbrev main_cst_27 : Ref sig .tc := ⟨.hbm, 310, rfl⟩
abbrev main_v235 : Ref sig .tc := ⟨.hbm, 311, rfl⟩
abbrev main_v236 : Ref sig .tc := ⟨.hbm, 312, rfl⟩
abbrev main_v237 : Ref sig .tc := ⟨.hbm, 313, rfl⟩
abbrev main_v238 : Ref sig .tc := ⟨.hbm, 314, rfl⟩
abbrev main_v239 : Ref sig .tc := ⟨.hbm, 315, rfl⟩
abbrev main_v240 : Ref sig .tc := ⟨.hbm, 316, rfl⟩
abbrev main_v241 : Ref sig .tc := ⟨.hbm, 317, rfl⟩
abbrev main_v242 : Ref sig .tc := ⟨.hbm, 318, rfl⟩
abbrev main_v243 : Ref sig .tc := ⟨.hbm, 319, rfl⟩
abbrev main_v244 : Ref sig .tc := ⟨.hbm, 320, rfl⟩
abbrev main_v245 : Ref sig .tc := ⟨.hbm, 321, rfl⟩
abbrev main_v246 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_v250 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩
abbrev main_v255 : Ref sig .tc := ⟨.hbm, 331, rfl⟩
abbrev main_v256 : Ref sig .tc := ⟨.hbm, 332, rfl⟩
abbrev main_v257 : Ref sig .tc := ⟨.hbm, 333, rfl⟩
abbrev main_v258 : Ref sig .tc := ⟨.hbm, 334, rfl⟩
abbrev main_v259 : Ref sig .tc := ⟨.hbm, 335, rfl⟩
abbrev main_v260 : Ref sig .tc := ⟨.hbm, 336, rfl⟩
abbrev main_v261 : Ref sig .tc := ⟨.hbm, 337, rfl⟩
abbrev main_v262 : Ref sig .tc := ⟨.hbm, 338, rfl⟩
abbrev main_v263 : Ref sig .tc := ⟨.hbm, 339, rfl⟩
abbrev main_v264 : Ref sig .tc := ⟨.hbm, 340, rfl⟩
abbrev main_v265 : Ref sig .tc := ⟨.hbm, 341, rfl⟩
abbrev main_v266 : Ref sig .tc := ⟨.hbm, 342, rfl⟩
abbrev main_cst_28 : Ref sig .tc := ⟨.hbm, 343, rfl⟩
abbrev main_v267 : Ref sig .tc := ⟨.hbm, 344, rfl⟩
abbrev main_cst_29 : Ref sig .tc := ⟨.hbm, 345, rfl⟩
abbrev main_v268 : Ref sig .tc := ⟨.hbm, 346, rfl⟩
abbrev main_v269 : Ref sig .tc := ⟨.hbm, 347, rfl⟩
abbrev main_v270 : Ref sig .tc := ⟨.hbm, 348, rfl⟩
abbrev main_v271 : Ref sig .tc := ⟨.hbm, 349, rfl⟩
abbrev main_v272 : Ref sig .tc := ⟨.hbm, 350, rfl⟩
abbrev main_v273 : Ref sig .tc := ⟨.hbm, 351, rfl⟩
abbrev main_cst_30 : Ref sig .tc := ⟨.hbm, 352, rfl⟩
abbrev main_v274 : Ref sig .tc := ⟨.hbm, 353, rfl⟩
abbrev main_v275 : Ref sig .tc := ⟨.hbm, 354, rfl⟩
abbrev main_v276 : Ref sig .tc := ⟨.hbm, 355, rfl⟩
abbrev main_v277 : Ref sig .tc := ⟨.hbm, 356, rfl⟩
abbrev main_v278 : Ref sig .tc := ⟨.hbm, 357, rfl⟩
abbrev main_v279 : Ref sig .tc := ⟨.hbm, 358, rfl⟩
abbrev main_v280 : Ref sig .tc := ⟨.hbm, 359, rfl⟩
abbrev main_v281 : Ref sig .tc := ⟨.hbm, 360, rfl⟩
abbrev main_v282 : Ref sig .tc := ⟨.hbm, 361, rfl⟩
abbrev main_v283 : Ref sig .tc := ⟨.hbm, 362, rfl⟩
abbrev main_v284 : Ref sig .tc := ⟨.hbm, 363, rfl⟩
abbrev main_v285 : Ref sig .tc := ⟨.hbm, 364, rfl⟩
abbrev main_v286 : Ref sig .tc := ⟨.hbm, 365, rfl⟩
abbrev main_v287 : Ref sig .tc := ⟨.hbm, 366, rfl⟩
abbrev main_v288 : Ref sig .tc := ⟨.hbm, 367, rfl⟩
abbrev main_v289 : Ref sig .tc := ⟨.hbm, 368, rfl⟩
abbrev main_cst_31 : Ref sig .tc := ⟨.hbm, 369, rfl⟩
abbrev main_v290 : Ref sig .tc := ⟨.hbm, 370, rfl⟩
abbrev main_v291 : Ref sig .tc := ⟨.hbm, 371, rfl⟩
abbrev main_v292 : Ref sig .tc := ⟨.hbm, 372, rfl⟩
abbrev main_v293 : Ref sig .tc := ⟨.hbm, 373, rfl⟩
abbrev main_v294 : Ref sig .tc := ⟨.hbm, 374, rfl⟩
abbrev main_v295 : Ref sig .tc := ⟨.hbm, 375, rfl⟩
abbrev main_v296 : Ref sig .tc := ⟨.hbm, 376, rfl⟩
abbrev main_cst_32 : Ref sig .tc := ⟨.hbm, 377, rfl⟩
abbrev main_v297 : Ref sig .tc := ⟨.hbm, 378, rfl⟩
abbrev main_v298 : Ref sig .tc := ⟨.hbm, 379, rfl⟩
abbrev main_cst_33 : Ref sig .tc := ⟨.hbm, 380, rfl⟩
abbrev main_v299 : Ref sig .tc := ⟨.hbm, 381, rfl⟩
abbrev main_v300 : Ref sig .tc := ⟨.hbm, 382, rfl⟩
abbrev main_cst_34 : Ref sig .tc := ⟨.hbm, 383, rfl⟩
abbrev main_v301 : Ref sig .tc := ⟨.hbm, 384, rfl⟩
abbrev main_v302 : Ref sig .tc := ⟨.hbm, 385, rfl⟩
abbrev main_v303 : Ref sig .tc := ⟨.hbm, 386, rfl⟩
abbrev main_v304 : Ref sig .tc := ⟨.hbm, 387, rfl⟩
abbrev main_v305 : Ref sig .tc := ⟨.hbm, 388, rfl⟩
abbrev main_v306 : Ref sig .tc := ⟨.hbm, 389, rfl⟩
abbrev main_v307 : Ref sig .tc := ⟨.hbm, 390, rfl⟩
abbrev main_v308 : Ref sig .tc := ⟨.hbm, 391, rfl⟩
abbrev main_v309 : Ref sig .tc := ⟨.hbm, 392, rfl⟩
abbrev main_v310 : Ref sig .tc := ⟨.hbm, 393, rfl⟩
abbrev main_v311 : Ref sig .tc := ⟨.hbm, 394, rfl⟩
abbrev main_v312 : Ref sig .tc := ⟨.hbm, 395, rfl⟩
abbrev main_v313 : Ref sig .tc := ⟨.hbm, 396, rfl⟩
abbrev main_v314 : Ref sig .tc := ⟨.hbm, 397, rfl⟩
abbrev main_v315 : Ref sig .tc := ⟨.hbm, 398, rfl⟩
abbrev main_v316 : Ref sig .tc := ⟨.hbm, 399, rfl⟩
abbrev main_v317 : Ref sig .tc := ⟨.hbm, 400, rfl⟩
abbrev main_cst_35 : Ref sig .tc := ⟨.hbm, 401, rfl⟩
abbrev main_v318 : Ref sig .tc := ⟨.hbm, 402, rfl⟩
abbrev main_v319 : Ref sig .tc := ⟨.hbm, 403, rfl⟩
abbrev main_v320 : Ref sig .tc := ⟨.hbm, 404, rfl⟩
abbrev main_call3_v0 : Ref sig .tc := ⟨.hbm, 405, rfl⟩
abbrev main_call3_v1 : Ref sig .tc := ⟨.hbm, 406, rfl⟩
abbrev main_call3_cst : Ref sig .tc := ⟨.hbm, 407, rfl⟩
abbrev main_call3_v2 : Ref sig .tc := ⟨.hbm, 408, rfl⟩
abbrev main_call3_v3 : Ref sig .tc := ⟨.hbm, 409, rfl⟩
abbrev main_call3_cst_0 : Ref sig .tc := ⟨.hbm, 410, rfl⟩
abbrev main_call3_v4 : Ref sig .tc := ⟨.hbm, 411, rfl⟩
abbrev main_call3_v5 : Ref sig .tc := ⟨.hbm, 412, rfl⟩
abbrev main_v321 : Ref sig .tc := ⟨.hbm, 413, rfl⟩
abbrev main_v322 : Ref sig .tc := ⟨.hbm, 414, rfl⟩
abbrev main_v323 : Ref sig .tc := ⟨.hbm, 415, rfl⟩
abbrev main_v324 : Ref sig .tc := ⟨.hbm, 416, rfl⟩
abbrev main_v325 : Ref sig .tc := ⟨.hbm, 417, rfl⟩
abbrev main_v326 : Ref sig .tc := ⟨.hbm, 418, rfl⟩
abbrev main_v327 : Ref sig .tc := ⟨.hbm, 419, rfl⟩
abbrev main_v328 : Ref sig .tc := ⟨.hbm, 420, rfl⟩
abbrev main_v329 : Ref sig .tc := ⟨.hbm, 421, rfl⟩
abbrev main_v330 : Ref sig .tc := ⟨.hbm, 422, rfl⟩
abbrev main_cst_36 : Ref sig .tc := ⟨.hbm, 423, rfl⟩
abbrev main_v331 : Ref sig .tc := ⟨.hbm, 424, rfl⟩
abbrev main_v332 : Ref sig .tc := ⟨.hbm, 425, rfl⟩
abbrev main_v333 : Ref sig .tc := ⟨.hbm, 426, rfl⟩
abbrev main_v334 : Ref sig .tc := ⟨.hbm, 427, rfl⟩
abbrev main_v335 : Ref sig .tc := ⟨.hbm, 428, rfl⟩
abbrev main_v336 : Ref sig .tc := ⟨.hbm, 429, rfl⟩
abbrev main_v337 : Ref sig .tc := ⟨.hbm, 430, rfl⟩
abbrev main_v338 : Ref sig .tc := ⟨.hbm, 431, rfl⟩
abbrev main_v339 : Ref sig .tc := ⟨.hbm, 432, rfl⟩
abbrev main_v340 : Ref sig .tc := ⟨.hbm, 433, rfl⟩
abbrev main_v341 : Ref sig .tc := ⟨.hbm, 434, rfl⟩
abbrev main_v342 : Ref sig .tc := ⟨.hbm, 435, rfl⟩
abbrev main_v343 : Ref sig .tc := ⟨.hbm, 436, rfl⟩
abbrev main_cst_37 : Ref sig .tc := ⟨.hbm, 437, rfl⟩
abbrev main_v344 : Ref sig .tc := ⟨.hbm, 438, rfl⟩
abbrev main_v345 : Ref sig .tc := ⟨.hbm, 439, rfl⟩
abbrev main_v346 : Ref sig .tc := ⟨.hbm, 440, rfl⟩
abbrev main_v347 : Ref sig .tc := ⟨.hbm, 441, rfl⟩
abbrev main_v348 : Ref sig .tc := ⟨.hbm, 442, rfl⟩
abbrev main_cst_38 : Ref sig .tc := ⟨.hbm, 443, rfl⟩
abbrev main_v349 : Ref sig .tc := ⟨.hbm, 444, rfl⟩
abbrev main_v350 : Ref sig .tc := ⟨.hbm, 445, rfl⟩
abbrev main_cst_39 : Ref sig .tc := ⟨.hbm, 446, rfl⟩
abbrev main_v351 : Ref sig .tc := ⟨.hbm, 447, rfl⟩
abbrev main_v352 : Ref sig .tc := ⟨.hbm, 448, rfl⟩
abbrev main_cst_40 : Ref sig .tc := ⟨.hbm, 449, rfl⟩
abbrev main_v353 : Ref sig .tc := ⟨.hbm, 450, rfl⟩
abbrev main_v354 : Ref sig .tc := ⟨.hbm, 451, rfl⟩
abbrev main_v355 : Ref sig .tc := ⟨.hbm, 452, rfl⟩
abbrev main_v356 : Ref sig .tc := ⟨.hbm, 453, rfl⟩
abbrev main_v357 : Ref sig .tc := ⟨.hbm, 454, rfl⟩
abbrev main_v358 : Ref sig .tc := ⟨.hbm, 455, rfl⟩
abbrev main_v359 : Ref sig .tc := ⟨.hbm, 456, rfl⟩
abbrev main_v360 : Ref sig .tc := ⟨.hbm, 457, rfl⟩
abbrev main_v361 : Ref sig .tc := ⟨.hbm, 458, rfl⟩
abbrev main_v362 : Ref sig .tc := ⟨.hbm, 459, rfl⟩
abbrev main_v363 : Ref sig .tc := ⟨.hbm, 460, rfl⟩
abbrev main_v364 : Ref sig .tc := ⟨.hbm, 461, rfl⟩
abbrev main_v365 : Ref sig .tc := ⟨.hbm, 462, rfl⟩

abbrev nD : Nat := 1
abbrev τ : Topo := Topo.v7x

variable {F : FTy → Type} [FloatOps F]
-- ==== Proof.LayersMlp1I.lean ====
module

public import Idealize.ShloMosaic.Lib.Claim
public import proofs.«01_k».proof.Proof.Gen.LayersIdeal.Launch
public import proofs.«01_k».proof.Proof.Gen.LayersIdeal.Skeleton
public import proofs.«01_k».proof.Proof.Gen.LayersIdeal.Points
public import Idealize.ShloMosaic.Lib.Pipeline.FrameBody
public import Idealize.ShloMosaic.Lib.Pipeline.FrameSuffix
public import Idealize.ShloMosaic.Lib.Pipeline.TableIdle
public import Idealize.ShloMosaic.Lib.Pipeline.Value
public import Idealize.ShloMosaic.Lib.Pipeline.Kit
public import Idealize.ShloMosaic.Lib.WritesUnit
public import Idealize.ShloMosaic.Lib.Pointwise.Index
public import Idealize.ShloMosaic.Lib.Ring
public import Idealize.ShloMosaic.Lib.Tactic
public import Idealize.ShloMosaic.Lib.WordCmp
public import Idealize.ShloMosaic.Lib.Exec

/-! The gated feed-forward call of layer 0: what its body leaves at every point of the grid (2, 4), from any contents of its arrays. -/

@[expose] public section

set_option maxRecDepth 16384

noncomputable section

namespace Cert.LayersIdeal.Own.K1

open Cert.LayersIdeal Cert.LayersIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem zero2 : (![0, 0] : Fin 2 → ℕ) = fun _ => 0 := by funext a; fin_cases a <;> rfl
theorem zero1 : (![0] : Fin 1 → ℕ) = fun _ => 0 := by funext a; fin_cases a; rfl

/-- A buffer whose last store covered it wholly reads back that store's payload. -/
theorem read_whole {κ : Kind} {sp : Space} {S : Shape} {e : EltTy} (v : View sig κ sp S e) (f : v.ty.Contents (Elt F)) {off : Fin S.rank → ℕ}
    (hz : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  funext y
  exact View.read_writes_cons_unit_of_mem v f inb w L y y hz (fun a => (Nat.zero_add _).symm)

theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before8_of {c : Dev nD} (dat : Dat τ (Elt F) Unit ℕ (UR sig nD τ) ℕ cfg1 c) (hA : dat.A 8 = V c (Pipeline.arrRef spec1 8))
    (hafter : ∀ t, dat.after 8 t = iblk V c 8 t) (t : Fin cfg1.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem before9_of {c : Dev nD} (dat : Dat τ (Elt F) Unit ℕ (UR sig nD τ) ℕ cfg1 c) (hA : dat.A 9 = V c (Pipeline.arrRef spec1 9))
    (hafter : ∀ t, dat.after 9 t = iblk V c 9 t) (t : Fin cfg1.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

theorem before10_of {c : Dev nD} (dat : Dat τ (Elt F) Unit ℕ (UR sig nD τ) ℕ cfg1 c) (hA : dat.A 10 = V c (Pipeline.arrRef spec1 10))
    (hafter : ∀ t, dat.after 10 t = iblk V c 10 t) (t : Fin cfg1.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1000000 in
/-- The body at the first point of a block of rows: it writes the residual plus this point's part. -/
theorem run_first (c : Dev nD) (i : grid1.Coords) (arg2 : Memref sig .tc .vmem S512x1024 .bf16) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x16 .f32) (harg5 : arg5.IsWhole) (arg6 : Memref sig .tc .vmem S16x1024 .f32) (harg6 : arg6.IsWhole) (arg7 : Memref sig .tc .vmem S1024x1024 .f32) (harg7 : arg7.IsWhole) (arg8 : Memref sig .tc .vmem S1024x16 .f32) (harg8 : arg8.IsWhole) (arg9 : Memref sig .tc .vmem S16x1024 .f32) (harg9 : arg9.IsWhole) (arg10 : Memref sig .tc .vmem S1024x1024 .f32) (harg10 : arg10.IsWhole) (arg11 : Memref sig .tc .vmem S1024x16 .f32) (harg11 : arg11.IsWhole) (arg12 : Memref sig .tc .vmem S16x1024 .f32) (harg12 : arg12.IsWhole) (arg13 : Memref sig .tc .vmem S512x1024 .f32) (harg13 : arg13.IsWhole)
    (hc0 : k1_cond1 i = 1#1) (hc1 : ¬k1_cond2 i = 1#1)
    (x0 : Vec F S512x1024 .bf16) (x1 : Vec F S512x1024 .f32) (x2 : Vec F S1024x1024 .f32) (x3 : Vec F S1024x16 .f32) (x4 : Vec F S16x1024 .f32) (x5 : Vec F S1024x1024 .f32) (x6 : Vec F S1024x16 .f32) (x7 : Vec F S16x1024 .f32) (x8 : Vec F S1024x1024 .f32) (x9 : Vec F S1024x16 .f32) (x10 : Vec F S16x1024 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (k1_pay2 (k1_pay5 x0 x5 x6 x7) (k1_pay6 x0 x2 x3 x4) x8 x9 x10 x1)) -∗ K ⟨⟩))
          ⊢ wp frame (wpE (defs₀ (F := F)) Variants.none c none) E (cc1_swiglu_mlp i arg2 harg2 arg3 harg3 arg4 harg4 arg5 harg5 arg6 harg6 arg7 harg7 arg8 harg8 arg9 harg9 arg10 harg10 arg11 harg11 arg12 harg12 arg13 harg13) K := by
    simp only [cc1_swiglu_mlp_eq_skeleton]; unfold cc1_swiglu_mlp_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; isplitr; swap; · iexact H11
    ipureintro
    sl_unfold_words
    rw [read_whole _ _ zero2]
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) zero2, View.ld_unit_zero (S := S1024x1024) zero2, View.ld_unit_zero (S := S1024x16) zero2, View.ld_unit_zero (S := S16x1024) zero2]

set_option maxHeartbeats 1000000 in
/-- The body at a later point of a block of rows: it adds this point's part to what stands in the output. -/
theorem run_later (c : Dev nD) (i : grid1.Coords) (arg2 : Memref sig .tc .vmem S512x1024 .bf16) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x16 .f32) (harg5 : arg5.IsWhole) (arg6 : Memref sig .tc .vmem S16x1024 .f32) (harg6 : arg6.IsWhole) (arg7 : Memref sig .tc .vmem S1024x1024 .f32) (harg7 : arg7.IsWhole) (arg8 : Memref sig .tc .vmem S1024x16 .f32) (harg8 : arg8.IsWhole) (arg9 : Memref sig .tc .vmem S16x1024 .f32) (harg9 : arg9.IsWhole) (arg10 : Memref sig .tc .vmem S1024x1024 .f32) (harg10 : arg10.IsWhole) (arg11 : Memref sig .tc .vmem S1024x16 .f32) (harg11 : arg11.IsWhole) (arg12 : Memref sig .tc .vmem S16x1024 .f32) (harg12 : arg12.IsWhole) (arg13 : Memref sig .tc .vmem S512x1024 .f32) (harg13 : arg13.IsWhole)
    (hc0 : ¬k1_cond1 i = 1#1) (hc1 : k1_cond2 i = 1#1)
    (x0 : Vec F S512x1024 .bf16) (x1 : Vec F S512x1024 .f32) (x2 : Vec F S1024x1024 .f32) (x3 : Vec F S1024x16 .f32) (x4 : Vec F S16x1024 .f32) (x5 : Vec F S1024x1024 .f32) (x6 : Vec F S1024x16 .f32) (x7 : Vec F S16x1024 .f32) (x8 : Vec F S1024x1024 .f32) (x9 : Vec F S1024x16 .f32) (x10 : Vec F S16x1024 .f32) (y : Vec F S512x1024 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare y
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (k1_pay3 (k1_pay5 x0 x5 x6 x7) (k1_pay6 x0 x2 x3 x4) x8 x9 x10 y)) -∗ K ⟨⟩))
          ⊢ wp frame (wpE (defs₀ (F := F)) Variants.none c none) E (cc1_swiglu_mlp i arg2 harg2 arg3 harg3 arg4 harg4 arg5 harg5 arg6 harg6 arg7 harg7 arg8 harg8 arg9 harg9 arg10 harg10 arg11 harg11 arg12 harg12 arg13 harg13) K := by
    simp only [cc1_swiglu_mlp_eq_skeleton]; unfold cc1_swiglu_mlp_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; isplitr; swap; · iexact H11
    ipureintro
    sl_unfold_words
    rw [read_whole _ _ zero2]
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) zero2, View.ld_unit_zero (S := S1024x1024) zero2, View.ld_unit_zero (S := S1024x16) zero2, View.ld_unit_zero (S := S16x1024) zero2]

/-! ## The proof data -/

/-- What the first point of a block of rows writes. -/
def first (c : Dev nD) (t : Fin cfg1.N) : Vec F S512x1024 .f32 := k1_pay2 (k1_pay5 (iblk V c 0 t) (iblk V c 5 t) (iblk V c 6 t) (iblk V c 7 t)) (k1_pay6 (iblk V c 0 t) (iblk V c 2 t) (iblk V c 3 t) (iblk V c 4 t)) (iblk V c 8 t) (iblk V c 9 t) (iblk V c 10 t) (iblk V c 1 t)

/-- What a later point writes over `y`. -/
def later (c : Dev nD) (t : Fin cfg1.N) (y : Vec F S512x1024 .f32) : Vec F S512x1024 .f32 := k1_pay3 (k1_pay5 (iblk V c 0 t) (iblk V c 5 t) (iblk V c 6 t) (iblk V c 7 t)) (k1_pay6 (iblk V c 0 t) (iblk V c 2 t) (iblk V c 3 t) (iblk V c 4 t)) (iblk V c 8 t) (iblk V c 9 t) (iblk V c 10 t) y

/-- What the output's staging buffer holds after point `n`. -/
def accAt (c : Dev nD) : (n : ℕ) → n < cfg1.N → Vec F S512x1024 .f32
  | 0, h => first V c ⟨0, h⟩
  | n + 1, h => if (n + 1) % 4 = 0 then first V c ⟨n + 1, h⟩ else later V c ⟨n + 1, h⟩ (accAt c n (Nat.lt_of_succ_lt h))

theorem accAt_first (c : Dev nD) (t : Fin cfg1.N) (h : t.val % 4 = 0) : accAt V c t.val t.isLt = first V c t := by
  obtain ⟨n, hn⟩ := t
  cases n with
  | zero => rw [accAt]
  | succ n => rw [accAt, if_pos h]

theorem accAt_later (c : Dev nD) (t : Fin cfg1.N) (h : t.val % 4 ≠ 0) (h' : t.val - 1 < cfg1.N) :
    accAt V c t.val t.isLt = later V c t (accAt V c (t.val - 1) h') := by
  obtain ⟨n, hn⟩ := t
  cases n with
  | zero => exact absurd rfl h
  | succ n => rw [accAt, if_neg h]; rfl

/-- What is held between the points: every other buffer of the region and the generator register. -/
def ΦK (c : Dev nD) : sProp 𝕄 :=
  iprop(Pipeline.scopedRest (Ix := Unit) (Name := ℕ) (U := UR sig nD τ) (Lvl := ℕ) (Val := Elt F) spec1 c ∗ ∃ r, prngReg c r)

/-- The pipeline's proof data at the entry contents `V`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => accAt V c t.val t.isLt
  Φ _ := ΦK c
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = iblk V c 8 t := by dsimp only [dat]
theorem after_9 (c : Dev nD) (t : Fin cfg1.N) : (dat V c).after 9 t = iblk V c 9 t := by dsimp only [dat]
theorem after_10 (c : Dev nD) (t : Fin cfg1.N) : (dat V c).after 10 t = iblk V c 10 t := by dsimp only [dat]
theorem after_11 (c : Dev nD) (t : Fin cfg1.N) : (dat V c).after 11 t = accAt V c t.val t.isLt := by dsimp only [dat]
theorem before_0 (c : Dev nD) (t : Fin cfg1.N) (d) : (dat V c).before 0 t d = iblk V c 0 t := before0_of V (dat V c) (A_eq V c 0) (after_0 V c) t d
theorem before_1 (c : Dev nD) (t : Fin cfg1.N) (d) : (dat V c).before 1 t d = iblk V c 1 t := before1_of V (dat V c) (A_eq V c 1) (after_1 V c) t d
theorem before_2 (c : Dev nD) (t : Fin cfg1.N) (d) : (dat V c).before 2 t d = iblk V c 2 t := before2_of V (dat V c) (A_eq V c 2) (after_2 V c) t d
theorem before_3 (c : Dev nD) (t : Fin cfg1.N) (d) : (dat V c).before 3 t d = iblk V c 3 t := before3_of V (dat V c) (A_eq V c 3) (after_3 V c) t d
theorem before_4 (c : Dev nD) (t : Fin cfg1.N) (d) : (dat V c).before 4 t d = iblk V c 4 t := before4_of V (dat V c) (A_eq V c 4) (after_4 V c) t d
theorem before_5 (c : Dev nD) (t : Fin cfg1.N) (d) : (dat V c).before 5 t d = iblk V c 5 t := before5_of V (dat V c) (A_eq V c 5) (after_5 V c) t d
theorem before_6 (c : Dev nD) (t : Fin cfg1.N) (d) : (dat V c).before 6 t d = iblk V c 6 t := before6_of V (dat V c) (A_eq V c 6) (after_6 V c) t d
theorem before_7 (c : Dev nD) (t : Fin cfg1.N) (d) : (dat V c).before 7 t d = iblk V c 7 t := before7_of V (dat V c) (A_eq V c 7) (after_7 V c) t d
theorem before_8 (c : Dev nD) (t : Fin cfg1.N) (d) : (dat V c).before 8 t d = iblk V c 8 t := before8_of V (dat V c) (A_eq V c 8) (after_8 V c) t d
theorem before_9 (c : Dev nD) (t : Fin cfg1.N) (d) : (dat V c).before 9 t d = iblk V c 9 t := before9_of V (dat V c) (A_eq V c 9) (after_9 V c) t d
theorem before_10 (c : Dev nD) (t : Fin cfg1.N) (d) : (dat V c).before 10 t d = iblk V c 10 t := before10_of V (dat V c) (A_eq V c 10) (after_10 V c) t d

theorem live (t : Fin cfg1.N) : ∀ (w : Fin cfg1.W) (hw : w.val < 11), cfg1.idle w (grid1.coords t) = false
  | ⟨0, _⟩, _ => rfl | ⟨1, _⟩, _ => rfl | ⟨2, _⟩, _ => rfl | ⟨3, _⟩, _ => rfl | ⟨4, _⟩, _ => rfl | ⟨5, _⟩, _ => rfl | ⟨6, _⟩, _ => rfl | ⟨7, _⟩, _ => rfl | ⟨8, _⟩, _ => rfl | ⟨9, _⟩, _ => rfl | ⟨10, _⟩, _ => rfl
  | ⟨_ + 11, _⟩, h => absurd h (Nat.not_lt.2 (Nat.le_add_left _ _))

theorem live_11 : ∀ t : Fin cfg1.N, cfg1.idle 11 (grid1.coords t) = false :=
  (by decide +kernel : ∀ t : Fin grid1.N, cfg1.idle 11 (grid1.coords t) = false)

theorem first_iff : ∀ t : Fin cfg1.N, k1_cond1 (grid1.coords t) = 1#1 ↔ t.val % 4 = 0 :=
  (by decide +kernel : ∀ t : Fin grid1.N, k1_cond1 (grid1.coords t) = 1#1 ↔ t.val % 4 = 0)

theorem later_iff : ∀ t : Fin cfg1.N, k1_cond2 (grid1.coords t) = 1#1 ↔ t.val % 4 ≠ 0 :=
  (by decide +kernel : ∀ t : Fin grid1.N, k1_cond2 (grid1.coords t) = 1#1 ↔ t.val % 4 ≠ 0)

theorem fresh_11 : ∀ n, n ≤ cfg1.N → cfg1.fresh 11 n = (n % 4 == 0) :=
  cfg1.fresh_tab 11 (fun n => n % 4 == 0) rfl
    ((by decide +kernel : ∀ t : Fin grid1.N, ((t.val + 1) % 4 == 0) = ((cfg1.win 11).flush t || (cfg1.idle 11 (cfg1.grid.coords t) && (t.val % 4 == 0)))))

/-- The output's staging buffer holds, at a later point of a block of rows, what the point before left there. -/
theorem before_11 (c : Dev nD) (t : Fin cfg1.N) (ht : t.val % 4 ≠ 0) (h' : t.val - 1 < cfg1.N) (d) :
    (dat V c).before 11 t d = accAt V c (t.val - 1) h' := by
  have h := (dat V c).before_out_traj 11 rfl (fun _ _ => rfl) (fun t _ hi => absurd hi (by rw [show cfg1.idle 11 (cfg1.grid.coords t) = false from live_11 t]; exact Bool.false_ne_true)) t.val t rfl d
  rw [h, fresh_11 t.val t.isLt.le, if_neg (by simp [ht]), after_11]

theorem leaves (c : Dev nD) (t : Fin cfg1.N) (w : Fin cfg1.W) (h : cfg1.idle w (grid1.coords t) = false) :
    (dat V c).leavesExact w t = owns (c : Thread nD τ) ((cfg1.win w).stage (cfg1.slots t w)) fullShare ((dat V c).after w t) := by
  unfold Dat.leavesExact
  rw [show cfg1.idle w (cfg1.grid.coords t) = false from h]

/-- What the body is called with at point `t`, window by window, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t ∗ (dat V c).leavesExact 4 t ∗ (dat V c).leavesExact 5 t ∗ (dat V c).leavesExact 6 t ∗ (dat V c).leavesExact 7 t ∗ (dat V c).leavesExact 8 t ∗ (dat V c).leavesExact 9 t ∗ (dat V c).leavesExact 10 t ∗ (dat V c).leavesExact 11 t)

set_option maxHeartbeats 1600000 in
/-- The body meets its obligation at every point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7, before_8, before_9, before_10]
  rw [show (dat V c).owesAt () t.succ = (dat V c).owesAt () t.castSucc from rfl,
    show (dat V c).Φ t.castSucc = ΦK c from rfl, show (dat V c).Φ t.succ = ΦK c from rfl]
  rw [leaves V c t 0 (live t 0 (by decide)), leaves V c t 1 (live t 1 (by decide)), leaves V c t 2 (live t 2 (by decide)), leaves V c t 3 (live t 3 (by decide)), leaves V c t 4 (live t 4 (by decide)), leaves V c t 5 (live t 5 (by decide)), leaves V c t 6 (live t 6 (by decide)), leaves V c t 7 (live t 7 (by decide)), leaves V c t 8 (live t 8 (by decide)), leaves V c t 9 (live t 9 (by decide)), leaves V c t 10 (live t 10 (by decide)), leaves V c t 11 (live_11 t),
    after_0, after_1, after_2, after_3, after_4, after_5, after_6, after_7, after_8, after_9, after_10, after_11]
  by_cases h0 : t.val % 4 = 0
  · rw [accAt_first V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_first c (grid1.coords t) _ _ _ _ _ _ _ _ _ _ _ _ _ _ _ _ _ _ _ _ _ _ _ _ ((first_iff t).mpr h0) (fun h => (later_iff t).mp h h0) (iblk V c 0 t) (iblk V c 1 t) (iblk V c 2 t) (iblk V c 3 t) (iblk V c 4 t) (iblk V c 5 t) (iblk V c 6 t) (iblk V c 7 t) (iblk V c 8 t) (iblk V c 9 t) (iblk V c 10 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · have h' : t.val - 1 < cfg1.N := lt_of_le_of_lt (Nat.sub_le _ _) t.isLt
    rw [accAt_later V c t h0 h']
    simp only [before_11 V c t h0 h']
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_later c (grid1.coords t) _ _ _ _ _ _ _ _ _ _ _ _ _ _ _ _ _ _ _ _ _ _ _ _ (fun h => h0 ((first_iff t).mp h)) ((later_iff t).mpr h0) (iblk V c 0 t) (iblk V c 1 t) (iblk V c 2 t) (iblk V c 3 t) (iblk V c 4 t) (iblk V c 5 t) (iblk V c 6 t) (iblk V c 7 t) (iblk V c 8 t) (iblk V c 9 t) (iblk V c 10 t) (accAt V c (t.val - 1) h') Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem defs₀_row (t : Fin cfg1.N) : defs₀ (F := F) .tc cfg1.body (cfg1.bodyArgs t (cfg1.slots t)) = bodyAt1 t := by
  unfold defs₀; rw [Defs.onTc_tc]

theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.LayersIdeal.Own.K1
-- ==== Proof.LayersMlp3I.lean ====
module

public import Idealize.ShloMosaic.Lib.Claim
public import proofs.«01_k».proof.Proof.Gen.LayersIdeal.Launch
public import proofs.«01_k».proof.Proof.Gen.LayersIdeal.Skeleton
public import proofs.«01_k».proof.Proof.Gen.LayersIdeal.Points
public import Idealize.ShloMosaic.Lib.Pipeline.FrameBody
public import Idealize.ShloMosaic.Lib.Pipeline.FrameSuffix
public import Idealize.ShloMosaic.Lib.Pipeline.TableIdle
public import Idealize.ShloMosaic.Lib.Pipeline.Value
public import Idealize.ShloMosaic.Lib.Pipeline.Kit
public import Idealize.ShloMosaic.Lib.WritesUnit
public import Idealize.ShloMosaic.Lib.Pointwise.Index
public import Idealize.ShloMosaic.Lib.Ring
public import Idealize.ShloMosaic.Lib.Tactic
public import Idealize.ShloMosaic.Lib.WordCmp
public import Idealize.ShloMosaic.Lib.Exec

/-! The gated feed-forward call of layer 1: what its body leaves at every point of the grid (2, 4), from any contents of its arrays. -/

@[expose] public section

set_option maxRecDepth 16384

noncomputable section

namespace Cert.LayersIdeal.Own.K3

open Cert.LayersIdeal Cert.LayersIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem zero2 : (![0, 0] : Fin 2 → ℕ) = fun _ => 0 := by funext a; fin_cases a <;> rfl
theorem zero1 : (![0] : Fin 1 → ℕ) = fun _ => 0 := by funext a; fin_cases a; rfl

/-- A buffer whose last store covered it wholly reads back that store's payload. -/
theorem read_whole {κ : Kind} {sp : Space} {S : Shape} {e : EltTy} (v : View sig κ sp S e) (f : v.ty.Contents (Elt F)) {off : Fin S.rank → ℕ}
    (hz : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  funext y
  exact View.read_writes_cons_unit_of_mem v f inb w L y y hz (fun a => (Nat.zero_add _).symm)

theorem before0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before4_of {c : Dev nD} (dat : Dat τ (Elt F) Unit ℕ (UR sig nD τ) ℕ cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before5_of {c : Dev nD} (dat : Dat τ (Elt F) Unit ℕ (UR sig nD τ) ℕ cfg3 c) (hA : dat.A 5 = V c (Pipeline.arrRef spec3 5))
    (hafter : ∀ t, dat.after 5 t = iblk V c 5 t) (t : Fin cfg3.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before6_of {c : Dev nD} (dat : Dat τ (Elt F) Unit ℕ (UR sig nD τ) ℕ cfg3 c) (hA : dat.A 6 = V c (Pipeline.arrRef spec3 6))
    (hafter : ∀ t, dat.after 6 t = iblk V c 6 t) (t : Fin cfg3.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before7_of {c : Dev nD} (dat : Dat τ (Elt F) Unit ℕ (UR sig nD τ) ℕ cfg3 c) (hA : dat.A 7 = V c (Pipeline.arrRef spec3 7))
    (hafter : ∀ t, dat.after 7 t = iblk V c 7 t) (t : Fin cfg3.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before8_of {c : Dev nD} (dat : Dat τ (Elt F) Unit ℕ (UR sig nD τ) ℕ cfg3 c) (hA : dat.A 8 = V c (Pipeline.arrRef spec3 8))
    (hafter : ∀ t, dat.after 8 t = iblk V c 8 t) (t : Fin cfg3.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem before9_of {c : Dev nD} (dat : Dat τ (Elt F) Unit ℕ (UR sig nD τ) ℕ cfg3 c) (hA : dat.A 9 = V c (Pipeline.arrRef spec3 9))
    (hafter : ∀ t, dat.after 9 t = iblk V c 9 t) (t : Fin cfg3.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

theorem before10_of {c : Dev nD} (dat : Dat τ (Elt F) Unit ℕ (UR sig nD τ) ℕ cfg3 c) (hA : dat.A 10 = V c (Pipeline.arrRef spec3 10))
    (hafter : ∀ t, dat.after 10 t = iblk V c 10 t) (t : Fin cfg3.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1000000 in
/-- The body at the first point of a block of rows: it writes the residual plus this point's part. -/
theorem run_first (c : Dev nD) (i : grid3.Coords) (arg2 : Memref sig .tc .vmem S512x1024 .bf16) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x16 .f32) (harg5 : arg5.IsWhole) (arg6 : Memref sig .tc .vmem S16x1024 .f32) (harg6 : arg6.IsWhole) (arg7 : Memref sig .tc .vmem S1024x1024 .f32) (harg7 : arg7.IsWhole) (arg8 : Memref sig .tc .vmem S1024x16 .f32) (harg8 : arg8.IsWhole) (arg9 : Memref sig .tc .vmem S16x1024 .f32) (harg9 : arg9.IsWhole) (arg10 : Memref sig .tc .vmem S1024x1024 .f32) (harg10 : arg10.IsWhole) (arg11 : Memref sig .tc .vmem S1024x16 .f32) (harg11 : arg11.IsWhole) (arg12 : Memref sig .tc .vmem S16x1024 .f32) (harg12 : arg12.IsWhole) (arg13 : Memref sig .tc .vmem S512x1024 .f32) (harg13 : arg13.IsWhole)
    (hc0 : k3_cond1 i = 1#1) (hc1 : ¬k3_cond2 i = 1#1)
    (x0 : Vec F S512x1024 .bf16) (x1 : Vec F S512x1024 .f32) (x2 : Vec F S1024x1024 .f32) (x3 : Vec F S1024x16 .f32) (x4 : Vec F S16x1024 .f32) (x5 : Vec F S1024x1024 .f32) (x6 : Vec F S1024x16 .f32) (x7 : Vec F S16x1024 .f32) (x8 : Vec F S1024x1024 .f32) (x9 : Vec F S1024x16 .f32) (x10 : Vec F S16x1024 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (k3_pay2 (k3_pay5 x0 x5 x6 x7) (k3_pay6 x0 x2 x3 x4) x8 x9 x10 x1)) -∗ K ⟨⟩))
          ⊢ wp frame (wpE (defs₀ (F := F)) Variants.none c none) E (cc3_swiglu_mlp i arg2 harg2 arg3 harg3 arg4 harg4 arg5 harg5 arg6 harg6 arg7 harg7 arg8 harg8 arg9 harg9 arg10 harg10 arg11 harg11 arg12 harg12 arg13 harg13) K := by
    simp only [cc3_swiglu_mlp_eq_skeleton]; unfold cc3_swiglu_mlp_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; isplitr; swap; · iexact H11
    ipureintro
    sl_unfold_words
    rw [read_whole _ _ zero2]
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) zero2, View.ld_unit_zero (S := S1024x1024) zero2, View.ld_unit_zero (S := S1024x16) zero2, View.ld_unit_zero (S := S16x1024) zero2]

set_option maxHeartbeats 1000000 in
/-- The body at a later point of a block of rows: it adds this point's part to what stands in the output. -/
theorem run_later (c : Dev nD) (i : grid3.Coords) (arg2 : Memref sig .tc .vmem S512x1024 .bf16) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x16 .f32) (harg5 : arg5.IsWhole) (arg6 : Memref sig .tc .vmem S16x1024 .f32) (harg6 : arg6.IsWhole) (arg7 : Memref sig .tc .vmem S1024x1024 .f32) (harg7 : arg7.IsWhole) (arg8 : Memref sig .tc .vmem S1024x16 .f32) (harg8 : arg8.IsWhole) (arg9 : Memref sig .tc .vmem S16x1024 .f32) (harg9 : arg9.IsWhole) (arg10 : Memref sig .tc .vmem S1024x1024 .f32) (harg10 : arg10.IsWhole) (arg11 : Memref sig .tc .vmem S1024x16 .f32) (harg11 : arg11.IsWhole) (arg12 : Memref sig .tc .vmem S16x1024 .f32) (harg12 : arg12.IsWhole) (arg13 : Memref sig .tc .vmem S512x1024 .f32) (harg13 : arg13.IsWhole)
    (hc0 : ¬k3_cond1 i = 1#1) (hc1 : k3_cond2 i = 1#1)
    (x0 : Vec F S512x1024 .bf16) (x1 : Vec F S512x1024 .f32) (x2 : Vec F S1024x1024 .f32) (x3 : Vec F S1024x16 .f32) (x4 : Vec F S16x1024 .f32) (x5 : Vec F S1024x1024 .f32) (x6 : Vec F S1024x16 .f32) (x7 : Vec F S16x1024 .f32) (x8 : Vec F S1024x1024 .f32) (x9 : Vec F S1024x16 .f32) (x10 : Vec F S16x1024 .f32) (y : Vec F S512x1024 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare y
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (k3_pay3 (k3_pay5 x0 x5 x6 x7) (k3_pay6 x0 x2 x3 x4) x8 x9 x10 y)) -∗ K ⟨⟩))
          ⊢ wp frame (wpE (defs₀ (F := F)) Variants.none c none) E (cc3_swiglu_mlp i arg2 harg2 arg3 harg3 arg4 harg4 arg5 harg5 arg6 harg6 arg7 harg7 arg8 harg8 arg9 harg9 arg10 harg10 arg11 harg11 arg12 harg12 arg13 harg13) K := by
    simp only [cc3_swiglu_mlp_eq_skeleton]; unfold cc3_swiglu_mlp_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; isplitr; swap; · iexact H11
    ipureintro
    sl_unfold_words
    rw [read_whole _ _ zero2]
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) zero2, View.ld_unit_zero (S := S1024x1024) zero2, View.ld_unit_zero (S := S1024x16) zero2, View.ld_unit_zero (S := S16x1024) zero2]

/-! ## The proof data -/

/-- What the first point of a block of rows writes. -/
def first (c : Dev nD) (t : Fin cfg3.N) : Vec F S512x1024 .f32 := k3_pay2 (k3_pay5 (iblk V c 0 t) (iblk V c 5 t) (iblk V c 6 t) (iblk V c 7 t)) (k3_pay6 (iblk V c 0 t) (iblk V c 2 t) (iblk V c 3 t) (iblk V c 4 t)) (iblk V c 8 t) (iblk V c 9 t) (iblk V c 10 t) (iblk V c 1 t)

/-- What a later point writes over `y`. -/
def later (c : Dev nD) (t : Fin cfg3.N) (y : Vec F S512x1024 .f32) : Vec F S512x1024 .f32 := k3_pay3 (k3_pay5 (iblk V c 0 t) (iblk V c 5 t) (iblk V c 6 t) (iblk V c 7 t)) (k3_pay6 (iblk V c 0 t) (iblk V c 2 t) (iblk V c 3 t) (iblk V c 4 t)) (iblk V c 8 t) (iblk V c 9 t) (iblk V c 10 t) y

/-- What the output's staging buffer holds after point `n`. -/
def accAt (c : Dev nD) : (n : ℕ) → n < cfg3.N → Vec F S512x1024 .f32
  | 0, h => first V c ⟨0, h⟩
  | n + 1, h => if (n + 1) % 4 = 0 then first V c ⟨n + 1, h⟩ else later V c ⟨n + 1, h⟩ (accAt c n (Nat.lt_of_succ_lt h))

theorem accAt_first (c : Dev nD) (t : Fin cfg3.N) (h : t.val % 4 = 0) : accAt V c t.val t.isLt = first V c t := by
  obtain ⟨n, hn⟩ := t
  cases n with
  | zero => rw [accAt]
  | succ n => rw [accAt, if_pos h]

theorem accAt_later (c : Dev nD) (t : Fin cfg3.N) (h : t.val % 4 ≠ 0) (h' : t.val - 1 < cfg3.N) :
    accAt V c t.val t.isLt = later V c t (accAt V c (t.val - 1) h') := by
  obtain ⟨n, hn⟩ := t
  cases n with
  | zero => exact absurd rfl h
  | succ n => rw [accAt, if_neg h]; rfl

/-- What is held between the points: every other buffer of the region and the generator register. -/
def ΦK (c : Dev nD) : sProp 𝕄 :=
  iprop(Pipeline.scopedRest (Ix := Unit) (Name := ℕ) (U := UR sig nD τ) (Lvl := ℕ) (Val := Elt F) spec3 c ∗ ∃ r, prngReg c r)

/-- The pipeline's proof data at the entry contents `V`. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => accAt V c t.val t.isLt
  Φ _ := ΦK c
  q _ := fullShare
  owed _ := 0

theorem A_eq (c : Dev nD) (w : Fin cfg3.W) : (dat V c).A w = V c (Pipeline.arrRef spec3 w) := by dsimp only [dat]
theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = iblk V c 4 t := by dsimp only [dat]
theorem after_5 (c : Dev nD) (t : Fin cfg3.N) : (dat V c).after 5 t = iblk V c 5 t := by dsimp only [dat]
theorem after_6 (c : Dev nD) (t : Fin cfg3.N) : (dat V c).after 6 t = iblk V c 6 t := by dsimp only [dat]
theorem after_7 (c : Dev nD) (t : Fin cfg3.N) : (dat V c).after 7 t = iblk V c 7 t := by dsimp only [dat]
theorem after_8 (c : Dev nD) (t : Fin cfg3.N) : (dat V c).after 8 t = iblk V c 8 t := by dsimp only [dat]
theorem after_9 (c : Dev nD) (t : Fin cfg3.N) : (dat V c).after 9 t = iblk V c 9 t := by dsimp only [dat]
theorem after_10 (c : Dev nD) (t : Fin cfg3.N) : (dat V c).after 10 t = iblk V c 10 t := by dsimp only [dat]
theorem after_11 (c : Dev nD) (t : Fin cfg3.N) : (dat V c).after 11 t = accAt V c t.val t.isLt := by dsimp only [dat]
theorem before_0 (c : Dev nD) (t : Fin cfg3.N) (d) : (dat V c).before 0 t d = iblk V c 0 t := before0_of V (dat V c) (A_eq V c 0) (after_0 V c) t d
theorem before_1 (c : Dev nD) (t : Fin cfg3.N) (d) : (dat V c).before 1 t d = iblk V c 1 t := before1_of V (dat V c) (A_eq V c 1) (after_1 V c) t d
theorem before_2 (c : Dev nD) (t : Fin cfg3.N) (d) : (dat V c).before 2 t d = iblk V c 2 t := before2_of V (dat V c) (A_eq V c 2) (after_2 V c) t d
theorem before_3 (c : Dev nD) (t : Fin cfg3.N) (d) : (dat V c).before 3 t d = iblk V c 3 t := before3_of V (dat V c) (A_eq V c 3) (after_3 V c) t d
theorem before_4 (c : Dev nD) (t : Fin cfg3.N) (d) : (dat V c).before 4 t d = iblk V c 4 t := before4_of V (dat V c) (A_eq V c 4) (after_4 V c) t d
theorem before_5 (c : Dev nD) (t : Fin cfg3.N) (d) : (dat V c).before 5 t d = iblk V c 5 t := before5_of V (dat V c) (A_eq V c 5) (after_5 V c) t d
theorem before_6 (c : Dev nD) (t : Fin cfg3.N) (d) : (dat V c).before 6 t d = iblk V c 6 t := before6_of V (dat V c) (A_eq V c 6) (after_6 V c) t d
theorem before_7 (c : Dev nD) (t : Fin cfg3.N) (d) : (dat V c).before 7 t d = iblk V c 7 t := before7_of V (dat V c) (A_eq V c 7) (after_7 V c) t d
theorem before_8 (c : Dev nD) (t : Fin cfg3.N) (d) : (dat V c).before 8 t d = iblk V c 8 t := before8_of V (dat V c) (A_eq V c 8) (after_8 V c) t d
theorem before_9 (c : Dev nD) (t : Fin cfg3.N) (d) : (dat V c).before 9 t d = iblk V c 9 t := before9_of V (dat V c) (A_eq V c 9) (after_9 V c) t d
theorem before_10 (c : Dev nD) (t : Fin cfg3.N) (d) : (dat V c).before 10 t d = iblk V c 10 t := before10_of V (dat V c) (A_eq V c 10) (after_10 V c) t d

theorem live (t : Fin cfg3.N) : ∀ (w : Fin cfg3.W) (hw : w.val < 11), cfg3.idle w (grid3.coords t) = false
  | ⟨0, _⟩, _ => rfl | ⟨1, _⟩, _ => rfl | ⟨2, _⟩, _ => rfl | ⟨3, _⟩, _ => rfl | ⟨4, _⟩, _ => rfl | ⟨5, _⟩, _ => rfl | ⟨6, _⟩, _ => rfl | ⟨7, _⟩, _ => rfl | ⟨8, _⟩, _ => rfl | ⟨9, _⟩, _ => rfl | ⟨10, _⟩, _ => rfl
  | ⟨_ + 11, _⟩, h => absurd h (Nat.not_lt.2 (Nat.le_add_left _ _))

theorem live_11 : ∀ t : Fin cfg3.N, cfg3.idle 11 (grid3.coords t) = false :=
  (by decide +kernel : ∀ t : Fin grid3.N, cfg3.idle 11 (grid3.coords t) = false)

theorem first_iff : ∀ t : Fin cfg3.N, k3_cond1 (grid3.coords t) = 1#1 ↔ t.val % 4 = 0 :=
  (by decide +kernel : ∀ t : Fin grid3.N, k3_cond1 (grid3.coords t) = 1#1 ↔ t.val % 4 = 0)

theorem later_iff : ∀ t : Fin cfg3.N, k3_cond2 (grid3.coords t) = 1#1 ↔ t.val % 4 ≠ 0 :=
  (by decide +kernel : ∀ t : Fin grid3.N, k3_cond2 (grid3.coords t) = 1#1 ↔ t.val % 4 ≠ 0)

theorem fresh_11 : ∀ n, n ≤ cfg3.N → cfg3.fresh 11 n = (n % 4 == 0) :=
  cfg3.fresh_tab 11 (fun n => n % 4 == 0) rfl
    ((by decide +kernel : ∀ t : Fin grid3.N, ((t.val + 1) % 4 == 0) = ((cfg3.win 11).flush t || (cfg3.idle 11 (cfg3.grid.coords t) && (t.val % 4 == 0)))))

/-- The output's staging buffer holds, at a later point of a block of rows, what the point before left there. -/
theorem before_11 (c : Dev nD) (t : Fin cfg3.N) (ht : t.val % 4 ≠ 0) (h' : t.val - 1 < cfg3.N) (d) :
    (dat V c).before 11 t d = accAt V c (t.val - 1) h' := by
  have h := (dat V c).before_out_traj 11 rfl (fun _ _ => rfl) (fun t _ hi => absurd hi (by rw [show cfg3.idle 11 (cfg3.grid.coords t) = false from live_11 t]; exact Bool.false_ne_true)) t.val t rfl d
  rw [h, fresh_11 t.val t.isLt.le, if_neg (by simp [ht]), after_11]

theorem leaves (c : Dev nD) (t : Fin cfg3.N) (w : Fin cfg3.W) (h : cfg3.idle w (grid3.coords t) = false) :
    (dat V c).leavesExact w t = owns (c : Thread nD τ) ((cfg3.win w).stage (cfg3.slots t w)) fullShare ((dat V c).after w t) := by
  unfold Dat.leavesExact
  rw [show cfg3.idle w (cfg3.grid.coords t) = false from h]

/-- What the body is called with at point `t`, window by window, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d))
    ∗ (∃ d, owns (c : Thread nD τ) (st3_6 t) fullShare ((dat V c).before 6 t d))
    ∗ (∃ d, owns (c : Thread nD τ) (st3_7 t) fullShare ((dat V c).before 7 t d))
    ∗ (∃ d, owns (c : Thread nD τ) (st3_8 t) fullShare ((dat V c).before 8 t d))
    ∗ (∃ d, owns (c : Thread nD τ) (st3_9 t) fullShare ((dat V c).before 9 t d))
    ∗ (∃ d, owns (c : Thread nD τ) (st3_10 t) fullShare ((dat V c).before 10 t d))
    ∗ (∃ d, owns (c : Thread nD τ) (st3_11 t) fullShare ((dat V c).before 11 t d)))

/-- and what it returns. -/
def bodyPost (c : Dev nD) (t : Fin cfg3.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t ∗ (dat V c).leavesExact 4 t ∗ (dat V c).leavesExact 5 t ∗ (dat V c).leavesExact 6 t ∗ (dat V c).leavesExact 7 t ∗ (dat V c).leavesExact 8 t ∗ (dat V c).leavesExact 9 t ∗ (dat V c).leavesExact 10 t ∗ (dat V c).leavesExact 11 t)

set_option maxHeartbeats 1600000 in
/-- The body meets its obligation at every point. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3, before_4, before_5, before_6, before_7, before_8, before_9, before_10]
  rw [show (dat V c).owesAt () t.succ = (dat V c).owesAt () t.castSucc from rfl,
    show (dat V c).Φ t.castSucc = ΦK c from rfl, show (dat V c).Φ t.succ = ΦK c from rfl]
  rw [leaves V c t 0 (live t 0 (by decide)), leaves V c t 1 (live t 1 (by decide)), leaves V c t 2 (live t 2 (by decide)), leaves V c t 3 (live t 3 (by decide)), leaves V c t 4 (live t 4 (by decide)), leaves V c t 5 (live t 5 (by decide)), leaves V c t 6 (live t 6 (by decide)), leaves V c t 7 (live t 7 (by decide)), leaves V c t 8 (live t 8 (by decide)), leaves V c t 9 (live t 9 (by decide)), leaves V c t 10 (live t 10 (by decide)), leaves V c t 11 (live_11 t),
    after_0, after_1, after_2, after_3, after_4, after_5, after_6, after_7, after_8, after_9, after_10, after_11]
  by_cases h0 : t.val % 4 = 0
  · rw [accAt_first V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_first c (grid3.coords t) _ _ _ _ _ _ _ _ _ _ _ _ _ _ _ _ _ _ _ _ _ _ _ _ ((first_iff t).mpr h0) (fun h => (later_iff t).mp h h0) (iblk V c 0 t) (iblk V c 1 t) (iblk V c 2 t) (iblk V c 3 t) (iblk V c 4 t) (iblk V c 5 t) (iblk V c 6 t) (iblk V c 7 t) (iblk V c 8 t) (iblk V c 9 t) (iblk V c 10 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · have h' : t.val - 1 < cfg3.N := lt_of_le_of_lt (Nat.sub_le _ _) t.isLt
    rw [accAt_later V c t h0 h']
    simp only [before_11 V c t h0 h']
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_later c (grid3.coords t) _ _ _ _ _ _ _ _ _ _ _ _ _ _ _ _ _ _ _ _ _ _ _ _ (fun h => h0 ((first_iff t).mp h)) ((later_iff t).mpr h0) (iblk V c 0 t) (iblk V c 1 t) (iblk V c 2 t) (iblk V c 3 t) (iblk V c 4 t) (iblk V c 5 t) (iblk V c 6 t) (iblk V c 7 t) (iblk V c 8 t) (iblk V c 9 t) (iblk V c 10 t) (accAt V c (t.val - 1) h') Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem defs₀_row (t : Fin cfg3.N) : defs₀ (F := F) .tc cfg3.body (cfg3.bodyArgs t (cfg3.slots t)) = bodyAt3 t := by
  unfold defs₀; rw [Defs.onTc_tc]

theorem body_obligation (c : Dev nD) : BodyObligation (dat (F := F) V c) (defs₀ (F := F)) Variants.none () Set.univ := fun t => by
  rw [bigSep_W3, bigSep_W3, defs₀_row]
  exact triple_restated (sound_body V c t) rfl .rfl fun _ => .rfl

end Cert.LayersIdeal.Own.K3
-- ==== Proof.LayersFinalI.lean ====
module

public import Idealize.ShloMosaic.Lib.Claim
public import proofs.«01_k».proof.Proof.Gen.LayersIdeal.Launch
public import proofs.«01_k».proof.Proof.Gen.LayersIdeal.Skeleton
public import proofs.«01_k».proof.Proof.Gen.LayersIdeal.Points
public import Idealize.ShloMosaic.Lib.Pipeline.FrameBody
public import Idealize.ShloMosaic.Lib.Pipeline.FrameSuffix
public import Idealize.ShloMosaic.Lib.Pipeline.TableIdle
public import Idealize.ShloMosaic.Lib.Pipeline.Value
public import Idealize.ShloMosaic.Lib.Pipeline.Kit
public import Idealize.ShloMosaic.Lib.WritesUnit
public import Idealize.ShloMosaic.Lib.Pointwise.Index
public import Idealize.ShloMosaic.Lib.Ring
public import Idealize.ShloMosaic.Lib.Tactic
public import Idealize.ShloMosaic.Lib.WordCmp
public import Idealize.ShloMosaic.Lib.Exec

/-! The last call: what its body leaves at each of its 25 points, from any contents of its arrays. -/

@[expose] public section

set_option maxRecDepth 16384

noncomputable section

namespace Cert.LayersIdeal.Own.K4

open Cert.LayersIdeal Cert.LayersIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem zero2 : (![0, 0] : Fin 2 → ℕ) = fun _ => 0 := by funext a; fin_cases a <;> rfl
theorem zero1 : (![0] : Fin 1 → ℕ) = fun _ => 0 := by funext a; fin_cases a; rfl

/-- A buffer whose last store covered it wholly reads back that store's payload. -/
theorem read_whole {κ : Kind} {sp : Space} {S : Shape} {e : EltTy} (v : View sig κ sp S e) (f : v.ty.Contents (Elt F)) {off : Fin S.rank → ℕ}
    (hz : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  funext y
  exact View.read_writes_cons_unit_of_mem v f inb w L y y hz (fun a => (Nat.zero_add _).symm)

theorem before0_of {c : Dev nD} (dat : Dat τ (Elt F) Unit ℕ (UR sig nD τ) ℕ cfg4 c) (hA : dat.A 0 = V c (Pipeline.arrRef spec4 0))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg4 c) (hA : dat.A 1 = V c (Pipeline.arrRef spec4 1))
    (hafter : ∀ t, dat.after 1 t = iblk V c 1 t) (t : Fin cfg4.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg4 c) (hA : dat.A 2 = V c (Pipeline.arrRef spec4 2))
    (hafter : ∀ t, dat.after 2 t = iblk V c 2 t) (t : Fin cfg4.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg4 c) (hA : dat.A 3 = V c (Pipeline.arrRef spec4 3))
    (hafter : ∀ t, dat.after 3 t = iblk V c 3 t) (t : Fin cfg4.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before4_of {c : Dev nD} (dat : Dat τ (Elt F) Unit ℕ (UR sig nD τ) ℕ cfg4 c) (hA : dat.A 4 = V c (Pipeline.arrRef spec4 4))
    (hafter : ∀ t, dat.after 4 t = iblk V c 4 t) (t : Fin cfg4.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem first_iff : ∀ t : Fin cfg4.N, k4_cond1 (grid4.coords t) = 1#1 ↔ t.val = 0 :=
  (by decide +kernel : ∀ t : Fin grid4.N, k4_cond1 (grid4.coords t) = 1#1 ↔ t.val = 0)

set_option maxHeartbeats 1000000 in
/-- The body at the first point: it normalises the rows into the scratch buffer, writes the column of values and the
    first tile of logits. -/
theorem run_first (c : Dev nD) (i : grid4.Coords) (arg1 : Memref sig .tc .vmem S1024x1024 .f32) (harg1 : arg1.IsWhole) (arg2 : Memref sig .tc .vmem S1x1024 .f32) (harg2 : arg2.IsWhole) (arg3 : Memref sig .tc .vmem S1024x1280 .f32) (harg3 : arg3.IsWhole) (arg4 : Memref sig .tc .vmem S1024x1 .f32) (harg4 : arg4.IsWhole) (arg5 : Memref sig .tc .smem S1 .f32) (harg5 : arg5.IsWhole) (arg6 : Memref sig .tc .vmem S1024x1280 .f32) (harg6 : arg6.IsWhole) (arg7 : Memref sig .tc .vmem S1024x1 .f32) (harg7 : arg7.IsWhole) (arg8 : Memref sig .tc .vmem S1024x1024 .bf16) (harg8 : arg8.IsWhole) (hc0 : k4_cond1 i = 1#1)
    (x0 : Vec F S1024x1024 .f32) (x1 : Vec F S1x1024 .f32) (x2 : Vec F S1024x1280 .f32) (x3 : Vec F S1024x1 .f32) (x4 : Vec F S1 .f32)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k4_pay4 (k4_pay2 x0 x1) x2) ∗ owns (c : Thread nD τ) arg7 fullShare (k4_pay3 x0 x1 x3 (x4 (ix1 (0 : Fin 1)))) ∗ owns (c : Thread nD τ) arg8 fullShare (k4_pay2 x0 x1)) -∗ K ⟨⟩))
          ⊢ wp frame (wpE (defs₀ (F := F)) Variants.none c none) E (cc4_final_lm_value i arg1 harg1 arg2 harg2 arg3 harg3 arg4 harg4 arg5 harg5 arg6 harg6 arg7 harg7 arg8 harg8) K := by
    simp only [cc4_final_lm_value_eq_skeleton]; unfold cc4_final_lm_value_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      sl_unfold_words
      rw [read_whole _ _ zero2]
      simp only [View.readCov_unit_zero (S := S1024x1024) _ zero2, View.readAt_eq_ld, harg1.read_unread, harg2.read_unread, harg3.read_unread, View.ld_unit_zero (S := S1024x1024) zero2, View.ld_unit_zero (S := S1x1024) zero2, View.ld_unit_zero (S := S1024x1280) zero2]
    isplitl [H6]
    · iexists _; isplitr; swap; · iexact H6
      ipureintro
      sl_unfold_words
      rw [read_whole _ _ zero2]
      simp only [View.readAt_eq_ld, harg1.read_unread, harg2.read_unread, harg4.read_unread, View.ld_unit_zero (S := S1024x1024) zero2, View.ld_unit_zero (S := S1x1024) zero2, View.ld_unit_zero (S := S1024x1) zero2]
      congr 1
      rw [View.ld_unit_zero (S := S1) zero1, harg5.read_unread]
      congr 1
      funext a; fin_cases a; rfl
    iexists _; isplitr; swap; · iexact HS0
    ipureintro
    sl_unfold_words
    rw [read_whole _ _ zero2]
    simp only [View.readAt_eq_ld, harg1.read_unread, harg2.read_unread, View.ld_unit_zero (S := S1024x1024) zero2, View.ld_unit_zero (S := S1x1024) zero2]

set_option maxHeartbeats 1000000 in
/-- The body at a later point: it multiplies the rows kept in the scratch buffer by the point's tile of the head. -/
theorem run_later (c : Dev nD) (i : grid4.Coords) (arg1 : Memref sig .tc .vmem S1024x1024 .f32) (harg1 : arg1.IsWhole) (arg2 : Memref sig .tc .vmem S1x1024 .f32) (harg2 : arg2.IsWhole) (arg3 : Memref sig .tc .vmem S1024x1280 .f32) (harg3 : arg3.IsWhole) (arg4 : Memref sig .tc .vmem S1024x1 .f32) (harg4 : arg4.IsWhole) (arg5 : Memref sig .tc .smem S1 .f32) (harg5 : arg5.IsWhole) (arg6 : Memref sig .tc .vmem S1024x1280 .f32) (harg6 : arg6.IsWhole) (arg7 : Memref sig .tc .vmem S1024x1 .f32) (harg7 : arg7.IsWhole) (arg8 : Memref sig .tc .vmem S1024x1024 .bf16) (harg8 : arg8.IsWhole) (hc0 : ¬k4_cond1 i = 1#1)
    (x2 : Vec F S1024x1280 .f32) (xs : Vec F S1024x1024 .bf16)
    (E : Set ℕ) (K : PUnit → sProp 𝕄) :
        iprop(owns (c : Thread nD τ) arg3 fullShare x2 ∗ (∃ d, owns (c : Thread nD τ) arg6 fullShare d) ∗ owns (c : Thread nD τ) arg8 fullShare xs
            ∗ (iprop(owns (c : Thread nD τ) arg3 fullShare x2 ∗ owns (c : Thread nD τ) arg6 fullShare (k4_pay4 xs x2) ∗ owns (c : Thread nD τ) arg8 fullShare xs) -∗ K ⟨⟩))
          ⊢ wp frame (wpE (defs₀ (F := F)) Variants.none c none) E (cc4_final_lm_value i arg1 harg1 arg2 harg2 arg3 harg3 arg4 harg4 arg5 harg5 arg6 harg6 arg7 harg7 arg8 harg8) K := by
    simp only [cc4_final_lm_value_eq_skeleton]; unfold cc4_final_lm_value_skel
    unfold owns
    iintro ⟨⟨%f2, %hf2, H2⟩, ⟨%d5, %f5, -, H5⟩, ⟨%fs0, %hfs0, HS0⟩, Hk⟩
    obtain rfl := harg3.eq_unread hf2; obtain rfl := harg8.eq_unread hfs0
    sl_exec (disch := first | sl_exact hc0)
    sl_step
    iapply Hk
    isplitl [H2]
    · iexists _; isplitr; · ipureintro; exact harg3.read_unread _
      iexact H2
    isplitl [H5]
    · iexists _; isplitr; swap; · iexact H5
      ipureintro
      sl_unfold_words
      rw [read_whole _ _ zero2]
      simp only [View.readAt_eq_ld, harg3.read_unread, harg8.read_unread, View.ld_unit_zero (S := S1024x1024) zero2, View.ld_unit_zero (S := S1024x1280) zero2]
    iexists _; isplitr; · ipureintro; exact harg8.read_unread _
    iexact HS0

/-! ## The proof data -/

/-- The first grid point. -/
abbrev t₀ : Fin cfg4.N := ⟨0, by rw [show cfg4.N = 25 from N_4]; decide⟩

/-- The normalised rows, as the first point leaves them in the scratch buffer. -/
def rows (c : Dev nD) : Vec F S1024x1024 .bf16 := k4_pay2 (iblk V c 0 t₀) (iblk V c 1 t₀)

/-- The column of values, as the first point writes it. -/
def vals (c : Dev nD) : Vec F S1024x1 .f32 := k4_pay3 (iblk V c 0 t₀) (iblk V c 1 t₀) (iblk V c 3 t₀) (iblk V c 4 t₀ (ix1 (0 : Fin 1)))

/-- The scratch buffer. -/
abbrev scr : Memref sig .tc .vmem S1024x1024 .bf16 := Memref.whole cc4_scratch0

/-- Every other buffer of the region. -/
def rest (c : Dev nD) : sProp 𝕄 :=
  Pipeline.scopedRestBut (Ix := Unit) (Name := ℕ) (U := UR sig nD τ) (Lvl := ℕ) (Val := Elt F) spec4 c [cc4_scratch0]

/-- What is held before the first point: every other buffer of the region and the generator register. -/
def Φ0 (c : Dev nD) : sProp 𝕄 :=
  iprop(Pipeline.scopedRest (Ix := Unit) (Name := ℕ) (U := UR sig nD τ) (Lvl := ℕ) (Val := Elt F) spec4 c ∗ ∃ r, prngReg c r)

/-- What is held between the points: the scratch buffer, at the normalised rows once the first point has run, and the
    generator register. -/
def inv (c : Dev nD) (n : ℕ) : sProp 𝕄 :=
  if n = 0 then Φ0 c else iprop(iprop(owns (c : Thread nD τ) scr fullShare (rows V c) ∗ rest c) ∗ (∃ r, prngReg c r))

theorem inv_eq (c : Dev nD) : inv V c 0 = Φ0 (F := F) c := if_pos rfl

/-- Before the first point, with the scratch buffer taken out. -/
theorem ΦA_eq (c : Dev nD) :
    (Φ0 c : sProp 𝕄) = iprop(iprop((∃ d, owns (c : Thread nD τ) scr fullShare d) ∗ rest c) ∗ (∃ r, prngReg c r)) := by
  unfold Φ0 rest; rw [scopedRest4_split]; simp only [scr, owns_whole]; try rfl

/-- The pipeline's proof data: every input at its block, the logits' tile the kept rows times the point's tile of the
    head, the values what the first point wrote. -/
def dat (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => k4_pay4 (rows V c) (iblk V c 2 t)
    | ⟨6, _⟩ => vals V c
  Φ t := inv V c t.val
  q _ := fullShare
  owed _ := 0

theorem A_eq (c : Dev nD) (w : Fin cfg4.W) : (dat V c).A w = V c (Pipeline.arrRef spec4 w) := by dsimp only [dat]
theorem after_0 (c : Dev nD) (t : Fin cfg4.N) : (dat V c).after 0 t = iblk V c 0 t := by dsimp only [dat]
theorem after_1 (c : Dev nD) (t : Fin cfg4.N) : (dat V c).after 1 t = iblk V c 1 t := by dsimp only [dat]
theorem after_2 (c : Dev nD) (t : Fin cfg4.N) : (dat V c).after 2 t = iblk V c 2 t := by dsimp only [dat]
theorem after_3 (c : Dev nD) (t : Fin cfg4.N) : (dat V c).after 3 t = iblk V c 3 t := by dsimp only [dat]
theorem after_4 (c : Dev nD) (t : Fin cfg4.N) : (dat V c).after 4 t = iblk V c 4 t := by dsimp only [dat]
theorem after_5 (c : Dev nD) (t : Fin cfg4.N) : (dat V c).after 5 t = k4_pay4 (rows V c) (iblk V c 2 t) := by dsimp only [dat]
theorem after_6 (c : Dev nD) (t : Fin cfg4.N) : (dat V c).after 6 t = vals V c := by dsimp only [dat]

theorem before_0 (c : Dev nD) (t : Fin cfg4.N) (d) : (dat V c).before 0 t d = iblk V c 0 t := before0_of V (dat V c) (A_eq V c 0) (after_0 V c) t d
theorem before_1 (c : Dev nD) (t : Fin cfg4.N) (d) : (dat V c).before 1 t d = iblk V c 1 t := before1_of V (dat V c) (A_eq V c 1) (after_1 V c) t d
theorem before_2 (c : Dev nD) (t : Fin cfg4.N) (d) : (dat V c).before 2 t d = iblk V c 2 t := before2_of V (dat V c) (A_eq V c 2) (after_2 V c) t d
theorem before_3 (c : Dev nD) (t : Fin cfg4.N) (d) : (dat V c).before 3 t d = iblk V c 3 t := before3_of V (dat V c) (A_eq V c 3) (after_3 V c) t d
theorem before_4 (c : Dev nD) (t : Fin cfg4.N) (d) : (dat V c).before 4 t d = iblk V c 4 t := before4_of V (dat V c) (A_eq V c 4) (after_4 V c) t d

/-- The values' staging buffer holds something unknown only before the first point. -/
theorem fresh_6 : ∀ n, n ≤ cfg4.N → cfg4.fresh 6 n = (n == 0 || n == 25) :=
  cfg4.fresh_tab 6 (fun n => n == 0 || n == 25) rfl
    ((by decide +kernel : ∀ t : Fin grid4.N, (t.val + 1 == 0 || t.val + 1 == 25) = ((cfg4.win 6).flush t || (cfg4.idle 6 (cfg4.grid.coords t) && (t.val == 0 || t.val == 25)))))

/-- The values' staging buffer holds the values at every later point. -/
theorem before_6 (c : Dev nD) (t : Fin cfg4.N) (ht : t.val ≠ 0) (d) : (dat V c).before 6 t d = vals V c := by
  have h25 : t.val < 25 := lt_of_lt_of_eq t.isLt (show cfg4.N = 25 from N_4)
  have h := (dat V c).before_out_traj 6 rfl (fun _ _ => rfl) (fun t ht _ _ => by rw [after_6, after_6]) t.val t rfl d
  rw [h, fresh_6 t.val t.isLt.le, if_neg (by simp; omega), after_6]

theorem live (t : Fin cfg4.N) : ∀ (w : Fin cfg4.W) (hw : w.val < 6), cfg4.idle w (grid4.coords t) = false
  | ⟨0, _⟩, _ => rfl | ⟨1, _⟩, _ => rfl | ⟨2, _⟩, _ => rfl | ⟨3, _⟩, _ => rfl | ⟨4, _⟩, _ => rfl | ⟨5, _⟩, _ => rfl
  | ⟨_ + 6, _⟩, h => absurd h (Nat.not_lt.2 (Nat.le_add_left _ _))

theorem idle_6 : ∀ t : Fin cfg4.N, cfg4.idle 6 (grid4.coords t) = decide (t.val ≠ 0) :=
  (by decide +kernel : ∀ t : Fin grid4.N, cfg4.idle 6 (grid4.coords t) = decide (t.val ≠ 0))

theorem leaves (c : Dev nD) (t : Fin cfg4.N) (w : Fin cfg4.W) (h : cfg4.idle w (grid4.coords t) = false) :
    (dat V c).leavesExact w t = owns (c : Thread nD τ) ((cfg4.win w).stage (cfg4.slots t w)) fullShare ((dat V c).after w t) := by
  unfold Dat.leavesExact
  rw [show cfg4.idle w (cfg4.grid.coords t) = false from h]

/-- What the body is called with at point `t`, window by window, -/
def bodyPre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d))
    ∗ (∃ d, owns (c : Thread nD τ) (st4_3 t) fullShare ((dat V c).before 3 t d))
    ∗ (∃ d, owns (c : Thread nD τ) (st4_4 t) fullShare ((dat V c).before 4 t d))
    ∗ (∃ d, owns (c : Thread nD τ) (st4_5 t) fullShare ((dat V c).before 5 t d))
    ∗ (∃ d, owns (c : Thread nD τ) (st4_6 t) fullShare ((dat V c).before 6 t d)))

/-- and what it returns. -/
def bodyPost (c : Dev nD) (t : Fin cfg4.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t ∗ (dat V c).leavesExact 5 t ∗ (dat V c).leavesExact 6 t)

set_option maxHeartbeats 1600000 in
/-- The body meets its obligation at every point. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_0, before_1, before_2, before_3, before_4]
  rw [show (dat V c).owesAt () t.succ = (dat V c).owesAt () t.castSucc from rfl,
    show (dat V c).Φ t.castSucc = inv V c t.val from rfl, show (dat V c).Φ t.succ = inv V c (t.val + 1) from rfl]
  rw [leaves V c t 0 (live t 0 (by decide)), leaves V c t 1 (live t 1 (by decide)), leaves V c t 2 (live t 2 (by decide)),
    leaves V c t 3 (live t 3 (by decide)), leaves V c t 4 (live t 4 (by decide)), leaves V c t 5 (live t 5 (by decide)),
    after_0, after_1, after_2, after_3, after_4, after_5]
  have hinv : inv V c (t.val + 1) = iprop(iprop(owns (c : Thread nD τ) scr fullShare (rows V c) ∗ rest c) ∗ (∃ r, prngReg c r)) := by
    unfold inv; rw [if_neg (Nat.succ_ne_zero _)]
  rw [hinv]
  by_cases h0 : t.val = 0
  · rw [leaves V c t 6 (by rw [idle_6]; simp [h0]), after_6]
    obtain rfl : t = t₀ := Fin.ext h0
    rw [show inv V c (t₀ : Fin cfg4.N).val = Φ0 c from if_pos rfl, ΦA_eq]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (run_first c (grid4.coords t₀) _ _ _ _ _ _ _ _ _ _ _ _ _ _ _ _ ((first_iff t₀).mpr rfl) (iblk V c 0 t₀) (iblk V c 1 t₀) (iblk V c 2 t₀) (iblk V c 3 t₀) (iblk V c 4 t₀) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    iintro ⟨H0, H1, H2, H3, H4, H5, H6, HS0⟩
    isplitl [HS0 Hr Hg]
    · isplitl [HS0 Hr]
      · isplitl [HS0]
        · iexact HS0
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have h6 : (dat V c).leavesExact 6 t = iprop(∃ d : (cfg4.win 6).block.Idx → Elt F (cfg4.win 6).elt, owns (c : Thread nD τ) (st4_6 t) fullShare (vals V c))
        ∨ (dat V c).leavesExact 6 t = owns (c : Thread nD τ) (st4_6 t) fullShare (vals V c) := by
      unfold Dat.leavesExact
      rw [show cfg4.idle 6 (cfg4.grid.coords t) = true from (idle_6 t).trans (decide_eq_true h0)]
      cases (cfg4.win 6).flush t
      · left; simp only [before_6 V c t h0]
      · right; rfl
    rw [show inv V c t.val = iprop(iprop(owns (c : Thread nD τ) scr fullShare (rows V c) ∗ rest c) ∗ (∃ r, prngReg c r)) from if_neg h0]
    simp only [before_6 V c t h0]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (run_later c (grid4.coords t) _ _ _ _ _ _ _ _ _ _ _ _ _ _ _ _ (fun h => h0 ((first_iff t).mp h)) (iblk V c 2 t) (rows V c) Set.univ _)
    isplitl [H2]; · iexact H2
    isplitl [H5]; · iexists _; iexact H5
    isplitl [HS0]; · iexact HS0
    iintro ⟨H2, H5, HS0⟩
    isplitl [HS0 Hr Hg]
    · isplitl [HS0 Hr]
      · isplitl [HS0]
        · iexact HS0
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    rcases h6 with h6 | h6 <;> rw [h6]
    · iexists d6; iexact H6
    · iexact H6

theorem defs₀_row (t : Fin cfg4.N) : defs₀ (F := F) .tc cfg4.body (cfg4.bodyArgs t (cfg4.slots t)) = bodyAt4 t := by
  unfold defs₀; rw [Defs.onTc_tc]

theorem body_obligation (c : Dev nD) : BodyObligation (dat (F := F) V c) (defs₀ (F := F)) Variants.none () Set.univ := fun t => by
  rw [bigSep_W4, bigSep_W4, defs₀_row]
  exact triple_restated (sound_body V c t) rfl .rfl fun _ => .rfl

theorem inv_enter (c : Dev nD) : Φ0 c ⊢ (dat V c).Φ 0 := by
  rw [show (dat V c).Φ 0 = inv V c 0 from rfl, show inv V c 0 = Φ0 c from if_pos rfl]

theorem inv_leave (c : Dev nD) : (dat V c).Φ (Fin.last cfg4.N) ⊢ Φ0 c := by
  rw [show (dat V c).Φ (Fin.last cfg4.N) = inv V c cfg4.N from rfl,
    show inv V c cfg4.N = iprop(iprop(owns (c : Thread nD τ) scr fullShare (rows V c) ∗ rest c) ∗ (∃ r, prngReg c r)) from if_neg (by rw [show cfg4.N = 25 from N_4]; decide), ΦA_eq]
  iintro ⟨⟨HS0, Hr⟩, Hg⟩
  isplitl [HS0 Hr]
  · isplitl [HS0]
    · iexists _; iexact HS0
    iexact Hr
  iexact Hg

end Cert.LayersIdeal.Own.K4
-- ==== Proof.LayersRunI.lean ====
module

public import Idealize.ShloMosaic.Lib.Claim
public import proofs.«01_k».proof.Proof.Gen.Own.LayersIdeal.RegionsD
public import proofs.«01_k».proof.Proof.LayersMlp1I
public import proofs.«01_k».proof.Proof.LayersMlp3I
public import proofs.«01_k».proof.Proof.LayersFinalI

/-! The run of the calls chained: what every call leaves in its arrays, in order, and that every execution ends with
    the buffers at what the last call leaves. -/

@[expose] public section

set_option maxRecDepth 16384
set_option maxHeartbeats 4000000

noncomputable section

namespace Cert.LayersIdeal.Own

open Cert.LayersIdeal Cert.LayersIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-! ## What every call leaves -/

/-- Contents, call by call. -/
abbrev One : Type := (r : Ref sig .tc) → (c : Dev nD) → Buf (Elt F) ((c : Thread nD τ).loc r)

/-- Contents at launch. -/
def o0 : One (F := F) := fun r c => m (c, Proc.devRef .tc r)

/-- The five calls' contents as one family. -/
def mk (a b d e f : One (F := F)) : Outs (F := F)
  | 2 => a | 4 => b | 6 => d | 8 => e | 10 => f | _ => a

/-- No core owes anything. -/
abbrev D : Dev nD → CellTallies nD τ sig Unit := fun _ => 0

/-- The attention call's data, first layer. -/
abbrev dat0 (c : Dev nD) : Dat τ (Elt F) Unit ℕ (UR sig nD τ) ℕ cfg0 c := K0.dat Variants.none (Ve0 m) D c

/-- What the attention call of the first layer leaves. -/
def o2 : One (F := F) := Function.update (Function.update (o0 m) main_v52_0 (fun c => (dat0 m c).arrAt 17 cfg0.N)) main_v52_1 (fun c => (dat0 m c).arrAt 18 cfg0.N)
def s2 : Outs (F := F) := mk (o2 m) (o0 m) (o0 m) (o0 m) (o0 m)

/-- The feed-forward call's data, first layer. -/
abbrev dat1 (c : Dev nD) : Dat τ (Elt F) Unit ℕ (UR sig nD τ) ℕ cfg1 c := K1.dat (fun c b => V3 m (s2 m) c (Proc.devRef .tc b)) c
def o4 : One (F := F) := Function.update (o0 m) main_v71 (fun c => (dat1 m c).arrAt 11 cfg1.N)
def s4 : Outs (F := F) := mk (o2 m) (o4 m) (o0 m) (o0 m) (o0 m)

/-- The attention call's data, second layer. -/
abbrev dat2 (c : Dev nD) : Dat τ (Elt F) Unit ℕ (UR sig nD τ) ℕ cfg2 c := K2.dat Variants.none (Ve2 m (s4 m)) D c
def o6 : One (F := F) := Function.update (Function.update (o0 m) main_v102_0 (fun c => (dat2 m c).arrAt 17 cfg2.N)) main_v102_1 (fun c => (dat2 m c).arrAt 18 cfg2.N)
def s6 : Outs (F := F) := mk (o2 m) (o4 m) (o6 m) (o0 m) (o0 m)

/-- The feed-forward call's data, second layer. -/
abbrev dat3 (c : Dev nD) : Dat τ (Elt F) Unit ℕ (UR sig nD τ) ℕ cfg3 c := K3.dat (fun c b => V7 m (s6 m) c (Proc.devRef .tc b)) c
def o8 : One (F := F) := Function.update (o0 m) main_v121 (fun c => (dat3 m c).arrAt 11 cfg3.N)
def s8 : Outs (F := F) := mk (o2 m) (o4 m) (o6 m) (o8 m) (o0 m)

/-- The last call's data. -/
abbrev dat4 (c : Dev nD) : Dat τ (Elt F) Unit ℕ (UR sig nD τ) ℕ cfg4 c := K4.dat (fun c b => V9 m (s8 m) c (Proc.devRef .tc b)) c
def o10 : One (F := F) := Function.update (Function.update (o0 m) main_v123_0 (fun c => (dat4 m c).arrAt 5 cfg4.N)) main_v123_1 (fun c => (dat4 m c).arrAt 6 cfg4.N)
def s10 : Outs (F := F) := mk (o2 m) (o4 m) (o6 m) (o8 m) (o10 m)

/-- What the calls leave, all of them. -/
abbrev outs : Outs (F := F) := s10 m

/-- The five calls' data. -/
def pdats : (p : Fin 5) → (c : Dev nD) → Dat τ (Elt F) Unit ℕ (UR sig nD τ) ℕ (cfgs p) c
  | ⟨0, _⟩ => fun c => dat0 m c
  | ⟨1, _⟩ => fun c => K1.dat (fun c b => V3 m (outs m) c (Proc.devRef .tc b)) c
  | ⟨2, _⟩ => fun c => K2.dat Variants.none (Ve2 m (outs m)) D c
  | ⟨3, _⟩ => fun c => K3.dat (fun c b => V7 m (outs m) c (Proc.devRef .tc b)) c
  | ⟨4, _⟩ => fun c => K4.dat (fun c b => V9 m (outs m) c (Proc.devRef .tc b)) c

/-- The same, the attention calls' as supplied. -/
abbrev pd := pdatsD (U := UR sig nD τ) (Lvl := ℕ) m (outs m) Variants.none (pdats m) D D

theorem outs_main_v52_0 (c : Dev nD) : outs m 2 main_v52_0 c = ((pd m) 0 c).arrAt 17 cfg0.N :=
  (congrFun (show outs m 2 main_v52_0 = fun c => (dat0 m c).arrAt 17 cfg0.N from by
    show o2 m main_v52_0 = _
    unfold o2
    exact (Function.update_of_ne (by decide : (main_v52_0 : Ref sig .tc) ≠ main_v52_1) _ _).trans (Function.update_self _ _ _)) c).trans rfl

theorem outs_main_v52_1 (c : Dev nD) : outs m 2 main_v52_1 c = ((pd m) 0 c).arrAt 18 cfg0.N :=
  (congrFun (show outs m 2 main_v52_1 = fun c => (dat0 m c).arrAt 18 cfg0.N from by
    show o2 m main_v52_1 = _
    unfold o2
    exact Function.update_self _ _ _) c).trans rfl

theorem outs_main_v71 (c : Dev nD) : outs m 4 main_v71 c = ((pd m) 1 c).arrAt 11 cfg1.N :=
  (congrFun (show outs m 4 main_v71 = fun c => (dat1 m c).arrAt 11 cfg1.N from by
    show o4 m main_v71 = _
    unfold o4
    exact Function.update_self _ _ _) c).trans rfl

theorem outs_main_v102_0 (c : Dev nD) : outs m 6 main_v102_0 c = ((pd m) 2 c).arrAt 17 cfg2.N :=
  (congrFun (show outs m 6 main_v102_0 = fun c => (dat2 m c).arrAt 17 cfg2.N from by
    show o6 m main_v102_0 = _
    unfold o6
    exact (Function.update_of_ne (by decide : (main_v102_0 : Ref sig .tc) ≠ main_v102_1) _ _).trans (Function.update_self _ _ _)) c).trans rfl

theorem outs_main_v102_1 (c : Dev nD) : outs m 6 main_v102_1 c = ((pd m) 2 c).arrAt 18 cfg2.N :=
  (congrFun (show outs m 6 main_v102_1 = fun c => (dat2 m c).arrAt 18 cfg2.N from by
    show o6 m main_v102_1 = _
    unfold o6
    exact Function.update_self _ _ _) c).trans rfl

theorem outs_main_v121 (c : Dev nD) : outs m 8 main_v121 c = ((pd m) 3 c).arrAt 11 cfg3.N :=
  (congrFun (show outs m 8 main_v121 = fun c => (dat3 m c).arrAt 11 cfg3.N from by
    show o8 m main_v121 = _
    unfold o8
    exact Function.update_self _ _ _) c).trans rfl

theorem outs_main_v123_0 (c : Dev nD) : outs m 10 main_v123_0 c = ((pd m) 4 c).arrAt 5 cfg4.N :=
  (congrFun (show outs m 10 main_v123_0 = fun c => (dat4 m c).arrAt 5 cfg4.N from by
    show o10 m main_v123_0 = _
    unfold o10
    exact (Function.update_of_ne (by decide : (main_v123_0 : Ref sig .tc) ≠ main_v123_1) _ _).trans (Function.update_self _ _ _)) c).trans rfl

theorem outs_main_v123_1 (c : Dev nD) : outs m 10 main_v123_1 c = ((pd m) 4 c).arrAt 6 cfg4.N :=
  (congrFun (show outs m 10 main_v123_1 = fun c => (dat4 m c).arrAt 6 cfg4.N from by
    show o10 m main_v123_1 = _
    unfold o10
    exact Function.update_self _ _ _) c).trans rfl

/-! ## The levels: one index, one level -/

/-- The index every counter of a TensorCore waits at. -/
def L (g : GSem nD τ sig) : Finset Unit := if g.1.2 = .tc then {()} else ∅
/-- One level. -/
def lv (_ : GSem nD τ sig) (_ : Unit) : ℕ := 0

theorem L_off (g : GSem nD τ sig) (h : g.1.2 ≠ .tc) : L g = ∅ := if_neg h

theorem cut (p : Fin 5) : Pipeline.LevelCut (pcfgs (F := F)) adm () L lv p D (fun _ => 0) where
  hι _ _ _ := by unfold L; rw [if_pos rfl]; exact Finset.mem_singleton_self _
  hιb _ _ _ := le_rfl
  hD _ _ _ h := absurd h (lt_irrefl _)

/-- What a core keeps between the items beside its buffers. -/
def E (_ : Fin 6) (c : Dev nD) : sProp 𝕄 := iprop((∃ r, prngReg c r) ∗ (∃ W, owes (c : Thread nD τ) (D c) W) ∗ BI.emp)

/-! ## Call 1 -/

theorem arr1_mem (w : Fin cfg1.W) : (Proc.devRef .tc (Pipeline.arrRef spec1 w) : DevRef τ sig) ∈ Pipeline.arrRefs (τ := τ) spec1 :=
  Finset.mem_map_of_mem _ (Finset.mem_image_of_mem _ (Finset.mem_univ w))
theorem arr1_S : Pipeline.arrRefs (τ := τ) spec1 ⊆ Pipeline.ucRefs τ sig :=
  Pipeline.arrRefs_sub_ucRefs spec1 (by decide)
theorem V4_at_main_v71 (outs : Outs (F := F)) (c : Dev nD) : V4 m outs c (Proc.devRef .tc main_v71) = outs 4 main_v71 c := by
  simp only [V4, Function.update_self]
theorem rest1_eq (outs : Outs (F := F)) (c : Dev nD) : ∀ b ∈ (Pipeline.ucRefs τ sig) \ Pipeline.arrRefs (τ := τ) spec1, V4 m outs c b = V3 m outs c b := fun b hb => by
  have hn : b ∉ Pipeline.arrRefs (τ := τ) spec1 := (Finset.mem_sdiff.mp hb).2
  have h11 : b ≠ Proc.devRef .tc main_v71 := by rintro rfl; exact hn (arr1_mem 11)
  simp only [V4, Function.update_of_ne h11]

set_option backward.isDefEq.respectTransparency.types false in
/-- Call 1, entered from the buffers as the stretch before it leaves them. -/
def R1 : RegionSeg (pcfgs (F := F)) adm (pd m) () defs₀ Variants.none L lv 1 :=
  Pipeline.RegionSeg.ofHeld (pcfgs (F := F)) adm (pd m) () defs₀ Variants.none L lv 1 D
    (fun c => iprop(∃ r, prngReg c r)) (fun c => iprop(∃ r, prngReg c r))
    launch1.toP rfl
    (fun c => (K1.body_obligation (fun c b => V3 m (outs m) c (Proc.devRef .tc b)) c).loose) (fun _ _ => rfl) (fun _ => rfl)
    (fun c => ((pd m) 1 c).share_full fun _ => rfl) (fun c => .rfl) (fun c => .rfl) (fun _ => 0) (cut 1)
    (fun c => iprop(StableHlo.held (c : Thread nD τ) ((Pipeline.ucRefs τ sig) \ Pipeline.arrRefs (τ := τ) spec1) (V3 m (outs m) c) ∗ BI.emp))
    (V3 m (outs m)) (V4 m (outs m)) (fun _ _ => rfl)
    (fun c => fun | 0 => (((pd m) 1 c).arrAt_in 0 rfl _).trans ((K1.A_eq (fun c b => V3 m (outs m) c (Proc.devRef .tc b)) c 0).trans (V4_of m (outs m) c (Pipeline.arrRef spec1 0) (by decide)).symm) | 1 => (((pd m) 1 c).arrAt_in 1 rfl _).trans ((K1.A_eq (fun c b => V3 m (outs m) c (Proc.devRef .tc b)) c 1).trans (V4_of m (outs m) c (Pipeline.arrRef spec1 1) (by decide)).symm) | 2 => (((pd m) 1 c).arrAt_in 2 rfl _).trans ((K1.A_eq (fun c b => V3 m (outs m) c (Proc.devRef .tc b)) c 2).trans (V4_of m (outs m) c (Pipeline.arrRef spec1 2) (by decide)).symm) | 3 => (((pd m) 1 c).arrAt_in 3 rfl _).trans ((K1.A_eq (fun c b => V3 m (outs m) c (Proc.devRef .tc b)) c 3).trans (V4_of m (outs m) c (Pipeline.arrRef spec1 3) (by decide)).symm) | 4 => (((pd m) 1 c).arrAt_in 4 rfl _).trans ((K1.A_eq (fun c b => V3 m (outs m) c (Proc.devRef .tc b)) c 4).trans (V4_of m (outs m) c (Pipeline.arrRef spec1 4) (by decide)).symm) | 5 => (((pd m) 1 c).arrAt_in 5 rfl _).trans ((K1.A_eq (fun c b => V3 m (outs m) c (Proc.devRef .tc b)) c 5).trans (V4_of m (outs m) c (Pipeline.arrRef spec1 5) (by decide)).symm) | 6 => (((pd m) 1 c).arrAt_in 6 rfl _).trans ((K1.A_eq (fun c b => V3 m (outs m) c (Proc.devRef .tc b)) c 6).trans (V4_of m (outs m) c (Pipeline.arrRef spec1 6) (by decide)).symm) | 7 => (((pd m) 1 c).arrAt_in 7 rfl _).trans ((K1.A_eq (fun c b => V3 m (outs m) c (Proc.devRef .tc b)) c 7).trans (V4_of m (outs m) c (Pipeline.arrRef spec1 7) (by decide)).symm) | 8 => (((pd m) 1 c).arrAt_in 8 rfl _).trans ((K1.A_eq (fun c b => V3 m (outs m) c (Proc.devRef .tc b)) c 8).trans (V4_of m (outs m) c (Pipeline.arrRef spec1 8) (by decide)).symm) | 9 => (((pd m) 1 c).arrAt_in 9 rfl _).trans ((K1.A_eq (fun c b => V3 m (outs m) c (Proc.devRef .tc b)) c 9).trans (V4_of m (outs m) c (Pipeline.arrRef spec1 9) (by decide)).symm) | 10 => (((pd m) 1 c).arrAt_in 10 rfl _).trans ((K1.A_eq (fun c b => V3 m (outs m) c (Proc.devRef .tc b)) c 10).trans (V4_of m (outs m) c (Pipeline.arrRef spec1 10) (by decide)).symm) | 11 => (outs_main_v71 m c).symm.trans (V4_at_main_v71 m (outs m) c).symm | ⟨_ + 12, h⟩ => absurd h (Nat.not_lt.2 (Nat.le_add_left _ _)))

theorem hpre1 (i : Fin 6) (c : Dev nD) :
    iprop(StableHlo.held (c : Thread nD τ) (Pipeline.ucRefs τ sig) (V3 m (outs m) c) ∗ E i c) ⊢ (R1 m).pre c := by
  show _ ⊢ iprop(StableHlo.held (c : Thread nD τ) (Pipeline.arrRefs (τ := τ) spec1) (V3 m (outs m) c) ∗ (∃ r, prngReg c r)
    ∗ (StableHlo.held (c : Thread nD τ) ((Pipeline.ucRefs τ sig) \ Pipeline.arrRefs (τ := τ) spec1) (V3 m (outs m) c) ∗ BI.emp) ∗ ∃ W, owes (c : Thread nD τ) (D c) W)
  rw [StableHlo.held_sub_split (c : Thread nD τ) arr1_S (V3 m (outs m) c)]
  unfold E
  iintro ⟨⟨Ha, Hr⟩, Hp, HO, Hx⟩
  isplitl [Ha]; · iexact Ha
  isplitl [Hp]; · iexact Hp
  isplitl [Hr Hx]; · isplitl [Hr] <;> iassumption
  iexact HO

theorem hpost1 (i : Fin 6) (c : Dev nD) :
    (R1 m).post c ⊢ iprop(StableHlo.held (c : Thread nD τ) (Pipeline.ucRefs τ sig) (V4 m (outs m) c) ∗ E i c) := by
  show iprop(StableHlo.held (c : Thread nD τ) (Pipeline.arrRefs (τ := τ) spec1) (V4 m (outs m) c) ∗ (∃ r, prngReg c r)
    ∗ (StableHlo.held (c : Thread nD τ) ((Pipeline.ucRefs τ sig) \ Pipeline.arrRefs (τ := τ) spec1) (V3 m (outs m) c) ∗ BI.emp) ∗ ∃ W, owes (c : Thread nD τ) (D c) W) ⊢ _
  rw [StableHlo.held_sub_split (c : Thread nD τ) arr1_S (V4 m (outs m) c),
    StableHlo.held_congr (c : Thread nD τ) (S := (Pipeline.ucRefs τ sig) \ Pipeline.arrRefs (τ := τ) spec1) (rest1_eq m (outs m) c)]
  unfold E
  iintro ⟨Ha, Hp, ⟨Hr, Hx⟩, HO⟩
  isplitl [Ha Hr]; · isplitl [Ha] <;> iassumption
  isplitl [Hp]; · iexact Hp
  isplitl [HO]; · iexact HO
  iexact Hx

/-! ## Call 3 -/

theorem arr3_mem (w : Fin cfg3.W) : (Proc.devRef .tc (Pipeline.arrRef spec3 w) : DevRef τ sig) ∈ Pipeline.arrRefs (τ := τ) spec3 :=
  Finset.mem_map_of_mem _ (Finset.mem_image_of_mem _ (Finset.mem_univ w))
theorem arr3_S : Pipeline.arrRefs (τ := τ) spec3 ⊆ Pipeline.ucRefs τ sig :=
  Pipeline.arrRefs_sub_ucRefs spec3 (by decide)
theorem V8_at_main_v121 (outs : Outs (F := F)) (c : Dev nD) : V8 m outs c (Proc.devRef .tc main_v121) = outs 8 main_v121 c := by
  simp only [V8, Function.update_self]
theorem rest3_eq (outs : Outs (F := F)) (c : Dev nD) : ∀ b ∈ (Pipeline.ucRefs τ sig) \ Pipeline.arrRefs (τ := τ) spec3, V8 m outs c b = V7 m outs c b := fun b hb => by
  have hn : b ∉ Pipeline.arrRefs (τ := τ) spec3 := (Finset.mem_sdiff.mp hb).2
  have h11 : b ≠ Proc.devRef .tc main_v121 := by rintro rfl; exact hn (arr3_mem 11)
  simp only [V8, Function.update_of_ne h11]

set_option backward.isDefEq.respectTransparency.types false in
/-- Call 3, entered from the buffers as the stretch before it leaves them. -/
def R3 : RegionSeg (pcfgs (F := F)) adm (pd m) () defs₀ Variants.none L lv 3 :=
  Pipeline.RegionSeg.ofHeld (pcfgs (F := F)) adm (pd m) () defs₀ Variants.none L lv 3 D
    (fun c => iprop(∃ r, prngReg c r)) (fun c => iprop(∃ r, prngReg c r))
    launch3.toP rfl
    (fun c => (K3.body_obligation (fun c b => V7 m (outs m) c (Proc.devRef .tc b)) c).loose) (fun _ _ => rfl) (fun _ => rfl)
    (fun c => ((pd m) 3 c).share_full fun _ => rfl) (fun c => .rfl) (fun c => .rfl) (fun _ => 0) (cut 3)
    (fun c => iprop(StableHlo.held (c : Thread nD τ) ((Pipeline.ucRefs τ sig) \ Pipeline.arrRefs (τ := τ) spec3) (V7 m (outs m) c) ∗ BI.emp))
    (V7 m (outs m)) (V8 m (outs m)) (fun _ _ => rfl)
    (fun c => fun | 0 => (((pd m) 3 c).arrAt_in 0 rfl _).trans ((K3.A_eq (fun c b => V7 m (outs m) c (Proc.devRef .tc b)) c 0).trans (V8_of m (outs m) c (Pipeline.arrRef spec3 0) (by decide)).symm) | 1 => (((pd m) 3 c).arrAt_in 1 rfl _).trans ((K3.A_eq (fun c b => V7 m (outs m) c (Proc.devRef .tc b)) c 1).trans (V8_of m (outs m) c (Pipeline.arrRef spec3 1) (by decide)).symm) | 2 => (((pd m) 3 c).arrAt_in 2 rfl _).trans ((K3.A_eq (fun c b => V7 m (outs m) c (Proc.devRef .tc b)) c 2).trans (V8_of m (outs m) c (Pipeline.arrRef spec3 2) (by decide)).symm) | 3 => (((pd m) 3 c).arrAt_in 3 rfl _).trans ((K3.A_eq (fun c b => V7 m (outs m) c (Proc.devRef .tc b)) c 3).trans (V8_of m (outs m) c (Pipeline.arrRef spec3 3) (by decide)).symm) | 4 => (((pd m) 3 c).arrAt_in 4 rfl _).trans ((K3.A_eq (fun c b => V7 m (outs m) c (Proc.devRef .tc b)) c 4).trans (V8_of m (outs m) c (Pipeline.arrRef spec3 4) (by decide)).symm) | 5 => (((pd m) 3 c).arrAt_in 5 rfl _).trans ((K3.A_eq (fun c b => V7 m (outs m) c (Proc.devRef .tc b)) c 5).trans (V8_of m (outs m) c (Pipeline.arrRef spec3 5) (by decide)).symm) | 6 => (((pd m) 3 c).arrAt_in 6 rfl _).trans ((K3.A_eq (fun c b => V7 m (outs m) c (Proc.devRef .tc b)) c 6).trans (V8_of m (outs m) c (Pipeline.arrRef spec3 6) (by decide)).symm) | 7 => (((pd m) 3 c).arrAt_in 7 rfl _).trans ((K3.A_eq (fun c b => V7 m (outs m) c (Proc.devRef .tc b)) c 7).trans (V8_of m (outs m) c (Pipeline.arrRef spec3 7) (by decide)).symm) | 8 => (((pd m) 3 c).arrAt_in 8 rfl _).trans ((K3.A_eq (fun c b => V7 m (outs m) c (Proc.devRef .tc b)) c 8).trans (V8_of m (outs m) c (Pipeline.arrRef spec3 8) (by decide)).symm) | 9 => (((pd m) 3 c).arrAt_in 9 rfl _).trans ((K3.A_eq (fun c b => V7 m (outs m) c (Proc.devRef .tc b)) c 9).trans (V8_of m (outs m) c (Pipeline.arrRef spec3 9) (by decide)).symm) | 10 => (((pd m) 3 c).arrAt_in 10 rfl _).trans ((K3.A_eq (fun c b => V7 m (outs m) c (Proc.devRef .tc b)) c 10).trans (V8_of m (outs m) c (Pipeline.arrRef spec3 10) (by decide)).symm) | 11 => (outs_main_v121 m c).symm.trans (V8_at_main_v121 m (outs m) c).symm | ⟨_ + 12, h⟩ => absurd h (Nat.not_lt.2 (Nat.le_add_left _ _)))

theorem hpre3 (i : Fin 6) (c : Dev nD) :
    iprop(StableHlo.held (c : Thread nD τ) (Pipeline.ucRefs τ sig) (V7 m (outs m) c) ∗ E i c) ⊢ (R3 m).pre c := by
  show _ ⊢ iprop(StableHlo.held (c : Thread nD τ) (Pipeline.arrRefs (τ := τ) spec3) (V7 m (outs m) c) ∗ (∃ r, prngReg c r)
    ∗ (StableHlo.held (c : Thread nD τ) ((Pipeline.ucRefs τ sig) \ Pipeline.arrRefs (τ := τ) spec3) (V7 m (outs m) c) ∗ BI.emp) ∗ ∃ W, owes (c : Thread nD τ) (D c) W)
  rw [StableHlo.held_sub_split (c : Thread nD τ) arr3_S (V7 m (outs m) c)]
  unfold E
  iintro ⟨⟨Ha, Hr⟩, Hp, HO, Hx⟩
  isplitl [Ha]; · iexact Ha
  isplitl [Hp]; · iexact Hp
  isplitl [Hr Hx]; · isplitl [Hr] <;> iassumption
  iexact HO

theorem hpost3 (i : Fin 6) (c : Dev nD) :
    (R3 m).post c ⊢ iprop(StableHlo.held (c : Thread nD τ) (Pipeline.ucRefs τ sig) (V8 m (outs m) c) ∗ E i c) := by
  show iprop(StableHlo.held (c : Thread nD τ) (Pipeline.arrRefs (τ := τ) spec3) (V8 m (outs m) c) ∗ (∃ r, prngReg c r)
    ∗ (StableHlo.held (c : Thread nD τ) ((Pipeline.ucRefs τ sig) \ Pipeline.arrRefs (τ := τ) spec3) (V7 m (outs m) c) ∗ BI.emp) ∗ ∃ W, owes (c : Thread nD τ) (D c) W) ⊢ _
  rw [StableHlo.held_sub_split (c : Thread nD τ) arr3_S (V8 m (outs m) c),
    StableHlo.held_congr (c : Thread nD τ) (S := (Pipeline.ucRefs τ sig) \ Pipeline.arrRefs (τ := τ) spec3) (rest3_eq m (outs m) c)]
  unfold E
  iintro ⟨Ha, Hp, ⟨Hr, Hx⟩, HO⟩
  isplitl [Ha Hr]; · isplitl [Ha] <;> iassumption
  isplitl [Hp]; · iexact Hp
  isplitl [HO]; · iexact HO
  iexact Hx

/-! ## Call 4 -/

theorem arr4_mem (w : Fin cfg4.W) : (Proc.devRef .tc (Pipeline.arrRef spec4 w) : DevRef τ sig) ∈ Pipeline.arrRefs (τ := τ) spec4 :=
  Finset.mem_map_of_mem _ (Finset.mem_image_of_mem _ (Finset.mem_univ w))
theorem arr4_S : Pipeline.arrRefs (τ := τ) spec4 ⊆ Pipeline.ucRefs τ sig :=
  Pipeline.arrRefs_sub_ucRefs spec4 (by decide)
theorem V10_at_main_v123_0 (outs : Outs (F := F)) (c : Dev nD) : V10 m outs c (Proc.devRef .tc main_v123_0) = outs 10 main_v123_0 c := by
  simp only [V10, Function.update_of_ne (StableHlo.devRef_ne_of_ne (by decide : (main_v123_0 : Ref sig .tc) ≠ main_v123_1)), Function.update_self]
theorem V10_at_main_v123_1 (outs : Outs (F := F)) (c : Dev nD) : V10 m outs c (Proc.devRef .tc main_v123_1) = outs 10 main_v123_1 c := by
  simp only [V10, Function.update_self]
theorem rest4_eq (outs : Outs (F := F)) (c : Dev nD) : ∀ b ∈ (Pipeline.ucRefs τ sig) \ Pipeline.arrRefs (τ := τ) spec4, V10 m outs c b = V9 m outs c b := fun b hb => by
  have hn : b ∉ Pipeline.arrRefs (τ := τ) spec4 := (Finset.mem_sdiff.mp hb).2
  have h5 : b ≠ Proc.devRef .tc main_v123_0 := by rintro rfl; exact hn (arr4_mem 5)
  have h6 : b ≠ Proc.devRef .tc main_v123_1 := by rintro rfl; exact hn (arr4_mem 6)
  simp only [V10, Function.update_of_ne h5, Function.update_of_ne h6]

set_option backward.isDefEq.respectTransparency.types false in
/-- Call 4, entered from the buffers as the stretch before it leaves them. -/
def R4 : RegionSeg (pcfgs (F := F)) adm (pd m) () defs₀ Variants.none L lv 4 :=
  Pipeline.RegionSeg.ofHeld (pcfgs (F := F)) adm (pd m) () defs₀ Variants.none L lv 4 D
    (fun c => iprop(∃ r, prngReg c r)) (fun c => iprop(∃ r, prngReg c r))
    launch4.toP rfl
    (fun c => (K4.body_obligation (fun c b => V9 m (outs m) c (Proc.devRef .tc b)) c).loose) (fun _ _ => rfl) (fun _ => rfl)
    (fun c => ((pd m) 4 c).share_full fun _ => rfl) (fun c => K4.inv_enter (fun c b => V9 m (outs m) c (Proc.devRef .tc b)) c) (fun c => K4.inv_leave (fun c b => V9 m (outs m) c (Proc.devRef .tc b)) c) (fun _ => 0) (cut 4)
    (fun c => iprop(StableHlo.held (c : Thread nD τ) ((Pipeline.ucRefs τ sig) \ Pipeline.arrRefs (τ := τ) spec4) (V9 m (outs m) c) ∗ BI.emp))
    (V9 m (outs m)) (V10 m (outs m)) (fun _ _ => rfl)
    (fun c => fun | 0 => (((pd m) 4 c).arrAt_in 0 rfl _).trans ((K4.A_eq (fun c b => V9 m (outs m) c (Proc.devRef .tc b)) c 0).trans (V10_of m (outs m) c (Pipeline.arrRef spec4 0) (by decide)).symm) | 1 => (((pd m) 4 c).arrAt_in 1 rfl _).trans ((K4.A_eq (fun c b => V9 m (outs m) c (Proc.devRef .tc b)) c 1).trans (V10_of m (outs m) c (Pipeline.arrRef spec4 1) (by decide)).symm) | 2 => (((pd m) 4 c).arrAt_in 2 rfl _).trans ((K4.A_eq (fun c b => V9 m (outs m) c (Proc.devRef .tc b)) c 2).trans (V10_of m (outs m) c (Pipeline.arrRef spec4 2) (by decide)).symm) | 3 => (((pd m) 4 c).arrAt_in 3 rfl _).trans ((K4.A_eq (fun c b => V9 m (outs m) c (Proc.devRef .tc b)) c 3).trans (V10_of m (outs m) c (Pipeline.arrRef spec4 3) (by decide)).symm) | 4 => (((pd m) 4 c).arrAt_in 4 rfl _).trans ((K4.A_eq (fun c b => V9 m (outs m) c (Proc.devRef .tc b)) c 4).trans (V10_of m (outs m) c (Pipeline.arrRef spec4 4) (by decide)).symm) | 5 => (outs_main_v123_0 m c).symm.trans (V10_at_main_v123_0 m (outs m) c).symm | 6 => (outs_main_v123_1 m c).symm.trans (V10_at_main_v123_1 m (outs m) c).symm | ⟨_ + 7, h⟩ => absurd h (Nat.not_lt.2 (Nat.le_add_left _ _)))

theorem hpre4 (i : Fin 6) (c : Dev nD) :
    iprop(StableHlo.held (c : Thread nD τ) (Pipeline.ucRefs τ sig) (V9 m (outs m) c) ∗ E i c) ⊢ (R4 m).pre c := by
  show _ ⊢ iprop(StableHlo.held (c : Thread nD τ) (Pipeline.arrRefs (τ := τ) spec4) (V9 m (outs m) c) ∗ (∃ r, prngReg c r)
    ∗ (StableHlo.held (c : Thread nD τ) ((Pipeline.ucRefs τ sig) \ Pipeline.arrRefs (τ := τ) spec4) (V9 m (outs m) c) ∗ BI.emp) ∗ ∃ W, owes (c : Thread nD τ) (D c) W)
  rw [StableHlo.held_sub_split (c : Thread nD τ) arr4_S (V9 m (outs m) c)]
  unfold E
  iintro ⟨⟨Ha, Hr⟩, Hp, HO, Hx⟩
  isplitl [Ha]; · iexact Ha
  isplitl [Hp]; · iexact Hp
  isplitl [Hr Hx]; · isplitl [Hr] <;> iassumption
  iexact HO

theorem hpost4 (i : Fin 6) (c : Dev nD) :
    (R4 m).post c ⊢ iprop(StableHlo.held (c : Thread nD τ) (Pipeline.ucRefs τ sig) (V10 m (outs m) c) ∗ E i c) := by
  show iprop(StableHlo.held (c : Thread nD τ) (Pipeline.arrRefs (τ := τ) spec4) (V10 m (outs m) c) ∗ (∃ r, prngReg c r)
    ∗ (StableHlo.held (c : Thread nD τ) ((Pipeline.ucRefs τ sig) \ Pipeline.arrRefs (τ := τ) spec4) (V9 m (outs m) c) ∗ BI.emp) ∗ ∃ W, owes (c : Thread nD τ) (D c) W) ⊢ _
  rw [StableHlo.held_sub_split (c : Thread nD τ) arr4_S (V10 m (outs m) c),
    StableHlo.held_congr (c : Thread nD τ) (S := (Pipeline.ucRefs τ sig) \ Pipeline.arrRefs (τ := τ) spec4) (rest4_eq m (outs m) c)]
  unfold E
  iintro ⟨Ha, Hp, ⟨Hr, Hx⟩, HO⟩
  isplitl [Ha Hr]; · isplitl [Ha] <;> iassumption
  isplitl [Hp]; · iexact Hp
  isplitl [HO]; · iexact HO
  iexact Hx

/-! ## The whole run -/

abbrev R0 := R0D m (outs m) Variants.none L lv () (pdats m) D D (fun _ => 0) (cut 0) (fun _ => (BI.emp : sProp 𝕄)) (outs_main_v52_0 m) (outs_main_v52_1 m)
abbrev R2 := R2D m (outs m) Variants.none L lv () (pdats m) D D (fun _ => 0) (cut 2) (fun _ => (BI.emp : sProp 𝕄)) (outs_main_v102_0 m) (outs_main_v102_1 m)

theorem hpre0 (c : Dev nD) : iprop(StableHlo.held (c : Thread nD τ) (Pipeline.ucRefs τ sig) (V1 m c) ∗ E 0 c) ⊢ (R0 m).pre c :=
  hpre0D m (outs m) Variants.none L lv () (pdats m) D D (fun _ => 0) (cut 0) E (fun _ => (BI.emp : sProp 𝕄)) (fun _ => .rfl) (outs_main_v52_0 m) (outs_main_v52_1 m) c
theorem hpost0 (c : Dev nD) : (R0 m).post c ⊢ iprop(StableHlo.held (c : Thread nD τ) (Pipeline.ucRefs τ sig) (V2 m (outs m) c) ∗ E 1 c) :=
  hpost0D m (outs m) Variants.none L lv () (pdats m) D D (fun _ => 0) (cut 0) E (fun _ => (BI.emp : sProp 𝕄)) (fun _ => .rfl) (outs_main_v52_0 m) (outs_main_v52_1 m) c
theorem hpre2 (c : Dev nD) : iprop(StableHlo.held (c : Thread nD τ) (Pipeline.ucRefs τ sig) (V5 m (outs m) c) ∗ E 2 c) ⊢ (R2 m).pre c :=
  hpre2D m (outs m) Variants.none L lv () (pdats m) D D (fun _ => 0) (cut 2) E (fun _ => (BI.emp : sProp 𝕄)) (fun _ => .rfl) (outs_main_v102_0 m) (outs_main_v102_1 m) c
theorem hpost2 (c : Dev nD) : (R2 m).post c ⊢ iprop(StableHlo.held (c : Thread nD τ) (Pipeline.ucRefs τ sig) (V6 m (outs m) c) ∗ E 3 c) :=
  hpost2D m (outs m) Variants.none L lv () (pdats m) D D (fun _ => 0) (cut 2) E (fun _ => (BI.emp : sProp 𝕄)) (fun _ => .rfl) (outs_main_v102_0 m) (outs_main_v102_1 m) c

/-- The launch's tokens are what the calls' counters start from. -/
theorem launch_tokens : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]; · iapply (show (ownU _ : sProp 𝕄) ⊢ BI.own (emb₁ (initOf (Pipeline.cells cfgs cellOf_inj) (Pipeline.launchToks cfgs cellOf_inj))) from .rfl); iexact Hu
  iapply (show (BI.emp : sProp 𝕄) ⊢ bigSep Finset.univ (fun _ : Dev nD => (BI.emp : sProp 𝕄)) from by rw [BI.bigSep_emp_const])
  iempintro

/-- Every execution of the chained calls ends, every buffer at what the last call leaves and every counter at zero. -/
theorem run_all (ρ : Dev nD → PrngReg) :
    θ_run defs (onTc (τ := τ) (main (F := F))) ⟨m, fun _ => 0, ρ⟩
      (fun r => (∀ c : Dev nD, ∀ b ∈ Pipeline.ucRefs τ sig, r.2.mem (c, b) = V10 m (outs m) c b) ∧ r.2.sem = fun _ => 0) := by
  refine Pipeline.θ_run_regions_kit_dev_sems (pcfgs (F := F)) adm (pd m) () cellOf_inj emb₁ defs₀ Variants.none L lv m ρ main
    (segs m (outs m) Variants.none L lv E () (pd m) (R0 m) (R1 m) (R2 m) (R3 m) (R4 m))
    (fun c Q => by
      rewrite [main_chain c, Seg.run_eq_chain,
        show (segs m (outs m) Variants.none L lv E () (pd m) (R0 m) (R1 m) (R2 m) (R3 m) (R4 m) c).map Seg.prog = [
          StableHlo.seq hostOps0, Prog.lift (.customCall (Pipeline.entry 0) ()),
          StableHlo.seq hostOps1, Prog.lift (.customCall (Pipeline.entry 1) ()),
          StableHlo.seq hostOps2, Prog.lift (.customCall (Pipeline.entry 2) ()),
          StableHlo.seq hostOps3, Prog.lift (.customCall (Pipeline.entry 3) ()),
          StableHlo.seq hostOps4, Prog.lift (.customCall (Pipeline.entry 4) ()) ] from rfl]
      dsimp (config := { failIfUnchanged := false }) only
      exact .rfl)
    (fun c => by simp only [segs, Seg.pipes_host, Seg.pipes_region, Seg.pipes_nil]; decide) (fun _ => 0) L_off
    (fun _ => (BI.emp : sProp 𝕄)) (initOf (Pipeline.cells cfgs cellOf_inj) (Pipeline.launchToks cfgs cellOf_inj))
    launch_tokens
    (T₀ := fun c => iprop(StableHlo.held (c : Thread nD τ) (Pipeline.ucRefs τ sig) (V0 m c) ∗ E 0 c))
    (Tₙ := fun c => StableHlo.held (c : Thread nD τ) (Pipeline.ucRefs τ sig) (V10 m (outs m) c))
    (hch := fun c => ⟨.rfl, hpre0 m c, hpost0 m c, hpre1 m 1 c, hpost1 m 2 c, hpre2 m c, hpost2 m c, hpre3 m 3 c, hpost3 m 4 c, hpre4 m 4 c, (hpost4 m 5 c).trans (sep_mono .rfl (by
      unfold E; iintro ⟨-, HO, -⟩; iexact HO))⟩)
    (hinit := ?_) (QY := fun c s => ∀ b ∈ Pipeline.ucRefs τ sig, s.mem (c, b) = V10 m (outs m) c b)
    (hfin := fun c s' => ?_) (hQ := fun _ h hz => ⟨h, funext fun g => hz g (.inr (regions_no_unscoped g.2))⟩)
  · refine Pipeline.initEach L lv fun c => ?_
    rw [show unscopedBufs c (fun b => m ((c.tc : Thread nD τ).loc b)) = StableHlo.held (c : Thread nD τ) (Pipeline.ucRefs τ sig) (V0 m c) from
      Pipeline.unscopedBufs_held (Ix := Unit) (Name := ℕ) (U := UR sig nD τ) (Lvl := ℕ) c (V0 m c)]
    unfold E
    iintro ⟨⟨Hh, -, HO, -, Hp, -⟩, -⟩
    imodintro
    isplitl [Hh]; · iexact Hh
    isplitl [Hp]; · iexists _; iexact Hp
    isplitl [HO]; · iexists ∅; iexact HO
    iempintro
  · unfold StableHlo.held
    iintro ⟨Hh, HSI⟩
    imodintro
    iapply (pointsTo_read_all (Pipeline.ucRefs τ sig) (fun b => ((c : Thread nD τ).1, b)) (V10 m (outs m) c) s')
    isplitl [Hh] <;> iassumption

theorem mem (r : Ref sig .tc) (h : (Proc.devRef .tc r : DevRef τ sig) ∈ Pipeline.ucRefs τ sig) : (Proc.devRef .tc r : DevRef τ sig) ∈ Pipeline.ucRefs τ sig :=
  h

end Cert.LayersIdeal.Own
-- ==== Proof.LayersFrame.lean ====
module

public import proofs.«01_k».proof.Defs
public import proofs.«01_k».proof.Proof.LayersRun
public import proofs.«01_k».proof.Proof.LayersRunI

/-! The calls chained end with their arguments unchanged and every counter at zero. -/

@[expose] public section

set_option maxRecDepth 16384
set_option maxHeartbeats 4000000

noncomputable section

namespace Cert.Layers.Own
open Cert.Layers Cert.Layers.Gen
open Idealize.ShloMosaic Idealize.ShloMosaic.TcCoe
open Idealize.SL Idealize.SL.Sem

/-- Every execution of the chained calls leaves the arguments unchanged and every counter at zero. -/
theorem frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27))
      ∧ r.2.sem = fun _ => 0) := by
  refine (θ_run _ _ _).mono (fun r h => ?_) (run_all m ρ)
  exact ⟨fun c => ⟨(h.1 c (Proc.devRef .tc main_arg0) (Finset.mem_filter.mpr ⟨StableHlo.devRef_mem_tcRefs main_arg0, by decide⟩)).trans (V10_main_arg0 m (outs m) c),
    (h.1 c (Proc.devRef .tc main_arg1) (Finset.mem_filter.mpr ⟨StableHlo.devRef_mem_tcRefs main_arg1, by decide⟩)).trans (V10_main_arg1 m (outs m) c),
    (h.1 c (Proc.devRef .tc main_arg2) (Finset.mem_filter.mpr ⟨StableHlo.devRef_mem_tcRefs main_arg2, by decide⟩)).trans (V10_main_arg2 m (outs m) c),
    (h.1 c (Proc.devRef .tc main_arg3) (Finset.mem_filter.mpr ⟨StableHlo.devRef_mem_tcRefs main_arg3, by decide⟩)).trans (V10_main_arg3 m (outs m) c),
    (h.1 c (Proc.devRef .tc main_arg4) (Finset.mem_filter.mpr ⟨StableHlo.devRef_mem_tcRefs main_arg4, by decide⟩)).trans (V10_main_arg4 m (outs m) c),
    (h.1 c (Proc.devRef .tc main_arg5) (Finset.mem_filter.mpr ⟨StableHlo.devRef_mem_tcRefs main_arg5, by decide⟩)).trans (V10_main_arg5 m (outs m) c),
    (h.1 c (Proc.devRef .tc main_arg6) (Finset.mem_filter.mpr ⟨StableHlo.devRef_mem_tcRefs main_arg6, by decide⟩)).trans (V10_main_arg6 m (outs m) c),
    (h.1 c (Proc.devRef .tc main_arg7) (Finset.mem_filter.mpr ⟨StableHlo.devRef_mem_tcRefs main_arg7, by decide⟩)).trans (V10_main_arg7 m (outs m) c),
    (h.1 c (Proc.devRef .tc main_arg8) (Finset.mem_filter.mpr ⟨StableHlo.devRef_mem_tcRefs main_arg8, by decide⟩)).trans (V10_main_arg8 m (outs m) c),
    (h.1 c (Proc.devRef .tc main_arg9) (Finset.mem_filter.mpr ⟨StableHlo.devRef_mem_tcRefs main_arg9, by decide⟩)).trans (V10_main_arg9 m (outs m) c),
    (h.1 c (Proc.devRef .tc main_arg10) (Finset.mem_filter.mpr ⟨StableHlo.devRef_mem_tcRefs main_arg10, by decide⟩)).trans (V10_main_arg10 m (outs m) c),
    (h.1 c (Proc.devRef .tc main_arg11) (Finset.mem_filter.mpr ⟨StableHlo.devRef_mem_tcRefs main_arg11, by decide⟩)).trans (V10_main_arg11 m (outs m) c),
    (h.1 c (Proc.devRef .tc main_arg12) (Finset.mem_filter.mpr ⟨StableHlo.devRef_mem_tcRefs main_arg12, by decide⟩)).trans (V10_main_arg12 m (outs m) c),
    (h.1 c (Proc.devRef .tc main_arg13) (Finset.mem_filter.mpr ⟨StableHlo.devRef_mem_tcRefs main_arg13, by decide⟩)).trans (V10_main_arg13 m (outs m) c),
    (h.1 c (Proc.devRef .tc main_arg14) (Finset.mem_filter.mpr ⟨StableHlo.devRef_mem_tcRefs main_arg14, by decide⟩)).trans (V10_main_arg14 m (outs m) c),
    (h.1 c (Proc.devRef .tc main_arg15) (Finset.mem_filter.mpr ⟨StableHlo.devRef_mem_tcRefs main_arg15, by decide⟩)).trans (V10_main_arg15 m (outs m) c),
    (h.1 c (Proc.devRef .tc main_arg16) (Finset.mem_filter.mpr ⟨StableHlo.devRef_mem_tcRefs main_arg16, by decide⟩)).trans (V10_main_arg16 m (outs m) c),
    (h.1 c (Proc.devRef .tc main_arg17) (Finset.mem_filter.mpr ⟨StableHlo.devRef_mem_tcRefs main_arg17, by decide⟩)).trans (V10_main_arg17 m (outs m) c),
    (h.1 c (Proc.devRef .tc main_arg18) (Finset.mem_filter.mpr ⟨StableHlo.devRef_mem_tcRefs main_arg18, by decide⟩)).trans (V10_main_arg18 m (outs m) c),
    (h.1 c (Proc.devRef .tc main_arg19) (Finset.mem_filter.mpr ⟨StableHlo.devRef_mem_tcRefs main_arg19, by decide⟩)).trans (V10_main_arg19 m (outs m) c),
    (h.1 c (Proc.devRef .tc main_arg20) (Finset.mem_filter.mpr ⟨StableHlo.devRef_mem_tcRefs main_arg20, by decide⟩)).trans (V10_main_arg20 m (outs m) c),
    (h.1 c (Proc.devRef .tc main_arg21) (Finset.mem_filter.mpr ⟨StableHlo.devRef_mem_tcRefs main_arg21, by decide⟩)).trans (V10_main_arg21 m (outs m) c),
    (h.1 c (Proc.devRef .tc main_arg22) (Finset.mem_filter.mpr ⟨StableHlo.devRef_mem_tcRefs main_arg22, by decide⟩)).trans (V10_main_arg22 m (outs m) c),
    (h.1 c (Proc.devRef .tc main_arg23) (Finset.mem_filter.mpr ⟨StableHlo.devRef_mem_tcRefs main_arg23, by decide⟩)).trans (V10_main_arg23 m (outs m) c),
    (h.1 c (Proc.devRef .tc main_arg24) (Finset.mem_filter.mpr ⟨StableHlo.devRef_mem_tcRefs main_arg24, by decide⟩)).trans (V10_main_arg24 m (outs m) c),
    (h.1 c (Proc.devRef .tc main_arg25) (Finset.mem_filter.mpr ⟨StableHlo.devRef_mem_tcRefs main_arg25, by decide⟩)).trans (V10_main_arg25 m (outs m) c),
    (h.1 c (Proc.devRef .tc main_arg26) (Finset.mem_filter.mpr ⟨StableHlo.devRef_mem_tcRefs main_arg26, by decide⟩)).trans (V10_main_arg26 m (outs m) c),
    (h.1 c (Proc.devRef .tc main_arg27) (Finset.mem_filter.mpr ⟨StableHlo.devRef_mem_tcRefs main_arg27, by decide⟩)).trans (V10_main_arg27 m (outs m) c)⟩, h.2⟩

end Cert.Layers.Own

namespace Cert.LayersIdeal.Own
open Cert.LayersIdeal Cert.LayersIdeal.Gen
open Idealize.ShloMosaic Idealize.ShloMosaic.TcCoe
open Idealize.SL Idealize.SL.Sem

/-- Every execution of the chained calls leaves the arguments unchanged and every counter at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27))
      ∧ r.2.sem = fun _ => 0) := by
  refine (θ_run _ _ _).mono (fun r h => ?_) (run_all m ρ)
  exact ⟨fun c => ⟨(h.1 c (Proc.devRef .tc main_arg0) (Finset.mem_filter.mpr ⟨StableHlo.devRef_mem_tcRefs main_arg0, by decide⟩)).trans (V10_main_arg0 m (outs m) c),
    (h.1 c (Proc.devRef .tc main_arg1) (Finset.mem_filter.mpr ⟨StableHlo.devRef_mem_tcRefs main_arg1, by decide⟩)).trans (V10_main_arg1 m (outs m) c),
    (h.1 c (Proc.devRef .tc main_arg2) (Finset.mem_filter.mpr ⟨StableHlo.devRef_mem_tcRefs main_arg2, by decide⟩)).trans (V10_main_arg2 m (outs m) c),
    (h.1 c (Proc.devRef .tc main_arg3) (Finset.mem_filter.mpr ⟨StableHlo.devRef_mem_tcRefs main_arg3, by decide⟩)).trans (V10_main_arg3 m (outs m) c),
    (h.1 c (Proc.devRef .tc main_arg4) (Finset.mem_filter.mpr ⟨StableHlo.devRef_mem_tcRefs main_arg4, by decide⟩)).trans (V10_main_arg4 m (outs m) c),
    (h.1 c (Proc.devRef .tc main_arg5) (Finset.mem_filter.mpr ⟨StableHlo.devRef_mem_tcRefs main_arg5, by decide⟩)).trans (V10_main_arg5 m (outs m) c),
    (h.1 c (Proc.devRef .tc main_arg6) (Finset.mem_filter.mpr ⟨StableHlo.devRef_mem_tcRefs main_arg6, by decide⟩)).trans (V10_main_arg6 m (outs m) c),
    (h.1 c (Proc.devRef .tc main_arg7) (Finset.mem_filter.mpr ⟨StableHlo.devRef_mem_tcRefs main_arg7, by decide⟩)).trans (V10_main_arg7 m (outs m) c),
    (h.1 c (Proc.devRef .tc main_arg8) (Finset.mem_filter.mpr ⟨StableHlo.devRef_mem_tcRefs main_arg8, by decide⟩)).trans (V10_main_arg8 m (outs m) c),
    (h.1 c (Proc.devRef .tc main_arg9) (Finset.mem_filter.mpr ⟨StableHlo.devRef_mem_tcRefs main_arg9, by decide⟩)).trans (V10_main_arg9 m (outs m) c),
    (h.1 c (Proc.devRef .tc main_arg10) (Finset.mem_filter.mpr ⟨StableHlo.devRef_mem_tcRefs main_arg10, by decide⟩)).trans (V10_main_arg10 m (outs m) c),
    (h.1 c (Proc.devRef .tc main_arg11) (Finset.mem_filter.mpr ⟨StableHlo.devRef_mem_tcRefs main_arg11, by decide⟩)).trans (V10_main_arg11 m (outs m) c),
    (h.1 c (Proc.devRef .tc main_arg12) (Finset.mem_filter.mpr ⟨StableHlo.devRef_mem_tcRefs main_arg12, by decide⟩)).trans (V10_main_arg12 m (outs m) c),
    (h.1 c (Proc.devRef .tc main_arg13) (Finset.mem_filter.mpr ⟨StableHlo.devRef_mem_tcRefs main_arg13, by decide⟩)).trans (V10_main_arg13 m (outs m) c),
    (h.1 c (Proc.devRef .tc main_arg14) (Finset.mem_filter.mpr ⟨StableHlo.devRef_mem_tcRefs main_arg14, by decide⟩)).trans (V10_main_arg14 m (outs m) c),
    (h.1 c (Proc.devRef .tc main_arg15) (Finset.mem_filter.mpr ⟨StableHlo.devRef_mem_tcRefs main_arg15, by decide⟩)).trans (V10_main_arg15 m (outs m) c),
    (h.1 c (Proc.devRef .tc main_arg16) (Finset.mem_filter.mpr ⟨StableHlo.devRef_mem_tcRefs main_arg16, by decide⟩)).trans (V10_main_arg16 m (outs m) c),
    (h.1 c (Proc.devRef .tc main_arg17) (Finset.mem_filter.mpr ⟨StableHlo.devRef_mem_tcRefs main_arg17, by decide⟩)).trans (V10_main_arg17 m (outs m) c),
    (h.1 c (Proc.devRef .tc main_arg18) (Finset.mem_filter.mpr ⟨StableHlo.devRef_mem_tcRefs main_arg18, by decide⟩)).trans (V10_main_arg18 m (outs m) c),
    (h.1 c (Proc.devRef .tc main_arg19) (Finset.mem_filter.mpr ⟨StableHlo.devRef_mem_tcRefs main_arg19, by decide⟩)).trans (V10_main_arg19 m (outs m) c),
    (h.1 c (Proc.devRef .tc main_arg20) (Finset.mem_filter.mpr ⟨StableHlo.devRef_mem_tcRefs main_arg20, by decide⟩)).trans (V10_main_arg20 m (outs m) c),
    (h.1 c (Proc.devRef .tc main_arg21) (Finset.mem_filter.mpr ⟨StableHlo.devRef_mem_tcRefs main_arg21, by decide⟩)).trans (V10_main_arg21 m (outs m) c),
    (h.1 c (Proc.devRef .tc main_arg22) (Finset.mem_filter.mpr ⟨StableHlo.devRef_mem_tcRefs main_arg22, by decide⟩)).trans (V10_main_arg22 m (outs m) c),
    (h.1 c (Proc.devRef .tc main_arg23) (Finset.mem_filter.mpr ⟨StableHlo.devRef_mem_tcRefs main_arg23, by decide⟩)).trans (V10_main_arg23 m (outs m) c),
    (h.1 c (Proc.devRef .tc main_arg24) (Finset.mem_filter.mpr ⟨StableHlo.devRef_mem_tcRefs main_arg24, by decide⟩)).trans (V10_main_arg24 m (outs m) c),
    (h.1 c (Proc.devRef .tc main_arg25) (Finset.mem_filter.mpr ⟨StableHlo.devRef_mem_tcRefs main_arg25, by decide⟩)).trans (V10_main_arg25 m (outs m) c),
    (h.1 c (Proc.devRef .tc main_arg26) (Finset.mem_filter.mpr ⟨StableHlo.devRef_mem_tcRefs main_arg26, by decide⟩)).trans (V10_main_arg26 m (outs m) c),
    (h.1 c (Proc.devRef .tc main_arg27) (Finset.mem_filter.mpr ⟨StableHlo.devRef_mem_tcRefs main_arg27, by decide⟩)).trans (V10_main_arg27 m (outs m) c)⟩, h.2⟩

end Cert.LayersIdeal.Own

end
-- ==== Proof.FinalRun.lean ====
/- The run of the final call: the normalised rows, kept in the scratch buffer from the first grid point on, the
   column of values written at that point and left alone afterwards, and one tile of the logits at every point. -/
module

public import Idealize.ShloMosaic.Lib.Claim
public import proofs.«01_k».proof.Proof.Gen.FinalIdeal.Frame
public import proofs.«01_k».proof.Proof.Gen.FinalIdeal.Skeleton
public import proofs.«01_k».proof.Proof.Gen.FinalIdeal.Points
public import Idealize.ShloMosaic.Lib.Pipeline.FrameBody
public import Idealize.ShloMosaic.Lib.Pipeline.TableIdle
public import Idealize.ShloMosaic.Lib.Pipeline.Value
public import Idealize.ShloMosaic.Lib.WritesUnit
public import Idealize.ShloMosaic.Lib.Pointwise.Index
public import Idealize.ShloMosaic.Lib.Ring
public import Idealize.ShloMosaic.Lib.Tactic
public import Idealize.ShloMosaic.Lib.WordCmp

@[expose] public section

set_option maxRecDepth 16384

noncomputable section

namespace Cert.FinalIdeal.Own

open Cert.FinalIdeal Cert.FinalIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The branch condition holds at the first of the 25 points only. -/
theorem first_iff : ∀ t : Fin cfg0.N, k0_cond1 (grid0.coords t) = 1#1 ↔ t.val = 0 :=
  (fun t => by
    have ht : t.val < 25 := Nat.lt_of_lt_of_eq t.isLt N_0
    have e0 : (grid0.coords t 0).val = t.val / 1 % 25 := Pipeline.Grid.coords_val t 0 (by decide) rfl
    simp only [k0_cond1, e0]
    word_cmp
   : ∀ t : Fin grid0.N, k0_cond1 (grid0.coords t) = 1#1 ↔ t.val = 0)

theorem zero2 : (![0, 0] : Fin 2 → Nat) = fun _ => 0 := by funext a; fin_cases a <;> rfl
theorem zero1 : (![0] : Fin 1 → Nat) = fun _ => 0 := by funext a; fin_cases a <;> rfl

/-- A buffer whose last store covered it wholly reads back that store's payload. -/
theorem read_whole {κ : Kind} {sp : Space} {S : Shape} {e : EltTy} (v : View sig κ sp S e) (f : v.ty.Contents (Elt F)) {off : Fin S.rank → ℕ}
    (hz : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  funext y
  exact View.read_writes_cons_unit_of_mem v f inb w L y y hz (fun a => (Nat.zero_add _).symm)

set_option maxHeartbeats 1000000 in
/-- The body at the first point: it normalises the rows into the scratch buffer, writes the column of values and the
    first tile of logits. -/
theorem run_first (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1280 .f32) (harg3 : arg3.IsWhole) (arg4 : Memref sig .tc .vmem S1024x1 .f32) (harg4 : arg4.IsWhole) (arg5 : Memref sig .tc .smem S1 .f32) (harg5 : arg5.IsWhole) (arg6 : Memref sig .tc .vmem S1024x1280 .f32) (harg6 : arg6.IsWhole) (arg7 : Memref sig .tc .vmem S1024x1 .f32) (harg7 : arg7.IsWhole) (arg8 : Memref sig .tc .vmem S1024x1024 .bf16) (harg8 : arg8.IsWhole) (hc0 : k0_cond1 i = 1#1)
    (x0 : Vec F S1024x1024 .f32) (x1 : Vec F S1x1024 .f32) (x2 : Vec F S1024x1280 .f32) (x3 : Vec F S1024x1 .f32) (x4 : Vec F S1 .f32)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay4 (k0_pay2 x0 x1) x2) ∗ owns (c : Thread nD τ) arg7 fullShare (k0_pay3 x0 x1 x3 (x4 (ix1 (0 : Fin 1)))) ∗ owns (c : Thread nD τ) arg8 fullShare (k0_pay2 x0 x1)) -∗ K ⟨⟩))
          ⊢ wp frame (wpE (defs₀ (F := F)) Variants.none c none) E (cc0_final_lm_value i arg1 harg1 arg2 harg2 arg3 harg3 arg4 harg4 arg5 harg5 arg6 harg6 arg7 harg7 arg8 harg8) K := by
    simp only [cc0_final_lm_value_eq_skeleton]; unfold cc0_final_lm_value_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      sl_unfold_words
      rw [read_whole _ _ zero2]
      simp only [View.readCov_unit_zero (S := S1024x1024) _ zero2, View.readAt_eq_ld, harg1.read_unread, harg2.read_unread, harg3.read_unread, View.ld_unit_zero (S := S1024x1024) zero2, View.ld_unit_zero (S := S1x1024) zero2, View.ld_unit_zero (S := S1024x1280) zero2]
    isplitl [H6]
    · iexists _; isplitr; swap; · iexact H6
      ipureintro
      sl_unfold_words
      rw [read_whole _ _ zero2]
      simp only [View.readAt_eq_ld, harg1.read_unread, harg2.read_unread, harg4.read_unread, View.ld_unit_zero (S := S1024x1024) zero2, View.ld_unit_zero (S := S1x1024) zero2, View.ld_unit_zero (S := S1024x1) zero2]
      congr 1
      rw [View.ld_unit_zero (S := S1) zero1, harg5.read_unread]
      congr 1
      funext a; fin_cases a; rfl
    iexists _; isplitr; swap; · iexact HS0
    ipureintro
    sl_unfold_words
    rw [read_whole _ _ zero2]
    simp only [View.readAt_eq_ld, harg1.read_unread, harg2.read_unread, View.ld_unit_zero (S := S1024x1024) zero2, View.ld_unit_zero (S := S1x1024) zero2]

set_option maxHeartbeats 1000000 in
/-- The body at a later point: it multiplies the rows kept in the scratch buffer by the point's tile of the head. -/
theorem run_later (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1280 .f32) (harg3 : arg3.IsWhole) (arg4 : Memref sig .tc .vmem S1024x1 .f32) (harg4 : arg4.IsWhole) (arg5 : Memref sig .tc .smem S1 .f32) (harg5 : arg5.IsWhole) (arg6 : Memref sig .tc .vmem S1024x1280 .f32) (harg6 : arg6.IsWhole) (arg7 : Memref sig .tc .vmem S1024x1 .f32) (harg7 : arg7.IsWhole) (arg8 : Memref sig .tc .vmem S1024x1024 .bf16) (harg8 : arg8.IsWhole) (hc0 : ¬k0_cond1 i = 1#1)
    (x2 : Vec F S1024x1280 .f32) (xs : Vec F S1024x1024 .bf16)
    (E : Set ℕ) (K : PUnit → sProp 𝕄) :
        iprop(owns (c : Thread nD τ) arg3 fullShare x2 ∗ (∃ d, owns (c : Thread nD τ) arg6 fullShare d) ∗ owns (c : Thread nD τ) arg8 fullShare xs
            ∗ (iprop(owns (c : Thread nD τ) arg3 fullShare x2 ∗ owns (c : Thread nD τ) arg6 fullShare (k0_pay4 xs x2) ∗ owns (c : Thread nD τ) arg8 fullShare xs) -∗ K ⟨⟩))
          ⊢ wp frame (wpE (defs₀ (F := F)) Variants.none c none) E (cc0_final_lm_value i arg1 harg1 arg2 harg2 arg3 harg3 arg4 harg4 arg5 harg5 arg6 harg6 arg7 harg7 arg8 harg8) K := by
    simp only [cc0_final_lm_value_eq_skeleton]; unfold cc0_final_lm_value_skel
    unfold owns
    iintro ⟨⟨%f2, %hf2, H2⟩, ⟨%d5, %f5, -, H5⟩, ⟨%fs0, %hfs0, HS0⟩, Hk⟩
    obtain rfl := harg3.eq_unread hf2; obtain rfl := harg8.eq_unread hfs0
    sl_exec (disch := first | sl_exact hc0)
    sl_step
    iapply Hk
    isplitl [H2]
    · iexists _; isplitr; · ipureintro; exact harg3.read_unread _
      iexact H2
    isplitl [H5]
    · iexists _; isplitr; swap; · iexact H5
      ipureintro
      sl_unfold_words
      rw [read_whole _ _ zero2]
      simp only [View.readAt_eq_ld, harg3.read_unread, harg8.read_unread, View.ld_unit_zero (S := S1024x1024) zero2, View.ld_unit_zero (S := S1024x1280) zero2]
    iexists _; isplitr; · ipureintro; exact harg8.read_unread _
    iexact HS0

/-! ## The proof data -/

/-- The first grid point. -/
abbrev t₀ : Fin cfg0.N := ⟨0, by rw [show cfg0.N = 25 from N_0]; decide⟩

/-- The normalised rows, as the first point leaves them in the scratch buffer. -/
def rows (c : Dev nD) : Vec F S1024x1024 .bf16 := k0_pay2 (iblk m c 0 t₀) (iblk m c 1 t₀)

/-- The column of values, as the first point writes it. -/
def vals (c : Dev nD) : Vec F S1024x1 .f32 := k0_pay3 (iblk m c 0 t₀) (iblk m c 1 t₀) (iblk m c 3 t₀) (iblk m c 4 t₀ (ix1 (0 : Fin 1)))

/-- The scratch buffer. -/
abbrev scr : Memref sig .tc .vmem S1024x1024 .bf16 := Memref.whole cc0_scratch0

/-- What is held between the points: the scratch buffer, at the normalised rows once the first point has run, and the
    generator register. -/
def inv (c : Dev nD) (n : ℕ) : sProp 𝕄 :=
  if n = 0 then Pipeline.ΦA spec0 c else iprop(owns (c : Thread nD τ) scr fullShare (rows m c) ∗ (∃ r, prngReg c r))

theorem ΦA_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- The pipeline's proof data: every input at its block, the logits' tile the kept rows times the point's tile of the
    head, the values what the first point wrote. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay4 (rows m c) (iblk m c 2 t)
    | ⟨6, _⟩ => vals m c
  Φ t := inv m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = k0_pay4 (rows m c) (iblk m c 2 t) := by dsimp only [dats]
theorem after_6 (c : Dev nD) (t : Fin cfg0.N) : (dats m 0 c).after 6 t = vals m c := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d

/-- The values' staging buffer holds something unknown only before the first point. -/
theorem fresh_6 : ∀ n, n ≤ cfg0.N → cfg0.fresh 6 n = (n == 0 || n == 25) :=
  cfg0.fresh_tab 6 (fun n => n == 0 || n == 25) rfl
    ((by decide +kernel : ∀ t : Fin grid0.N, (t.val + 1 == 0 || t.val + 1 == 25) = ((cfg0.win 6).flush t || (cfg0.idle 6 (cfg0.grid.coords t) && (t.val == 0 || t.val == 25)))))

/-- The values' staging buffer holds the values at every later point. -/
theorem before_6 (c : Dev nD) (t : Fin cfg0.N) (ht : t.val ≠ 0) (d) : (dats m 0 c).before 6 t d = vals m c := by
  have h25 : t.val < 25 := lt_of_lt_of_eq t.isLt (show cfg0.N = 25 from N_0)
  have h := (dats m 0 c).before_out_traj 6 rfl (fun _ _ => rfl) (fun t ht _ _ => by rw [after_6, after_6]) t.val t rfl d
  rw [h, fresh_6 t.val t.isLt.le, if_neg (by simp; omega), after_6]

theorem live (t : Fin cfg0.N) : ∀ (w : Fin cfg0.W) (hw : w.val < 6), cfg0.idle w (grid0.coords t) = false
  | ⟨0, _⟩, _ => rfl | ⟨1, _⟩, _ => rfl | ⟨2, _⟩, _ => rfl | ⟨3, _⟩, _ => rfl | ⟨4, _⟩, _ => rfl | ⟨5, _⟩, _ => rfl
  | ⟨_ + 6, _⟩, h => absurd h (Nat.not_lt.2 (Nat.le_add_left _ _))

theorem idle_6 : ∀ t : Fin cfg0.N, cfg0.idle 6 (grid0.coords t) = decide (t.val ≠ 0) :=
  (by decide +kernel : ∀ t : Fin grid0.N, cfg0.idle 6 (grid0.coords t) = decide (t.val ≠ 0))

theorem leaves (c : Dev nD) (t : Fin cfg0.N) (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact
  rw [show cfg0.idle w (cfg0.grid.coords t) = false from h]

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

set_option maxHeartbeats 1600000 in
/-- The body meets its obligation at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    show (dats m 0 c).Φ t.castSucc = inv m c t.val from rfl, show (dats m 0 c).Φ t.succ = inv m c (t.val + 1) from rfl]
  rw [leaves m c t 0 (live t 0 (by decide)), leaves m c t 1 (live t 1 (by decide)), leaves m c t 2 (live t 2 (by decide)),
    leaves m c t 3 (live t 3 (by decide)), leaves m c t 4 (live t 4 (by decide)), leaves m c t 5 (live t 5 (by decide)),
    after_0, after_1, after_2, after_3, after_4, after_5]
  have hinv : inv m c (t.val + 1) = iprop(owns (c : Thread nD τ) scr fullShare (rows m c) ∗ (∃ r, prngReg c r)) := by
    unfold inv; rw [if_neg (Nat.succ_ne_zero _)]
  rw [hinv]
  by_cases h0 : t.val = 0
  · rw [leaves m c t 6 (by rw [idle_6]; simp [h0]), after_6]
    obtain rfl : t = t₀ := Fin.ext h0
    rw [show inv m c (t₀ : Fin cfg0.N).val = Pipeline.ΦA spec0 c from if_pos rfl, ΦA_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply (run_first c (grid0.coords t₀) _ _ _ _ _ _ _ _ _ _ _ _ _ _ _ _ ((first_iff t₀).mpr rfl) (iblk m c 0 t₀) (iblk m c 1 t₀) (iblk m c 2 t₀) (iblk m c 3 t₀) (iblk m c 4 t₀) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    iintro ⟨H0, H1, H2, H3, H4, H5, H6, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have h6 : (dats m 0 c).leavesExact 6 t = iprop(∃ d : (cfg0.win 6).block.Idx → Elt F (cfg0.win 6).elt, owns (c : Thread nD τ) (st0_6 t) fullShare (vals m c))
        ∨ (dats m 0 c).leavesExact 6 t = owns (c : Thread nD τ) (st0_6 t) fullShare (vals m c) := by
      unfold Dat.leavesExact
      rw [show cfg0.idle 6 (cfg0.grid.coords t) = true from (idle_6 t).trans (decide_eq_true h0)]
      cases (cfg0.win 6).flush t
      · left; simp only [before_6 m c t h0]
      · right; rfl
    rw [show inv m c t.val = iprop(owns (c : Thread nD τ) scr fullShare (rows m c) ∗ (∃ r, prngReg c r)) from if_neg h0]
    simp only [before_6 m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply (run_later c (grid0.coords t) _ _ _ _ _ _ _ _ _ _ _ _ _ _ _ _ (fun h => h0 ((first_iff t).mp h)) (iblk m c 2 t) (rows m c) Set.univ _)
    isplitl [H2]; · iexact H2
    isplitl [H5]; · iexists _; iexact H5
    isplitl [HS0]; · iexact HS0
    iintro ⟨H2, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    rcases h6 with h6 | h6 <;> rw [h6]
    · iexists d6; iexact H6
    · iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem inv_enter (c : Dev nD) : Pipeline.ΦA spec0 c ⊢ (dats m 0 c).Φ 0 := by
  rw [show (dats m 0 c).Φ 0 = inv m c 0 from rfl, show inv m c 0 = Pipeline.ΦA spec0 c from if_pos rfl]

theorem inv_leave (c : Dev nD) : (dats m 0 c).Φ (Fin.last cfg0.N) ⊢ Pipeline.ΦA spec0 c := by
  rw [show (dats m 0 c).Φ (Fin.last cfg0.N) = inv m c cfg0.N from rfl,
    show inv m c cfg0.N = iprop(owns (c : Thread nD τ) scr fullShare (rows m c) ∗ (∃ r, prngReg c r)) from if_neg (by rw [show cfg0.N = 25 from N_0]; decide), ΦA_eq]
  iintro ⟨HS0, Hg⟩
  isplitl [HS0]
  · iexists _; iexact HS0
  iexact Hg

set_option backward.isDefEq.respectTransparency.types false in
/-- Every execution ends, every array at what the proof data says and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_enter m) (hout := inv_leave m)

theorem run_main : θ_run defs (onTc (τ := τ) (main (F := F))) (s₀ m ρ) (Pipeline.FramePost cfgs (dats m) 0 (V m)) :=
  (θ_run defs _ _).mono (fun _ h => h.1) (run_quiescent m ρ)

/-- Every execution ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.FinalIdeal.Own
end
-- ==== Proof.Spec.lean ====
/- The mathematics of the model's parts, over plain functions of indices into the extended reals, and which of their
   values are real numbers. -/
module
public import Idealize.ShloMosaic.Lib.Pipeline.ValueKit
@[expose] public section
set_option maxRecDepth 16384
noncomputable section
open Idealize.ShloMosaic
namespace Cert.Spec

/-- One entry of a row of 1024 divided by its root mean square and scaled by a weight. -/
def rms (x w : Fin 1024 → EReal) (d : Fin 1024) : EReal :=
  x d * Ideal.rsqrt (Ideal.div (∑ k, x k * x k) (Ideal.ofBits FTy.f32 0x44800000#32) + Ideal.ofBits FTy.f32 0x3727C5AC#32) * w d

/-- The factor of a low rank correction, the number two. -/
def two : EReal := Ideal.ofBits FTy.f32 0x40000000#32

/-- One entry of a row times a matrix, with its low rank correction. -/
def lora {n p : ℕ} (x : Fin n → EReal) (w : Fin n → Fin p → EReal) (a : Fin n → Fin 16 → EReal) (b : Fin 16 → Fin p → EReal) (j : Fin p) : EReal :=
  ∑ k, x k * w k j + (∑ r, (∑ k, x k * a k r) * b r j) * two

/-- The gated activation of the feed forward part. -/
def gated (g u : EReal) : EReal := g * Ideal.logistic g * u

/-! ## Real values -/

/-- The value is a real number, neither infinity. -/
def IsReal (x : EReal) : Prop := ∃ r : ℝ, x = r

theorem IsReal.coe (r : ℝ) : IsReal r := ⟨r, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

theorem IsReal.div {x y : EReal} (hx : IsReal x) (hy : IsReal y) (h0 : y ≠ 0) : IsReal (Ideal.div x y) := by
  obtain ⟨a, rfl⟩ := hx; obtain ⟨b, rfl⟩ := hy
  exact ⟨a * b⁻¹, by rw [Ideal.div, if_neg h0, EReal.coe_mul, EReal.coe_inv]⟩

theorem two_eq : two = ((2 : ℝ) : EReal) := by
  simp [two, Ideal.ofBits, Ideal.ieee, -EReal.coe_mul]
  try norm_num

theorem isReal_two : IsReal two := ⟨2, two_eq⟩

theorem isReal_logistic {x : EReal} (hx : IsReal x) : IsReal (Ideal.logistic x) := by
  obtain ⟨a, rfl⟩ := hx
  have e : (1 : EReal) + Ideal.exp (-(a : EReal)) = ((1 + Real.exp (-a) : ℝ) : EReal) := by
    rw [← EReal.coe_neg, EReal.coe_add, EReal.coe_one]; rfl
  unfold Ideal.logistic
  rw [e]
  refine IsReal.div (IsReal.coe 1) (IsReal.coe _) ?_
  rw [← EReal.coe_zero, Ne, EReal.coe_eq_coe_iff]
  exact (by positivity : (0:ℝ) < 1 + Real.exp (-a)).ne'

theorem isReal_gated {g u : EReal} (hg : IsReal g) (hu : IsReal u) : IsReal (gated g u) := (hg.mul (isReal_logistic hg)).mul hu

theorem isReal_lora {n p : ℕ} {x : Fin n → EReal} {w : Fin n → Fin p → EReal} {a : Fin n → Fin 16 → EReal} {b : Fin 16 → Fin p → EReal}
    (hx : ∀ k, IsReal (x k)) (hw : ∀ k j, IsReal (w k j)) (ha : ∀ k r, IsReal (a k r)) (hb : ∀ r j, IsReal (b r j)) (j : Fin p) : IsReal (lora x w a b j) :=
  (IsReal.sum _ fun k => (hx k).mul (hw k j)).add ((IsReal.sum _ fun r => (IsReal.sum _ fun k => (hx k).mul (ha k r)).mul (hb r j)).mul isReal_two)

/-! ## A product by tiles of its contraction -/

/-- Position `f` of tile `s` among four tiles of 1024. -/
def at4 (s : Fin 4) (f : Fin 1024) : Fin 4096 := ⟨s * 1024 + f, by omega⟩

theorem sum_at4 (g : Fin 4096 → EReal) : ∑ s : Fin 4, ∑ f : Fin 1024, g (at4 s f) = ∑ l, g l :=
  Fin.sum_mul_add_congr fun _ _ _ => rfl

/-- Four partial products, each with its own low rank correction, add up to the whole product with its correction,
    when the row and the correction's matrices are real. -/
theorem lora_tiles (y : Fin 4096 → EReal) (w : Fin 4096 → Fin 1024 → EReal) (a : Fin 4096 → Fin 16 → EReal) (b : Fin 16 → Fin 1024 → EReal)
    (hy : ∀ f, IsReal (y f)) (ha : ∀ f r, IsReal (a f r)) (hb : ∀ r d, IsReal (b r d)) (d : Fin 1024) :
    ∑ s : Fin 4, (∑ f : Fin 1024, y (at4 s f) * w (at4 s f) d + (∑ r, (∑ f : Fin 1024, y (at4 s f) * a (at4 s f) r) * b r d) * two) = lora y w a b d := by
  rw [Finset.sum_add_distrib, sum_at4 fun l => y l * w l d]
  unfold lora
  congr 1
  choose y' hy using hy
  choose a' ha using ha
  choose b' hb using hb
  have e (s : Fin 4) : (∑ r, (∑ f : Fin 1024, y (at4 s f) * a (at4 s f) r) * b r d) * two
      = ((∑ r, (∑ f : Fin 1024, y' (at4 s f) * a' (at4 s f) r) * b' r d : ℝ) : EReal) * two := by
    congr 1
    rw [coe_sum]
    refine Finset.sum_congr rfl fun r _ => ?_
    rw [EReal.coe_mul, coe_sum, ← hb]
    congr 1
    refine Finset.sum_congr rfl fun f _ => ?_
    rw [EReal.coe_mul, ← hy, ← ha]
  have e' (r : Fin 16) : ∑ k, y k * a k r = ((∑ s : Fin 4, ∑ f : Fin 1024, y' (at4 s f) * a' (at4 s f) r : ℝ) : EReal) := by
    rw [← sum_at4, coe_sum]
    refine Finset.sum_congr rfl fun s _ => ?_
    rw [coe_sum]
    refine Finset.sum_congr rfl fun f _ => ?_
    rw [EReal.coe_mul, ← hy, ← ha]
  rw [Finset.sum_congr rfl fun s _ => e s]
  simp only [e', hb, two_eq, ← EReal.coe_mul, ← coe_sum]
  congr 1
  rw [← Finset.sum_mul, Finset.sum_comm]
  congr 1
  exact Finset.sum_congr rfl fun r _ => (Finset.sum_mul _ _ _).symm

end Cert.Spec
end
-- ==== Proof.FinalValue.lean ====
/- What the final call leaves in its two results, and that the reference leaves the same. -/
module
public import proofs.«01_k».proof.Proof.FinalRun
public import proofs.«01_k».proof.Proof.Spec
public import proofs.«01_k».proof.Proof.Gen.FinalRefIdeal.Run
@[expose] public section
set_option maxRecDepth 16384
noncomputable section
open Idealize.ShloMosaic Idealize.ShloMosaic.TcCoe Idealize.SL.Sem
open Idealize.ShloMosaic.Pipeline (Dat)
namespace Cert.FinalIdeal.Own
open Cert.FinalIdeal Cert.FinalIdeal.Gen
variable (m : (ℓ : Loc nD τ sig) → Buf (Elt Ideal) ℓ)

/-- Every window's block index. -/
theorem idx : ∀ t : Fin cfg0.N, win0_0.index t = ![0, 0] ∧ win0_1.index t = ![0, 0] ∧ win0_2.index t = ![0, t.val] ∧ win0_3.index t = ![0, 0]
    ∧ win0_4.index t = ![0] ∧ win0_5.index t = ![0, t.val] ∧ win0_6.index t = ![0, 0] :=
  (by decide +kernel : ∀ t : Fin grid0.N, win0_0.index t = ![0, 0] ∧ win0_1.index t = ![0, 0] ∧ win0_2.index t = ![0, t.val] ∧ win0_3.index t = ![0, 0]
    ∧ win0_4.index t = ![0] ∧ win0_5.index t = ![0, t.val] ∧ win0_6.index t = ![0, 0])

/-- The logits as a function of the hidden state, the norm's weights and the head. -/
def logits (h : FVec Ideal S1024x1024 .f32) (ln : FVec Ideal S1024 .f32) (lm : FVec Ideal S1024x32000 .f32) : FVec Ideal S1024x32000 .f32 :=
  fun i => ∑ k : Fin 1024, Spec.rms (fun d => h (ix2 (i 0) d)) (fun d => ln (ix1 d)) k * lm (ix2 k (i 1))

/-- The values as a function of the hidden state, the norm's weights, the value head and its bias. -/
def values (h : FVec Ideal S1024x1024 .f32) (ln : FVec Ideal S1024 .f32) (w : FVec Ideal S1024x1 .f32) (b : FVec Ideal S1 .f32) : FVec Ideal S1024x1 .f32 :=
  fun i => (∑ k : Fin 1024, Spec.rms (fun d => h (ix2 (i 0) d)) (fun d => ln (ix1 d)) k * w (ix2 k (i 1))) + b (ix1 0)

theorem final_5 (c : Dev nD) : (dats m 0 c).arrAt 5 (cfgs 0).N
    = logits (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after_5]
  unfold rows
  generalize t₀ = s
  pointwise [k0_pay4, k0_pay2, k0_pay1, logits, Spec.rms]
  blk_point [iblk, V, idx t, idx s]

theorem final_6 (c : Dev nD) : (dats m 0 c).arrAt 6 (cfgs 0).N
    = values (m ((c : Thread nD τ).loc main_arg0)) (m ((c : Thread nD τ).loc main_arg1)) (m ((c : Thread nD τ).loc main_arg3)) (m ((c : Thread nD τ).loc main_arg4)) := by
  refine (dats m 0 c).arrAt_eq_of_covers 6 _ (by decide +kernel) fun t _ y => ?_
  blk_simp
  rw [after_6]
  unfold vals
  generalize t₀ = s
  pointwise [k0_pay3, k0_pay1, values, Spec.rms]
  blk_point [iblk, V, idx t, idx s]

end Cert.FinalIdeal.Own

namespace Cert.FinalRefIdeal.Own
open Cert.FinalRefIdeal Cert.FinalRefIdeal.Gen Idealize.ShloMosaic.StableHlo

/-- The reference's logits are the same function. -/
theorem ref_5 (h : FVec Ideal S1024x1024 .f32) (ln : FVec Ideal S1024 .f32) (lm : FVec Ideal S1024x32000 .f32) :
    Host.dotGeneral dot_S1024x1024_S1024x32000_S1024x32000_1_0_0_1_n_n none (mulf (mulf h (broadcastInDim S1024x1024 ![0, 1] bcast_S1024x1_S1024x1024_0_1 (Host.rsqrt (addf (Host.divf (broadcastInDim S1024x1 ![0] bcast_S1024_S1024x1_0 (Host.reduceAdd (mulf h h) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x3727C5AC#32)))))) (broadcastInDim S1024x1024 ![0, 1] bcast_S1x1024_S1024x1024_0_1 (broadcastInDim S1x1024 ![1] bcast_S1024_S1x1024_1 ln))) lm
    = FinalIdeal.Own.logits h ln lm := by
  funext i
  pointwise [FinalIdeal.Own.logits, Spec.rms]

/-- The reference's values are the same function. -/
theorem ref_6 (h : FVec Ideal S1024x1024 .f32) (ln : FVec Ideal S1024 .f32) (w : FVec Ideal S1024x1 .f32) (b : FVec Ideal S1 .f32) :
    addf (Host.dotGeneral dot_S1024x1024_S1024x1_S1024x1_1_0_0_1_n_n none (mulf (mulf h (broadcastInDim S1024x1024 ![0, 1] bcast_S1024x1_S1024x1024_0_1 (Host.rsqrt (addf (Host.divf (broadcastInDim S1024x1 ![0] bcast_S1024_S1024x1_0 (Host.reduceAdd (mulf h h) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x3727C5AC#32)))))) (broadcastInDim S1024x1024 ![0, 1] bcast_S1x1024_S1024x1024_0_1 (broadcastInDim S1x1024 ![1] bcast_S1024_S1x1024_1 ln))) w) (broadcastInDim S1024x1 ![] bcast_S_S1024x1 (shapeCast S_ b shapeCasts_S1_S_))
    = FinalIdeal.Own.values h ln w b := by
  funext i
  pointwise [FinalIdeal.Own.values, Spec.rms]

end Cert.FinalRefIdeal.Own
end
-- ==== Proof.MlpValue.lean ====
/- What the feed forward call leaves in its result, and that the reference leaves the same. -/
module
public import Idealize.ShloMosaic.Lib.Claim
public import proofs.«01_k».proof.Proof.Gen.MlpIdeal.Frame
public import proofs.«01_k».proof.Proof.Gen.MlpRefIdeal.Run
public import proofs.«01_k».proof.Proof.Spec
@[expose] public section
set_option maxRecDepth 16384
noncomputable section
open Idealize.ShloMosaic Idealize.ShloMosaic.TcCoe Idealize.SL.Sem
open Idealize.ShloMosaic.Pipeline (Dat)
namespace Cert.MlpIdeal.Own
open Cert.MlpIdeal Cert.MlpIdeal.Gen
variable (m : (ℓ : Loc nD τ sig) → Buf (Elt Ideal) ℓ)

/-- Every window's block index. -/
theorem idx : ∀ t : Fin cfg0.N, win0_0.index t = ![t.val / 4, 0] ∧ win0_1.index t = ![t.val / 4, 0] ∧ win0_2.index t = ![0, t.val % 4] ∧ win0_3.index t = ![0, 0]
    ∧ win0_4.index t = ![0, t.val % 4] ∧ win0_5.index t = ![0, t.val % 4] ∧ win0_6.index t = ![0, 0] ∧ win0_7.index t = ![0, t.val % 4]
    ∧ win0_8.index t = ![t.val % 4, 0] ∧ win0_9.index t = ![t.val % 4, 0] ∧ win0_10.index t = ![0, 0] ∧ win0_11.index t = ![t.val / 4, 0] :=
  (by decide +kernel : ∀ t : Fin grid0.N, win0_0.index t = ![t.val / 4, 0] ∧ win0_1.index t = ![t.val / 4, 0] ∧ win0_2.index t = ![0, t.val % 4] ∧ win0_3.index t = ![0, 0]
    ∧ win0_4.index t = ![0, t.val % 4] ∧ win0_5.index t = ![0, t.val % 4] ∧ win0_6.index t = ![0, 0] ∧ win0_7.index t = ![0, t.val % 4]
    ∧ win0_8.index t = ![t.val % 4, 0] ∧ win0_9.index t = ![t.val % 4, 0] ∧ win0_10.index t = ![0, 0] ∧ win0_11.index t = ![t.val / 4, 0])

/-- One entry of the part that a tile of the inner dimension adds to the result, from the tile's blocks. -/
def part (x : FVec Ideal S512x1024 .bf16) (wg : FVec Ideal S1024x1024 .f32) (ag : FVec Ideal S1024x16 .f32) (bg : FVec Ideal S16x1024 .f32)
    (wu : FVec Ideal S1024x1024 .f32) (au : FVec Ideal S1024x16 .f32) (bu : FVec Ideal S16x1024 .f32)
    (wd : FVec Ideal S1024x1024 .f32) (ad : FVec Ideal S1024x16 .f32) (bd : FVec Ideal S16x1024 .f32) (r : Fin 512) (d : Fin 1024) : EReal :=
  Spec.lora (fun f => Spec.gated
      (Spec.lora (fun k => x (ix2 r k)) (fun k f => wg (ix2 k f)) (fun k s => ag (ix2 k s)) (fun s f => bg (ix2 s f)) f)
      (Spec.lora (fun k => x (ix2 r k)) (fun k f => wu (ix2 k f)) (fun k s => au (ix2 k s)) (fun s f => bu (ix2 s f)) f))
    (fun f d => wd (ix2 f d)) (fun f s => ad (ix2 f s)) (fun s d => bd (ix2 s d)) d

theorem pay_eq (x : FVec Ideal S512x1024 .bf16) (wg : FVec Ideal S1024x1024 .f32) (ag : FVec Ideal S1024x16 .f32) (bg : FVec Ideal S16x1024 .f32)
    (wu : FVec Ideal S1024x1024 .f32) (au : FVec Ideal S1024x16 .f32) (bu : FVec Ideal S16x1024 .f32)
    (wd : FVec Ideal S1024x1024 .f32) (ad : FVec Ideal S1024x16 .f32) (bd : FVec Ideal S16x1024 .f32) (acc : FVec Ideal S512x1024 .f32) (j : S512x1024.Idx) :
    k0_pay3 (F := Ideal) (k0_pay4 x wg ag bg wu au bu) (k0_pay5 wd) (constant S512x1024 .f32 0x00000000#32) ad bd acc j
      = acc j + part x wg ag bg wu au bu wd ad bd (j 0) (j 1) := by
  pointwise [k0_pay3, k0_pay1, k0_pay4, k0_pay5, part, Spec.lora, Spec.gated, Spec.two]

theorem pay_first (x : FVec Ideal S512x1024 .bf16) (wg : FVec Ideal S1024x1024 .f32) (ag : FVec Ideal S1024x16 .f32) (bg : FVec Ideal S16x1024 .f32)
    (wu : FVec Ideal S1024x1024 .f32) (au : FVec Ideal S1024x16 .f32) (bu : FVec Ideal S16x1024 .f32)
    (wd : FVec Ideal S1024x1024 .f32) (ad : FVec Ideal S1024x16 .f32) (bd : FVec Ideal S16x1024 .f32) (acc : FVec Ideal S512x1024 .f32) (j : S512x1024.Idx) :
    k0_pay2 (F := Ideal) (k0_pay4 x wg ag bg wu au bu) (k0_pay5 wd) (constant S512x1024 .f32 0x00000000#32) ad bd acc j
      = acc j + part x wg ag bg wu au bu wd ad bd (j 0) (j 1) := by
  pointwise [k0_pay2, k0_pay1, k0_pay4, k0_pay5, part, Spec.lora, Spec.gated, Spec.two]

/-- What the point `p` adds to its block of the result. -/
def term (c : Dev nD) (p : Fin cfg0.N) (r : Fin 512) (d : Fin 1024) : EReal :=
  part (iblk m c 0 p) (iblk m c 2 p) (iblk m c 3 p) (iblk m c 4 p) (iblk m c 5 p) (iblk m c 6 p) (iblk m c 7 p) (iblk m c 8 p) (iblk m c 9 p) (iblk m c 10 p) r d

/-- The block of the residual at the point `p`. -/
def resid (c : Dev nD) (p : Fin cfg0.N) (r : Fin 512) (d : Fin 1024) : EReal := (iblk m c 1 p : FVec Ideal S512x1024 .f32) (ix2 r d)

/-- What the point `n` leaves in its block of the result. -/
def outs (c : Dev nD) (n : Nat) (h : n < cfg0.N) (r : Fin 512) (d : Fin 1024) : EReal := outsAt0 m c n h (ix2 r d)

theorem outs_first (c : Dev nD) (t : Fin cfg0.N) (h : t.val % 4 = 0) (r : Fin 512) (d : Fin 1024) :
    outs m c t.val t.isLt r d = resid m c t r d + term m c t r d := by
  unfold outs
  rw [outsAt0_A m c t h (by omega)]
  frame_out
  exact pay_first _ _ _ _ _ _ _ _ _ _ _ _

theorem outs_later (c : Dev nD) (t : Fin cfg0.N) (h : ¬ t.val % 4 = 0) (r : Fin 512) (d : Fin 1024) :
    outs m c t.val t.isLt r d = outs m c (t.val - 1) (by omega) r d + term m c t r d := by
  unfold outs
  rw [outsAt0_B m c t h (by omega)]
  frame_out
  exact pay_eq _ _ _ _ _ _ _ _ _ _ _ _

/-- One entry of the feed forward call's gated hidden row. -/
def mid (x : FVec Ideal S1024x1024 .bf16) (wg : FVec Ideal S1024x4096 .f32) (ag : FVec Ideal S1024x16 .f32) (bg : FVec Ideal S16x4096 .f32)
    (wu : FVec Ideal S1024x4096 .f32) (au : FVec Ideal S1024x16 .f32) (bu : FVec Ideal S16x4096 .f32) (r : Fin 1024) (f : Fin 4096) : EReal :=
  Spec.gated
    (Spec.lora (fun k => x (ix2 r k)) (fun k f => wg (ix2 k f)) (fun k s => ag (ix2 k s)) (fun s f => bg (ix2 s f)) f)
    (Spec.lora (fun k => x (ix2 r k)) (fun k f => wu (ix2 k f)) (fun k s => au (ix2 k s)) (fun s f => bu (ix2 s f)) f)

/-- The feed forward call's result as a function of its arguments. -/
def result (x : FVec Ideal S1024x1024 .bf16) (h : FVec Ideal S1024x1024 .f32) (wg : FVec Ideal S1024x4096 .f32) (ag : FVec Ideal S1024x16 .f32) (bg : FVec Ideal S16x4096 .f32)
    (wu : FVec Ideal S1024x4096 .f32) (au : FVec Ideal S1024x16 .f32) (bu : FVec Ideal S16x4096 .f32)
    (wd : FVec Ideal S4096x1024 .f32) (ad : FVec Ideal S4096x16 .f32) (bd : FVec Ideal S16x1024 .f32) : FVec Ideal S1024x1024 .f32 := fun i =>
  h i + Spec.lora (mid x wg ag bg wu au bu (i 0)) (fun f d => wd (ix2 f d)) (fun f s => ad (ix2 f s)) (fun s d => bd (ix2 s d)) (i 1)

/-- The real entries the result's tiles need. -/
structure Real (x : FVec Ideal S1024x1024 .bf16) (wg : FVec Ideal S1024x4096 .f32) (ag : FVec Ideal S1024x16 .f32) (bg : FVec Ideal S16x4096 .f32)
    (wu : FVec Ideal S1024x4096 .f32) (au : FVec Ideal S1024x16 .f32) (bu : FVec Ideal S16x4096 .f32)
    (ad : FVec Ideal S4096x16 .f32) (bd : FVec Ideal S16x1024 .f32) : Prop where
  x : ∀ i, Spec.IsReal (x i)
  wg : ∀ i, Spec.IsReal (wg i)
  ag : ∀ i, Spec.IsReal (ag i)
  bg : ∀ i, Spec.IsReal (bg i)
  wu : ∀ i, Spec.IsReal (wu i)
  au : ∀ i, Spec.IsReal (au i)
  bu : ∀ i, Spec.IsReal (bu i)
  ad : ∀ i, Spec.IsReal (ad i)
  bd : ∀ i, Spec.IsReal (bd i)

/-- The row of the arrays at a point's row of its block. -/
def row (p : Fin 8) (r : Fin 512) : Fin 1024 := ⟨p.val / 4 * 512 + r.val, by omega⟩

/-- The position of the inner dimension at a point's position of its tile. -/
def inn (p : Fin 8) (f : Fin 1024) : Fin 4096 := ⟨p.val % 4 * 1024 + f.val, by omega⟩

theorem blk0 (c : Dev nD) (p : Fin cfg0.N) (r : Fin 512) (k : Fin 1024) : (iblk m c 0 p : FVec Ideal S512x1024 .bf16) (ix2 r k) = (m ((c : Thread nD τ).loc main_arg0) : FVec Ideal S1024x1024 .bf16) (ix2 (row p r) k) := by
  unfold row
  blk_point [iblk, V, idx p]
theorem blk1 (c : Dev nD) (p : Fin cfg0.N) (r : Fin 512) (k : Fin 1024) : (iblk m c 1 p : FVec Ideal S512x1024 .f32) (ix2 r k) = (m ((c : Thread nD τ).loc main_arg1) : FVec Ideal S1024x1024 .f32) (ix2 (row p r) k) := by
  unfold row
  blk_point [iblk, V, idx p]
theorem blk2 (c : Dev nD) (p : Fin cfg0.N) (k : Fin 1024) (f : Fin 1024) : (iblk m c 2 p : FVec Ideal S1024x1024 .f32) (ix2 k f) = (m ((c : Thread nD τ).loc main_arg2) : FVec Ideal S1024x4096 .f32) (ix2 (k) (inn p f)) := by
  unfold inn
  blk_point [iblk, V, idx p]
theorem blk3 (c : Dev nD) (p : Fin cfg0.N) (k : Fin 1024) (s : Fin 16) : (iblk m c 3 p : FVec Ideal S1024x16 .f32) (ix2 k s) = (m ((c : Thread nD τ).loc main_arg3) : FVec Ideal S1024x16 .f32) (ix2 (k) (s)) := by
  blk_point [iblk, V, idx p]
theorem blk4 (c : Dev nD) (p : Fin cfg0.N) (s : Fin 16) (f : Fin 1024) : (iblk m c 4 p : FVec Ideal S16x1024 .f32) (ix2 s f) = (m ((c : Thread nD τ).loc main_arg4) : FVec Ideal S16x4096 .f32) (ix2 (s) (inn p f)) := by
  unfold inn
  blk_point [iblk, V, idx p]
theorem blk5 (c : Dev nD) (p : Fin cfg0.N) (k : Fin 1024) (f : Fin 1024) : (iblk m c 5 p : FVec Ideal S1024x1024 .f32) (ix2 k f) = (m ((c : Thread nD τ).loc main_arg5) : FVec Ideal S1024x4096 .f32) (ix2 (k) (inn p f)) := by
  unfold inn
  blk_point [iblk, V, idx p]
theorem blk6 (c : Dev nD) (p : Fin cfg0.N) (k : Fin 1024) (s : Fin 16) : (iblk m c 6 p : FVec Ideal S1024x16 .f32) (ix2 k s) = (m ((c : Thread nD τ).loc main_arg6) : FVec Ideal S1024x16 .f32) (ix2 (k) (s)) := by
  blk_point [iblk, V, idx p]
theorem blk7 (c : Dev nD) (p : Fin cfg0.N) (s : Fin 16) (f : Fin 1024) : (iblk m c 7 p : FVec Ideal S16x1024 .f32) (ix2 s f) = (m ((c : Thread nD τ).loc main_arg7) : FVec Ideal S16x4096 .f32) (ix2 (s) (inn p f)) := by
  unfold inn
  blk_point [iblk, V, idx p]
theorem blk8 (c : Dev nD) (p : Fin cfg0.N) (f : Fin 1024) (d : Fin 1024) : (iblk m c 8 p : FVec Ideal S1024x1024 .f32) (ix2 f d) = (m ((c : Thread nD τ).loc main_arg8) : FVec Ideal S4096x1024 .f32) (ix2 (inn p f) (d)) := by
  unfold inn
  blk_point [iblk, V, idx p]
theorem blk9 (c : Dev nD) (p : Fin cfg0.N) (f : Fin 1024) (s : Fin 16) : (iblk m c 9 p : FVec Ideal S1024x16 .f32) (ix2 f s) = (m ((c : Thread nD τ).loc main_arg9) : FVec Ideal S4096x16 .f32) (ix2 (inn p f) (s)) := by
  unfold inn
  blk_point [iblk, V, idx p]
theorem blk10 (c : Dev nD) (p : Fin cfg0.N) (s : Fin 16) (d : Fin 1024) : (iblk m c 10 p : FVec Ideal S16x1024 .f32) (ix2 s d) = (m ((c : Thread nD τ).loc main_arg10) : FVec Ideal S16x1024 .f32) (ix2 (s) (d)) := by
  blk_point [iblk, V, idx p]

theorem emb11 (t : Fin cfg0.N) (y : S512x1024.Idx) : (win0_11.blk t).view.emb y = ix2 (row t (y 0)) (y 1) := by
  unfold row
  blk_point [idx t]

theorem resid_eq (c : Dev nD) (p : Fin cfg0.N) (r : Fin 512) (d : Fin 1024) : resid m c p r d = (m ((c : Thread nD τ).loc main_arg1) : FVec Ideal S1024x1024 .f32) (ix2 (row p r) d) := blk1 m c p r d

/-- What a point adds, from the arguments: the part of the sum over the inner dimension that lies in its tile. -/
def share (x : FVec Ideal S1024x1024 .bf16) (wg : FVec Ideal S1024x4096 .f32) (ag : FVec Ideal S1024x16 .f32) (bg : FVec Ideal S16x4096 .f32)
    (wu : FVec Ideal S1024x4096 .f32) (au : FVec Ideal S1024x16 .f32) (bu : FVec Ideal S16x4096 .f32)
    (wd : FVec Ideal S4096x1024 .f32) (ad : FVec Ideal S4096x16 .f32) (bd : FVec Ideal S16x1024 .f32) (p : Fin 8) (r : Fin 512) (d : Fin 1024) : EReal :=
  ∑ f : Fin 1024, mid x wg ag bg wu au bu (row p r) (inn p f) * wd (ix2 (inn p f) d) + (∑ s : Fin 16, (∑ f : Fin 1024, mid x wg ag bg wu au bu (row p r) (inn p f) * ad (ix2 (inn p f) s)) * bd (ix2 s d)) * Spec.two

/-- A block that starts as the residual with the first tile's share and gains every later tile's share holds, at the last
    point of its row of blocks, the whole result. -/
theorem last_of {x : FVec Ideal S1024x1024 .bf16} {h : FVec Ideal S1024x1024 .f32} {wg : FVec Ideal S1024x4096 .f32} {ag : FVec Ideal S1024x16 .f32} {bg : FVec Ideal S16x4096 .f32}
    {wu : FVec Ideal S1024x4096 .f32} {au : FVec Ideal S1024x16 .f32} {bu : FVec Ideal S16x4096 .f32}
    {wd : FVec Ideal S4096x1024 .f32} {ad : FVec Ideal S4096x16 .f32} {bd : FVec Ideal S16x1024 .f32} (hR : Real x wg ag bg wu au bu ad bd)
    (o : (n : Nat) → n < 8 → Fin 512 → Fin 1024 → EReal)
    (hf : ∀ t : Fin 8, t.val % 4 = 0 → ∀ r d, o t.val t.isLt r d = h (ix2 (row t r) d) + share x wg ag bg wu au bu wd ad bd t r d)
    (hl : ∀ t : Fin 8, ¬ t.val % 4 = 0 → ∀ r d, o t.val t.isLt r d = o (t.val - 1) (Nat.lt_of_le_of_lt (Nat.sub_le _ _) t.isLt) r d + share x wg ag bg wu au bu wd ad bd t r d)
    (t : Fin 8) (ht : t.val % 4 = 3) (r : Fin 512) (d : Fin 1024) : o t.val t.isLt r d = result x h wg ag bg wu au bu wd ad bd (ix2 (row t r) d) := by
  have hrow (s : Fin 4) (r : Fin 512) : row ⟨4 * (t.val / 4) + s.val, Pipeline.run_point_lt_of_flush t ht s⟩ r = row t r :=
    Fin.ext (by have := s.isLt; simp only [row]; omega)
  have hinn (s : Fin 4) (f : Fin 1024) : inn ⟨4 * (t.val / 4) + s.val, Pipeline.run_point_lt_of_flush t ht s⟩ f = Spec.at4 s f :=
    Fin.ext (by have := s.isLt; simp only [inn, Spec.at4]; omega)
  refine (Pipeline.eq_sum_fin_of_reset_step_apply_of_flush (fun n h (q : Fin 512 × Fin 1024) => o n h q.1 q.2) 4 (fun _ => 0)
    (fun p q => (if p.val % 4 = 0 then h (ix2 (row p q.1) q.2) else 0) + share x wg ag bg wu au bu wd ad bd p q.1 q.2)
    (fun p h j => by rw [hf p h, if_pos h, zero_add]) (fun p h j => by rw [hl p h, if_neg h, zero_add]) t ht (r, d)).trans ?_
  rw [zero_add, Finset.sum_add_distrib]
  refine congrArg₂ (· + ·) ?_ ?_
  · rw [Finset.sum_eq_single (0 : Fin 4)]
    · rw [if_pos (by simp)]; simp only [hrow]
    · intro s _ hs
      rw [if_neg]
      have := s.isLt
      have : s.val ≠ 0 := fun h => hs (Fin.ext h)
      show ¬ (4 * (t.val / 4) + s.val) % 4 = 0
      omega
    · simp
  · refine Eq.trans ?_ (Spec.lora_tiles _ _ _ _ (fun f => Spec.isReal_gated (Spec.isReal_lora (fun _ => hR.x _) (fun _ _ => hR.wg _) (fun _ _ => hR.ag _) (fun _ _ => hR.bg _) _)
        (Spec.isReal_lora (fun _ => hR.x _) (fun _ _ => hR.wu _) (fun _ _ => hR.au _) (fun _ _ => hR.bu _) _)) (fun _ _ => hR.ad _) (fun _ _ => hR.bd _) _)
    refine Finset.sum_congr rfl fun s _ => ?_
    unfold share
    simp only [hinn]
    rw [hrow s r]
    rfl

theorem term_eq (c : Dev nD) (t : Fin cfg0.N) (r : Fin 512) (d : Fin 1024) : term m c t r d = share (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) t r d := by
  simp only [term, part, share, mid, Spec.lora, blk0, blk2, blk3, blk4, blk5, blk6, blk7, blk8, blk9, blk10]

/-- What the block of the result holds at the last point of its row of blocks. -/
theorem outs_last (c : Dev nD)
    (hR : Real (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)))
    (t : Fin cfg0.N) (ht : t.val % 4 = 3) (r : Fin 512) (d : Fin 1024) : outs m c t.val t.isLt r d = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (row t r) d) :=
  last_of hR (fun n h r d => outs m c n h r d) (fun p h r d => (outs_first m c p h r d).trans (congrArg₂ (· + ·) (resid_eq m c p r d) (term_eq m c p r d))) (fun p h r d => (outs_later m c p h r d).trans (congrArg (_ + ·) (term_eq m c p r d))) t ht r d

theorem final_11 (c : Dev nD)
    (hR : Real (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10))) :
    (dats m 0 c).arrAt 11 (cfgs 0).N = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t hf y => ?_
  blk_simp
  rw [after0_11]
  refine Eq.trans (congrArg (outsAt0 m c t.val t.isLt) (ix2_eta (n0 := 512) (n1 := 1024) y).symm) ?_
  exact (outs_last m c hR t ((flush0_11 t).mp hf) (y 0) (y 1)).trans (congrArg _ (emb11 t y).symm)

/-- The kernel's run, its result named. -/
theorem run (hR : ∀ c : Dev nD, Real (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) (m ((c.tc : Thread nD τ).loc main_arg10))) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run _ _ _).mono (fun r h c => ⟨?_, h.2 c⟩) (θ_run_and (run_main m ρ) (unchanged m ρ))
  exact ((h.1 c).1 11).trans (final_11 m c (hR c))

end Cert.MlpIdeal.Own

namespace Cert.MlpRefIdeal.Own
open Cert.MlpRefIdeal Cert.MlpRefIdeal.Gen Cert.MlpRefIdeal.Value

/-- The reference's result is the same function. -/
theorem ref (m : (ℓ : Loc nD τ sig) → Buf (Elt Ideal) ℓ) (c : Dev nD) : res_main_v21 m c
    = MlpIdeal.Own.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  pointwise [res_main_v21, MlpIdeal.Own.result, MlpIdeal.Own.mid, Spec.lora, Spec.gated, Spec.two, Ideal.logistic]

/-- The reference's run, its result named by that function. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v21) = MlpIdeal.Own.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run _ _ _).mono (fun r h c => ⟨(h c).1.trans (ref m c), (h c).2⟩) (Cert.MlpRefIdeal.Value.run m ρ)

end Cert.MlpRefIdeal.Own
end
-- ==== Proof.Finite.lean ====
/- What the precondition `finite` says of the entries of its arrays. -/
module
public import Idealize.ShloMosaic.Lib.ReduceAll
public import Idealize.ShloMosaic.Lib.Pointwise.Select
public import Idealize.ShloMosaic.Lib.Decide
public import proofs.«01_k».proof.Pre_finite
public import proofs.«01_k».proof.Proof.Spec
@[expose] public section
set_option maxRecDepth 16384
noncomputable section
open Idealize.ShloMosaic

namespace Cert.Spec

theorem inf_eq : Ideal.ofBits FTy.f32 0x7F800000#32 = ⊤ := by
  simp [Ideal.ofBits, Ideal.ieee]

/-- A value whose absolute value is below the positive infinity is real. -/
theorem isReal_of_abs {x : EReal} (h : max x (-x) < ⊤) : IsReal x := by
  induction x using EReal.rec with
  | bot => simp at h
  | coe r => exact ⟨r, rfl⟩
  | top => simp at h

/-- Every entry of an array is real when the conjunction over it of `|x| < ∞` is true. -/
theorem all_real {s t : Shape} [Subsingleton t.Idx] {axes : List (Fin s.rank)} (x : FVec Ideal s .f32) (hb : (⟨0, ![]⟩ : Shape).BroadcastsInDim s ![]) (hr : s.ReducesTo axes t)
    (hp : 0 < (⟨0, ![]⟩ : Shape).numel) (j : t.Idx)
    (e : Host.reduce IntOp.andi (cmpf .olt (Host.absf x) (broadcastInDim s ![] hb (constant (F := Ideal) ⟨0, ![]⟩ .f32 0x7F800000#32))) (constantI ⟨0, ![]⟩ 1 1#1) hr hp j = 1#1) (i : s.Idx) :
    IsReal (x i) := by
  have h := Host.reduce_andi_all _ _ _ _ j e i
  have h2 : max (x i) (-(x i)) < Ideal.ofBits FTy.f32 0x7F800000#32 := (Ideal.cmp_olt_eq_one _ _).1 h
  rw [inf_eq] at h2
  exact isReal_of_abs h2

end Cert.Spec

namespace Cert.Pre_finite.Own
open Cert.Pre_finite

/-- The shape relations of the precondition's operations. -/
instance facts : Cert.Pre_finite.Facts where
  bitsLt_bf16_f32 := by decide
  bcast_S_S1024x1024 := by decide
  reducesTo_S1024x1024_S_d0_1 := by decide
  h_S_ := by decide
  bcast_S_S1024x4096 := by decide
  reducesTo_S1024x4096_S_d0_1 := by decide
  bcast_S_S1024x16 := by decide
  reducesTo_S1024x16_S_d0_1 := by decide
  bcast_S_S16x4096 := by decide
  reducesTo_S16x4096_S_d0_1 := by decide
  bcast_S_S4096x16 := by decide
  reducesTo_S4096x16_S_d0_1 := by decide
  bcast_S_S16x1024 := by decide
  reducesTo_S16x1024_S_d0_1 := by decide

instance : Subsingleton S_.Idx := ⟨fun a b => funext fun k => k.elim0⟩

/-- The precondition says that the nine arrays it reads have real entries only. -/
theorem real (x : FVec Ideal S1024x1024 .bf16) (h : FVec Ideal S1024x1024 .f32) (wg : FVec Ideal S1024x4096 .f32) (ag : FVec Ideal S1024x16 .f32) (bg : FVec Ideal S16x4096 .f32)
    (wu : FVec Ideal S1024x4096 .f32) (au : FVec Ideal S1024x16 .f32) (bu : FVec Ideal S16x4096 .f32)
    (wd : FVec Ideal S4096x1024 .f32) (ad : FVec Ideal S4096x16 .f32) (bd : FVec Ideal S16x1024 .f32)
    (e : Cert.Pre_finite.fn (F := Ideal) x h wg ag bg wu au bu wd ad bd = fun _ => 1#1) :
    (∀ i, Spec.IsReal (x i)) ∧ (∀ i, Spec.IsReal (wg i)) ∧ (∀ i, Spec.IsReal (ag i)) ∧ (∀ i, Spec.IsReal (bg i)) ∧ (∀ i, Spec.IsReal (wu i))
      ∧ (∀ i, Spec.IsReal (au i)) ∧ (∀ i, Spec.IsReal (bu i)) ∧ (∀ i, Spec.IsReal (ad i)) ∧ (∀ i, Spec.IsReal (bd i)) := by
  have e := congrFun e fun k => k.elim0
  dsimp only [fn, fn_part1, fn_part2, andi] at e
  simp only [IntOp.andi_eq_one] at e
  obtain ⟨⟨⟨⟨⟨⟨⟨⟨h0, h1⟩, h2⟩, h3⟩, h4⟩, h5⟩, h6⟩, h7⟩, h8⟩ := e
  exact ⟨Spec.all_real _ _ _ _ _ h0, Spec.all_real _ _ _ _ _ h1, Spec.all_real _ _ _ _ _ h2, Spec.all_real _ _ _ _ _ h3, Spec.all_real _ _ _ _ _ h4,
    Spec.all_real _ _ _ _ _ h5, Spec.all_real _ _ _ _ _ h6, Spec.all_real _ _ _ _ _ h7, Spec.all_real _ _ _ _ _ h8⟩

end Cert.Pre_finite.Own
end
-- ==== Proof.AttnSpec.lean ====
/- The attention part of one layer, over plain functions of indices into the extended reals. -/
module
public import Idealize.ShloMosaic.Lib.WordCmp
public import proofs.«01_k».proof.Proof.Spec
@[expose] public section
set_option maxRecDepth 16384
noncomputable section
open Idealize.ShloMosaic
namespace Cert.Spec

/-- The lane of a row of 1024 at a head and a position of the head's 64. -/
def lane (h : Fin 16) (e : Fin 64) : Fin 1024 := ⟨h.val * 64 + e.val, by omega⟩

/-- The row of the activations at a sequence and a position of it. -/
def place (b : Fin 2) (i : Fin 512) : Fin 1024 := ⟨b.val * 512 + i.val, by omega⟩

/-- The rotation angle of a position at one of the 32 frequencies. -/
def angle (r e : ℕ) : EReal :=
  (FloatOps.sitofp (F := Ideal) FTy.f32 (BitVec.ofNat 32 r) : EReal) * Ideal.div 1 (Ideal.pow (Ideal.ofBits FTy.f32 0x461C4000#32) (Ideal.div (FloatOps.sitofp (F := Ideal) FTy.f32 (BitVec.ofNat 32 e)) (Ideal.ofBits FTy.f32 0x42000000#32)))

/-- The rotation angle of a position at a lane of the head, the frequencies twice in a row. -/
def angles (r e : ℕ) : EReal := if h : e < 32 then angle r e else angle r (e - 32)

/-- A head's row turned by its position's angles, lane `e` with lane `e + 32`. -/
def rope (x : Fin 64 → EReal) (i : Fin 512) (e : Fin 64) : EReal :=
  x e * Ideal.cos (angles i e) + (if h : e.val < 32 then -(x ⟨e.val + 32, by omega⟩) else x ⟨e.val - 32, by omega⟩) * Ideal.sin (angles i e)

/-- One over the square root of the head's width. -/
def scale : EReal := Ideal.div 1 (Ideal.sqrt (Ideal.ofBits FTy.f32 0x42800000#32))

/-- The score of a position against an earlier one, and minus infinity against a later one. -/
def score (q k : Fin 512 → Fin 64 → EReal) (i j : Fin 512) : EReal := if j ≤ i then (∑ e, q i e * k j e) * scale else ⊥

/-- The exponential of a score less its row's greatest. -/
def weight (q k : Fin 512 → Fin 64 → EReal) (i j : Fin 512) : EReal :=
  Ideal.exp (score q k i j - Finset.fold max ⊥ (fun j => score q k i j) Finset.univ)

/-- One entry of a head's result: the values weighted by the softmax of the scores. -/
def att (q k v : Fin 512 → Fin 64 → EReal) (i : Fin 512) (e : Fin 64) : EReal :=
  ∑ j, Ideal.div (weight q k i j) (∑ j, weight q k i j) * v j e

/-- The activations and weights of one attention part. -/
structure Args where
  h : Fin 1024 → Fin 1024 → EReal
  ln1 : Fin 1024 → EReal
  ln2 : Fin 1024 → EReal
  wq : Fin 1024 → Fin 1024 → EReal
  aq : Fin 1024 → Fin 16 → EReal
  bq : Fin 16 → Fin 1024 → EReal
  wk : Fin 1024 → Fin 1024 → EReal
  ak : Fin 1024 → Fin 16 → EReal
  bk : Fin 16 → Fin 1024 → EReal
  wv : Fin 1024 → Fin 1024 → EReal
  av : Fin 1024 → Fin 16 → EReal
  bv : Fin 16 → Fin 1024 → EReal
  wo : Fin 1024 → Fin 1024 → EReal
  ao : Fin 1024 → Fin 16 → EReal
  bo : Fin 16 → Fin 1024 → EReal

/-- A row's sequence. -/
def seq (R : Fin 1024) : Fin 2 := ⟨R.val / 512, by omega⟩

/-- A row's position in its sequence. -/
def pos (R : Fin 1024) : Fin 512 := ⟨R.val % 512, by omega⟩

theorem seq_place (b : Fin 2) (i : Fin 512) : seq (place b i) = b := Fin.ext (by simp only [seq, place]; omega)
theorem pos_place (b : Fin 2) (i : Fin 512) : pos (place b i) = i := Fin.ext (by simp only [pos, place]; omega)
theorem place_seq (R : Fin 1024) : place (seq R) (pos R) = R := Fin.ext (by simp only [seq, pos, place]; omega)

namespace Args
variable (A : Args)

/-- The queries of a sequence at a head. -/
def q (b : Fin 2) (h : Fin 16) (i : Fin 512) (e : Fin 64) : EReal :=
  rope (fun e => lora (rms (A.h (place b i)) A.ln1) A.wq A.aq A.bq (lane h e)) i e
/-- The keys of a sequence at a head. -/
def k (b : Fin 2) (h : Fin 16) (i : Fin 512) (e : Fin 64) : EReal :=
  rope (fun e => lora (rms (A.h (place b i)) A.ln1) A.wk A.ak A.bk (lane h e)) i e
/-- The values of a sequence at a head. -/
def v (b : Fin 2) (h : Fin 16) (i : Fin 512) (e : Fin 64) : EReal :=
  lora (rms (A.h (place b i)) A.ln1) A.wv A.av A.bv (lane h e)
/-- A row of the heads' results side by side. -/
def o (b : Fin 2) (i : Fin 512) (j : Fin 1024) : EReal :=
  att (A.q b ⟨j.val / 64, by omega⟩) (A.k b ⟨j.val / 64, by omega⟩) (A.v b ⟨j.val / 64, by omega⟩) i ⟨j.val % 64, by omega⟩
/-- The activations after the attention. -/
def hn (b : Fin 2) (i : Fin 512) (d : Fin 1024) : EReal := A.h (place b i) d + lora (A.o b i) A.wo A.ao A.bo d
/-- The normalized activations that the feed forward part reads. -/
def x2 (b : Fin 2) (i : Fin 512) (d : Fin 1024) : EReal := rms (A.hn b i) A.ln2 d
end Args

/-- The kernel's literal scale is one over the square root of the head's width. -/
theorem scale_eq : Ideal.ofBits FTy.f32 0x3E000000#32 = scale := by
  have e1 : Ideal.ofBits FTy.f32 0x42800000#32 = ((64 : ℝ) : EReal) := by
    simp [Ideal.ofBits, Ideal.ieee, -EReal.coe_mul]; try norm_num
  have e2 : Ideal.ofBits FTy.f32 0x3E000000#32 = ((8⁻¹ : ℝ) : EReal) := by
    simp [Ideal.ofBits, Ideal.ieee, -EReal.coe_mul]; try norm_num
  have e3 : Ideal.sqrt ((64 : ℝ) : EReal) = ((8 : ℝ) : EReal) := by
    show (if (64 : ℝ) < 0 then (⊥ : EReal) else (Real.sqrt 64 : EReal)) = _
    rw [if_neg (by norm_num), show (64 : ℝ) = 8 ^ 2 by norm_num, Real.sqrt_sq (by norm_num)]
  rw [scale, e1, e2, e3, Ideal.div, if_neg, one_mul, EReal.coe_inv]
  rw [← EReal.coe_zero, EReal.coe_eq_coe_iff]
  norm_num

theorem bot_eq : Ideal.ofBits FTy.f32 0xFF800000#32 = ⊥ := by
  simp [Ideal.ofBits, Ideal.ieee]

/-- A comparison of two positions, of 32 bit words. -/
theorem sle_eq (i j : Fin 512) : IntOp.cmpi .sle (BitVec.ofNat 32 j.val) (BitVec.ofNat 32 i.val) = if j ≤ i then 1#1 else 0#1 := by
  rw [WordCmp.cmpi_sle_ofNat (by omega) (by omega)]
  by_cases h : j ≤ i
  · rw [if_pos h, decide_eq_true (Fin.le_def.mp h)]; rfl
  · rw [if_neg h, decide_eq_false (fun g => h (Fin.le_def.mpr g))]; rfl

theorem sge_eq (i j : Fin 512) : IntOp.cmpi .sge (BitVec.ofNat 32 i.val) (BitVec.ofNat 32 j.val) = if j ≤ i then 1#1 else 0#1 := sle_eq i j

/-- The kernel's choice between the scaled product and minus infinity. -/
theorem score_eq (q k : Fin 512 → Fin 64 → EReal) (i j : Fin 512) :
    Scalar.select (IntOp.cmpi .sle (BitVec.ofNat 32 j.val) (BitVec.ofNat 32 i.val)) ((∑ e, q i e * k j e) * Ideal.ofBits FTy.f32 0x3E000000#32) (⊥ : EReal) = score q k i j := by
  rw [sle_eq, scale_eq, score]
  by_cases h : j ≤ i
  · rw [if_pos h, if_pos h]; rfl
  · rw [if_neg h, if_neg h]; rfl

/-- A lane's head and position. -/
theorem lane_split (j : Fin 1024) : lane ⟨j.val / 64, by omega⟩ ⟨j.val % 64, by omega⟩ = j := Fin.ext (by simp only [lane]; omega)

end Cert.Spec
end
-- ==== Proof.AttnRef.lean ====
/- The attention's reference, read entry by entry. -/
module
public import Idealize.ShloMosaic.Lib.Claim
public import Idealize.ShloMosaic.Lib.Pipeline.ValueKit
public import proofs.«01_k».proof.Proof.Gen.AttnRefIdeal.Run
public import proofs.«01_k».proof.Proof.AttnSpec
@[expose] public section
set_option maxRecDepth 16384
noncomputable section
open Idealize.ShloMosaic Idealize.ShloMosaic.TcCoe Idealize.SL.Sem
namespace Cert.AttnRefIdeal.Own
open Cert.AttnRefIdeal Cert.AttnRefIdeal.Gen Cert.AttnRefIdeal.Value
variable (V0 : Valuation τ sig (Elt Ideal))

/-- The arguments a memory holds, as functions of indices. -/
def args (V0 : Valuation τ sig (Elt Ideal)) : Spec.Args where
  h := fun i j => (V0 (Proc.devRef .tc main_arg0) : FVec Ideal S1024x1024 .f32) (ix2 i j)
  ln1 := fun i => (V0 (Proc.devRef .tc main_arg1) : FVec Ideal S1024 .f32) (ix1 i)
  ln2 := fun i => (V0 (Proc.devRef .tc main_arg2) : FVec Ideal S1024 .f32) (ix1 i)
  wq := fun i j => (V0 (Proc.devRef .tc main_arg3) : FVec Ideal S1024x1024 .f32) (ix2 i j)
  aq := fun i j => (V0 (Proc.devRef .tc main_arg4) : FVec Ideal S1024x16 .f32) (ix2 i j)
  bq := fun i j => (V0 (Proc.devRef .tc main_arg5) : FVec Ideal S16x1024 .f32) (ix2 i j)
  wk := fun i j => (V0 (Proc.devRef .tc main_arg6) : FVec Ideal S1024x1024 .f32) (ix2 i j)
  ak := fun i j => (V0 (Proc.devRef .tc main_arg7) : FVec Ideal S1024x16 .f32) (ix2 i j)
  bk := fun i j => (V0 (Proc.devRef .tc main_arg8) : FVec Ideal S16x1024 .f32) (ix2 i j)
  wv := fun i j => (V0 (Proc.devRef .tc main_arg9) : FVec Ideal S1024x1024 .f32) (ix2 i j)
  av := fun i j => (V0 (Proc.devRef .tc main_arg10) : FVec Ideal S1024x16 .f32) (ix2 i j)
  bv := fun i j => (V0 (Proc.devRef .tc main_arg11) : FVec Ideal S16x1024 .f32) (ix2 i j)
  wo := fun i j => (V0 (Proc.devRef .tc main_arg12) : FVec Ideal S1024x1024 .f32) (ix2 i j)
  ao := fun i j => (V0 (Proc.devRef .tc main_arg13) : FVec Ideal S1024x16 .f32) (ix2 i j)
  bo := fun i j => (V0 (Proc.devRef .tc main_arg14) : FVec Ideal S16x1024 .f32) (ix2 i j)

theorem x_at (R d : Fin 1024) : (res_main_v34 V0 : FVec Ideal S1024x1024 .f32) (ix2 R d) = Spec.rms ((args V0).h R) (args V0).ln1 d := by
  unfold args
  pointwise [res_main_v34, Spec.rms]

theorem cos_at (r : Fin 512) (e : Fin 64) : ((res_main_v14 V0 : FVec Ideal S512x64 .f32) (ix2 r e) : EReal) = Ideal.cos (Spec.angles r.val e.val) := by
  pointwise [res_main_v14, res_main_v13, res_main_v12, Spec.angles, Spec.angle]

theorem sin_at (r : Fin 512) (e : Fin 64) : ((res_main_v15 V0 : FVec Ideal S512x64 .f32) (ix2 r e) : EReal) = Ideal.sin (Spec.angles r.val e.val) := by
  pointwise [res_main_v15, res_main_v13, res_main_v12, Spec.angles, Spec.angle]

theorem q_at (b : Fin 2) (i : Fin 512) (h : Fin 16) (e : Fin 64) : (res_main_v41 V0 : FVec Ideal S2x512x16x64 .f32) (ix4 b i h e)
    = Spec.lora (Spec.rms ((args V0).h (Spec.place b i)) (args V0).ln1) (args V0).wq (args V0).aq (args V0).bq (Spec.lane h e) := by
  have hx : Spec.rms ((args V0).h (Spec.place b i)) (args V0).ln1 = fun d => (res_main_v34 V0 : FVec Ideal S1024x1024 .f32) (ix2 (Spec.place b i) d) := funext fun d => (x_at V0 _ d).symm
  rw [hx]
  unfold args res_main_v41
  generalize res_main_v34 V0 = x
  pointwise [Spec.lora, Spec.two, Spec.place, Spec.lane]

theorem k_at (b : Fin 2) (i : Fin 512) (h : Fin 16) (e : Fin 64) : (res_main_v48 V0 : FVec Ideal S2x512x16x64 .f32) (ix4 b i h e)
    = Spec.lora (Spec.rms ((args V0).h (Spec.place b i)) (args V0).ln1) (args V0).wk (args V0).ak (args V0).bk (Spec.lane h e) := by
  have hx : Spec.rms ((args V0).h (Spec.place b i)) (args V0).ln1 = fun d => (res_main_v34 V0 : FVec Ideal S1024x1024 .f32) (ix2 (Spec.place b i) d) := funext fun d => (x_at V0 _ d).symm
  rw [hx]
  unfold args res_main_v48
  generalize res_main_v34 V0 = x
  pointwise [Spec.lora, Spec.two, Spec.place, Spec.lane]

/-- The reference's rotation of the queries or keys. -/
def turned (x : FVec Ideal S2x512x16x64 .f32) (cs sn : FVec Ideal S512x64 .f32) : FVec Ideal S2x512x16x64 .f32 :=
  addf (mulf x (broadcastInDim S2x512x16x64 ![0, 1, 2, 3] bcast_S1x512x1x64_S2x512x16x64_0_1_2_3 (broadcastInDim S1x512x1x64 ![1, 3] bcast_S512x64_S1x512x1x64_1_3 cs)))
    (mulf (concatenate S2x512x16x64 3 [⟨S2x512x16x32, (Host.negf (extractStridedSlice S2x512x16x32 ![0, 0, 0, 32] x slices_S2x512x16x64_S2x512x16x32_0_0_0_32))⟩, ⟨S2x512x16x32, (extractStridedSlice S2x512x16x32 ![0, 0, 0, 0] x slices_S2x512x16x64_S2x512x16x32_0_0_0_0)⟩] concatenates_S2x512x16x32_S2x512x16x32_S2x512x16x64_d3)
      (broadcastInDim S2x512x16x64 ![0, 1, 2, 3] bcast_S1x512x1x64_S2x512x16x64_0_1_2_3 (broadcastInDim S1x512x1x64 ![1, 3] bcast_S512x64_S1x512x1x64_1_3 sn)))

theorem turned_at (x : FVec Ideal S2x512x16x64 .f32) (cs sn : FVec Ideal S512x64 .f32) (b : Fin 2) (i : Fin 512) (h : Fin 16) (e : Fin 64)
    (hc : ∀ e : Fin 64, (cs (ix2 i e) : EReal) = Ideal.cos (Spec.angles i.val e.val)) (hs : ∀ e : Fin 64, (sn (ix2 i e) : EReal) = Ideal.sin (Spec.angles i.val e.val)) :
    turned x cs sn (ix4 b i h e) = Spec.rope (fun e => x (ix4 b i h e)) i e := by
  unfold Spec.rope
  rw [← hc, ← hs]
  pointwise [turned]
  simp only [Nat.add_comm 32]

/-- The reference's mask, added to the scores. -/
def bias : FVec Ideal S1x1x512x512 .f32 :=
  id (select (broadcastInDim S1x1x512x512 ![2, 3] bcast_S512x512_S1x1x512x512_2_3 (select (cmpi .sge (addi (iotaInDim S512x512 32 0) (broadcastInDim S512x512 ![] bcast_S_S512x512 (constantI S_ 32 0#32))) (iotaInDim S512x512 32 1)) (broadcastInDim S512x512 ![] bcast_S_S512x512 (constantI S_ 1 1#1)) (broadcastInDim S512x512 ![] bcast_S_S512x512 (constantI S_ 1 0#1)))) (broadcastInDim S1x1x512x512 ![] bcast_S_S1x1x512x512 (constant S_ .f32 0x00000000#32)) (broadcastInDim S1x1x512x512 ![] bcast_S_S1x1x512x512 (constant S_ .f32 0xFF800000#32)))

theorem bias_at (i j : Fin 512) : (bias (ix4 0 0 i j) : EReal) = if j ≤ i then 0 else ⊥ := by
  have e0 : IntOp.addi (BitVec.ofNat 32 i.val) 0#32 = BitVec.ofNat 32 i.val := BitVec.add_zero _
  unfold bias
  rw [id]
  pointwise []
  rw [e0, Spec.sge_eq, Spec.bot_eq]
  by_cases h : j ≤ i
  · simp only [if_pos h]; rfl
  · simp only [if_neg h]; rfl

/-- The reference's scores, of the rotated queries and keys. -/
def scores (q k : FVec Ideal S2x512x16x64 .f32) (b : FVec Ideal S1x1x512x512 .f32) : FVec Ideal S2x16x512x512 .f32 :=
  addf (mulf (Host.dotGeneral dot_S2x512x16x64_S2x512x16x64_S2x16x512x512_3_3_1_1_02_02 none q k) (broadcastInDim S2x16x512x512 ![] bcast_S_S2x16x512x512 (Host.divf (constant S_ .f32 0x3F800000#32) (Host.sqrt (constant S_ .f32 0x42800000#32)))))
    (broadcastInDim S2x16x512x512 ![0, 1, 2, 3] bcast_S1x1x512x512_S2x16x512x512_0_1_2_3 b)

theorem scores_at (q k : FVec Ideal S2x512x16x64 .f32) (m : FVec Ideal S1x1x512x512 .f32) (b : Fin 2) (h : Fin 16) (i j : Fin 512) :
    (scores q k m (ix4 b h i j) : EReal) = (∑ e : Fin 64, q (ix4 b i h e) * k (ix4 b j h e)) * Spec.scale + m (ix4 0 0 i j) := by
  pointwise [scores, Spec.scale]

theorem score_at (b : Fin 2) (h : Fin 16) (i j : Fin 512) : ((res_main_v83 V0 : FVec Ideal S2x16x512x512 .f32) (ix4 b h i j) : EReal) = Spec.score ((args V0).q b h) ((args V0).k b h) i j := by
  have e : (res_main_v83 V0 : FVec Ideal S2x16x512x512 .f32) = scores (turned (res_main_v41 V0) (res_main_v14 V0) (res_main_v15 V0)) (turned (res_main_v48 V0) (res_main_v14 V0) (res_main_v15 V0)) bias := rfl
  have hq (i : Fin 512) (e : Fin 64) : (turned (res_main_v41 V0) (res_main_v14 V0) (res_main_v15 V0) (ix4 b i h e) : EReal) = (args V0).q b h i e := by
    rw [turned_at _ _ _ b i h e (cos_at V0 i) (sin_at V0 i)]
    simp only [q_at]
    rfl
  have hk (i : Fin 512) (e : Fin 64) : (turned (res_main_v48 V0) (res_main_v14 V0) (res_main_v15 V0) (ix4 b i h e) : EReal) = (args V0).k b h i e := by
    rw [turned_at _ _ _ b i h e (cos_at V0 i) (sin_at V0 i)]
    simp only [k_at]
    rfl
  rw [e, scores_at, bias_at]
  simp only [hq, hk]
  unfold Spec.score
  by_cases hj : j ≤ i
  · rw [if_pos hj, if_pos hj, add_zero]
  · rw [if_neg hj, if_neg hj, EReal.add_bot]

theorem hn_at (R d : Fin 1024) : (res_main_v104 V0 : FVec Ideal S1024x1024 .f32) (ix2 R d)
    = (args V0).h R d + Spec.lora (fun d => (res_main_v97 V0 : FVec Ideal S1024x1024 .f32) (ix2 R d)) (args V0).wo (args V0).ao (args V0).bo d := by
  unfold args res_main_v104
  generalize res_main_v97 V0 = x
  pointwise [Spec.lora, Spec.two]
end Cert.AttnRefIdeal.Own
end
-- ==== Proof.AttnValue.lean ====
/- What the attention call leaves in its two results, and that the reference leaves the same. -/
module
public import Idealize.ShloMosaic.Lib.Claim
public import Idealize.ShloMosaic.Lib.Pipeline.ReadBack
public import proofs.«01_k».proof.Proof.Gen.AttnIdeal.Frame
public import proofs.«01_k».proof.Proof.AttnSpec
@[expose] public section
set_option maxRecDepth 16384
noncomputable section
open Idealize.ShloMosaic Idealize.ShloMosaic.TcCoe Idealize.SL.Sem
open Idealize.ShloMosaic.Pipeline (Dat)
namespace Cert.AttnIdeal.Own
open Cert.AttnIdeal Cert.AttnIdeal.Gen
variable (m : (ℓ : Loc nD τ sig) → Buf (Elt Ideal) ℓ)

/-- One lane of a row of 1024 lanes, every 64 of them turned by angles given by their cosines and sines. -/
def turn (x cs sn : Fin 1024 → EReal) (j : Fin 1024) : EReal :=
  x j * cs j + (if j.val % 64 < 32 then -(x ⟨(j.val + 32) % 1024, by omega⟩) else x ⟨(j.val + 992) % 1024, by omega⟩) * sn j

theorem mod_lt (j : Fin 1024) : IntOp.cmpi .slt (Scalar.select (IntOp.andi (IntOp.xori (IntOp.cmpi .slt (IntOp.remsi .vector (BitVec.ofNat 32 j.val) 64#32) 0#32) (Scalar.cmpi .slt 64#32 0#32)) (IntOp.cmpi .ne (IntOp.remsi .vector (BitVec.ofNat 32 j.val) 64#32) 0#32)) (IntOp.addi (IntOp.remsi .vector (BitVec.ofNat 32 j.val) 64#32) 64#32) (IntOp.remsi .vector (BitVec.ofNat 32 j.val) 64#32)) 32#32 = if j.val % 64 < 32 then 1#1 else 0#1 := by
  revert j; decide +kernel

theorem rope_q (cs sn x : FVec Ideal S512x1024 .f32) (r : Fin 512) (j : Fin 1024) :
    k0_pay7 (F := Ideal) (k0_pay4 cs) (k0_pay5 sn) x (iota .tc S512x1024 32 [1] iota_S512x1024_d1_w32) 64#32 0#1 1#32 (ix2 r j)
      = turn (fun j => x (ix2 r j)) (fun j => cs (ix2 r j)) (fun j => sn (ix2 r j)) j := by
  pointwise [k0_pay7, k0_pay4, k0_pay5, turn]
  rw [mod_lt]
  have e1 : (j.val + 1024 - 992) % 1024 = (j.val + 32) % 1024 := by omega
  have e2 : (j.val + 1024 - 32) % 1024 = (j.val + 992) % 1024 := by omega
  simp only [e1, e2]
  split
  · exact congrArg (fun z => x (ix2 r j) * cs (ix2 r j) + z * sn (ix2 r j)) (zero_sub _)
  · rfl

theorem rope_k (cs sn x y : FVec Ideal S512x1024 .f32) (r : Fin 512) (j : Fin 1024) :
    k0_pay11 (F := Ideal) (k0_pay4 cs) (k0_pay5 sn) x y k0_pay10 (ix2 r j)
      = turn (fun j => x (ix2 r j) + y (ix2 r j) * Spec.two) (fun j => cs (ix2 r j)) (fun j => sn (ix2 r j)) j := by
  have e : k0_pay11 (F := Ideal) (k0_pay4 cs) (k0_pay5 sn) x y k0_pay10 = k0_pay7 (k0_pay4 cs) (k0_pay5 sn) (addf x (mulf y k0_pay10)) (iota .tc S512x1024 32 [1] iota_S512x1024_d1_w32) 64#32 0#1 1#32 := rfl
  rw [e, rope_q]
  rfl

theorem rms_in (h : FVec Ideal S512x1024 .f32) (w : FVec Ideal S1x1024 .f32) (r : Fin 512) (j : Fin 1024) :
    k0_pay3 (F := Ideal) h w (ix2 r j) = Spec.rms (fun d => h (ix2 r d)) (fun d => w (ix2 0 d)) j := by
  pointwise [k0_pay3, Spec.rms]

theorem q_in (h : FVec Ideal S512x1024 .f32) (w : FVec Ideal S1x1024 .f32) (wq : FVec Ideal S1024x1024 .f32) (a : FVec Ideal S1024x16 .f32) (b : FVec Ideal S16x1024 .f32) (r : Fin 512) (j : Fin 1024) :
    k0_pay6 (F := Ideal) h w wq a b (ix2 r j) = Spec.lora (Spec.rms (fun d => h (ix2 r d)) (fun d => w (ix2 0 d))) (fun k j => wq (ix2 k j)) (fun k s => a (ix2 k s)) (fun s j => b (ix2 s j)) j := by
  pointwise [k0_pay6, k0_pay3, Spec.lora, Spec.rms, Spec.two]

theorem k_in (x : FVec Ideal S512x1024 .bf16) (wq : FVec Ideal S1024x1024 .f32) (a : FVec Ideal S1024x16 .f32) (b : FVec Ideal S16x1024 .f32) (r : Fin 512) (j : Fin 1024) :
    (k0_pay8 (F := Ideal) x wq (ix2 r j) : EReal) + k0_pay9 (F := Ideal) x a b (ix2 r j) * Spec.two = Spec.lora (fun d => x (ix2 r d)) (fun k j => wq (ix2 k j)) (fun k s => a (ix2 k s)) (fun s j => b (ix2 s j)) j := by
  pointwise [k0_pay8, k0_pay9, Spec.lora, Spec.two]

theorem v_in (x : FVec Ideal S512x1024 .bf16) (wq : FVec Ideal S1024x1024 .f32) (a : FVec Ideal S1024x16 .f32) (b : FVec Ideal S16x1024 .f32) (r : Fin 512) (j : Fin 1024) :
    k0_pay14 (F := Ideal) (k0_pay12 x wq) (k0_pay13 x a) b (ix2 r j) = Spec.lora (fun d => x (ix2 r d)) (fun k j => wq (ix2 k j)) (fun k s => a (ix2 k s)) (fun s j => b (ix2 s j)) j := by
  pointwise [k0_pay14, k0_pay12, k0_pay13, Spec.lora, Spec.two]

/-- One head of the kernel: the attention of its queries, keys and values. -/
theorem head (q k v : FVec Ideal S512x64 .bf16) (i : Fin 512) (e : Fin 64) :
    k0_pay16 (F := Ideal) q k v (ix2 i e) = Spec.att (fun i e => q (ix2 i e)) (fun i e => k (ix2 i e)) (fun i e => v (ix2 i e)) i e := by
  have hs (i x : Fin 512) : Scalar.select (IntOp.cmpi .sle (BitVec.ofNat 32 x.val) (BitVec.ofNat 32 i.val)) ((∑ e, q (ix2 i e) * k (ix2 x e) : EReal) * Ideal.ofBits FTy.f32 0x3E000000#32) (Named.named (F := Ideal) κ "mask" (φ := .f32) 0xCE6E6B28#32 : EReal)
      = Spec.score (fun i e => q (ix2 i e)) (fun i e => k (ix2 i e)) i x := Spec.score_eq (fun i e => q (ix2 i e)) (fun i e => k (ix2 i e)) i x
  unfold Spec.att Spec.weight
  simp only [← hs, ← Spec.bot_eq]
  pointwise [k0_pay16, k0_pay15]

theorem hn_in (h : FVec Ideal S512x1024 .f32) (o : FVec Ideal S512x1024 .bf16) (y : FVec Ideal S512x1024 .f32) (a : FVec Ideal S1024x16 .f32) (b : FVec Ideal S16x1024 .f32) (r : Fin 512) (j : Fin 1024) :
    k0_pay1 (F := Ideal) h o y a b (ix2 r j) = h (ix2 r j) + (y (ix2 r j) + (∑ s : Fin 16, (∑ k : Fin 1024, o (ix2 r k) * a (ix2 k s)) * b (ix2 s j)) * Spec.two) := by
  pointwise [k0_pay1, Spec.two]

theorem x2_in (h : FVec Ideal S512x1024 .f32) (o : FVec Ideal S512x1024 .bf16) (y : FVec Ideal S512x1024 .f32) (a : FVec Ideal S1024x16 .f32) (b : FVec Ideal S16x1024 .f32) (w : FVec Ideal S1x1024 .f32) (r : Fin 512) (j : Fin 1024) :
    k0_pay2 (F := Ideal) h o y a b w (ix2 r j) = Spec.rms (fun d => k0_pay1 (F := Ideal) h o y a b (ix2 r d)) (fun d => w (ix2 0 d)) j := by
  unfold k0_pay2
  generalize k0_pay1 (F := Ideal) h o y a b = z
  pointwise [Spec.rms]
/-- Every window's block index. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0] ∧ win0_16.index t = ![0, 0] ∧ win0_17.index t = ![t.val, 0] ∧ win0_18.index t = ![t.val, 0] :=
  (by decide +kernel : ∀ t : Fin grid0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0] ∧ win0_16.index t = ![0, 0] ∧ win0_17.index t = ![t.val, 0] ∧ win0_18.index t = ![t.val, 0])

/-- The row of the arrays at a point's row of its block. -/
def row (p : Fin 2) (r : Fin 512) : Fin 1024 := ⟨p.val * 512 + r.val, by omega⟩

/-- A point's sequence. -/
def bt (t : Fin cfg0.N) : Fin 2 := ⟨t.val, t.isLt⟩

theorem blk0 (c : Dev nD) (p : Fin cfg0.N) (r : Fin 512) (k : Fin 1024) : (iblk m c 0 p : FVec Ideal S512x1024 .f32) (ix2 r k) = (m ((c : Thread nD τ).loc main_arg0) : FVec Ideal S1024x1024 .f32) (ix2 (row (bt p) r) k) := by
  unfold row bt
  blk_point [iblk, V, idx p]
theorem blk1 (c : Dev nD) (p : Fin cfg0.N) (k : Fin 1024) : (iblk m c 1 p : FVec Ideal S1x1024 .f32) (ix2 0 k) = (m ((c : Thread nD τ).loc main_arg1) : FVec Ideal S1024 .f32) (ix1 k) := by
  blk_point [iblk, V, idx p]
theorem blk2 (c : Dev nD) (p : Fin cfg0.N) (k : Fin 1024) : (iblk m c 2 p : FVec Ideal S1x1024 .f32) (ix2 0 k) = (m ((c : Thread nD τ).loc main_arg2) : FVec Ideal S1024 .f32) (ix1 k) := by
  blk_point [iblk, V, idx p]
theorem blk3 (c : Dev nD) (p : Fin cfg0.N) (r : Fin 512) (k : Fin 1024) : ((iblk m c 3 p : FVec Ideal S512x1024 .f32) (ix2 r k) : EReal) = Ideal.cos (Spec.angles r.val (k.val % 64)) := by
  unfold Spec.angles Spec.angle
  blk_point [iblk, V, idx p]
theorem blk4 (c : Dev nD) (p : Fin cfg0.N) (r : Fin 512) (k : Fin 1024) : ((iblk m c 4 p : FVec Ideal S512x1024 .f32) (ix2 r k) : EReal) = Ideal.sin (Spec.angles r.val (k.val % 64)) := by
  unfold Spec.angles Spec.angle
  blk_point [iblk, V, idx p]
theorem blk5 (c : Dev nD) (p : Fin cfg0.N) (k : Fin 1024) (f : Fin 1024) : (iblk m c 5 p : FVec Ideal S1024x1024 .f32) (ix2 k f) = (m ((c : Thread nD τ).loc main_arg3) : FVec Ideal S1024x1024 .f32) (ix2 k f) := by
  blk_point [iblk, V, idx p]
theorem blk6 (c : Dev nD) (p : Fin cfg0.N) (k : Fin 1024) (f : Fin 16) : (iblk m c 6 p : FVec Ideal S1024x16 .f32) (ix2 k f) = (m ((c : Thread nD τ).loc main_arg4) : FVec Ideal S1024x16 .f32) (ix2 k f) := by
  blk_point [iblk, V, idx p]
theorem blk7 (c : Dev nD) (p : Fin cfg0.N) (k : Fin 16) (f : Fin 1024) : (iblk m c 7 p : FVec Ideal S16x1024 .f32) (ix2 k f) = (m ((c : Thread nD τ).loc main_arg5) : FVec Ideal S16x1024 .f32) (ix2 k f) := by
  blk_point [iblk, V, idx p]
theorem blk8 (c : Dev nD) (p : Fin cfg0.N) (k : Fin 1024) (f : Fin 1024) : (iblk m c 8 p : FVec Ideal S1024x1024 .f32) (ix2 k f) = (m ((c : Thread nD τ).loc main_arg6) : FVec Ideal S1024x1024 .f32) (ix2 k f) := by
  blk_point [iblk, V, idx p]
theorem blk9 (c : Dev nD) (p : Fin cfg0.N) (k : Fin 1024) (f : Fin 16) : (iblk m c 9 p : FVec Ideal S1024x16 .f32) (ix2 k f) = (m ((c : Thread nD τ).loc main_arg7) : FVec Ideal S1024x16 .f32) (ix2 k f) := by
  blk_point [iblk, V, idx p]
theorem blk10 (c : Dev nD) (p : Fin cfg0.N) (k : Fin 16) (f : Fin 1024) : (iblk m c 10 p : FVec Ideal S16x1024 .f32) (ix2 k f) = (m ((c : Thread nD τ).loc main_arg8) : FVec Ideal S16x1024 .f32) (ix2 k f) := by
  blk_point [iblk, V, idx p]
theorem blk11 (c : Dev nD) (p : Fin cfg0.N) (k : Fin 1024) (f : Fin 1024) : (iblk m c 11 p : FVec Ideal S1024x1024 .f32) (ix2 k f) = (m ((c : Thread nD τ).loc main_arg9) : FVec Ideal S1024x1024 .f32) (ix2 k f) := by
  blk_point [iblk, V, idx p]
theorem blk12 (c : Dev nD) (p : Fin cfg0.N) (k : Fin 1024) (f : Fin 16) : (iblk m c 12 p : FVec Ideal S1024x16 .f32) (ix2 k f) = (m ((c : Thread nD τ).loc main_arg10) : FVec Ideal S1024x16 .f32) (ix2 k f) := by
  blk_point [iblk, V, idx p]
theorem blk13 (c : Dev nD) (p : Fin cfg0.N) (k : Fin 16) (f : Fin 1024) : (iblk m c 13 p : FVec Ideal S16x1024 .f32) (ix2 k f) = (m ((c : Thread nD τ).loc main_arg11) : FVec Ideal S16x1024 .f32) (ix2 k f) := by
  blk_point [iblk, V, idx p]
theorem blk14 (c : Dev nD) (p : Fin cfg0.N) (k : Fin 1024) (f : Fin 1024) : (iblk m c 14 p : FVec Ideal S1024x1024 .f32) (ix2 k f) = (m ((c : Thread nD τ).loc main_arg12) : FVec Ideal S1024x1024 .f32) (ix2 k f) := by
  blk_point [iblk, V, idx p]
theorem blk15 (c : Dev nD) (p : Fin cfg0.N) (k : Fin 1024) (f : Fin 16) : (iblk m c 15 p : FVec Ideal S1024x16 .f32) (ix2 k f) = (m ((c : Thread nD τ).loc main_arg13) : FVec Ideal S1024x16 .f32) (ix2 k f) := by
  blk_point [iblk, V, idx p]
theorem blk16 (c : Dev nD) (p : Fin cfg0.N) (k : Fin 16) (f : Fin 1024) : (iblk m c 16 p : FVec Ideal S16x1024 .f32) (ix2 k f) = (m ((c : Thread nD τ).loc main_arg14) : FVec Ideal S16x1024 .f32) (ix2 k f) := by
  blk_point [iblk, V, idx p]
theorem emb17 (t : Fin cfg0.N) (y : S512x1024.Idx) : (win0_17.blk t).view.emb y = ix2 (row (bt t) (y 0)) (y 1) := by
  unfold row bt
  blk_point [idx t]
theorem emb18 (t : Fin cfg0.N) (y : S512x1024.Idx) : (win0_18.blk t).view.emb y = ix2 (row (bt t) (y 0)) (y 1) := by
  unfold row bt
  blk_point [idx t]

/-- The arguments a memory holds, as functions of indices. -/
def args (c : Dev nD) : Spec.Args where
  h := fun i j => (m ((c : Thread nD τ).loc main_arg0) : FVec Ideal S1024x1024 .f32) (ix2 i j)
  ln1 := fun i => (m ((c : Thread nD τ).loc main_arg1) : FVec Ideal S1024 .f32) (ix1 i)
  ln2 := fun i => (m ((c : Thread nD τ).loc main_arg2) : FVec Ideal S1024 .f32) (ix1 i)
  wq := fun i j => (m ((c : Thread nD τ).loc main_arg3) : FVec Ideal S1024x1024 .f32) (ix2 i j)
  aq := fun i j => (m ((c : Thread nD τ).loc main_arg4) : FVec Ideal S1024x16 .f32) (ix2 i j)
  bq := fun i j => (m ((c : Thread nD τ).loc main_arg5) : FVec Ideal S16x1024 .f32) (ix2 i j)
  wk := fun i j => (m ((c : Thread nD τ).loc main_arg6) : FVec Ideal S1024x1024 .f32) (ix2 i j)
  ak := fun i j => (m ((c : Thread nD τ).loc main_arg7) : FVec Ideal S1024x16 .f32) (ix2 i j)
  bk := fun i j => (m ((c : Thread nD τ).loc main_arg8) : FVec Ideal S16x1024 .f32) (ix2 i j)
  wv := fun i j => (m ((c : Thread nD τ).loc main_arg9) : FVec Ideal S1024x1024 .f32) (ix2 i j)
  av := fun i j => (m ((c : Thread nD τ).loc main_arg10) : FVec Ideal S1024x16 .f32) (ix2 i j)
  bv := fun i j => (m ((c : Thread nD τ).loc main_arg11) : FVec Ideal S16x1024 .f32) (ix2 i j)
  wo := fun i j => (m ((c : Thread nD τ).loc main_arg12) : FVec Ideal S1024x1024 .f32) (ix2 i j)
  ao := fun i j => (m ((c : Thread nD τ).loc main_arg13) : FVec Ideal S1024x16 .f32) (ix2 i j)
  bo := fun i j => (m ((c : Thread nD τ).loc main_arg14) : FVec Ideal S16x1024 .f32) (ix2 i j)
/-- The 64 lanes of one head. -/
def cut (Z : FVec Ideal S512x1024 .bf16) (h : Fin 16) : FVec Ideal S512x64 .bf16 := fun i => Z (ix2 (i 0) ⟨h.val * 64 + (i 1).val, by have := h.isLt; have : (i 1).val < 64 := (i 1).isLt; omega⟩)

theorem cut_eq {sp : Space} (v : View sig .tc sp S512x1024 .bf16) (Z : FVec Ideal S512x1024 .bf16) (h : Fin 16) (o : ℕ) (ho : o = h.val * 64) (inb) (inb') :
    v.readCov (Val := Elt Ideal) [⟨Rect.unit ![0, 0] ![512, 1024] inb, Z⟩] (Rect.unit ![0, o] ![512, 64] inb').toLoadRect = cut Z h := by
  rw [View.readCov_fill _ _ _ _ _ (by decide)]
  subst ho
  funext i
  unfold cut
  pointwise [View.ld]

/-- The heads' results side by side. -/
def heads (q k v : FVec Ideal S512x1024 .bf16) : FVec Ideal S512x1024 .bf16 :=
  concatenate S512x1024 1 (List.ofFn fun h : Fin 16 => ⟨S512x64, k0_pay16 (F := Ideal) (cut q h) (cut k h) (cut v h)⟩)
    concatenates_S512x64_S512x64_S512x64_S512x64_S512x64_S512x64_S512x64_S512x64_S512x64_S512x64_S512x64_S512x64_S512x64_S512x64_S512x64_S512x64_S512x1024_d1

theorem heads_at (q k v : FVec Ideal S512x1024 .bf16) (r : Fin 512) (j : Fin 1024) : heads q k v (ix2 r j)
    = Spec.att (fun i e => q (ix2 i (Spec.lane ⟨j.val / 64, by omega⟩ e))) (fun i e => k (ix2 i (Spec.lane ⟨j.val / 64, by omega⟩ e))) (fun i e => v (ix2 i (Spec.lane ⟨j.val / 64, by omega⟩ e))) r ⟨j.val % 64, by omega⟩ := by
  refine (concatenate_ofFn_apply (t := S512x1024) (s₁ := S512x64) (1 : Fin 2) (fun h : Fin 16 => k0_pay16 (F := Ideal) (cut q h) (cut k h) (cut v h)) _ rfl 64 rfl (ix2 r j) ⟨j.val / 64, by omega⟩ rfl (ix2 r ⟨j.val % 64, by omega⟩) rfl ?_).trans ?_
  · intro b hb
    fin_cases b
    · rfl
    · exact absurd rfl hb
  · exact head _ _ _ _ _

/-- The heads' results times the output weights. -/
def proj (o : FVec Ideal S512x1024 .bf16) (w : FVec Ideal S1024x1024 .f32) : FVec Ideal S512x1024 .f32 :=
  matmul dot_S512x1024_S1024x1024_S512x1024_1_0_0_1_n_n none o (truncf .bf16 w bitsLt_bf16_f32) (constant S512x1024 .f32 0x00000000#32)

theorem proj_at (o : FVec Ideal S512x1024 .bf16) (w : FVec Ideal S1024x1024 .f32) (r : Fin 512) (j : Fin 1024) : (proj o w (ix2 r j) : EReal) = ∑ k : Fin 1024, o (ix2 r k) * w (ix2 k j) := by
  pointwise [proj]

/-- The blocks of its arguments that a point works on hold the entries of the sequence `t` of the arguments. -/
structure Holds (b0 : FVec Ideal S512x1024 .f32) (b1 : FVec Ideal S1x1024 .f32) (b2 : FVec Ideal S1x1024 .f32) (b3 : FVec Ideal S512x1024 .f32) (b4 : FVec Ideal S512x1024 .f32) (b5 : FVec Ideal S1024x1024 .f32) (b6 : FVec Ideal S1024x16 .f32) (b7 : FVec Ideal S16x1024 .f32) (b8 : FVec Ideal S1024x1024 .f32) (b9 : FVec Ideal S1024x16 .f32) (b10 : FVec Ideal S16x1024 .f32) (b11 : FVec Ideal S1024x1024 .f32) (b12 : FVec Ideal S1024x16 .f32) (b13 : FVec Ideal S16x1024 .f32) (b14 : FVec Ideal S1024x1024 .f32) (b15 : FVec Ideal S1024x16 .f32) (b16 : FVec Ideal S16x1024 .f32) (A : Spec.Args) (t : Fin 2) : Prop where
  e0 (r : Fin 512) (k : Fin 1024) : (b0 (ix2 r k) : EReal) = A.h (row t r) k
  e1 (k : Fin 1024) : (b1 (ix2 0 k) : EReal) = A.ln1 k
  e2 (k : Fin 1024) : (b2 (ix2 0 k) : EReal) = A.ln2 k
  e3 (r : Fin 512) (k : Fin 1024) : (b3 (ix2 r k) : EReal) = Ideal.cos (Spec.angles r.val (k.val % 64))
  e4 (r : Fin 512) (k : Fin 1024) : (b4 (ix2 r k) : EReal) = Ideal.sin (Spec.angles r.val (k.val % 64))
  e5 (i : Fin 1024) (j : Fin 1024) : (b5 (ix2 i j) : EReal) = A.wq i j
  e6 (i : Fin 1024) (j : Fin 16) : (b6 (ix2 i j) : EReal) = A.aq i j
  e7 (i : Fin 16) (j : Fin 1024) : (b7 (ix2 i j) : EReal) = A.bq i j
  e8 (i : Fin 1024) (j : Fin 1024) : (b8 (ix2 i j) : EReal) = A.wk i j
  e9 (i : Fin 1024) (j : Fin 16) : (b9 (ix2 i j) : EReal) = A.ak i j
  e10 (i : Fin 16) (j : Fin 1024) : (b10 (ix2 i j) : EReal) = A.bk i j
  e11 (i : Fin 1024) (j : Fin 1024) : (b11 (ix2 i j) : EReal) = A.wv i j
  e12 (i : Fin 1024) (j : Fin 16) : (b12 (ix2 i j) : EReal) = A.av i j
  e13 (i : Fin 16) (j : Fin 1024) : (b13 (ix2 i j) : EReal) = A.bv i j
  e14 (i : Fin 1024) (j : Fin 1024) : (b14 (ix2 i j) : EReal) = A.wo i j
  e15 (i : Fin 1024) (j : Fin 16) : (b15 (ix2 i j) : EReal) = A.ao i j
  e16 (i : Fin 16) (j : Fin 1024) : (b16 (ix2 i j) : EReal) = A.bo i j

variable {b0 : FVec Ideal S512x1024 .f32} {b1 : FVec Ideal S1x1024 .f32} {b2 : FVec Ideal S1x1024 .f32} {b3 : FVec Ideal S512x1024 .f32} {b4 : FVec Ideal S512x1024 .f32} {b5 : FVec Ideal S1024x1024 .f32} {b6 : FVec Ideal S1024x16 .f32} {b7 : FVec Ideal S16x1024 .f32} {b8 : FVec Ideal S1024x1024 .f32} {b9 : FVec Ideal S1024x16 .f32} {b10 : FVec Ideal S16x1024 .f32} {b11 : FVec Ideal S1024x1024 .f32} {b12 : FVec Ideal S1024x16 .f32} {b13 : FVec Ideal S16x1024 .f32} {b14 : FVec Ideal S1024x1024 .f32} {b15 : FVec Ideal S1024x16 .f32} {b16 : FVec Ideal S16x1024 .f32} {A : Spec.Args} {t : Fin 2} (hB : Holds b0 b1 b2 b3 b4 b5 b6 b7 b8 b9 b10 b11 b12 b13 b14 b15 b16 A t)

/-- The queries that a point keeps, rotated. -/
def qs (b0 : FVec Ideal S512x1024 .f32) (b1 : FVec Ideal S1x1024 .f32) (b3 : FVec Ideal S512x1024 .f32) (b4 : FVec Ideal S512x1024 .f32) (b5 : FVec Ideal S1024x1024 .f32) (b6 : FVec Ideal S1024x16 .f32) (b7 : FVec Ideal S16x1024 .f32) : FVec Ideal S512x1024 .bf16 :=
  k0_pay7 (F := Ideal) (k0_pay4 b3) (k0_pay5 b4) (k0_pay6 b0 b1 b5 b6 b7) (iota .tc S512x1024 32 [1] iota_S512x1024_d1_w32) 64#32 0#1 1#32
/-- The keys that a point keeps, rotated. -/
def ks (b0 : FVec Ideal S512x1024 .f32) (b1 : FVec Ideal S1x1024 .f32) (b3 : FVec Ideal S512x1024 .f32) (b4 : FVec Ideal S512x1024 .f32) (b8 : FVec Ideal S1024x1024 .f32) (b9 : FVec Ideal S1024x16 .f32) (b10 : FVec Ideal S16x1024 .f32) : FVec Ideal S512x1024 .bf16 :=
  k0_pay11 (F := Ideal) (k0_pay4 b3) (k0_pay5 b4) (k0_pay8 (k0_pay3 b0 b1) b8) (k0_pay9 (k0_pay3 b0 b1) b9 b10) k0_pay10
/-- The values that a point keeps. -/
def vs (b0 : FVec Ideal S512x1024 .f32) (b1 : FVec Ideal S1x1024 .f32) (b11 : FVec Ideal S1024x1024 .f32) (b12 : FVec Ideal S1024x16 .f32) (b13 : FVec Ideal S16x1024 .f32) : FVec Ideal S512x1024 .bf16 :=
  k0_pay14 (F := Ideal) (k0_pay12 (k0_pay3 b0 b1) b11) (k0_pay13 (k0_pay3 b0 b1) b12) b13

/-- A point's block of the activations after the attention. -/
def hs (b0 : FVec Ideal S512x1024 .f32) (b1 : FVec Ideal S1x1024 .f32) (b3 : FVec Ideal S512x1024 .f32) (b4 : FVec Ideal S512x1024 .f32) (b5 : FVec Ideal S1024x1024 .f32) (b6 : FVec Ideal S1024x16 .f32) (b7 : FVec Ideal S16x1024 .f32) (b8 : FVec Ideal S1024x1024 .f32) (b9 : FVec Ideal S1024x16 .f32) (b10 : FVec Ideal S16x1024 .f32) (b11 : FVec Ideal S1024x1024 .f32) (b12 : FVec Ideal S1024x16 .f32) (b13 : FVec Ideal S16x1024 .f32) (b14 : FVec Ideal S1024x1024 .f32) (b15 : FVec Ideal S1024x16 .f32) (b16 : FVec Ideal S16x1024 .f32) : FVec Ideal S512x1024 .f32 :=
  k0_pay1 (F := Ideal) b0 (heads (qs b0 b1 b3 b4 b5 b6 b7) (ks b0 b1 b3 b4 b8 b9 b10) (vs b0 b1 b11 b12 b13)) (proj (heads (qs b0 b1 b3 b4 b5 b6 b7) (ks b0 b1 b3 b4 b8 b9 b10) (vs b0 b1 b11 b12 b13)) b14) b15 b16

theorem turn_rope (x cs sn : Fin 1024 → EReal) (r : Fin 512) (hc : ∀ j : Fin 1024, cs j = Ideal.cos (Spec.angles r.val (j.val % 64))) (hs : ∀ j : Fin 1024, sn j = Ideal.sin (Spec.angles r.val (j.val % 64)))
    (h : Fin 16) (e : Fin 64) : turn x cs sn (Spec.lane h e) = Spec.rope (fun e => x (Spec.lane h e)) r e := by
  have e0 : (Spec.lane h e).val % 64 = e.val := by simp only [Spec.lane]; omega
  unfold turn Spec.rope
  simp only [hc, hs, e0]
  by_cases he : e.val < 32
  · rw [if_pos he, dif_pos he]
    have e1 : (⟨((Spec.lane h e).val + 32) % 1024, by omega⟩ : Fin 1024) = Spec.lane h ⟨e.val + 32, by omega⟩ := Fin.ext (by simp only [Spec.lane]; omega)
    rw [e1]
  · rw [if_neg he, dif_neg he]
    have e1 : (⟨((Spec.lane h e).val + 992) % 1024, by omega⟩ : Fin 1024) = Spec.lane h ⟨e.val - 32, by omega⟩ := Fin.ext (by simp only [Spec.lane]; omega)
    rw [e1]

include hB in
theorem qs_at (i : Fin 512) (h : Fin 16) (e : Fin 64) : (qs b0 b1 b3 b4 b5 b6 b7 (ix2 i (Spec.lane h e)) : EReal) = A.q t h i e := by
  unfold qs
  rw [rope_q, turn_rope _ _ _ i (fun j => hB.e3 i j) (fun j => hB.e4 i j)]
  simp only [q_in, hB.e0, hB.e1, hB.e5, hB.e6, hB.e7]
  rfl

include hB in
theorem ks_at (i : Fin 512) (h : Fin 16) (e : Fin 64) : (ks b0 b1 b3 b4 b8 b9 b10 (ix2 i (Spec.lane h e)) : EReal) = A.k t h i e := by
  unfold ks
  rw [rope_k, turn_rope _ _ _ i (fun j => hB.e3 i j) (fun j => hB.e4 i j)]
  simp only [k_in, rms_in, hB.e0, hB.e1, hB.e8, hB.e9, hB.e10]
  rfl

include hB in
theorem vs_at (i : Fin 512) (h : Fin 16) (e : Fin 64) : (vs b0 b1 b11 b12 b13 (ix2 i (Spec.lane h e)) : EReal) = A.v t h i e := by
  unfold vs
  rw [v_in]
  simp only [rms_in, hB.e0, hB.e1, hB.e11, hB.e12, hB.e13]
  rfl

include hB in
theorem o_at (i : Fin 512) (j : Fin 1024) : (heads (qs b0 b1 b3 b4 b5 b6 b7) (ks b0 b1 b3 b4 b8 b9 b10) (vs b0 b1 b11 b12 b13) (ix2 i j) : EReal) = A.o t i j := by
  rw [heads_at]
  simp only [qs_at hB, ks_at hB, vs_at hB]
  rfl

include hB in
theorem hs_at (i : Fin 512) (d : Fin 1024) : (hs b0 b1 b3 b4 b5 b6 b7 b8 b9 b10 b11 b12 b13 b14 b15 b16 (ix2 i d) : EReal) = A.hn t i d := by
  unfold hs
  rw [hn_in]
  simp only [proj_at, o_at hB, hB.e0, hB.e14, hB.e15, hB.e16]
  rfl

/-- A point's block of the normalized activations after the attention. -/
def xs (b0 : FVec Ideal S512x1024 .f32) (b1 : FVec Ideal S1x1024 .f32) (b2 : FVec Ideal S1x1024 .f32) (b3 : FVec Ideal S512x1024 .f32) (b4 : FVec Ideal S512x1024 .f32) (b5 : FVec Ideal S1024x1024 .f32) (b6 : FVec Ideal S1024x16 .f32) (b7 : FVec Ideal S16x1024 .f32) (b8 : FVec Ideal S1024x1024 .f32) (b9 : FVec Ideal S1024x16 .f32) (b10 : FVec Ideal S16x1024 .f32) (b11 : FVec Ideal S1024x1024 .f32) (b12 : FVec Ideal S1024x16 .f32) (b13 : FVec Ideal S16x1024 .f32) (b14 : FVec Ideal S1024x1024 .f32) (b15 : FVec Ideal S1024x16 .f32) (b16 : FVec Ideal S16x1024 .f32) : FVec Ideal S512x1024 .bf16 :=
  k0_pay2 (F := Ideal) b0 (heads (qs b0 b1 b3 b4 b5 b6 b7) (ks b0 b1 b3 b4 b8 b9 b10) (vs b0 b1 b11 b12 b13)) (proj (heads (qs b0 b1 b3 b4 b5 b6 b7) (ks b0 b1 b3 b4 b8 b9 b10) (vs b0 b1 b11 b12 b13)) b14) b15 b16 b2

include hB in
theorem xs_at (i : Fin 512) (d : Fin 1024) : (xs b0 b1 b2 b3 b4 b5 b6 b7 b8 b9 b10 b11 b12 b13 b14 b15 b16 (ix2 i d) : EReal) = A.x2 t i d := by
  unfold xs
  rw [x2_in]
  change Spec.rms (fun d => hs b0 b1 b3 b4 b5 b6 b7 b8 b9 b10 b11 b12 b13 b14 b15 b16 (ix2 i d)) _ d = _
  simp only [hs_at hB, hB.e2]
  rfl

/-- The activations after the attention, as an array. -/
def result1 (A : Spec.Args) : FVec Ideal S1024x1024 .f32 := fun i => A.hn (Spec.seq (i 0)) (Spec.pos (i 0)) (i 1)
/-- The normalized activations, as an array. -/
def result2 (A : Spec.Args) : FVec Ideal S1024x1024 .bf16 := fun i => A.x2 (Spec.seq (i 0)) (Spec.pos (i 0)) (i 1)

theorem result1_row (A : Spec.Args) (t : Fin 2) (r : Fin 512) (d : Fin 1024) : result1 A (ix2 (row t r) d) = A.hn t r d := by
  show A.hn (Spec.seq (Spec.place t r)) (Spec.pos (Spec.place t r)) d = _
  rw [Spec.seq_place, Spec.pos_place]
theorem result2_row (A : Spec.Args) (t : Fin 2) (r : Fin 512) (d : Fin 1024) : result2 A (ix2 (row t r) d) = A.x2 t r d := by
  show A.x2 (Spec.seq (Spec.place t r)) (Spec.pos (Spec.place t r)) d = _
  rw [Spec.seq_place, Spec.pos_place]

theorem holds (c : Dev nD) (t : Fin cfg0.N) : Holds (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (args m c) (bt t) :=
  ⟨blk0 m c t, blk1 m c t, blk2 m c t, blk3 m c t, blk4 m c t, blk5 m c t, blk6 m c t, blk7 m c t, blk8 m c t, blk9 m c t, blk10 m c t, blk11 m c t, blk12 m c t, blk13 m c t, blk14 m c t, blk15 m c t, blk16 m c t⟩

theorem outs_1 (c : Dev nD) (t : Fin cfg0.N) : ((outsAt0 m c t).1 : FVec Ideal S512x1024 .f32) = hs (iblk m c 0 t) (iblk m c 1 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by
  unfold outsAt0
  frame_out
  simp only [cut_eq _ _ 0 0 rfl, cut_eq _ _ 1 64 rfl, cut_eq _ _ 2 128 rfl, cut_eq _ _ 3 192 rfl, cut_eq _ _ 4 256 rfl, cut_eq _ _ 5 320 rfl, cut_eq _ _ 6 384 rfl, cut_eq _ _ 7 448 rfl,
    cut_eq _ _ 8 512 rfl, cut_eq _ _ 9 576 rfl, cut_eq _ _ 10 640 rfl, cut_eq _ _ 11 704 rfl, cut_eq _ _ 12 768 rfl, cut_eq _ _ 13 832 rfl, cut_eq _ _ 14 896 rfl, cut_eq _ _ 15 960 rfl]
  rfl

theorem outs_2 (c : Dev nD) (t : Fin cfg0.N) : ((outsAt0 m c t).2 : FVec Ideal S512x1024 .bf16) = xs (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by
  unfold outsAt0
  frame_out
  simp only [cut_eq _ _ 0 0 rfl, cut_eq _ _ 1 64 rfl, cut_eq _ _ 2 128 rfl, cut_eq _ _ 3 192 rfl, cut_eq _ _ 4 256 rfl, cut_eq _ _ 5 320 rfl, cut_eq _ _ 6 384 rfl, cut_eq _ _ 7 448 rfl,
    cut_eq _ _ 8 512 rfl, cut_eq _ _ 9 576 rfl, cut_eq _ _ 10 640 rfl, cut_eq _ _ 11 704 rfl, cut_eq _ _ 12 768 rfl, cut_eq _ _ 13 832 rfl, cut_eq _ _ 14 896 rfl, cut_eq _ _ 15 960 rfl]
  rfl

theorem final_17 (c : Dev nD) : (dats m 0 c).arrAt 17 (cfgs 0).N = result1 (args m c) := by
  refine (dats m 0 c).arrAt_eq_of_covers 17 _ (by decide +kernel) fun t hf y => ?_
  blk_simp
  rw [after0_17]
  refine Eq.trans (congrArg (outsAt0 m c t).1 (ix2_eta (n0 := 512) (n1 := 1024) y).symm) ?_
  refine Eq.trans ?_ (congrArg _ (emb17 t y).symm)
  rw [outs_1]
  exact (hs_at (holds m c t) (y 0) (y 1)).trans (result1_row _ (bt t) (y 0) (y 1)).symm

theorem final_18 (c : Dev nD) : (dats m 0 c).arrAt 18 (cfgs 0).N = result2 (args m c) := by
  refine (dats m 0 c).arrAt_eq_of_covers 18 _ (by decide +kernel) fun t hf y => ?_
  blk_simp
  rw [after0_18]
  refine Eq.trans (congrArg (outsAt0 m c t).2 (ix2_eta (n0 := 512) (n1 := 1024) y).symm) ?_
  refine Eq.trans ?_ (congrArg _ (emb18 t y).symm)
  rw [outs_2]
  exact (xs_at (holds m c t) (y 0) (y 1)).trans (result2_row _ (bt t) (y 0) (y 1)).symm

/-- The kernel's run, its results named. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v24_0) = result1 (args m c)
      ∧ r.2.mem ((c.tc : Thread nD τ).loc main_v24_1) = result2 (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) := by
  refine (θ_run _ _ _).mono (fun r h c => ⟨?_, ?_, h.2 c⟩) (θ_run_and (run_main m ρ) (unchanged m ρ))
  · exact ((h.1 c).1 17).trans (final_17 m c)
  · exact ((h.1 c).1 18).trans (final_18 m c)

end Cert.AttnIdeal.Own
end
-- ==== Proof.AttnRefOut.lean ====
/- The attention's reference, read entry by entry. -/
module
public import proofs.«01_k».proof.Proof.AttnRef
public import proofs.«01_k».proof.Proof.AttnValue
public import Idealize.ShloMosaic.Lib.Claim
public import Idealize.ShloMosaic.Lib.Pipeline.ValueKit
public import proofs.«01_k».proof.Proof.Gen.AttnRefIdeal.Run
public import proofs.«01_k».proof.Proof.AttnSpec
@[expose] public section
set_option maxRecDepth 16384
noncomputable section
open Idealize.ShloMosaic Idealize.ShloMosaic.TcCoe Idealize.SL.Sem Idealize.ShloMosaic.StableHlo
namespace Cert.AttnRefIdeal.Own
open Cert.AttnRefIdeal Cert.AttnRefIdeal.Gen Cert.AttnRefIdeal.Value
variable (V0 : Valuation τ sig (Elt Ideal))
/-- The reference's greatest score of every row. -/
def tops (s : FVec Ideal S2x16x512x512 .f32) : FVec Ideal S2x16x512 .f32 :=
  Host.reduce FloatOps.maximumf s (constant S_ .f32 0xFF800000#32) reducesTo_S2x16x512x512_S2x16x512_d3 h_S_

theorem tops_at (s : FVec Ideal S2x16x512x512 .f32) (b : Fin 2) (h : Fin 16) (i : Fin 512) :
    (tops s (ix3 b h i) : EReal) = Finset.fold max (Ideal.ofBits FTy.f32 0xFF800000#32) (fun j => (s (ix4 b h i j) : EReal)) Finset.univ := by
  unfold tops
  rw [Host.reduce_eq_fold]
  exact Shape.ReducesTo.fold_fiber_r4_a3 reducesTo_S2x16x512x512_S2x16x512_d3 (ix3 b h i) (max : EReal → EReal → EReal) _ s

/-- The reference's exponentials of the scores less their row's greatest. -/
def weights (s : FVec Ideal S2x16x512x512 .f32) (M : FVec Ideal S2x16x512 .f32) : FVec Ideal S2x16x512x512 .f32 :=
  Host.exp (subf s (broadcastInDim S2x16x512x512 ![0, 1, 2, 3] bcast_S2x16x512x1_S2x16x512x512_0_1_2_3 (broadcastInDim S2x16x512x1 ![0, 1, 2] bcast_S2x16x512_S2x16x512x1_0_1_2 (maximumf (broadcastInDim S2x16x512 ![] bcast_S_S2x16x512 (constant S_ .f32 0xFF800000#32)) M))))

theorem weights_at (s : FVec Ideal S2x16x512x512 .f32) (M : FVec Ideal S2x16x512 .f32) (b : Fin 2) (h : Fin 16) (i j : Fin 512) :
    (weights s M (ix4 b h i j) : EReal) = Ideal.exp ((s (ix4 b h i j) : EReal) - max (Ideal.ofBits FTy.f32 0xFF800000#32) (M (ix3 b h i) : EReal)) := by
  pointwise [weights]

theorem weights_row (s : FVec Ideal S2x16x512x512 .f32) (b : Fin 2) (h : Fin 16) (i j : Fin 512) (S : Fin 512 → EReal) (hs : ∀ j : Fin 512, (s (ix4 b h i j) : EReal) = S j) :
    (weights s (tops s) (ix4 b h i j) : EReal) = Ideal.exp (S j - Finset.fold max ⊥ S Finset.univ) := by
  have hS : (fun j : Fin 512 => (s (ix4 b h i j) : EReal)) = S := funext hs
  rw [weights_at, tops_at, hS, hs, Spec.bot_eq, bot_sup_eq]

theorem weights_eq : (res_main_v90 V0 : FVec Ideal S2x16x512x512 .f32) = weights (res_main_v83 V0) (tops (res_main_v83 V0)) := by
  unfold res_main_v90 weights tops
  rfl

theorem weight_at (b : Fin 2) (h : Fin 16) (i j : Fin 512) : ((res_main_v90 V0 : FVec Ideal S2x16x512x512 .f32) (ix4 b h i j) : EReal) = Spec.weight ((args V0).q b h) ((args V0).k b h) i j := by
  rw [weights_eq]
  exact weights_row (res_main_v83 V0) b h i j _ fun j => score_at V0 b h i j

theorem o_at (b : Fin 2) (i : Fin 512) (j : Fin 1024) : ((res_main_v97 V0 : FVec Ideal S1024x1024 .f32) (ix2 (Spec.place b i) j) : EReal) = (args V0).o b i j := by
  have hx (i : Fin 512) : Spec.rms ((args V0).h (Spec.place b i)) (args V0).ln1 = fun d => (res_main_v34 V0 : FVec Ideal S1024x1024 .f32) (ix2 (Spec.place b i) d) := funext fun d => (x_at V0 _ d).symm
  unfold Spec.Args.o Spec.att Spec.Args.v
  simp only [Spec.lane_split, hx, ← weight_at]
  unfold args res_main_v97
  generalize res_main_v34 V0 = x
  generalize res_main_v90 V0 = w
  pointwise [Spec.place, Spec.lora, Spec.two]
  exact Finset.sum_congr (M := EReal) rfl fun _ _ => EReal.mul_comm _ _

theorem result1_eq : (res_main_v104 V0 : FVec Ideal S1024x1024 .f32) = AttnIdeal.Own.result1 (args V0) := by
  funext y
  obtain ⟨R, d, rfl⟩ : ∃ R d : Fin 1024, y = ix2 R d := ⟨y 0, y 1, (ix2_eta y).symm⟩
  refine (hn_at V0 R d).trans ?_
  have e : (fun d => (res_main_v97 V0 : FVec Ideal S1024x1024 .f32) (ix2 R d) : Fin 1024 → EReal) = (args V0).o (Spec.seq R) (Spec.pos R) :=
    funext fun d => by rw [← o_at, Spec.place_seq]
  rw [e]
  show _ = (args V0).hn (Spec.seq R) (Spec.pos R) d
  unfold Spec.Args.hn
  rw [Spec.place_seq]

/-- The reference's second result, of the first. -/
def normed (x : FVec Ideal S1024x1024 .f32) (w : FVec Ideal S1024 .f32) : FVec Ideal S1024x1024 .bf16 :=
  truncf .bf16 (mulf (mulf x (broadcastInDim S1024x1024 ![0, 1] bcast_S1024x1_S1024x1024_0_1 (Host.rsqrt (addf (Host.divf (broadcastInDim S1024x1 ![0] bcast_S1024_S1024x1_0 (Host.reduceAdd (mulf x x) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x3727C5AC#32)))))) (broadcastInDim S1024x1024 ![0, 1] bcast_S1x1024_S1024x1024_0_1 (broadcastInDim S1x1024 ![1] bcast_S1024_S1x1024_1 w))) bitsLt_bf16_f32

theorem normed_at (x : FVec Ideal S1024x1024 .f32) (w : FVec Ideal S1024 .f32) (R d : Fin 1024) :
    (normed x w (ix2 R d) : EReal) = Spec.rms (fun d => x (ix2 R d)) (fun d => w (ix1 d)) d := by
  pointwise [normed, Spec.rms]

theorem result2_eq : normed (res_main_v104 V0) (V0 (Proc.devRef .tc main_arg2)) = AttnIdeal.Own.result2 (args V0) := by
  rw [result1_eq]
  funext y
  obtain ⟨R, d, rfl⟩ : ∃ R d : Fin 1024, y = ix2 R d := ⟨y 0, y 1, (ix2_eta y).symm⟩
  exact normed_at _ _ R d

/-- The reference's run, its results named as the kernel's. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v104) = AttnIdeal.Own.result1 (args (launchContents m c))
      ∧ r.2.mem ((c.tc : Thread nD τ).loc main_v118) = AttnIdeal.Own.result2 (args (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c).1.trans (result1_eq _), (h c).2.1.trans (result2_eq _), (h c).2.2⟩) (Value.run m ρ)

/-- Equal arguments give equal functions. -/
theorem args_eq (m : (ℓ : Loc AttnIdeal.nD AttnIdeal.τ AttnIdeal.sig) → Buf (Elt Ideal) ℓ) (c : Dev AttnIdeal.nD)
    (e0 : V0 (Proc.devRef .tc main_arg0) = m ((c.tc : Thread AttnIdeal.nD AttnIdeal.τ).loc AttnIdeal.main_arg0))
    (e1 : V0 (Proc.devRef .tc main_arg1) = m ((c.tc : Thread AttnIdeal.nD AttnIdeal.τ).loc AttnIdeal.main_arg1))
    (e2 : V0 (Proc.devRef .tc main_arg2) = m ((c.tc : Thread AttnIdeal.nD AttnIdeal.τ).loc AttnIdeal.main_arg2))
    (e3 : V0 (Proc.devRef .tc main_arg3) = m ((c.tc : Thread AttnIdeal.nD AttnIdeal.τ).loc AttnIdeal.main_arg3))
    (e4 : V0 (Proc.devRef .tc main_arg4) = m ((c.tc : Thread AttnIdeal.nD AttnIdeal.τ).loc AttnIdeal.main_arg4))
    (e5 : V0 (Proc.devRef .tc main_arg5) = m ((c.tc : Thread AttnIdeal.nD AttnIdeal.τ).loc AttnIdeal.main_arg5))
    (e6 : V0 (Proc.devRef .tc main_arg6) = m ((c.tc : Thread AttnIdeal.nD AttnIdeal.τ).loc AttnIdeal.main_arg6))
    (e7 : V0 (Proc.devRef .tc main_arg7) = m ((c.tc : Thread AttnIdeal.nD AttnIdeal.τ).loc AttnIdeal.main_arg7))
    (e8 : V0 (Proc.devRef .tc main_arg8) = m ((c.tc : Thread AttnIdeal.nD AttnIdeal.τ).loc AttnIdeal.main_arg8))
    (e9 : V0 (Proc.devRef .tc main_arg9) = m ((c.tc : Thread AttnIdeal.nD AttnIdeal.τ).loc AttnIdeal.main_arg9))
    (e10 : V0 (Proc.devRef .tc main_arg10) = m ((c.tc : Thread AttnIdeal.nD AttnIdeal.τ).loc AttnIdeal.main_arg10))
    (e11 : V0 (Proc.devRef .tc main_arg11) = m ((c.tc : Thread AttnIdeal.nD AttnIdeal.τ).loc AttnIdeal.main_arg11))
    (e12 : V0 (Proc.devRef .tc main_arg12) = m ((c.tc : Thread AttnIdeal.nD AttnIdeal.τ).loc AttnIdeal.main_arg12))
    (e13 : V0 (Proc.devRef .tc main_arg13) = m ((c.tc : Thread AttnIdeal.nD AttnIdeal.τ).loc AttnIdeal.main_arg13))
    (e14 : V0 (Proc.devRef .tc main_arg14) = m ((c.tc : Thread AttnIdeal.nD AttnIdeal.τ).loc AttnIdeal.main_arg14)) : args V0 = AttnIdeal.Own.args m c := by
  unfold args AttnIdeal.Own.args
  rw [e0, e1, e2, e3, e4, e5, e6, e7, e8, e9, e10, e11, e12, e13, e14]
end Cert.AttnRefIdeal.Own
end
-- ==== Proof.LayersFinite.lean ====
/- What the precondition `finite_layers` says of the entries of its arrays. -/
module
public import proofs.«01_k».proof.Pre_finite_layers
public import proofs.«01_k».proof.Proof.Finite
@[expose] public section
set_option maxRecDepth 16384
noncomputable section
open Idealize.ShloMosaic
namespace Cert.Pre_finite_layers.Own
open Cert.Pre_finite_layers

/-- The shape relations of the precondition's operations. -/
instance facts : Cert.Pre_finite_layers.Facts where
  bcast_S_S2x1024 := by decide
  reducesTo_S2x1024_S_d0_1 := by decide
  h_S_ := by decide
  bcast_S_S2x1024x4096 := by decide
  reducesTo_S2x1024x4096_S_d0_1_2 := by decide
  bcast_S_S2x1024x16 := by decide
  reducesTo_S2x1024x16_S_d0_1_2 := by decide
  bcast_S_S2x16x4096 := by decide
  reducesTo_S2x16x4096_S_d0_1_2 := by decide
  bcast_S_S2x4096x16 := by decide
  reducesTo_S2x4096x16_S_d0_1_2 := by decide
  bcast_S_S2x16x1024 := by decide
  reducesTo_S2x16x1024_S_d0_1_2 := by decide

instance : Subsingleton S_.Idx := ⟨fun a b => funext fun k => k.elim0⟩

/-- The precondition says that the nine arrays it reads have real entries only. -/
theorem real (a0 : FVec Ideal S1024x1024 .f32) (a1 : FVec Ideal S2x1024 .f32) (a2 : FVec Ideal S2x1024 .f32) (a3 : FVec Ideal S2x1024x1024 .f32) (a4 : FVec Ideal S2x1024x16 .f32) (a5 : FVec Ideal S2x16x1024 .f32) (a6 : FVec Ideal S2x1024x1024 .f32) (a7 : FVec Ideal S2x1024x16 .f32) (a8 : FVec Ideal S2x16x1024 .f32) (a9 : FVec Ideal S2x1024x1024 .f32) (a10 : FVec Ideal S2x1024x16 .f32) (a11 : FVec Ideal S2x16x1024 .f32) (a12 : FVec Ideal S2x1024x1024 .f32) (a13 : FVec Ideal S2x1024x16 .f32) (a14 : FVec Ideal S2x16x1024 .f32) (a15 : FVec Ideal S2x1024x4096 .f32) (a16 : FVec Ideal S2x1024x16 .f32) (a17 : FVec Ideal S2x16x4096 .f32) (a18 : FVec Ideal S2x1024x4096 .f32) (a19 : FVec Ideal S2x1024x16 .f32) (a20 : FVec Ideal S2x16x4096 .f32) (a21 : FVec Ideal S2x4096x1024 .f32) (a22 : FVec Ideal S2x4096x16 .f32) (a23 : FVec Ideal S2x16x1024 .f32) (a24 : FVec Ideal S1024 .f32) (a25 : FVec Ideal S1024x32000 .f32) (a26 : FVec Ideal S1024x1 .f32) (a27 : FVec Ideal S1 .f32)
    (e : Cert.Pre_finite_layers.fn (F := Ideal) a0 a1 a2 a3 a4 a5 a6 a7 a8 a9 a10 a11 a12 a13 a14 a15 a16 a17 a18 a19 a20 a21 a22 a23 a24 a25 a26 a27 = fun _ => 1#1) :
    (∀ i, Spec.IsReal (a2 i)) ∧ (∀ i, Spec.IsReal (a15 i)) ∧ (∀ i, Spec.IsReal (a16 i)) ∧ (∀ i, Spec.IsReal (a17 i)) ∧ (∀ i, Spec.IsReal (a18 i)) ∧ (∀ i, Spec.IsReal (a19 i)) ∧ (∀ i, Spec.IsReal (a20 i)) ∧ (∀ i, Spec.IsReal (a22 i)) ∧ (∀ i, Spec.IsReal (a23 i)) := by
  have e := congrFun e fun k => k.elim0
  dsimp only [fn, fn_part1, fn_part2, andi] at e
  simp only [IntOp.andi_eq_one] at e
  obtain ⟨⟨⟨⟨⟨⟨⟨⟨h0, h1⟩, h2⟩, h3⟩, h4⟩, h5⟩, h6⟩, h7⟩, h8⟩ := e
  exact ⟨Spec.all_real _ _ _ _ _ h0, Spec.all_real _ _ _ _ _ h1, Spec.all_real _ _ _ _ _ h2, Spec.all_real _ _ _ _ _ h3, Spec.all_real _ _ _ _ _ h4, Spec.all_real _ _ _ _ _ h5, Spec.all_real _ _ _ _ _ h6, Spec.all_real _ _ _ _ _ h7, Spec.all_real _ _ _ _ _ h8⟩

end Cert.Pre_finite_layers.Own
end
-- ==== Proof.LayersSpec.lean ====
/- What the calls chained compute, as functions of the arrays they are given. -/
module
public import Idealize.ShloMosaic.Lib.Claim
public import Idealize.ShloMosaic.Lib.Pipeline.ValueKit
public import proofs.«01_k».proof.Proof.Gen.LayersIdeal.Skeleton
public import proofs.«01_k».proof.Proof.AttnValue
public import proofs.«01_k».proof.Proof.MlpValue
public import proofs.«01_k».proof.Proof.FinalValue
@[expose] public section
set_option maxRecDepth 16384
noncomputable section
open Idealize.ShloMosaic Idealize.ShloMosaic.TcCoe Idealize.SL.Sem
namespace Cert.LayersIdeal.Own
open Cert.LayersIdeal Cert.LayersIdeal.Gen

theorem eps_eq : ∃ e : ℝ, 0 < e ∧ Ideal.ofBits FTy.f32 0x3727C5AC#32 = (e : EReal) := by
  refine ⟨_, ?_, by simp [Ideal.ofBits, Ideal.ieee, -EReal.coe_mul]; rfl⟩
  positivity

theorem width_eq : Ideal.ofBits FTy.f32 0x44800000#32 = ((1024 : ℝ) : EReal) := by
  simp [Ideal.ofBits, Ideal.ieee, -EReal.coe_mul]
  try norm_num

theorem sq_nonneg (x : EReal) : 0 ≤ x * x := by
  induction x using EReal.rec with
  | bot => simp
  | coe a => rw [← EReal.coe_mul]; exact EReal.coe_nonneg.mpr (mul_self_nonneg a)
  | top => simp

/-- A normed row is real whatever the row, if its weight is. -/
theorem isReal_rms (x w : Fin 1024 → EReal) (d : Fin 1024) (hw : Spec.IsReal (w d)) : Spec.IsReal (Spec.rms x w d) := by
  obtain ⟨e, he, h2⟩ := eps_eq
  have hd : ∀ s : EReal, Ideal.div s ((1024 : ℝ) : EReal) = s * ((1024⁻¹ : ℝ) : EReal) := fun s => by
    rw [Ideal.div, if_neg (by exact_mod_cast (by norm_num : (1024 : ℝ) ≠ 0)), EReal.coe_inv]
  unfold Spec.rms
  rw [width_eq, h2, hd]
  by_cases h : ∀ k, Spec.IsReal (x k)
  · obtain ⟨s, hs⟩ := Spec.IsReal.sum Finset.univ fun k => (h k).mul (h k)
    have h0 : 0 ≤ s := by
      have : (0 : EReal) ≤ ∑ k, x k * x k := Finset.sum_nonneg fun k _ => sq_nonneg (x k)
      rw [hs] at this
      exact EReal.coe_nonneg.mp this
    have hp : 0 < s * 1024⁻¹ + e := by positivity
    rw [hs, ← EReal.coe_mul, ← EReal.coe_add]
    refine ((h d).mul ?_).mul hw
    show Spec.IsReal (if s * 1024⁻¹ + e < 0 then ⊥ else if s * 1024⁻¹ + e = 0 then ⊤ else ((Real.sqrt (s * 1024⁻¹ + e))⁻¹ : ℝ))
    rw [if_neg (not_lt.mpr hp.le), if_neg hp.ne']
    exact ⟨_, rfl⟩
  · obtain ⟨k, hk⟩ := not_forall.mp h
    have hk2 : x k * x k = ⊤ := by
      generalize x k = y at hk
      induction y using EReal.rec with
      | bot => simp
      | coe a => exact absurd ⟨a, rfl⟩ hk
      | top => simp
    have hs : ∑ k, x k * x k = ⊤ := top_le_iff.mp (hk2 ▸ Finset.single_le_sum (f := fun k => x k * x k) (fun k _ => sq_nonneg (x k)) (Finset.mem_univ k))
    rw [hs, EReal.top_mul_coe_of_pos (by norm_num), EReal.top_add_coe]
    show Spec.IsReal (x d * 0 * w d)
    rw [mul_zero, zero_mul]
    exact ⟨0, rfl⟩

/-- The arrays the calls chained are given: the embedded rows and the weights, the layers' weights stacked by layer. -/
@[ext] structure Arrays where
  h : FVec Ideal S1024x1024 .f32
  ln1 : FVec Ideal S2x1024 .f32
  ln2 : FVec Ideal S2x1024 .f32
  wq : FVec Ideal S2x1024x1024 .f32
  aq : FVec Ideal S2x1024x16 .f32
  bq : FVec Ideal S2x16x1024 .f32
  wk : FVec Ideal S2x1024x1024 .f32
  ak : FVec Ideal S2x1024x16 .f32
  bk : FVec Ideal S2x16x1024 .f32
  wv : FVec Ideal S2x1024x1024 .f32
  av : FVec Ideal S2x1024x16 .f32
  bv : FVec Ideal S2x16x1024 .f32
  wo : FVec Ideal S2x1024x1024 .f32
  ao : FVec Ideal S2x1024x16 .f32
  bo : FVec Ideal S2x16x1024 .f32
  wg : FVec Ideal S2x1024x4096 .f32
  ag : FVec Ideal S2x1024x16 .f32
  bg : FVec Ideal S2x16x4096 .f32
  wu : FVec Ideal S2x1024x4096 .f32
  au : FVec Ideal S2x1024x16 .f32
  bu : FVec Ideal S2x16x4096 .f32
  wd : FVec Ideal S2x4096x1024 .f32
  ad : FVec Ideal S2x4096x16 .f32
  bd : FVec Ideal S2x16x1024 .f32
  lnf : FVec Ideal S1024 .f32
  lm : FVec Ideal S1024x32000 .f32
  vw : FVec Ideal S1024x1 .f32
  vb : FVec Ideal S1 .f32

namespace Arrays
variable (A : Arrays)

/-- The operands of layer `l`'s attention on the rows `h`. -/
def attn (l : Fin 2) (h : FVec Ideal S1024x1024 .f32) : Spec.Args where
  h := fun i j => h (ix2 i j)
  ln1 := fun k => A.ln1 (ix2 l k)
  ln2 := fun k => A.ln2 (ix2 l k)
  wq := fun i j => A.wq (ix3 l i j)
  aq := fun i j => A.aq (ix3 l i j)
  bq := fun i j => A.bq (ix3 l i j)
  wk := fun i j => A.wk (ix3 l i j)
  ak := fun i j => A.ak (ix3 l i j)
  bk := fun i j => A.bk (ix3 l i j)
  wv := fun i j => A.wv (ix3 l i j)
  av := fun i j => A.av (ix3 l i j)
  bv := fun i j => A.bv (ix3 l i j)
  wo := fun i j => A.wo (ix3 l i j)
  ao := fun i j => A.ao (ix3 l i j)
  bo := fun i j => A.bo (ix3 l i j)

/-- Layer `l`'s gated unit on the normed rows `x` and the rows `h`. -/
def mlp (l : Fin 2) (x : FVec Ideal S1024x1024 .bf16) (h : FVec Ideal S1024x1024 .f32) : FVec Ideal S1024x1024 .f32 :=
  MlpIdeal.Own.result x h (fun i => A.wg (ix3 l (i 0) (i 1))) (fun i => A.ag (ix3 l (i 0) (i 1))) (fun i => A.bg (ix3 l (i 0) (i 1))) (fun i => A.wu (ix3 l (i 0) (i 1))) (fun i => A.au (ix3 l (i 0) (i 1))) (fun i => A.bu (ix3 l (i 0) (i 1))) (fun i => A.wd (ix3 l (i 0) (i 1))) (fun i => A.ad (ix3 l (i 0) (i 1))) (fun i => A.bd (ix3 l (i 0) (i 1)))

/-- The rows after layer `l`, of the rows before it. -/
def layer (l : Fin 2) (h : FVec Ideal S1024x1024 .f32) : FVec Ideal S1024x1024 .f32 :=
  A.mlp l (AttnIdeal.Own.result2 (A.attn l h)) (AttnIdeal.Own.result1 (A.attn l h))

/-- The logits. -/
def logits : FVec Ideal S1024x32000 .f32 := FinalIdeal.Own.logits (A.layer 1 (A.layer 0 A.h)) A.lnf A.lm

/-- The values. -/
def values : FVec Ideal S1024x1 .f32 := FinalIdeal.Own.values (A.layer 1 (A.layer 0 A.h)) A.lnf A.vw A.vb

/-- The weights the gated units' tiles need real are real. -/
structure Real : Prop where
  ln2 : ∀ i, Spec.IsReal (A.ln2 i)
  wg : ∀ i, Spec.IsReal (A.wg i)
  ag : ∀ i, Spec.IsReal (A.ag i)
  bg : ∀ i, Spec.IsReal (A.bg i)
  wu : ∀ i, Spec.IsReal (A.wu i)
  au : ∀ i, Spec.IsReal (A.au i)
  bu : ∀ i, Spec.IsReal (A.bu i)
  ad : ∀ i, Spec.IsReal (A.ad i)
  bd : ∀ i, Spec.IsReal (A.bd i)

end Arrays
end Cert.LayersIdeal.Own
end
-- ==== Proof.LayersHost.lean ====
/- The host's slices between the calls chained, entry by entry. -/
module
public import Idealize.ShloMosaic.Lib.StableHlo.RunRead
public import proofs.«01_k».proof.Proof.LayersSpec
public import proofs.«01_k».proof.Proof.Gen.LayersIdeal.Regions
@[expose] public section
set_option maxRecDepth 16384
noncomputable section
open Idealize.ShloMosaic Idealize.ShloMosaic.TcCoe Idealize.SL.Sem
namespace Cert.LayersIdeal.Own
open Cert.LayersIdeal Cert.LayersIdeal.Gen
variable (V : Valuation τ sig (Elt Ideal))

theorem s0_v50 (k : Fin 1024) : (StableHlo.after hostOps0 V (Proc.devRef .tc main_v50) : FVec Ideal S1x1024 .f32) (ix2 0 k) = (V (Proc.devRef .tc main_arg1) : FVec Ideal S2x1024 .f32) (ix2 0 k) := by
  after_reads_simp
  pointwise []

theorem s0_v51 (k : Fin 1024) : (StableHlo.after hostOps0 V (Proc.devRef .tc main_v51) : FVec Ideal S1x1024 .f32) (ix2 0 k) = (V (Proc.devRef .tc main_arg2) : FVec Ideal S2x1024 .f32) (ix2 0 k) := by
  after_reads_simp
  pointwise []

theorem s0_v27 (i : Fin 1024) (j : Fin 1024) : (StableHlo.after hostOps0 V (Proc.devRef .tc main_v27) : FVec Ideal S1024x1024 .f32) (ix2 i j) = (V (Proc.devRef .tc main_arg3) : FVec Ideal S2x1024x1024 .f32) (ix3 0 i j) := by
  after_reads_simp
  pointwise []

theorem s0_v29 (i : Fin 1024) (j : Fin 16) : (StableHlo.after hostOps0 V (Proc.devRef .tc main_v29) : FVec Ideal S1024x16 .f32) (ix2 i j) = (V (Proc.devRef .tc main_arg4) : FVec Ideal S2x1024x16 .f32) (ix3 0 i j) := by
  after_reads_simp
  pointwise []

theorem s0_v31 (i : Fin 16) (j : Fin 1024) : (StableHlo.after hostOps0 V (Proc.devRef .tc main_v31) : FVec Ideal S16x1024 .f32) (ix2 i j) = (V (Proc.devRef .tc main_arg5) : FVec Ideal S2x16x1024 .f32) (ix3 0 i j) := by
  after_reads_simp
  pointwise []

theorem s0_v33 (i : Fin 1024) (j : Fin 1024) : (StableHlo.after hostOps0 V (Proc.devRef .tc main_v33) : FVec Ideal S1024x1024 .f32) (ix2 i j) = (V (Proc.devRef .tc main_arg6) : FVec Ideal S2x1024x1024 .f32) (ix3 0 i j) := by
  after_reads_simp
  pointwise []

theorem s0_v35 (i : Fin 1024) (j : Fin 16) : (StableHlo.after hostOps0 V (Proc.devRef .tc main_v35) : FVec Ideal S1024x16 .f32) (ix2 i j) = (V (Proc.devRef .tc main_arg7) : FVec Ideal S2x1024x16 .f32) (ix3 0 i j) := by
  after_reads_simp
  pointwise []

theorem s0_v37 (i : Fin 16) (j : Fin 1024) : (StableHlo.after hostOps0 V (Proc.devRef .tc main_v37) : FVec Ideal S16x1024 .f32) (ix2 i j) = (V (Proc.devRef .tc main_arg8) : FVec Ideal S2x16x1024 .f32) (ix3 0 i j) := by
  after_reads_simp
  pointwise []

theorem s0_v39 (i : Fin 1024) (j : Fin 1024) : (StableHlo.after hostOps0 V (Proc.devRef .tc main_v39) : FVec Ideal S1024x1024 .f32) (ix2 i j) = (V (Proc.devRef .tc main_arg9) : FVec Ideal S2x1024x1024 .f32) (ix3 0 i j) := by
  after_reads_simp
  pointwise []

theorem s0_v41 (i : Fin 1024) (j : Fin 16) : (StableHlo.after hostOps0 V (Proc.devRef .tc main_v41) : FVec Ideal S1024x16 .f32) (ix2 i j) = (V (Proc.devRef .tc main_arg10) : FVec Ideal S2x1024x16 .f32) (ix3 0 i j) := by
  after_reads_simp
  pointwise []

theorem s0_v43 (i : Fin 16) (j : Fin 1024) : (StableHlo.after hostOps0 V (Proc.devRef .tc main_v43) : FVec Ideal S16x1024 .f32) (ix2 i j) = (V (Proc.devRef .tc main_arg11) : FVec Ideal S2x16x1024 .f32) (ix3 0 i j) := by
  after_reads_simp
  pointwise []

theorem s0_v45 (i : Fin 1024) (j : Fin 1024) : (StableHlo.after hostOps0 V (Proc.devRef .tc main_v45) : FVec Ideal S1024x1024 .f32) (ix2 i j) = (V (Proc.devRef .tc main_arg12) : FVec Ideal S2x1024x1024 .f32) (ix3 0 i j) := by
  after_reads_simp
  pointwise []

theorem s0_v47 (i : Fin 1024) (j : Fin 16) : (StableHlo.after hostOps0 V (Proc.devRef .tc main_v47) : FVec Ideal S1024x16 .f32) (ix2 i j) = (V (Proc.devRef .tc main_arg13) : FVec Ideal S2x1024x16 .f32) (ix3 0 i j) := by
  after_reads_simp
  pointwise []

theorem s0_v49 (i : Fin 16) (j : Fin 1024) : (StableHlo.after hostOps0 V (Proc.devRef .tc main_v49) : FVec Ideal S16x1024 .f32) (ix2 i j) = (V (Proc.devRef .tc main_arg14) : FVec Ideal S2x16x1024 .f32) (ix3 0 i j) := by
  after_reads_simp
  pointwise []

theorem s2_v100 (k : Fin 1024) : (StableHlo.after hostOps2 V (Proc.devRef .tc main_v100) : FVec Ideal S1x1024 .f32) (ix2 0 k) = (V (Proc.devRef .tc main_arg1) : FVec Ideal S2x1024 .f32) (ix2 1 k) := by
  after_reads_simp
  pointwise []

theorem s2_v101 (k : Fin 1024) : (StableHlo.after hostOps2 V (Proc.devRef .tc main_v101) : FVec Ideal S1x1024 .f32) (ix2 0 k) = (V (Proc.devRef .tc main_arg2) : FVec Ideal S2x1024 .f32) (ix2 1 k) := by
  after_reads_simp
  pointwise []

theorem s2_v77 (i : Fin 1024) (j : Fin 1024) : (StableHlo.after hostOps2 V (Proc.devRef .tc main_v77) : FVec Ideal S1024x1024 .f32) (ix2 i j) = (V (Proc.devRef .tc main_arg3) : FVec Ideal S2x1024x1024 .f32) (ix3 1 i j) := by
  after_reads_simp
  pointwise []

theorem s2_v79 (i : Fin 1024) (j : Fin 16) : (StableHlo.after hostOps2 V (Proc.devRef .tc main_v79) : FVec Ideal S1024x16 .f32) (ix2 i j) = (V (Proc.devRef .tc main_arg4) : FVec Ideal S2x1024x16 .f32) (ix3 1 i j) := by
  after_reads_simp
  pointwise []

theorem s2_v81 (i : Fin 16) (j : Fin 1024) : (StableHlo.after hostOps2 V (Proc.devRef .tc main_v81) : FVec Ideal S16x1024 .f32) (ix2 i j) = (V (Proc.devRef .tc main_arg5) : FVec Ideal S2x16x1024 .f32) (ix3 1 i j) := by
  after_reads_simp
  pointwise []

theorem s2_v83 (i : Fin 1024) (j : Fin 1024) : (StableHlo.after hostOps2 V (Proc.devRef .tc main_v83) : FVec Ideal S1024x1024 .f32) (ix2 i j) = (V (Proc.devRef .tc main_arg6) : FVec Ideal S2x1024x1024 .f32) (ix3 1 i j) := by
  after_reads_simp
  pointwise []

theorem s2_v85 (i : Fin 1024) (j : Fin 16) : (StableHlo.after hostOps2 V (Proc.devRef .tc main_v85) : FVec Ideal S1024x16 .f32) (ix2 i j) = (V (Proc.devRef .tc main_arg7) : FVec Ideal S2x1024x16 .f32) (ix3 1 i j) := by
  after_reads_simp
  pointwise []

theorem s2_v87 (i : Fin 16) (j : Fin 1024) : (StableHlo.after hostOps2 V (Proc.devRef .tc main_v87) : FVec Ideal S16x1024 .f32) (ix2 i j) = (V (Proc.devRef .tc main_arg8) : FVec Ideal S2x16x1024 .f32) (ix3 1 i j) := by
  after_reads_simp
  pointwise []

theorem s2_v89 (i : Fin 1024) (j : Fin 1024) : (StableHlo.after hostOps2 V (Proc.devRef .tc main_v89) : FVec Ideal S1024x1024 .f32) (ix2 i j) = (V (Proc.devRef .tc main_arg9) : FVec Ideal S2x1024x1024 .f32) (ix3 1 i j) := by
  after_reads_simp
  pointwise []

theorem s2_v91 (i : Fin 1024) (j : Fin 16) : (StableHlo.after hostOps2 V (Proc.devRef .tc main_v91) : FVec Ideal S1024x16 .f32) (ix2 i j) = (V (Proc.devRef .tc main_arg10) : FVec Ideal S2x1024x16 .f32) (ix3 1 i j) := by
  after_reads_simp
  pointwise []

theorem s2_v93 (i : Fin 16) (j : Fin 1024) : (StableHlo.after hostOps2 V (Proc.devRef .tc main_v93) : FVec Ideal S16x1024 .f32) (ix2 i j) = (V (Proc.devRef .tc main_arg11) : FVec Ideal S2x16x1024 .f32) (ix3 1 i j) := by
  after_reads_simp
  pointwise []

theorem s2_v95 (i : Fin 1024) (j : Fin 1024) : (StableHlo.after hostOps2 V (Proc.devRef .tc main_v95) : FVec Ideal S1024x1024 .f32) (ix2 i j) = (V (Proc.devRef .tc main_arg12) : FVec Ideal S2x1024x1024 .f32) (ix3 1 i j) := by
  after_reads_simp
  pointwise []

theorem s2_v97 (i : Fin 1024) (j : Fin 16) : (StableHlo.after hostOps2 V (Proc.devRef .tc main_v97) : FVec Ideal S1024x16 .f32) (ix2 i j) = (V (Proc.devRef .tc main_arg13) : FVec Ideal S2x1024x16 .f32) (ix3 1 i j) := by
  after_reads_simp
  pointwise []

theorem s2_v99 (i : Fin 16) (j : Fin 1024) : (StableHlo.after hostOps2 V (Proc.devRef .tc main_v99) : FVec Ideal S16x1024 .f32) (ix2 i j) = (V (Proc.devRef .tc main_arg14) : FVec Ideal S2x16x1024 .f32) (ix3 1 i j) := by
  after_reads_simp
  pointwise []

theorem s1_v54 (i : Fin 1024) (j : Fin 4096) : (StableHlo.after hostOps1 V (Proc.devRef .tc main_v54) : FVec Ideal S1024x4096 .f32) (ix2 i j) = (V (Proc.devRef .tc main_arg15) : FVec Ideal S2x1024x4096 .f32) (ix3 0 i j) := by
  after_reads_simp
  pointwise []

theorem t1_v54 : (StableHlo.after hostOps1 V (Proc.devRef .tc main_v54) : FVec Ideal S1024x4096 .f32) = fun i => (V (Proc.devRef .tc main_arg15) : FVec Ideal S2x1024x4096 .f32) (ix3 0 (i 0) (i 1)) := funext fun i => (congrArg (StableHlo.after hostOps1 V (Proc.devRef .tc main_v54) : FVec Ideal S1024x4096 .f32) (ix2_eta (n0 := 1024) (n1 := 4096) i).symm).trans (s1_v54 V (i 0) (i 1))

theorem s1_v56 (i : Fin 1024) (j : Fin 16) : (StableHlo.after hostOps1 V (Proc.devRef .tc main_v56) : FVec Ideal S1024x16 .f32) (ix2 i j) = (V (Proc.devRef .tc main_arg16) : FVec Ideal S2x1024x16 .f32) (ix3 0 i j) := by
  after_reads_simp
  pointwise []

theorem t1_v56 : (StableHlo.after hostOps1 V (Proc.devRef .tc main_v56) : FVec Ideal S1024x16 .f32) = fun i => (V (Proc.devRef .tc main_arg16) : FVec Ideal S2x1024x16 .f32) (ix3 0 (i 0) (i 1)) := funext fun i => (congrArg (StableHlo.after hostOps1 V (Proc.devRef .tc main_v56) : FVec Ideal S1024x16 .f32) (ix2_eta (n0 := 1024) (n1 := 16) i).symm).trans (s1_v56 V (i 0) (i 1))

theorem s1_v58 (i : Fin 16) (j : Fin 4096) : (StableHlo.after hostOps1 V (Proc.devRef .tc main_v58) : FVec Ideal S16x4096 .f32) (ix2 i j) = (V (Proc.devRef .tc main_arg17) : FVec Ideal S2x16x4096 .f32) (ix3 0 i j) := by
  after_reads_simp
  pointwise []

theorem t1_v58 : (StableHlo.after hostOps1 V (Proc.devRef .tc main_v58) : FVec Ideal S16x4096 .f32) = fun i => (V (Proc.devRef .tc main_arg17) : FVec Ideal S2x16x4096 .f32) (ix3 0 (i 0) (i 1)) := funext fun i => (congrArg (StableHlo.after hostOps1 V (Proc.devRef .tc main_v58) : FVec Ideal S16x4096 .f32) (ix2_eta (n0 := 16) (n1 := 4096) i).symm).trans (s1_v58 V (i 0) (i 1))

theorem s1_v60 (i : Fin 1024) (j : Fin 4096) : (StableHlo.after hostOps1 V (Proc.devRef .tc main_v60) : FVec Ideal S1024x4096 .f32) (ix2 i j) = (V (Proc.devRef .tc main_arg18) : FVec Ideal S2x1024x4096 .f32) (ix3 0 i j) := by
  after_reads_simp
  pointwise []

theorem t1_v60 : (StableHlo.after hostOps1 V (Proc.devRef .tc main_v60) : FVec Ideal S1024x4096 .f32) = fun i => (V (Proc.devRef .tc main_arg18) : FVec Ideal S2x1024x4096 .f32) (ix3 0 (i 0) (i 1)) := funext fun i => (congrArg (StableHlo.after hostOps1 V (Proc.devRef .tc main_v60) : FVec Ideal S1024x4096 .f32) (ix2_eta (n0 := 1024) (n1 := 4096) i).symm).trans (s1_v60 V (i 0) (i 1))

theorem s1_v62 (i : Fin 1024) (j : Fin 16) : (StableHlo.after hostOps1 V (Proc.devRef .tc main_v62) : FVec Ideal S1024x16 .f32) (ix2 i j) = (V (Proc.devRef .tc main_arg19) : FVec Ideal S2x1024x16 .f32) (ix3 0 i j) := by
  after_reads_simp
  pointwise []

theorem t1_v62 : (StableHlo.after hostOps1 V (Proc.devRef .tc main_v62) : FVec Ideal S1024x16 .f32) = fun i => (V (Proc.devRef .tc main_arg19) : FVec Ideal S2x1024x16 .f32) (ix3 0 (i 0) (i 1)) := funext fun i => (congrArg (StableHlo.after hostOps1 V (Proc.devRef .tc main_v62) : FVec Ideal S1024x16 .f32) (ix2_eta (n0 := 1024) (n1 := 16) i).symm).trans (s1_v62 V (i 0) (i 1))

theorem s1_v64 (i : Fin 16) (j : Fin 4096) : (StableHlo.after hostOps1 V (Proc.devRef .tc main_v64) : FVec Ideal S16x4096 .f32) (ix2 i j) = (V (Proc.devRef .tc main_arg20) : FVec Ideal S2x16x4096 .f32) (ix3 0 i j) := by
  after_reads_simp
  pointwise []

theorem t1_v64 : (StableHlo.after hostOps1 V (Proc.devRef .tc main_v64) : FVec Ideal S16x4096 .f32) = fun i => (V (Proc.devRef .tc main_arg20) : FVec Ideal S2x16x4096 .f32) (ix3 0 (i 0) (i 1)) := funext fun i => (congrArg (StableHlo.after hostOps1 V (Proc.devRef .tc main_v64) : FVec Ideal S16x4096 .f32) (ix2_eta (n0 := 16) (n1 := 4096) i).symm).trans (s1_v64 V (i 0) (i 1))

theorem s1_v66 (i : Fin 4096) (j : Fin 1024) : (StableHlo.after hostOps1 V (Proc.devRef .tc main_v66) : FVec Ideal S4096x1024 .f32) (ix2 i j) = (V (Proc.devRef .tc main_arg21) : FVec Ideal S2x4096x1024 .f32) (ix3 0 i j) := by
  after_reads_simp
  pointwise []

theorem t1_v66 : (StableHlo.after hostOps1 V (Proc.devRef .tc main_v66) : FVec Ideal S4096x1024 .f32) = fun i => (V (Proc.devRef .tc main_arg21) : FVec Ideal S2x4096x1024 .f32) (ix3 0 (i 0) (i 1)) := funext fun i => (congrArg (StableHlo.after hostOps1 V (Proc.devRef .tc main_v66) : FVec Ideal S4096x1024 .f32) (ix2_eta (n0 := 4096) (n1 := 1024) i).symm).trans (s1_v66 V (i 0) (i 1))

theorem s1_v68 (i : Fin 4096) (j : Fin 16) : (StableHlo.after hostOps1 V (Proc.devRef .tc main_v68) : FVec Ideal S4096x16 .f32) (ix2 i j) = (V (Proc.devRef .tc main_arg22) : FVec Ideal S2x4096x16 .f32) (ix3 0 i j) := by
  after_reads_simp
  pointwise []

theorem t1_v68 : (StableHlo.after hostOps1 V (Proc.devRef .tc main_v68) : FVec Ideal S4096x16 .f32) = fun i => (V (Proc.devRef .tc main_arg22) : FVec Ideal S2x4096x16 .f32) (ix3 0 (i 0) (i 1)) := funext fun i => (congrArg (StableHlo.after hostOps1 V (Proc.devRef .tc main_v68) : FVec Ideal S4096x16 .f32) (ix2_eta (n0 := 4096) (n1 := 16) i).symm).trans (s1_v68 V (i 0) (i 1))

theorem s1_v70 (i : Fin 16) (j : Fin 1024) : (StableHlo.after hostOps1 V (Proc.devRef .tc main_v70) : FVec Ideal S16x1024 .f32) (ix2 i j) = (V (Proc.devRef .tc main_arg23) : FVec Ideal S2x16x1024 .f32) (ix3 0 i j) := by
  after_reads_simp
  pointwise []

theorem t1_v70 : (StableHlo.after hostOps1 V (Proc.devRef .tc main_v70) : FVec Ideal S16x1024 .f32) = fun i => (V (Proc.devRef .tc main_arg23) : FVec Ideal S2x16x1024 .f32) (ix3 0 (i 0) (i 1)) := funext fun i => (congrArg (StableHlo.after hostOps1 V (Proc.devRef .tc main_v70) : FVec Ideal S16x1024 .f32) (ix2_eta (n0 := 16) (n1 := 1024) i).symm).trans (s1_v70 V (i 0) (i 1))

theorem s3_v104 (i : Fin 1024) (j : Fin 4096) : (StableHlo.after hostOps3 V (Proc.devRef .tc main_v104) : FVec Ideal S1024x4096 .f32) (ix2 i j) = (V (Proc.devRef .tc main_arg15) : FVec Ideal S2x1024x4096 .f32) (ix3 1 i j) := by
  after_reads_simp
  pointwise []

theorem t3_v104 : (StableHlo.after hostOps3 V (Proc.devRef .tc main_v104) : FVec Ideal S1024x4096 .f32) = fun i => (V (Proc.devRef .tc main_arg15) : FVec Ideal S2x1024x4096 .f32) (ix3 1 (i 0) (i 1)) := funext fun i => (congrArg (StableHlo.after hostOps3 V (Proc.devRef .tc main_v104) : FVec Ideal S1024x4096 .f32) (ix2_eta (n0 := 1024) (n1 := 4096) i).symm).trans (s3_v104 V (i 0) (i 1))

theorem s3_v106 (i : Fin 1024) (j : Fin 16) : (StableHlo.after hostOps3 V (Proc.devRef .tc main_v106) : FVec Ideal S1024x16 .f32) (ix2 i j) = (V (Proc.devRef .tc main_arg16) : FVec Ideal S2x1024x16 .f32) (ix3 1 i j) := by
  after_reads_simp
  pointwise []

theorem t3_v106 : (StableHlo.after hostOps3 V (Proc.devRef .tc main_v106) : FVec Ideal S1024x16 .f32) = fun i => (V (Proc.devRef .tc main_arg16) : FVec Ideal S2x1024x16 .f32) (ix3 1 (i 0) (i 1)) := funext fun i => (congrArg (StableHlo.after hostOps3 V (Proc.devRef .tc main_v106) : FVec Ideal S1024x16 .f32) (ix2_eta (n0 := 1024) (n1 := 16) i).symm).trans (s3_v106 V (i 0) (i 1))

theorem s3_v108 (i : Fin 16) (j : Fin 4096) : (StableHlo.after hostOps3 V (Proc.devRef .tc main_v108) : FVec Ideal S16x4096 .f32) (ix2 i j) = (V (Proc.devRef .tc main_arg17) : FVec Ideal S2x16x4096 .f32) (ix3 1 i j) := by
  after_reads_simp
  pointwise []

theorem t3_v108 : (StableHlo.after hostOps3 V (Proc.devRef .tc main_v108) : FVec Ideal S16x4096 .f32) = fun i => (V (Proc.devRef .tc main_arg17) : FVec Ideal S2x16x4096 .f32) (ix3 1 (i 0) (i 1)) := funext fun i => (congrArg (StableHlo.after hostOps3 V (Proc.devRef .tc main_v108) : FVec Ideal S16x4096 .f32) (ix2_eta (n0 := 16) (n1 := 4096) i).symm).trans (s3_v108 V (i 0) (i 1))

theorem s3_v110 (i : Fin 1024) (j : Fin 4096) : (StableHlo.after hostOps3 V (Proc.devRef .tc main_v110) : FVec Ideal S1024x4096 .f32) (ix2 i j) = (V (Proc.devRef .tc main_arg18) : FVec Ideal S2x1024x4096 .f32) (ix3 1 i j) := by
  after_reads_simp
  pointwise []

theorem t3_v110 : (StableHlo.after hostOps3 V (Proc.devRef .tc main_v110) : FVec Ideal S1024x4096 .f32) = fun i => (V (Proc.devRef .tc main_arg18) : FVec Ideal S2x1024x4096 .f32) (ix3 1 (i 0) (i 1)) := funext fun i => (congrArg (StableHlo.after hostOps3 V (Proc.devRef .tc main_v110) : FVec Ideal S1024x4096 .f32) (ix2_eta (n0 := 1024) (n1 := 4096) i).symm).trans (s3_v110 V (i 0) (i 1))

theorem s3_v112 (i : Fin 1024) (j : Fin 16) : (StableHlo.after hostOps3 V (Proc.devRef .tc main_v112) : FVec Ideal S1024x16 .f32) (ix2 i j) = (V (Proc.devRef .tc main_arg19) : FVec Ideal S2x1024x16 .f32) (ix3 1 i j) := by
  after_reads_simp
  pointwise []

theorem t3_v112 : (StableHlo.after hostOps3 V (Proc.devRef .tc main_v112) : FVec Ideal S1024x16 .f32) = fun i => (V (Proc.devRef .tc main_arg19) : FVec Ideal S2x1024x16 .f32) (ix3 1 (i 0) (i 1)) := funext fun i => (congrArg (StableHlo.after hostOps3 V (Proc.devRef .tc main_v112) : FVec Ideal S1024x16 .f32) (ix2_eta (n0 := 1024) (n1 := 16) i).symm).trans (s3_v112 V (i 0) (i 1))

theorem s3_v114 (i : Fin 16) (j : Fin 4096) : (StableHlo.after hostOps3 V (Proc.devRef .tc main_v114) : FVec Ideal S16x4096 .f32) (ix2 i j) = (V (Proc.devRef .tc main_arg20) : FVec Ideal S2x16x4096 .f32) (ix3 1 i j) := by
  after_reads_simp
  pointwise []

theorem t3_v114 : (StableHlo.after hostOps3 V (Proc.devRef .tc main_v114) : FVec Ideal S16x4096 .f32) = fun i => (V (Proc.devRef .tc main_arg20) : FVec Ideal S2x16x4096 .f32) (ix3 1 (i 0) (i 1)) := funext fun i => (congrArg (StableHlo.after hostOps3 V (Proc.devRef .tc main_v114) : FVec Ideal S16x4096 .f32) (ix2_eta (n0 := 16) (n1 := 4096) i).symm).trans (s3_v114 V (i 0) (i 1))

theorem s3_v116 (i : Fin 4096) (j : Fin 1024) : (StableHlo.after hostOps3 V (Proc.devRef .tc main_v116) : FVec Ideal S4096x1024 .f32) (ix2 i j) = (V (Proc.devRef .tc main_arg21) : FVec Ideal S2x4096x1024 .f32) (ix3 1 i j) := by
  after_reads_simp
  pointwise []

theorem t3_v116 : (StableHlo.after hostOps3 V (Proc.devRef .tc main_v116) : FVec Ideal S4096x1024 .f32) = fun i => (V (Proc.devRef .tc main_arg21) : FVec Ideal S2x4096x1024 .f32) (ix3 1 (i 0) (i 1)) := funext fun i => (congrArg (StableHlo.after hostOps3 V (Proc.devRef .tc main_v116) : FVec Ideal S4096x1024 .f32) (ix2_eta (n0 := 4096) (n1 := 1024) i).symm).trans (s3_v116 V (i 0) (i 1))

theorem s3_v118 (i : Fin 4096) (j : Fin 16) : (StableHlo.after hostOps3 V (Proc.devRef .tc main_v118) : FVec Ideal S4096x16 .f32) (ix2 i j) = (V (Proc.devRef .tc main_arg22) : FVec Ideal S2x4096x16 .f32) (ix3 1 i j) := by
  after_reads_simp
  pointwise []

theorem t3_v118 : (StableHlo.after hostOps3 V (Proc.devRef .tc main_v118) : FVec Ideal S4096x16 .f32) = fun i => (V (Proc.devRef .tc main_arg22) : FVec Ideal S2x4096x16 .f32) (ix3 1 (i 0) (i 1)) := funext fun i => (congrArg (StableHlo.after hostOps3 V (Proc.devRef .tc main_v118) : FVec Ideal S4096x16 .f32) (ix2_eta (n0 := 4096) (n1 := 16) i).symm).trans (s3_v118 V (i 0) (i 1))

theorem s3_v120 (i : Fin 16) (j : Fin 1024) : (StableHlo.after hostOps3 V (Proc.devRef .tc main_v120) : FVec Ideal S16x1024 .f32) (ix2 i j) = (V (Proc.devRef .tc main_arg23) : FVec Ideal S2x16x1024 .f32) (ix3 1 i j) := by
  after_reads_simp
  pointwise []

theorem t3_v120 : (StableHlo.after hostOps3 V (Proc.devRef .tc main_v120) : FVec Ideal S16x1024 .f32) = fun i => (V (Proc.devRef .tc main_arg23) : FVec Ideal S2x16x1024 .f32) (ix3 1 (i 0) (i 1)) := funext fun i => (congrArg (StableHlo.after hostOps3 V (Proc.devRef .tc main_v120) : FVec Ideal S16x1024 .f32) (ix2_eta (n0 := 16) (n1 := 1024) i).symm).trans (s3_v120 V (i 0) (i 1))

theorem s4_v122 (k : Fin 1024) : (StableHlo.after hostOps4 V (Proc.devRef .tc main_v122) : FVec Ideal S1x1024 .f32) (ix2 0 k) = (V (Proc.devRef .tc main_arg24) : FVec Ideal S1024 .f32) (ix1 k) := by
  after_reads_simp
  pointwise []

theorem s0_v12 (r : Fin 512) (k : Fin 32) : ((StableHlo.upto hostOps0 V 16 (Proc.devRef .tc main_v12) : FVec Ideal S512x32 .f32) (ix2 r k) : EReal) = Spec.angle r.val k.val := by
  after_reads_simp
  unfold Spec.angle
  pointwise []

theorem s0_v17 (r : Fin 512) (k : Fin 1024) : ((StableHlo.after hostOps0 V (Proc.devRef .tc main_v17) : FVec Ideal S512x1024 .f32) (ix2 r k) : EReal) = Ideal.cos (Spec.angles r.val (k.val % 64)) := by
  after_reads_simp
  unfold Spec.angles
  pointwise []
  exact congrArg Ideal.cos (dite_congr rfl (fun h => s0_v12 V r ⟨k.val % 64, h⟩) (fun h => s0_v12 V r ⟨k.val % 64 - 32, by omega⟩))

theorem s0_v21 (r : Fin 512) (k : Fin 1024) : ((StableHlo.after hostOps0 V (Proc.devRef .tc main_v21) : FVec Ideal S512x1024 .f32) (ix2 r k) : EReal) = Ideal.sin (Spec.angles r.val (k.val % 64)) := by
  after_reads_simp
  unfold Spec.angles
  pointwise []
  exact congrArg Ideal.sin (dite_congr rfl (fun h => s0_v12 V r ⟨k.val % 64, h⟩) (fun h => s0_v12 V r ⟨k.val % 64 - 32, by omega⟩))

end Cert.LayersIdeal.Own
end
-- ==== Proof.LayersAttn0V.lean ====
/- What an attention call among the calls chained leaves in its two results. -/
module
public import Idealize.ShloMosaic.Lib.Claim
public import Idealize.ShloMosaic.Lib.Pipeline.ReadBack
public import proofs.«01_k».proof.Proof.Gen.Own.LayersIdeal.K0.Frame
public import proofs.«01_k».proof.Proof.AttnValue
@[expose] public section
set_option maxRecDepth 16384
noncomputable section
open Idealize.ShloMosaic Idealize.ShloMosaic.TcCoe Idealize.SL.Sem
open Idealize.ShloMosaic.Pipeline (Dat)
namespace Cert.LayersIdeal.Own.K0
open Cert.LayersIdeal Cert.LayersIdeal.Gen
variable (V : (c : Dev nD) → (b : Ref sig .tc) → Buf (Elt Ideal) ((c : Thread nD τ).loc b))

theorem cut_eq {sp : Space} (v : View sig .tc sp S512x1024 .bf16) (Z : FVec Ideal S512x1024 .bf16) (h : Fin 16) (o : ℕ) (ho : o = h.val * 64) (inb) (inb') :
    v.readCov (Val := Elt Ideal) [⟨Rect.unit ![0, 0] ![512, 1024] inb, Z⟩] (Rect.unit ![0, o] ![512, 64] inb').toLoadRect = AttnIdeal.Own.cut Z h := by
  rw [View.readCov_fill _ _ _ _ _ (by decide)]
  subst ho
  funext i
  unfold AttnIdeal.Own.cut
  pointwise [View.ld]

theorem head13 (q k v : FVec Ideal S512x64 .bf16) : k0_pay13 (F := Ideal) q k v = AttnIdeal.Gen.k0_pay16 (F := Ideal) q k v := by
  simp only [k0_pay13, k0_pay12, shapeCast_self]
  rfl
theorem head14 (q k v : FVec Ideal S512x64 .bf16) : k0_pay14 (F := Ideal) k0_pay12 q k v = AttnIdeal.Gen.k0_pay16 (F := Ideal) q k v := by
  simp only [k0_pay14, k0_pay12, shapeCast_self]
  rfl
theorem head16 (q k v : FVec Ideal S512x64 .bf16) : k0_pay16 (F := Ideal) (k0_pay15 k0_pay12 q k) v = AttnIdeal.Gen.k0_pay16 (F := Ideal) q k v := by
  simp only [k0_pay16, k0_pay15, k0_pay12, shapeCast_self]
  rfl
theorem head17 (q k v : FVec Ideal S512x64 .bf16) : k0_pay17 (F := Ideal) k0_pay12 q k v = AttnIdeal.Gen.k0_pay16 (F := Ideal) q k v := by
  simp only [k0_pay17, k0_pay12, shapeCast_self]
  rfl
theorem head20 (q k v : FVec Ideal S512x64 .bf16) : k0_pay20 (F := Ideal) (k0_pay18 k0_pay12 q k) (k0_pay19 k0_pay12 q k) v = AttnIdeal.Gen.k0_pay16 (F := Ideal) q k v := by
  simp only [k0_pay20, k0_pay18, k0_pay19, k0_pay12, shapeCast_self]
  rfl
theorem head21 (q k v : FVec Ideal S512x64 .bf16) : k0_pay21 (F := Ideal) k0_pay12 q k v = AttnIdeal.Gen.k0_pay16 (F := Ideal) q k v := by
  simp only [k0_pay21, k0_pay12, shapeCast_self]
  rfl
theorem head23 (q k v : FVec Ideal S512x64 .bf16) : k0_pay23 (F := Ideal) (k0_pay22 k0_pay12 q k) v = AttnIdeal.Gen.k0_pay16 (F := Ideal) q k v := by
  simp only [k0_pay23, k0_pay22, k0_pay12, shapeCast_self]
  rfl
theorem head24 (q k v : FVec Ideal S512x64 .bf16) : k0_pay24 (F := Ideal) k0_pay12 q k v = AttnIdeal.Gen.k0_pay16 (F := Ideal) q k v := by
  simp only [k0_pay24, k0_pay12, shapeCast_self]
  rfl
theorem head27 (q k v : FVec Ideal S512x64 .bf16) : k0_pay27 (F := Ideal) (k0_pay25 k0_pay12 q k) (k0_pay26 k0_pay12 q k) v = AttnIdeal.Gen.k0_pay16 (F := Ideal) q k v := by
  simp only [k0_pay27, k0_pay25, k0_pay26, k0_pay12, shapeCast_self]
  rfl
theorem head28 (q k v : FVec Ideal S512x64 .bf16) : k0_pay28 (F := Ideal) k0_pay12 q k v = AttnIdeal.Gen.k0_pay16 (F := Ideal) q k v := by
  simp only [k0_pay28, k0_pay12, shapeCast_self]
  rfl
theorem head30 (q k v : FVec Ideal S512x64 .bf16) : k0_pay30 (F := Ideal) k0_pay12 (k0_pay29 q k) (Named.named (F := Ideal) κ "mask" (φ := .f32) 0xCE6E6B28#32) v = AttnIdeal.Gen.k0_pay16 (F := Ideal) q k v := by
  simp only [k0_pay30, k0_pay29, k0_pay12, shapeCast_self]
  rfl
theorem head31 (q k v : FVec Ideal S512x64 .bf16) : k0_pay31 (F := Ideal) k0_pay12 q k v = AttnIdeal.Gen.k0_pay16 (F := Ideal) q k v := by
  simp only [k0_pay31, k0_pay12, shapeCast_self]
  rfl
theorem head33 (q k v : FVec Ideal S512x64 .bf16) : k0_pay33 (F := Ideal) k0_pay12 (k0_pay32 q k) v = AttnIdeal.Gen.k0_pay16 (F := Ideal) q k v := by
  simp only [k0_pay33, k0_pay32, k0_pay12, shapeCast_self]
  rfl
theorem head34 (q k v : FVec Ideal S512x64 .bf16) : k0_pay34 (F := Ideal) k0_pay12 q k v = AttnIdeal.Gen.k0_pay16 (F := Ideal) q k v := by
  simp only [k0_pay34, k0_pay12, shapeCast_self]
  rfl
theorem head35 (q k v : FVec Ideal S512x64 .bf16) : k0_pay35 (F := Ideal) k0_pay12 q k v = AttnIdeal.Gen.k0_pay16 (F := Ideal) q k v := by
  simp only [k0_pay35, k0_pay12, shapeCast_self]
  rfl
theorem head36 (q k v : FVec Ideal S512x64 .bf16) : k0_pay36 (F := Ideal) k0_pay12 q k v = AttnIdeal.Gen.k0_pay16 (F := Ideal) q k v := by
  simp only [k0_pay36, k0_pay12, shapeCast_self]
  rfl

theorem out37 (b0 : FVec Ideal S512x1024 .f32) (o : FVec Ideal S512x1024 .bf16) (b14 : FVec Ideal S1024x1024 .f32) (b15 : FVec Ideal S1024x16 .f32) (b16 : FVec Ideal S16x1024 .f32) : k0_pay37 (F := Ideal) b0 o b14 b15 b16 = AttnIdeal.Gen.k0_pay1 (F := Ideal) b0 o (AttnIdeal.Own.proj o b14) b15 b16 := by
  simp only [k0_pay37, shapeCast_self]
  rfl

theorem vals11 (x : FVec Ideal S512x1024 .bf16) (w : FVec Ideal S1024x1024 .f32) (a : FVec Ideal S1024x16 .f32) (b : FVec Ideal S16x1024 .f32) : k0_pay11 (F := Ideal) x (matmul dot_S512x1024_S1024x1024_S512x1024_1_0_0_1_n_n none x (truncf .bf16 w bitsLt_bf16_f32) (constant S512x1024 .f32 0x00000000#32)) a b = AttnIdeal.Gen.k0_pay14 (F := Ideal) (AttnIdeal.Gen.k0_pay12 x w) (AttnIdeal.Gen.k0_pay13 x a) b := by
  simp only [k0_pay11, AttnIdeal.Gen.k0_pay14, AttnIdeal.Gen.k0_pay12, AttnIdeal.Gen.k0_pay13, shapeCast_self]
  rfl

theorem norm1 (h : FVec Ideal S512x1024 .f32) (o : FVec Ideal S512x1024 .bf16) (y : FVec Ideal S512x1024 .f32) (a : FVec Ideal S1024x16 .f32) (b : FVec Ideal S16x1024 .f32) (w : FVec Ideal S1x1024 .f32) : k0_pay1 (F := Ideal) (k0_pay38 (AttnIdeal.Gen.k0_pay1 (F := Ideal) h o y a b)) w = AttnIdeal.Gen.k0_pay2 (F := Ideal) h o y a b w := by
  simp only [k0_pay1, k0_pay38, AttnIdeal.Gen.k0_pay2, shapeCast_self]

theorem join (Q K W : FVec Ideal S512x1024 .bf16) (a0 a1 a2 a3 a4 a5 a6 a7 a8 a9 a10 a11 a12 a13 a14 a15 : FVec Ideal S512x64 .bf16) (h) (h0 : a0 = AttnIdeal.Gen.k0_pay16 (F := Ideal) (AttnIdeal.Own.cut Q 0) (AttnIdeal.Own.cut K 0) (AttnIdeal.Own.cut W 0)) (h1 : a1 = AttnIdeal.Gen.k0_pay16 (F := Ideal) (AttnIdeal.Own.cut Q 1) (AttnIdeal.Own.cut K 1) (AttnIdeal.Own.cut W 1)) (h2 : a2 = AttnIdeal.Gen.k0_pay16 (F := Ideal) (AttnIdeal.Own.cut Q 2) (AttnIdeal.Own.cut K 2) (AttnIdeal.Own.cut W 2)) (h3 : a3 = AttnIdeal.Gen.k0_pay16 (F := Ideal) (AttnIdeal.Own.cut Q 3) (AttnIdeal.Own.cut K 3) (AttnIdeal.Own.cut W 3)) (h4 : a4 = AttnIdeal.Gen.k0_pay16 (F := Ideal) (AttnIdeal.Own.cut Q 4) (AttnIdeal.Own.cut K 4) (AttnIdeal.Own.cut W 4)) (h5 : a5 = AttnIdeal.Gen.k0_pay16 (F := Ideal) (AttnIdeal.Own.cut Q 5) (AttnIdeal.Own.cut K 5) (AttnIdeal.Own.cut W 5)) (h6 : a6 = AttnIdeal.Gen.k0_pay16 (F := Ideal) (AttnIdeal.Own.cut Q 6) (AttnIdeal.Own.cut K 6) (AttnIdeal.Own.cut W 6)) (h7 : a7 = AttnIdeal.Gen.k0_pay16 (F := Ideal) (AttnIdeal.Own.cut Q 7) (AttnIdeal.Own.cut K 7) (AttnIdeal.Own.cut W 7)) (h8 : a8 = AttnIdeal.Gen.k0_pay16 (F := Ideal) (AttnIdeal.Own.cut Q 8) (AttnIdeal.Own.cut K 8) (AttnIdeal.Own.cut W 8)) (h9 : a9 = AttnIdeal.Gen.k0_pay16 (F := Ideal) (AttnIdeal.Own.cut Q 9) (AttnIdeal.Own.cut K 9) (AttnIdeal.Own.cut W 9)) (h10 : a10 = AttnIdeal.Gen.k0_pay16 (F := Ideal) (AttnIdeal.Own.cut Q 10) (AttnIdeal.Own.cut K 10) (AttnIdeal.Own.cut W 10)) (h11 : a11 = AttnIdeal.Gen.k0_pay16 (F := Ideal) (AttnIdeal.Own.cut Q 11) (AttnIdeal.Own.cut K 11) (AttnIdeal.Own.cut W 11)) (h12 : a12 = AttnIdeal.Gen.k0_pay16 (F := Ideal) (AttnIdeal.Own.cut Q 12) (AttnIdeal.Own.cut K 12) (AttnIdeal.Own.cut W 12)) (h13 : a13 = AttnIdeal.Gen.k0_pay16 (F := Ideal) (AttnIdeal.Own.cut Q 13) (AttnIdeal.Own.cut K 13) (AttnIdeal.Own.cut W 13)) (h14 : a14 = AttnIdeal.Gen.k0_pay16 (F := Ideal) (AttnIdeal.Own.cut Q 14) (AttnIdeal.Own.cut K 14) (AttnIdeal.Own.cut W 14)) (h15 : a15 = AttnIdeal.Gen.k0_pay16 (F := Ideal) (AttnIdeal.Own.cut Q 15) (AttnIdeal.Own.cut K 15) (AttnIdeal.Own.cut W 15)) :
    concatenate S512x1024 1 [⟨S512x64, a0⟩, ⟨S512x64, a1⟩, ⟨S512x64, a2⟩, ⟨S512x64, a3⟩, ⟨S512x64, a4⟩, ⟨S512x64, a5⟩, ⟨S512x64, a6⟩, ⟨S512x64, a7⟩, ⟨S512x64, a8⟩, ⟨S512x64, a9⟩, ⟨S512x64, a10⟩, ⟨S512x64, a11⟩, ⟨S512x64, a12⟩, ⟨S512x64, a13⟩, ⟨S512x64, a14⟩, ⟨S512x64, a15⟩] h = AttnIdeal.Own.heads Q K W := by
  subst h0 h1 h2 h3 h4 h5 h6 h7 h8 h9 h10 h11 h12 h13 h14 h15
  rfl

theorem out_17 (c : Dev nD) (t : Fin cfg0.N) (x0 : FVec Ideal S512x1024 .f32) (x1 : FVec Ideal S1x1024 .f32) (x2 : FVec Ideal S1x1024 .f32) (x3 : FVec Ideal S512x1024 .f32) (x4 : FVec Ideal S512x1024 .f32) (x5 : FVec Ideal S1024x1024 .f32) (x6 : FVec Ideal S1024x16 .f32) (x7 : FVec Ideal S16x1024 .f32) (x8 : FVec Ideal S1024x1024 .f32) (x9 : FVec Ideal S1024x16 .f32) (x10 : FVec Ideal S16x1024 .f32) (x11 : FVec Ideal S1024x1024 .f32) (x12 : FVec Ideal S1024x16 .f32) (x13 : FVec Ideal S16x1024 .f32) (x14 : FVec Ideal S1024x1024 .f32) (x15 : FVec Ideal S1024x16 .f32) (x16 : FVec Ideal S16x1024 .f32) : out0_A_17 (F := Ideal) (Ix := Unit) (U := UR sig nD τ) (Lvl := ℕ) Variants.none c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) x0 x1 x2 x3 x4 x5 x6 x7 x8 x9 x10 x11 x12 x13 x14 x15 x16 = AttnIdeal.Own.hs x0 x1 x3 x4 x5 x6 x7 x8 x9 x10 x11 x12 x13 x14 x15 x16 := by
  unfold out0_A_17
  frame_open
  simp (disch := decide) only [View.read_writes_junk_eq_canon, View.canon_cons_unit_lit', View.ld_unit_lit', View.readCov_unit_lit', View.readCov_cons_unit_lit', View.readAt_eq_ld, Memref.IsWhole.read_unread, shapeCast_self]
  generalize hq : (shapeCast S512x1024 _ _ : FVec Ideal S512x1024 .bf16) = Q
  generalize hk : (shapeCast S512x1024 _ _ : FVec Ideal S512x1024 .bf16) = K
  generalize hv : k0_pay11 (F := Ideal) _ _ _ _ = W
  generalize hO : (concatenate S512x1024 1 _ _ : FVec Ideal S512x1024 .bf16) = O
  have ho : O = AttnIdeal.Own.heads Q K W := by
    rw [← hO]
    exact join Q K W _ _ _ _ _ _ _ _ _ _ _ _ _ _ _ _ _ (by rw [cut_eq _ _ 0 0 rfl, cut_eq _ _ 0 0 rfl, cut_eq _ _ 0 0 rfl]; exact head13 _ _ _) (by rw [cut_eq _ _ 1 64 rfl, cut_eq _ _ 1 64 rfl, cut_eq _ _ 1 64 rfl]; exact head14 _ _ _) (by rw [cut_eq _ _ 2 128 rfl, cut_eq _ _ 2 128 rfl, cut_eq _ _ 2 128 rfl]; exact head16 _ _ _) (by rw [cut_eq _ _ 3 192 rfl, cut_eq _ _ 3 192 rfl, cut_eq _ _ 3 192 rfl]; exact head17 _ _ _) (by rw [cut_eq _ _ 4 256 rfl, cut_eq _ _ 4 256 rfl, cut_eq _ _ 4 256 rfl]; exact head20 _ _ _) (by rw [cut_eq _ _ 5 320 rfl, cut_eq _ _ 5 320 rfl, cut_eq _ _ 5 320 rfl]; exact head21 _ _ _) (by rw [cut_eq _ _ 6 384 rfl, cut_eq _ _ 6 384 rfl, cut_eq _ _ 6 384 rfl]; exact head23 _ _ _) (by rw [cut_eq _ _ 7 448 rfl, cut_eq _ _ 7 448 rfl, cut_eq _ _ 7 448 rfl]; exact head24 _ _ _) (by rw [cut_eq _ _ 8 512 rfl, cut_eq _ _ 8 512 rfl, cut_eq _ _ 8 512 rfl]; exact head27 _ _ _) (by rw [cut_eq _ _ 9 576 rfl, cut_eq _ _ 9 576 rfl, cut_eq _ _ 9 576 rfl]; exact head28 _ _ _) (by rw [cut_eq _ _ 10 640 rfl, cut_eq _ _ 10 640 rfl, cut_eq _ _ 10 640 rfl]; exact head30 _ _ _) (by rw [cut_eq _ _ 11 704 rfl, cut_eq _ _ 11 704 rfl, cut_eq _ _ 11 704 rfl]; exact head31 _ _ _) (by rw [cut_eq _ _ 12 768 rfl, cut_eq _ _ 12 768 rfl, cut_eq _ _ 12 768 rfl]; exact head33 _ _ _) (by rw [cut_eq _ _ 13 832 rfl, cut_eq _ _ 13 832 rfl, cut_eq _ _ 13 832 rfl]; exact head34 _ _ _) (by rw [cut_eq _ _ 14 896 rfl, cut_eq _ _ 14 896 rfl, cut_eq _ _ 14 896 rfl]; exact head35 _ _ _) (by rw [cut_eq _ _ 15 960 rfl, cut_eq _ _ 15 960 rfl, cut_eq _ _ 15 960 rfl]; exact head36 _ _ _)
  clear hO
  have eq : Q = AttnIdeal.Own.qs x0 x1 x3 x4 x5 x6 x7 := by
    rw [← hq]
    simp (disch := decide) only [View.read_writes_junk_eq_canon, View.canon_cons_unit_lit', View.ld_unit_lit', View.readCov_unit_lit', View.readCov_cons_unit_lit', View.readAt_eq_ld, Memref.IsWhole.read_unread, shapeCast_self, AttnIdeal.Own.qs, AttnIdeal.Gen.k0_pay7, AttnIdeal.Gen.k0_pay4, AttnIdeal.Gen.k0_pay5, AttnIdeal.Gen.k0_pay6, AttnIdeal.Gen.k0_pay3]
    rfl
  have ek : K = AttnIdeal.Own.ks x0 x1 x3 x4 x8 x9 x10 := by
    rw [← hk]
    simp (disch := decide) only [View.read_writes_junk_eq_canon, View.canon_cons_unit_lit', View.ld_unit_lit', View.readCov_unit_lit', View.readCov_cons_unit_lit', View.readAt_eq_ld, Memref.IsWhole.read_unread, shapeCast_self, AttnIdeal.Own.ks, AttnIdeal.Gen.k0_pay11, AttnIdeal.Gen.k0_pay4, AttnIdeal.Gen.k0_pay5, AttnIdeal.Gen.k0_pay8, AttnIdeal.Gen.k0_pay9, AttnIdeal.Gen.k0_pay10, AttnIdeal.Gen.k0_pay3]
    rfl
  have ev : W = AttnIdeal.Own.vs x0 x1 x11 x12 x13 := by
    rw [← hv]
    simp (disch := decide) only [View.read_writes_junk_eq_canon, View.canon_cons_unit_lit', View.ld_unit_lit', View.readCov_unit_lit', View.readCov_cons_unit_lit', View.readAt_eq_ld, Memref.IsWhole.read_unread, shapeCast_self]
    rw [vals11]
    simp only [AttnIdeal.Own.vs, AttnIdeal.Gen.k0_pay3, shapeCast_self]
  clear hq hk hv
  subst ho eq ek ev
  exact out37 _ _ _ _ _

theorem out_18 (c : Dev nD) (t : Fin cfg0.N) (x0 : FVec Ideal S512x1024 .f32) (x1 : FVec Ideal S1x1024 .f32) (x2 : FVec Ideal S1x1024 .f32) (x3 : FVec Ideal S512x1024 .f32) (x4 : FVec Ideal S512x1024 .f32) (x5 : FVec Ideal S1024x1024 .f32) (x6 : FVec Ideal S1024x16 .f32) (x7 : FVec Ideal S16x1024 .f32) (x8 : FVec Ideal S1024x1024 .f32) (x9 : FVec Ideal S1024x16 .f32) (x10 : FVec Ideal S16x1024 .f32) (x11 : FVec Ideal S1024x1024 .f32) (x12 : FVec Ideal S1024x16 .f32) (x13 : FVec Ideal S16x1024 .f32) (x14 : FVec Ideal S1024x1024 .f32) (x15 : FVec Ideal S1024x16 .f32) (x16 : FVec Ideal S16x1024 .f32) : out0_A_18 (F := Ideal) (Ix := Unit) (U := UR sig nD τ) (Lvl := ℕ) Variants.none c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) x0 x1 x2 x3 x4 x5 x6 x7 x8 x9 x10 x11 x12 x13 x14 x15 x16 = AttnIdeal.Own.xs x0 x1 x2 x3 x4 x5 x6 x7 x8 x9 x10 x11 x12 x13 x14 x15 x16 := by
  unfold out0_A_18
  frame_open
  simp (disch := decide) only [View.read_writes_junk_eq_canon, View.canon_cons_unit_lit', View.ld_unit_lit', View.readCov_unit_lit', View.readCov_cons_unit_lit', View.readAt_eq_ld, Memref.IsWhole.read_unread, shapeCast_self]
  generalize hq : (shapeCast S512x1024 _ _ : FVec Ideal S512x1024 .bf16) = Q
  generalize hk : (shapeCast S512x1024 _ _ : FVec Ideal S512x1024 .bf16) = K
  generalize hv : k0_pay11 (F := Ideal) _ _ _ _ = W
  generalize hO : (concatenate S512x1024 1 _ _ : FVec Ideal S512x1024 .bf16) = O
  have ho : O = AttnIdeal.Own.heads Q K W := by
    rw [← hO]
    exact join Q K W _ _ _ _ _ _ _ _ _ _ _ _ _ _ _ _ _ (by rw [cut_eq _ _ 0 0 rfl, cut_eq _ _ 0 0 rfl, cut_eq _ _ 0 0 rfl]; exact head13 _ _ _) (by rw [cut_eq _ _ 1 64 rfl, cut_eq _ _ 1 64 rfl, cut_eq _ _ 1 64 rfl]; exact head14 _ _ _) (by rw [cut_eq _ _ 2 128 rfl, cut_eq _ _ 2 128 rfl, cut_eq _ _ 2 128 rfl]; exact head16 _ _ _) (by rw [cut_eq _ _ 3 192 rfl, cut_eq _ _ 3 192 rfl, cut_eq _ _ 3 192 rfl]; exact head17 _ _ _) (by rw [cut_eq _ _ 4 256 rfl, cut_eq _ _ 4 256 rfl, cut_eq _ _ 4 256 rfl]; exact head20 _ _ _) (by rw [cut_eq _ _ 5 320 rfl, cut_eq _ _ 5 320 rfl, cut_eq _ _ 5 320 rfl]; exact head21 _ _ _) (by rw [cut_eq _ _ 6 384 rfl, cut_eq _ _ 6 384 rfl, cut_eq _ _ 6 384 rfl]; exact head23 _ _ _) (by rw [cut_eq _ _ 7 448 rfl, cut_eq _ _ 7 448 rfl, cut_eq _ _ 7 448 rfl]; exact head24 _ _ _) (by rw [cut_eq _ _ 8 512 rfl, cut_eq _ _ 8 512 rfl, cut_eq _ _ 8 512 rfl]; exact head27 _ _ _) (by rw [cut_eq _ _ 9 576 rfl, cut_eq _ _ 9 576 rfl, cut_eq _ _ 9 576 rfl]; exact head28 _ _ _) (by rw [cut_eq _ _ 10 640 rfl, cut_eq _ _ 10 640 rfl, cut_eq _ _ 10 640 rfl]; exact head30 _ _ _) (by rw [cut_eq _ _ 11 704 rfl, cut_eq _ _ 11 704 rfl, cut_eq _ _ 11 704 rfl]; exact head31 _ _ _) (by rw [cut_eq _ _ 12 768 rfl, cut_eq _ _ 12 768 rfl, cut_eq _ _ 12 768 rfl]; exact head33 _ _ _) (by rw [cut_eq _ _ 13 832 rfl, cut_eq _ _ 13 832 rfl, cut_eq _ _ 13 832 rfl]; exact head34 _ _ _) (by rw [cut_eq _ _ 14 896 rfl, cut_eq _ _ 14 896 rfl, cut_eq _ _ 14 896 rfl]; exact head35 _ _ _) (by rw [cut_eq _ _ 15 960 rfl, cut_eq _ _ 15 960 rfl, cut_eq _ _ 15 960 rfl]; exact head36 _ _ _)
  clear hO
  have eq : Q = AttnIdeal.Own.qs x0 x1 x3 x4 x5 x6 x7 := by
    rw [← hq]
    simp (disch := decide) only [View.read_writes_junk_eq_canon, View.canon_cons_unit_lit', View.ld_unit_lit', View.readCov_unit_lit', View.readCov_cons_unit_lit', View.readAt_eq_ld, Memref.IsWhole.read_unread, shapeCast_self, AttnIdeal.Own.qs, AttnIdeal.Gen.k0_pay7, AttnIdeal.Gen.k0_pay4, AttnIdeal.Gen.k0_pay5, AttnIdeal.Gen.k0_pay6, AttnIdeal.Gen.k0_pay3]
    rfl
  have ek : K = AttnIdeal.Own.ks x0 x1 x3 x4 x8 x9 x10 := by
    rw [← hk]
    simp (disch := decide) only [View.read_writes_junk_eq_canon, View.canon_cons_unit_lit', View.ld_unit_lit', View.readCov_unit_lit', View.readCov_cons_unit_lit', View.readAt_eq_ld, Memref.IsWhole.read_unread, shapeCast_self, AttnIdeal.Own.ks, AttnIdeal.Gen.k0_pay11, AttnIdeal.Gen.k0_pay4, AttnIdeal.Gen.k0_pay5, AttnIdeal.Gen.k0_pay8, AttnIdeal.Gen.k0_pay9, AttnIdeal.Gen.k0_pay10, AttnIdeal.Gen.k0_pay3]
    rfl
  have ev : W = AttnIdeal.Own.vs x0 x1 x11 x12 x13 := by
    rw [← hv]
    simp (disch := decide) only [View.read_writes_junk_eq_canon, View.canon_cons_unit_lit', View.ld_unit_lit', View.readCov_unit_lit', View.readCov_cons_unit_lit', View.readAt_eq_ld, Memref.IsWhole.read_unread, shapeCast_self]
    rw [vals11]
    simp only [AttnIdeal.Own.vs, AttnIdeal.Gen.k0_pay3, shapeCast_self]
  clear hq hk hv
  subst ho eq ek ev
  rw [out37]; exact norm1 _ _ _ _ _ _

/-- Every window's block index. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![t.val, 0] ∧ win0_18.index t = ![t.val, 0] :=
  (by decide +kernel : ∀ t : Fin grid0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![t.val, 0] ∧ win0_18.index t = ![t.val, 0])

/-- A point's sequence. -/
def bt (t : Fin cfg0.N) : Fin 2 := ⟨t.val, t.isLt⟩

/-- The call's arrays hold the arguments `A` as it starts. -/
structure Entry (c : Dev nD) (A : Spec.Args) : Prop where
  e0 (i j : Fin 1024) : ((V c main_arg0 : FVec Ideal S1024x1024 .f32) (ix2 i j) : EReal) = A.h i j
  e1 (k : Fin 1024) : ((V c main_v50 : FVec Ideal S1x1024 .f32) (ix2 0 k) : EReal) = A.ln1 k
  e2 (k : Fin 1024) : ((V c main_v51 : FVec Ideal S1x1024 .f32) (ix2 0 k) : EReal) = A.ln2 k
  e3 (r : Fin 512) (k : Fin 1024) : ((V c main_v17 : FVec Ideal S512x1024 .f32) (ix2 r k) : EReal) = Ideal.cos (Spec.angles r.val (k.val % 64))
  e4 (r : Fin 512) (k : Fin 1024) : ((V c main_v21 : FVec Ideal S512x1024 .f32) (ix2 r k) : EReal) = Ideal.sin (Spec.angles r.val (k.val % 64))
  e5 (i : Fin 1024) (j : Fin 1024) : ((V c main_v27 : FVec Ideal S1024x1024 .f32) (ix2 i j) : EReal) = A.wq i j
  e6 (i : Fin 1024) (j : Fin 16) : ((V c main_v29 : FVec Ideal S1024x16 .f32) (ix2 i j) : EReal) = A.aq i j
  e7 (i : Fin 16) (j : Fin 1024) : ((V c main_v31 : FVec Ideal S16x1024 .f32) (ix2 i j) : EReal) = A.bq i j
  e8 (i : Fin 1024) (j : Fin 1024) : ((V c main_v33 : FVec Ideal S1024x1024 .f32) (ix2 i j) : EReal) = A.wk i j
  e9 (i : Fin 1024) (j : Fin 16) : ((V c main_v35 : FVec Ideal S1024x16 .f32) (ix2 i j) : EReal) = A.ak i j
  e10 (i : Fin 16) (j : Fin 1024) : ((V c main_v37 : FVec Ideal S16x1024 .f32) (ix2 i j) : EReal) = A.bk i j
  e11 (i : Fin 1024) (j : Fin 1024) : ((V c main_v39 : FVec Ideal S1024x1024 .f32) (ix2 i j) : EReal) = A.wv i j
  e12 (i : Fin 1024) (j : Fin 16) : ((V c main_v41 : FVec Ideal S1024x16 .f32) (ix2 i j) : EReal) = A.av i j
  e13 (i : Fin 16) (j : Fin 1024) : ((V c main_v43 : FVec Ideal S16x1024 .f32) (ix2 i j) : EReal) = A.bv i j
  e14 (i : Fin 1024) (j : Fin 1024) : ((V c main_v45 : FVec Ideal S1024x1024 .f32) (ix2 i j) : EReal) = A.wo i j
  e15 (i : Fin 1024) (j : Fin 16) : ((V c main_v47 : FVec Ideal S1024x16 .f32) (ix2 i j) : EReal) = A.ao i j
  e16 (i : Fin 16) (j : Fin 1024) : ((V c main_v49 : FVec Ideal S16x1024 .f32) (ix2 i j) : EReal) = A.bo i j

theorem blk0 (c : Dev nD) (p : Fin cfg0.N) (r : Fin 512) (k : Fin 1024) : (iblk V c 0 p : FVec Ideal S512x1024 .f32) (ix2 r k) = (V c main_arg0 : FVec Ideal S1024x1024 .f32) (ix2 (AttnIdeal.Own.row (bt p) r) k) := by
  unfold AttnIdeal.Own.row bt
  blk_point [iblk, idx p]
theorem blk1 (c : Dev nD) (p : Fin cfg0.N) (k : Fin 1024) : (iblk V c 1 p : FVec Ideal S1x1024 .f32) (ix2 0 k) = (V c main_v50 : FVec Ideal S1x1024 .f32) (ix2 0 k) := by
  blk_point [iblk, idx p]
theorem blk2 (c : Dev nD) (p : Fin cfg0.N) (k : Fin 1024) : (iblk V c 2 p : FVec Ideal S1x1024 .f32) (ix2 0 k) = (V c main_v51 : FVec Ideal S1x1024 .f32) (ix2 0 k) := by
  blk_point [iblk, idx p]
theorem blk3 (c : Dev nD) (p : Fin cfg0.N) (i : Fin 512) (j : Fin 1024) : (iblk V c 3 p : FVec Ideal S512x1024 .f32) (ix2 i j) = (V c main_v17 : FVec Ideal S512x1024 .f32) (ix2 i j) := by
  blk_point [iblk, idx p]
theorem blk4 (c : Dev nD) (p : Fin cfg0.N) (i : Fin 512) (j : Fin 1024) : (iblk V c 4 p : FVec Ideal S512x1024 .f32) (ix2 i j) = (V c main_v21 : FVec Ideal S512x1024 .f32) (ix2 i j) := by
  blk_point [iblk, idx p]
theorem blk5 (c : Dev nD) (p : Fin cfg0.N) (i : Fin 1024) (j : Fin 1024) : (iblk V c 5 p : FVec Ideal S1024x1024 .f32) (ix2 i j) = (V c main_v27 : FVec Ideal S1024x1024 .f32) (ix2 i j) := by
  blk_point [iblk, idx p]
theorem blk6 (c : Dev nD) (p : Fin cfg0.N) (i : Fin 1024) (j : Fin 16) : (iblk V c 6 p : FVec Ideal S1024x16 .f32) (ix2 i j) = (V c main_v29 : FVec Ideal S1024x16 .f32) (ix2 i j) := by
  blk_point [iblk, idx p]
theorem blk7 (c : Dev nD) (p : Fin cfg0.N) (i : Fin 16) (j : Fin 1024) : (iblk V c 7 p : FVec Ideal S16x1024 .f32) (ix2 i j) = (V c main_v31 : FVec Ideal S16x1024 .f32) (ix2 i j) := by
  blk_point [iblk, idx p]
theorem blk8 (c : Dev nD) (p : Fin cfg0.N) (i : Fin 1024) (j : Fin 1024) : (iblk V c 8 p : FVec Ideal S1024x1024 .f32) (ix2 i j) = (V c main_v33 : FVec Ideal S1024x1024 .f32) (ix2 i j) := by
  blk_point [iblk, idx p]
theorem blk9 (c : Dev nD) (p : Fin cfg0.N) (i : Fin 1024) (j : Fin 16) : (iblk V c 9 p : FVec Ideal S1024x16 .f32) (ix2 i j) = (V c main_v35 : FVec Ideal S1024x16 .f32) (ix2 i j) := by
  blk_point [iblk, idx p]
theorem blk10 (c : Dev nD) (p : Fin cfg0.N) (i : Fin 16) (j : Fin 1024) : (iblk V c 10 p : FVec Ideal S16x1024 .f32) (ix2 i j) = (V c main_v37 : FVec Ideal S16x1024 .f32) (ix2 i j) := by
  blk_point [iblk, idx p]
theorem blk11 (c : Dev nD) (p : Fin cfg0.N) (i : Fin 1024) (j : Fin 1024) : (iblk V c 11 p : FVec Ideal S1024x1024 .f32) (ix2 i j) = (V c main_v39 : FVec Ideal S1024x1024 .f32) (ix2 i j) := by
  blk_point [iblk, idx p]
theorem blk12 (c : Dev nD) (p : Fin cfg0.N) (i : Fin 1024) (j : Fin 16) : (iblk V c 12 p : FVec Ideal S1024x16 .f32) (ix2 i j) = (V c main_v41 : FVec Ideal S1024x16 .f32) (ix2 i j) := by
  blk_point [iblk, idx p]
theorem blk13 (c : Dev nD) (p : Fin cfg0.N) (i : Fin 16) (j : Fin 1024) : (iblk V c 13 p : FVec Ideal S16x1024 .f32) (ix2 i j) = (V c main_v43 : FVec Ideal S16x1024 .f32) (ix2 i j) := by
  blk_point [iblk, idx p]
theorem blk14 (c : Dev nD) (p : Fin cfg0.N) (i : Fin 1024) (j : Fin 1024) : (iblk V c 14 p : FVec Ideal S1024x1024 .f32) (ix2 i j) = (V c main_v45 : FVec Ideal S1024x1024 .f32) (ix2 i j) := by
  blk_point [iblk, idx p]
theorem blk15 (c : Dev nD) (p : Fin cfg0.N) (i : Fin 1024) (j : Fin 16) : (iblk V c 15 p : FVec Ideal S1024x16 .f32) (ix2 i j) = (V c main_v47 : FVec Ideal S1024x16 .f32) (ix2 i j) := by
  blk_point [iblk, idx p]
theorem blk16 (c : Dev nD) (p : Fin cfg0.N) (i : Fin 16) (j : Fin 1024) : (iblk V c 16 p : FVec Ideal S16x1024 .f32) (ix2 i j) = (V c main_v49 : FVec Ideal S16x1024 .f32) (ix2 i j) := by
  blk_point [iblk, idx p]
theorem emb17 (t : Fin cfg0.N) (y : S512x1024.Idx) : (win0_17.blk t).view.emb y = ix2 (AttnIdeal.Own.row (bt t) (y 0)) (y 1) := by
  unfold AttnIdeal.Own.row bt
  blk_point [idx t]
theorem emb18 (t : Fin cfg0.N) (y : S512x1024.Idx) : (win0_18.blk t).view.emb y = ix2 (AttnIdeal.Own.row (bt t) (y 0)) (y 1) := by
  unfold AttnIdeal.Own.row bt
  blk_point [idx t]

theorem holds {c : Dev nD} {A : Spec.Args} (hE : Entry V c A) (t : Fin cfg0.N) : AttnIdeal.Own.Holds (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) A (bt t) where
  e0 i j := (blk0 V c t i j).trans (hE.e0 _ j)
  e1 k := (blk1 V c t k).trans (hE.e1 k)
  e2 k := (blk2 V c t k).trans (hE.e2 k)
  e3 i j := (blk3 V c t i j).trans (hE.e3 i j)
  e4 i j := (blk4 V c t i j).trans (hE.e4 i j)
  e5 i j := (blk5 V c t i j).trans (hE.e5 i j)
  e6 i j := (blk6 V c t i j).trans (hE.e6 i j)
  e7 i j := (blk7 V c t i j).trans (hE.e7 i j)
  e8 i j := (blk8 V c t i j).trans (hE.e8 i j)
  e9 i j := (blk9 V c t i j).trans (hE.e9 i j)
  e10 i j := (blk10 V c t i j).trans (hE.e10 i j)
  e11 i j := (blk11 V c t i j).trans (hE.e11 i j)
  e12 i j := (blk12 V c t i j).trans (hE.e12 i j)
  e13 i j := (blk13 V c t i j).trans (hE.e13 i j)
  e14 i j := (blk14 V c t i j).trans (hE.e14 i j)
  e15 i j := (blk15 V c t i j).trans (hE.e15 i j)
  e16 i j := (blk16 V c t i j).trans (hE.e16 i j)

theorem outs_1 (c : Dev nD) (t : Fin cfg0.N) : ((outsAt0 (F := Ideal) (Ix := Unit) (U := UR sig nD τ) (Lvl := ℕ) Variants.none V c t).1 : FVec Ideal S512x1024 .f32) = AttnIdeal.Own.hs (iblk V c 0 t) (iblk V c 1 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) := by
  unfold outsAt0
  dsimp only
  exact out_17 c t (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t)

theorem outs_2 (c : Dev nD) (t : Fin cfg0.N) : ((outsAt0 (F := Ideal) (Ix := Unit) (U := UR sig nD τ) (Lvl := ℕ) Variants.none V c t).2 : FVec Ideal S512x1024 .bf16) = AttnIdeal.Own.xs (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) := by
  unfold outsAt0
  dsimp only
  exact out_18 c t (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t)

/-- No core owes anything. -/
abbrev D₀ : Dev nD → CellTallies nD τ sig Unit := fun _ => 0

theorem final_17 {c : Dev nD} {A : Spec.Args} (hE : Entry V c A) : (dat (F := Ideal) (Ix := Unit) (U := UR sig nD τ) (Lvl := ℕ) Variants.none V D₀ c).arrAt 17 cfg0.N = AttnIdeal.Own.result1 A := by
  refine (dat (F := Ideal) (Ix := Unit) (U := UR sig nD τ) (Lvl := ℕ) Variants.none V D₀ c).arrAt_eq_of_covers 17 _ (by decide +kernel) fun t hf y => ?_
  blk_simp
  rw [after0_17]
  refine Eq.trans (congrArg (outsAt0 (F := Ideal) (Ix := Unit) (U := UR sig nD τ) (Lvl := ℕ) Variants.none V c t).1 (ix2_eta (n0 := 512) (n1 := 1024) y).symm) ?_
  refine Eq.trans ?_ (congrArg _ (emb17 t y).symm)
  rw [outs_1]
  exact (AttnIdeal.Own.hs_at (holds V hE t) (y 0) (y 1)).trans (AttnIdeal.Own.result1_row _ (bt t) (y 0) (y 1)).symm

theorem final_18 {c : Dev nD} {A : Spec.Args} (hE : Entry V c A) : (dat (F := Ideal) (Ix := Unit) (U := UR sig nD τ) (Lvl := ℕ) Variants.none V D₀ c).arrAt 18 cfg0.N = AttnIdeal.Own.result2 A := by
  refine (dat (F := Ideal) (Ix := Unit) (U := UR sig nD τ) (Lvl := ℕ) Variants.none V D₀ c).arrAt_eq_of_covers 18 _ (by decide +kernel) fun t hf y => ?_
  blk_simp
  rw [after0_18]
  refine Eq.trans (congrArg (outsAt0 (F := Ideal) (Ix := Unit) (U := UR sig nD τ) (Lvl := ℕ) Variants.none V c t).2 (ix2_eta (n0 := 512) (n1 := 1024) y).symm) ?_
  refine Eq.trans ?_ (congrArg _ (emb18 t y).symm)
  rw [outs_2]
  exact (AttnIdeal.Own.xs_at (holds V hE t) (y 0) (y 1)).trans (AttnIdeal.Own.result2_row _ (bt t) (y 0) (y 1)).symm

end Cert.LayersIdeal.Own.K0
end
-- ==== Proof.LayersAttn2V.lean ====
/- What an attention call among the calls chained leaves in its two results. -/
module
public import Idealize.ShloMosaic.Lib.Claim
public import Idealize.ShloMosaic.Lib.Pipeline.ReadBack
public import proofs.«01_k».proof.Proof.Gen.Own.LayersIdeal.K2.Frame
public import proofs.«01_k».proof.Proof.AttnValue
@[expose] public section
set_option maxRecDepth 16384
noncomputable section
open Idealize.ShloMosaic Idealize.ShloMosaic.TcCoe Idealize.SL.Sem
open Idealize.ShloMosaic.Pipeline (Dat)
namespace Cert.LayersIdeal.Own.K2
open Cert.LayersIdeal Cert.LayersIdeal.Gen
variable (V : (c : Dev nD) → (b : Ref sig .tc) → Buf (Elt Ideal) ((c : Thread nD τ).loc b))

theorem cut_eq {sp : Space} (v : View sig .tc sp S512x1024 .bf16) (Z : FVec Ideal S512x1024 .bf16) (h : Fin 16) (o : ℕ) (ho : o = h.val * 64) (inb) (inb') :
    v.readCov (Val := Elt Ideal) [⟨Rect.unit ![0, 0] ![512, 1024] inb, Z⟩] (Rect.unit ![0, o] ![512, 64] inb').toLoadRect = AttnIdeal.Own.cut Z h := by
  rw [View.readCov_fill _ _ _ _ _ (by decide)]
  subst ho
  funext i
  unfold AttnIdeal.Own.cut
  pointwise [View.ld]

theorem head0 (q k v : FVec Ideal S512x64 .bf16) : k2_pay15 (F := Ideal) (k2_pay14 q k v) = AttnIdeal.Gen.k0_pay16 (F := Ideal) q k v := by
  simp only [k2_pay15, k2_pay14, k2_pay13, shapeCast_self]
  rfl
theorem head1 (q k v : FVec Ideal S512x64 .bf16) : k2_pay16 (F := Ideal) k2_pay13 q k v = AttnIdeal.Gen.k0_pay16 (F := Ideal) q k v := by
  simp only [k2_pay16, k2_pay13, shapeCast_self]
  rfl
theorem head2 (q k v : FVec Ideal S512x64 .bf16) : k2_pay18 (F := Ideal) (k2_pay17 k2_pay13 q k) v = AttnIdeal.Gen.k0_pay16 (F := Ideal) q k v := by
  simp only [k2_pay18, k2_pay17, k2_pay13, shapeCast_self]
  rfl
theorem head3 (q k v : FVec Ideal S512x64 .bf16) : k2_pay19 (F := Ideal) k2_pay13 q k v = AttnIdeal.Gen.k0_pay16 (F := Ideal) q k v := by
  simp only [k2_pay19, k2_pay13, shapeCast_self]
  rfl
theorem head4 (q k v : FVec Ideal S512x64 .bf16) : k2_pay22 (F := Ideal) (k2_pay20 k2_pay13 q k) (k2_pay21 k2_pay13 q k) v = AttnIdeal.Gen.k0_pay16 (F := Ideal) q k v := by
  simp only [k2_pay22, k2_pay20, k2_pay21, k2_pay13, shapeCast_self]
  rfl
theorem head5 (q k v : FVec Ideal S512x64 .bf16) : k2_pay23 (F := Ideal) k2_pay13 q k v = AttnIdeal.Gen.k0_pay16 (F := Ideal) q k v := by
  simp only [k2_pay23, k2_pay13, shapeCast_self]
  rfl
theorem head6 (q k v : FVec Ideal S512x64 .bf16) : k2_pay25 (F := Ideal) (k2_pay24 k2_pay13 q k) v = AttnIdeal.Gen.k0_pay16 (F := Ideal) q k v := by
  simp only [k2_pay25, k2_pay24, k2_pay13, shapeCast_self]
  rfl
theorem head7 (q k v : FVec Ideal S512x64 .bf16) : k2_pay26 (F := Ideal) k2_pay13 q k v = AttnIdeal.Gen.k0_pay16 (F := Ideal) q k v := by
  simp only [k2_pay26, k2_pay13, shapeCast_self]
  rfl
theorem head8 (q k v : FVec Ideal S512x64 .bf16) : k2_pay28 (F := Ideal) (k2_pay27 k2_pay13 q k) v = AttnIdeal.Gen.k0_pay16 (F := Ideal) q k v := by
  simp only [k2_pay28, k2_pay27, k2_pay13, shapeCast_self]
  rfl
theorem head9 (q k v : FVec Ideal S512x64 .bf16) : k2_pay29 (F := Ideal) k2_pay13 q k v = AttnIdeal.Gen.k0_pay16 (F := Ideal) q k v := by
  simp only [k2_pay29, k2_pay13, shapeCast_self]
  rfl
theorem head10 (q k v : FVec Ideal S512x64 .bf16) : k2_pay31 (F := Ideal) k2_pay13 (k2_pay30 q k) v = AttnIdeal.Gen.k0_pay16 (F := Ideal) q k v := by
  simp only [k2_pay31, k2_pay30, k2_pay13, shapeCast_self]
  rfl
theorem head11 (q k v : FVec Ideal S512x64 .bf16) : k2_pay32 (F := Ideal) k2_pay13 q k v = AttnIdeal.Gen.k0_pay16 (F := Ideal) q k v := by
  simp only [k2_pay32, k2_pay13, shapeCast_self]
  rfl
theorem head12 (q k v : FVec Ideal S512x64 .bf16) : k2_pay33 (F := Ideal) k2_pay13 q k (constant S512x512 .f32 0x00000000#32) v = AttnIdeal.Gen.k0_pay16 (F := Ideal) q k v := by
  simp only [k2_pay33, k2_pay13, shapeCast_self]
  rfl
theorem head13 (q k v : FVec Ideal S512x64 .bf16) : k2_pay34 (F := Ideal) k2_pay13 q k v = AttnIdeal.Gen.k0_pay16 (F := Ideal) q k v := by
  simp only [k2_pay34, k2_pay13, shapeCast_self]
  rfl
theorem head14 (q k v : FVec Ideal S512x64 .bf16) : k2_pay35 (F := Ideal) k2_pay13 q k v = AttnIdeal.Gen.k0_pay16 (F := Ideal) q k v := by
  simp only [k2_pay35, k2_pay13, shapeCast_self]
  rfl
theorem head15 (q k v : FVec Ideal S512x64 .bf16) : truncf .bf16 (k2_pay36 k2_pay13 q k v) bitsLt_bf16_f32 = AttnIdeal.Gen.k0_pay16 (F := Ideal) q k v := by
  simp only [k2_pay36, k2_pay13, shapeCast_self]
  rfl

theorem out37 (b0 : FVec Ideal S512x1024 .f32) (o : FVec Ideal S512x1024 .bf16) (b14 : FVec Ideal S1024x1024 .f32) (b15 : FVec Ideal S1024x16 .f32) (b16 : FVec Ideal S16x1024 .f32) : k2_pay38 (F := Ideal) b0 o b14 b15 b16 = AttnIdeal.Gen.k0_pay1 (F := Ideal) b0 o (AttnIdeal.Own.proj o b14) b15 b16 := by
  simp only [k2_pay38, shapeCast_self]
  rfl

theorem vals11 (x : FVec Ideal S512x1024 .bf16) (w : FVec Ideal S1024x1024 .f32) (a : FVec Ideal S1024x16 .f32) (b : FVec Ideal S16x1024 .f32) : k2_pay12 (F := Ideal) x (matmul dot_S512x1024_S1024x1024_S512x1024_1_0_0_1_n_n none x (truncf .bf16 w bitsLt_bf16_f32) (constant S512x1024 .f32 0x00000000#32)) a b = AttnIdeal.Gen.k0_pay14 (F := Ideal) (AttnIdeal.Gen.k0_pay12 x w) (AttnIdeal.Gen.k0_pay13 x a) b := by
  simp only [k2_pay12, AttnIdeal.Gen.k0_pay14, AttnIdeal.Gen.k0_pay12, AttnIdeal.Gen.k0_pay13, shapeCast_self]
  rfl

theorem norm1 (h : FVec Ideal S512x1024 .f32) (o : FVec Ideal S512x1024 .bf16) (y : FVec Ideal S512x1024 .f32) (a : FVec Ideal S1024x16 .f32) (b : FVec Ideal S16x1024 .f32) (w : FVec Ideal S1x1024 .f32) : k2_pay1 (F := Ideal) (k2_pay39 (AttnIdeal.Gen.k0_pay1 (F := Ideal) h o y a b)) w = AttnIdeal.Gen.k0_pay2 (F := Ideal) h o y a b w := by
  simp only [k2_pay1, k2_pay39, AttnIdeal.Gen.k0_pay2, shapeCast_self]

theorem join (Q K W : FVec Ideal S512x1024 .bf16) (a0 a1 a2 a3 a4 a5 a6 a7 a8 a9 a10 a11 a12 a13 a14 : FVec Ideal S512x64 .bf16) (a15 : FVec Ideal S512x64 .f32) (h0 : a0 = AttnIdeal.Gen.k0_pay16 (F := Ideal) (AttnIdeal.Own.cut Q 0) (AttnIdeal.Own.cut K 0) (AttnIdeal.Own.cut W 0)) (h1 : a1 = AttnIdeal.Gen.k0_pay16 (F := Ideal) (AttnIdeal.Own.cut Q 1) (AttnIdeal.Own.cut K 1) (AttnIdeal.Own.cut W 1)) (h2 : a2 = AttnIdeal.Gen.k0_pay16 (F := Ideal) (AttnIdeal.Own.cut Q 2) (AttnIdeal.Own.cut K 2) (AttnIdeal.Own.cut W 2)) (h3 : a3 = AttnIdeal.Gen.k0_pay16 (F := Ideal) (AttnIdeal.Own.cut Q 3) (AttnIdeal.Own.cut K 3) (AttnIdeal.Own.cut W 3)) (h4 : a4 = AttnIdeal.Gen.k0_pay16 (F := Ideal) (AttnIdeal.Own.cut Q 4) (AttnIdeal.Own.cut K 4) (AttnIdeal.Own.cut W 4)) (h5 : a5 = AttnIdeal.Gen.k0_pay16 (F := Ideal) (AttnIdeal.Own.cut Q 5) (AttnIdeal.Own.cut K 5) (AttnIdeal.Own.cut W 5)) (h6 : a6 = AttnIdeal.Gen.k0_pay16 (F := Ideal) (AttnIdeal.Own.cut Q 6) (AttnIdeal.Own.cut K 6) (AttnIdeal.Own.cut W 6)) (h7 : a7 = AttnIdeal.Gen.k0_pay16 (F := Ideal) (AttnIdeal.Own.cut Q 7) (AttnIdeal.Own.cut K 7) (AttnIdeal.Own.cut W 7)) (h8 : a8 = AttnIdeal.Gen.k0_pay16 (F := Ideal) (AttnIdeal.Own.cut Q 8) (AttnIdeal.Own.cut K 8) (AttnIdeal.Own.cut W 8)) (h9 : a9 = AttnIdeal.Gen.k0_pay16 (F := Ideal) (AttnIdeal.Own.cut Q 9) (AttnIdeal.Own.cut K 9) (AttnIdeal.Own.cut W 9)) (h10 : a10 = AttnIdeal.Gen.k0_pay16 (F := Ideal) (AttnIdeal.Own.cut Q 10) (AttnIdeal.Own.cut K 10) (AttnIdeal.Own.cut W 10)) (h11 : a11 = AttnIdeal.Gen.k0_pay16 (F := Ideal) (AttnIdeal.Own.cut Q 11) (AttnIdeal.Own.cut K 11) (AttnIdeal.Own.cut W 11)) (h12 : a12 = AttnIdeal.Gen.k0_pay16 (F := Ideal) (AttnIdeal.Own.cut Q 12) (AttnIdeal.Own.cut K 12) (AttnIdeal.Own.cut W 12)) (h13 : a13 = AttnIdeal.Gen.k0_pay16 (F := Ideal) (AttnIdeal.Own.cut Q 13) (AttnIdeal.Own.cut K 13) (AttnIdeal.Own.cut W 13)) (h14 : a14 = AttnIdeal.Gen.k0_pay16 (F := Ideal) (AttnIdeal.Own.cut Q 14) (AttnIdeal.Own.cut K 14) (AttnIdeal.Own.cut W 14)) (h15 : truncf .bf16 a15 bitsLt_bf16_f32 = AttnIdeal.Gen.k0_pay16 (F := Ideal) (AttnIdeal.Own.cut Q 15) (AttnIdeal.Own.cut K 15) (AttnIdeal.Own.cut W 15)) :
    k2_pay37 (F := Ideal) a0 a1 a2 a3 a4 a5 a6 a7 a8 a9 a10 a11 a12 a13 a14 a15 = AttnIdeal.Own.heads Q K W := by
  subst h0 h1 h2 h3 h4 h5 h6 h7 h8 h9 h10 h11 h12 h13 h14
  simp only [k2_pay37]
  rw [h15]
  rfl

theorem out_17 (c : Dev nD) (t : Fin cfg2.N) (x0 : FVec Ideal S512x1024 .f32) (x1 : FVec Ideal S1x1024 .f32) (x2 : FVec Ideal S1x1024 .f32) (x3 : FVec Ideal S512x1024 .f32) (x4 : FVec Ideal S512x1024 .f32) (x5 : FVec Ideal S1024x1024 .f32) (x6 : FVec Ideal S1024x16 .f32) (x7 : FVec Ideal S16x1024 .f32) (x8 : FVec Ideal S1024x1024 .f32) (x9 : FVec Ideal S1024x16 .f32) (x10 : FVec Ideal S16x1024 .f32) (x11 : FVec Ideal S1024x1024 .f32) (x12 : FVec Ideal S1024x16 .f32) (x13 : FVec Ideal S16x1024 .f32) (x14 : FVec Ideal S1024x1024 .f32) (x15 : FVec Ideal S1024x16 .f32) (x16 : FVec Ideal S16x1024 .f32) : out2_A_17 (F := Ideal) (Ix := Unit) (U := UR sig nD τ) (Lvl := ℕ) Variants.none c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) scM2_0 (Memref.isWhole_whole _) scM2_1 (Memref.isWhole_whole _) scM2_2 (Memref.isWhole_whole _) x0 x1 x2 x3 x4 x5 x6 x7 x8 x9 x10 x11 x12 x13 x14 x15 x16 = AttnIdeal.Own.hs x0 x1 x3 x4 x5 x6 x7 x8 x9 x10 x11 x12 x13 x14 x15 x16 := by
  unfold out2_A_17
  frame_open
  simp (disch := decide) only [View.read_writes_junk_eq_canon, View.canon_cons_unit_lit', View.ld_unit_lit', View.readCov_unit_lit', View.readCov_cons_unit_lit', View.readAt_eq_ld, Memref.IsWhole.read_unread, shapeCast_self]
  generalize hq : (truncf .bf16 (addf (mulf _ _) (mulf _ _)) _ : FVec Ideal S512x1024 .bf16) = Q
  generalize hk : (truncf .bf16 (addf (mulf _ _) (mulf _ _)) _ : FVec Ideal S512x1024 .bf16) = K
  generalize hv : k2_pay12 (F := Ideal) _ _ _ _ = W
  generalize hO : (k2_pay37 (F := Ideal) _ _ _ _ _ _ _ _ _ _ _ _ _ _ _ _ : FVec Ideal S512x1024 .bf16) = O
  have ho : O = AttnIdeal.Own.heads Q K W := by
    rw [← hO]
    exact join Q K W _ _ _ _ _ _ _ _ _ _ _ _ _ _ _ _ (by rw [cut_eq _ _ 0 0 rfl, cut_eq _ _ 0 0 rfl, cut_eq _ _ 0 0 rfl]; exact head0 _ _ _) (by rw [cut_eq _ _ 1 64 rfl, cut_eq _ _ 1 64 rfl, cut_eq _ _ 1 64 rfl]; exact head1 _ _ _) (by rw [cut_eq _ _ 2 128 rfl, cut_eq _ _ 2 128 rfl, cut_eq _ _ 2 128 rfl]; exact head2 _ _ _) (by rw [cut_eq _ _ 3 192 rfl, cut_eq _ _ 3 192 rfl, cut_eq _ _ 3 192 rfl]; exact head3 _ _ _) (by rw [cut_eq _ _ 4 256 rfl, cut_eq _ _ 4 256 rfl, cut_eq _ _ 4 256 rfl]; exact head4 _ _ _) (by rw [cut_eq _ _ 5 320 rfl, cut_eq _ _ 5 320 rfl, cut_eq _ _ 5 320 rfl]; exact head5 _ _ _) (by rw [cut_eq _ _ 6 384 rfl, cut_eq _ _ 6 384 rfl, cut_eq _ _ 6 384 rfl]; exact head6 _ _ _) (by rw [cut_eq _ _ 7 448 rfl, cut_eq _ _ 7 448 rfl, cut_eq _ _ 7 448 rfl]; exact head7 _ _ _) (by rw [cut_eq _ _ 8 512 rfl, cut_eq _ _ 8 512 rfl, cut_eq _ _ 8 512 rfl]; exact head8 _ _ _) (by rw [cut_eq _ _ 9 576 rfl, cut_eq _ _ 9 576 rfl, cut_eq _ _ 9 576 rfl]; exact head9 _ _ _) (by rw [cut_eq _ _ 10 640 rfl, cut_eq _ _ 10 640 rfl, cut_eq _ _ 10 640 rfl]; exact head10 _ _ _) (by rw [cut_eq _ _ 11 704 rfl, cut_eq _ _ 11 704 rfl, cut_eq _ _ 11 704 rfl]; exact head11 _ _ _) (by rw [cut_eq _ _ 12 768 rfl, cut_eq _ _ 12 768 rfl, cut_eq _ _ 12 768 rfl]; exact head12 _ _ _) (by rw [cut_eq _ _ 13 832 rfl, cut_eq _ _ 13 832 rfl, cut_eq _ _ 13 832 rfl]; exact head13 _ _ _) (by rw [cut_eq _ _ 14 896 rfl, cut_eq _ _ 14 896 rfl, cut_eq _ _ 14 896 rfl]; exact head14 _ _ _) (by rw [cut_eq _ _ 15 960 rfl, cut_eq _ _ 15 960 rfl, cut_eq _ _ 15 960 rfl]; exact head15 _ _ _)
  clear hO
  have eq : Q = AttnIdeal.Own.qs x0 x1 x3 x4 x5 x6 x7 := by
    rw [← hq]
    simp (disch := decide) only [View.read_writes_junk_eq_canon, View.canon_cons_unit_lit', View.ld_unit_lit', View.readCov_unit_lit', View.readCov_cons_unit_lit', View.readAt_eq_ld, Memref.IsWhole.read_unread, shapeCast_self, AttnIdeal.Own.qs, AttnIdeal.Gen.k0_pay7, AttnIdeal.Gen.k0_pay4, AttnIdeal.Gen.k0_pay5, AttnIdeal.Gen.k0_pay6, AttnIdeal.Gen.k0_pay3]
    rfl
  have ek : K = AttnIdeal.Own.ks x0 x1 x3 x4 x8 x9 x10 := by
    rw [← hk]
    simp (disch := decide) only [View.read_writes_junk_eq_canon, View.canon_cons_unit_lit', View.ld_unit_lit', View.readCov_unit_lit', View.readCov_cons_unit_lit', View.readAt_eq_ld, Memref.IsWhole.read_unread, shapeCast_self, AttnIdeal.Own.ks, AttnIdeal.Gen.k0_pay11, AttnIdeal.Gen.k0_pay4, AttnIdeal.Gen.k0_pay5, AttnIdeal.Gen.k0_pay8, AttnIdeal.Gen.k0_pay9, AttnIdeal.Gen.k0_pay10, AttnIdeal.Gen.k0_pay3]
    rfl
  have ev : W = AttnIdeal.Own.vs x0 x1 x11 x12 x13 := by
    rw [← hv]
    rw [vals11]
    simp only [AttnIdeal.Own.vs, AttnIdeal.Gen.k0_pay3, shapeCast_self]
  clear hq hk hv
  subst ho eq ek ev
  exact out37 _ _ _ _ _

theorem out_18 (c : Dev nD) (t : Fin cfg2.N) (x0 : FVec Ideal S512x1024 .f32) (x1 : FVec Ideal S1x1024 .f32) (x2 : FVec Ideal S1x1024 .f32) (x3 : FVec Ideal S512x1024 .f32) (x4 : FVec Ideal S512x1024 .f32) (x5 : FVec Ideal S1024x1024 .f32) (x6 : FVec Ideal S1024x16 .f32) (x7 : FVec Ideal S16x1024 .f32) (x8 : FVec Ideal S1024x1024 .f32) (x9 : FVec Ideal S1024x16 .f32) (x10 : FVec Ideal S16x1024 .f32) (x11 : FVec Ideal S1024x1024 .f32) (x12 : FVec Ideal S1024x16 .f32) (x13 : FVec Ideal S16x1024 .f32) (x14 : FVec Ideal S1024x1024 .f32) (x15 : FVec Ideal S1024x16 .f32) (x16 : FVec Ideal S16x1024 .f32) : out2_A_18 (F := Ideal) (Ix := Unit) (U := UR sig nD τ) (Lvl := ℕ) Variants.none c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) scM2_0 (Memref.isWhole_whole _) scM2_1 (Memref.isWhole_whole _) scM2_2 (Memref.isWhole_whole _) x0 x1 x2 x3 x4 x5 x6 x7 x8 x9 x10 x11 x12 x13 x14 x15 x16 = AttnIdeal.Own.xs x0 x1 x2 x3 x4 x5 x6 x7 x8 x9 x10 x11 x12 x13 x14 x15 x16 := by
  unfold out2_A_18
  frame_open
  simp (disch := decide) only [View.read_writes_junk_eq_canon, View.canon_cons_unit_lit', View.ld_unit_lit', View.readCov_unit_lit', View.readCov_cons_unit_lit', View.readAt_eq_ld, Memref.IsWhole.read_unread, shapeCast_self]
  generalize hq : (truncf .bf16 (addf (mulf _ _) (mulf _ _)) _ : FVec Ideal S512x1024 .bf16) = Q
  generalize hk : (truncf .bf16 (addf (mulf _ _) (mulf _ _)) _ : FVec Ideal S512x1024 .bf16) = K
  generalize hv : k2_pay12 (F := Ideal) _ _ _ _ = W
  generalize hO : (k2_pay37 (F := Ideal) _ _ _ _ _ _ _ _ _ _ _ _ _ _ _ _ : FVec Ideal S512x1024 .bf16) = O
  have ho : O = AttnIdeal.Own.heads Q K W := by
    rw [← hO]
    exact join Q K W _ _ _ _ _ _ _ _ _ _ _ _ _ _ _ _ (by rw [cut_eq _ _ 0 0 rfl, cut_eq _ _ 0 0 rfl, cut_eq _ _ 0 0 rfl]; exact head0 _ _ _) (by rw [cut_eq _ _ 1 64 rfl, cut_eq _ _ 1 64 rfl, cut_eq _ _ 1 64 rfl]; exact head1 _ _ _) (by rw [cut_eq _ _ 2 128 rfl, cut_eq _ _ 2 128 rfl, cut_eq _ _ 2 128 rfl]; exact head2 _ _ _) (by rw [cut_eq _ _ 3 192 rfl, cut_eq _ _ 3 192 rfl, cut_eq _ _ 3 192 rfl]; exact head3 _ _ _) (by rw [cut_eq _ _ 4 256 rfl, cut_eq _ _ 4 256 rfl, cut_eq _ _ 4 256 rfl]; exact head4 _ _ _) (by rw [cut_eq _ _ 5 320 rfl, cut_eq _ _ 5 320 rfl, cut_eq _ _ 5 320 rfl]; exact head5 _ _ _) (by rw [cut_eq _ _ 6 384 rfl, cut_eq _ _ 6 384 rfl, cut_eq _ _ 6 384 rfl]; exact head6 _ _ _) (by rw [cut_eq _ _ 7 448 rfl, cut_eq _ _ 7 448 rfl, cut_eq _ _ 7 448 rfl]; exact head7 _ _ _) (by rw [cut_eq _ _ 8 512 rfl, cut_eq _ _ 8 512 rfl, cut_eq _ _ 8 512 rfl]; exact head8 _ _ _) (by rw [cut_eq _ _ 9 576 rfl, cut_eq _ _ 9 576 rfl, cut_eq _ _ 9 576 rfl]; exact head9 _ _ _) (by rw [cut_eq _ _ 10 640 rfl, cut_eq _ _ 10 640 rfl, cut_eq _ _ 10 640 rfl]; exact head10 _ _ _) (by rw [cut_eq _ _ 11 704 rfl, cut_eq _ _ 11 704 rfl, cut_eq _ _ 11 704 rfl]; exact head11 _ _ _) (by rw [cut_eq _ _ 12 768 rfl, cut_eq _ _ 12 768 rfl, cut_eq _ _ 12 768 rfl]; exact head12 _ _ _) (by rw [cut_eq _ _ 13 832 rfl, cut_eq _ _ 13 832 rfl, cut_eq _ _ 13 832 rfl]; exact head13 _ _ _) (by rw [cut_eq _ _ 14 896 rfl, cut_eq _ _ 14 896 rfl, cut_eq _ _ 14 896 rfl]; exact head14 _ _ _) (by rw [cut_eq _ _ 15 960 rfl, cut_eq _ _ 15 960 rfl, cut_eq _ _ 15 960 rfl]; exact head15 _ _ _)
  clear hO
  have eq : Q = AttnIdeal.Own.qs x0 x1 x3 x4 x5 x6 x7 := by
    rw [← hq]
    simp (disch := decide) only [View.read_writes_junk_eq_canon, View.canon_cons_unit_lit', View.ld_unit_lit', View.readCov_unit_lit', View.readCov_cons_unit_lit', View.readAt_eq_ld, Memref.IsWhole.read_unread, shapeCast_self, AttnIdeal.Own.qs, AttnIdeal.Gen.k0_pay7, AttnIdeal.Gen.k0_pay4, AttnIdeal.Gen.k0_pay5, AttnIdeal.Gen.k0_pay6, AttnIdeal.Gen.k0_pay3]
    rfl
  have ek : K = AttnIdeal.Own.ks x0 x1 x3 x4 x8 x9 x10 := by
    rw [← hk]
    simp (disch := decide) only [View.read_writes_junk_eq_canon, View.canon_cons_unit_lit', View.ld_unit_lit', View.readCov_unit_lit', View.readCov_cons_unit_lit', View.readAt_eq_ld, Memref.IsWhole.read_unread, shapeCast_self, AttnIdeal.Own.ks, AttnIdeal.Gen.k0_pay11, AttnIdeal.Gen.k0_pay4, AttnIdeal.Gen.k0_pay5, AttnIdeal.Gen.k0_pay8, AttnIdeal.Gen.k0_pay9, AttnIdeal.Gen.k0_pay10, AttnIdeal.Gen.k0_pay3]
    rfl
  have ev : W = AttnIdeal.Own.vs x0 x1 x11 x12 x13 := by
    rw [← hv]
    rw [vals11]
    simp only [AttnIdeal.Own.vs, AttnIdeal.Gen.k0_pay3, shapeCast_self]
  clear hq hk hv
  subst ho eq ek ev
  rw [out37]; exact norm1 _ _ _ _ _ _

/-- Every window's block index. -/
theorem idx : ∀ t : Fin cfg2.N, win2_0.index t = ![t.val, 0] ∧ win2_1.index t = ![0, 0] ∧ win2_2.index t = ![0, 0] ∧ win2_3.index t = ![0, 0] ∧ win2_4.index t = ![0, 0] ∧ win2_5.index t = ![0, 0] ∧ win2_6.index t = ![0, 0] ∧ win2_7.index t = ![0, 0] ∧ win2_8.index t = ![0, 0] ∧ win2_9.index t = ![0, 0] ∧ win2_10.index t = ![0, 0] ∧ win2_11.index t = ![0, 0] ∧ win2_12.index t = ![0, 0] ∧ win2_13.index t = ![0, 0] ∧ win2_14.index t = ![0, 0] ∧ win2_15.index t = ![0, 0] ∧ win2_16.index t = ![0, 0] ∧ win2_17.index t = ![t.val, 0] ∧ win2_18.index t = ![t.val, 0] :=
  (by decide +kernel : ∀ t : Fin grid2.N, win2_0.index t = ![t.val, 0] ∧ win2_1.index t = ![0, 0] ∧ win2_2.index t = ![0, 0] ∧ win2_3.index t = ![0, 0] ∧ win2_4.index t = ![0, 0] ∧ win2_5.index t = ![0, 0] ∧ win2_6.index t = ![0, 0] ∧ win2_7.index t = ![0, 0] ∧ win2_8.index t = ![0, 0] ∧ win2_9.index t = ![0, 0] ∧ win2_10.index t = ![0, 0] ∧ win2_11.index t = ![0, 0] ∧ win2_12.index t = ![0, 0] ∧ win2_13.index t = ![0, 0] ∧ win2_14.index t = ![0, 0] ∧ win2_15.index t = ![0, 0] ∧ win2_16.index t = ![0, 0] ∧ win2_17.index t = ![t.val, 0] ∧ win2_18.index t = ![t.val, 0])

/-- A point's sequence. -/
def bt (t : Fin cfg2.N) : Fin 2 := ⟨t.val, t.isLt⟩

/-- The call's arrays hold the arguments `A` as it starts. -/
structure Entry (c : Dev nD) (A : Spec.Args) : Prop where
  e0 (i j : Fin 1024) : ((V c main_v71 : FVec Ideal S1024x1024 .f32) (ix2 i j) : EReal) = A.h i j
  e1 (k : Fin 1024) : ((V c main_v100 : FVec Ideal S1x1024 .f32) (ix2 0 k) : EReal) = A.ln1 k
  e2 (k : Fin 1024) : ((V c main_v101 : FVec Ideal S1x1024 .f32) (ix2 0 k) : EReal) = A.ln2 k
  e3 (r : Fin 512) (k : Fin 1024) : ((V c main_v17 : FVec Ideal S512x1024 .f32) (ix2 r k) : EReal) = Ideal.cos (Spec.angles r.val (k.val % 64))
  e4 (r : Fin 512) (k : Fin 1024) : ((V c main_v21 : FVec Ideal S512x1024 .f32) (ix2 r k) : EReal) = Ideal.sin (Spec.angles r.val (k.val % 64))
  e5 (i : Fin 1024) (j : Fin 1024) : ((V c main_v77 : FVec Ideal S1024x1024 .f32) (ix2 i j) : EReal) = A.wq i j
  e6 (i : Fin 1024) (j : Fin 16) : ((V c main_v79 : FVec Ideal S1024x16 .f32) (ix2 i j) : EReal) = A.aq i j
  e7 (i : Fin 16) (j : Fin 1024) : ((V c main_v81 : FVec Ideal S16x1024 .f32) (ix2 i j) : EReal) = A.bq i j
  e8 (i : Fin 1024) (j : Fin 1024) : ((V c main_v83 : FVec Ideal S1024x1024 .f32) (ix2 i j) : EReal) = A.wk i j
  e9 (i : Fin 1024) (j : Fin 16) : ((V c main_v85 : FVec Ideal S1024x16 .f32) (ix2 i j) : EReal) = A.ak i j
  e10 (i : Fin 16) (j : Fin 1024) : ((V c main_v87 : FVec Ideal S16x1024 .f32) (ix2 i j) : EReal) = A.bk i j
  e11 (i : Fin 1024) (j : Fin 1024) : ((V c main_v89 : FVec Ideal S1024x1024 .f32) (ix2 i j) : EReal) = A.wv i j
  e12 (i : Fin 1024) (j : Fin 16) : ((V c main_v91 : FVec Ideal S1024x16 .f32) (ix2 i j) : EReal) = A.av i j
  e13 (i : Fin 16) (j : Fin 1024) : ((V c main_v93 : FVec Ideal S16x1024 .f32) (ix2 i j) : EReal) = A.bv i j
  e14 (i : Fin 1024) (j : Fin 1024) : ((V c main_v95 : FVec Ideal S1024x1024 .f32) (ix2 i j) : EReal) = A.wo i j
  e15 (i : Fin 1024) (j : Fin 16) : ((V c main_v97 : FVec Ideal S1024x16 .f32) (ix2 i j) : EReal) = A.ao i j
  e16 (i : Fin 16) (j : Fin 1024) : ((V c main_v99 : FVec Ideal S16x1024 .f32) (ix2 i j) : EReal) = A.bo i j

theorem blk0 (c : Dev nD) (p : Fin cfg2.N) (r : Fin 512) (k : Fin 1024) : (iblk V c 0 p : FVec Ideal S512x1024 .f32) (ix2 r k) = (V c main_v71 : FVec Ideal S1024x1024 .f32) (ix2 (AttnIdeal.Own.row (bt p) r) k) := by
  unfold AttnIdeal.Own.row bt
  blk_point [iblk, idx p]
theorem blk1 (c : Dev nD) (p : Fin cfg2.N) (k : Fin 1024) : (iblk V c 1 p : FVec Ideal S1x1024 .f32) (ix2 0 k) = (V c main_v100 : FVec Ideal S1x1024 .f32) (ix2 0 k) := by
  blk_point [iblk, idx p]
theorem blk2 (c : Dev nD) (p : Fin cfg2.N) (k : Fin 1024) : (iblk V c 2 p : FVec Ideal S1x1024 .f32) (ix2 0 k) = (V c main_v101 : FVec Ideal S1x1024 .f32) (ix2 0 k) := by
  blk_point [iblk, idx p]
theorem blk3 (c : Dev nD) (p : Fin cfg2.N) (i : Fin 512) (j : Fin 1024) : (iblk V c 3 p : FVec Ideal S512x1024 .f32) (ix2 i j) = (V c main_v17 : FVec Ideal S512x1024 .f32) (ix2 i j) := by
  blk_point [iblk, idx p]
theorem blk4 (c : Dev nD) (p : Fin cfg2.N) (i : Fin 512) (j : Fin 1024) : (iblk V c 4 p : FVec Ideal S512x1024 .f32) (ix2 i j) = (V c main_v21 : FVec Ideal S512x1024 .f32) (ix2 i j) := by
  blk_point [iblk, idx p]
theorem blk5 (c : Dev nD) (p : Fin cfg2.N) (i : Fin 1024) (j : Fin 1024) : (iblk V c 5 p : FVec Ideal S1024x1024 .f32) (ix2 i j) = (V c main_v77 : FVec Ideal S1024x1024 .f32) (ix2 i j) := by
  blk_point [iblk, idx p]
theorem blk6 (c : Dev nD) (p : Fin cfg2.N) (i : Fin 1024) (j : Fin 16) : (iblk V c 6 p : FVec Ideal S1024x16 .f32) (ix2 i j) = (V c main_v79 : FVec Ideal S1024x16 .f32) (ix2 i j) := by
  blk_point [iblk, idx p]
theorem blk7 (c : Dev nD) (p : Fin cfg2.N) (i : Fin 16) (j : Fin 1024) : (iblk V c 7 p : FVec Ideal S16x1024 .f32) (ix2 i j) = (V c main_v81 : FVec Ideal S16x1024 .f32) (ix2 i j) := by
  blk_point [iblk, idx p]
theorem blk8 (c : Dev nD) (p : Fin cfg2.N) (i : Fin 1024) (j : Fin 1024) : (iblk V c 8 p : FVec Ideal S1024x1024 .f32) (ix2 i j) = (V c main_v83 : FVec Ideal S1024x1024 .f32) (ix2 i j) := by
  blk_point [iblk, idx p]
theorem blk9 (c : Dev nD) (p : Fin cfg2.N) (i : Fin 1024) (j : Fin 16) : (iblk V c 9 p : FVec Ideal S1024x16 .f32) (ix2 i j) = (V c main_v85 : FVec Ideal S1024x16 .f32) (ix2 i j) := by
  blk_point [iblk, idx p]
theorem blk10 (c : Dev nD) (p : Fin cfg2.N) (i : Fin 16) (j : Fin 1024) : (iblk V c 10 p : FVec Ideal S16x1024 .f32) (ix2 i j) = (V c main_v87 : FVec Ideal S16x1024 .f32) (ix2 i j) := by
  blk_point [iblk, idx p]
theorem blk11 (c : Dev nD) (p : Fin cfg2.N) (i : Fin 1024) (j : Fin 1024) : (iblk V c 11 p : FVec Ideal S1024x1024 .f32) (ix2 i j) = (V c main_v89 : FVec Ideal S1024x1024 .f32) (ix2 i j) := by
  blk_point [iblk, idx p]
theorem blk12 (c : Dev nD) (p : Fin cfg2.N) (i : Fin 1024) (j : Fin 16) : (iblk V c 12 p : FVec Ideal S1024x16 .f32) (ix2 i j) = (V c main_v91 : FVec Ideal S1024x16 .f32) (ix2 i j) := by
  blk_point [iblk, idx p]
theorem blk13 (c : Dev nD) (p : Fin cfg2.N) (i : Fin 16) (j : Fin 1024) : (iblk V c 13 p : FVec Ideal S16x1024 .f32) (ix2 i j) = (V c main_v93 : FVec Ideal S16x1024 .f32) (ix2 i j) := by
  blk_point [iblk, idx p]
theorem blk14 (c : Dev nD) (p : Fin cfg2.N) (i : Fin 1024) (j : Fin 1024) : (iblk V c 14 p : FVec Ideal S1024x1024 .f32) (ix2 i j) = (V c main_v95 : FVec Ideal S1024x1024 .f32) (ix2 i j) := by
  blk_point [iblk, idx p]
theorem blk15 (c : Dev nD) (p : Fin cfg2.N) (i : Fin 1024) (j : Fin 16) : (iblk V c 15 p : FVec Ideal S1024x16 .f32) (ix2 i j) = (V c main_v97 : FVec Ideal S1024x16 .f32) (ix2 i j) := by
  blk_point [iblk, idx p]
theorem blk16 (c : Dev nD) (p : Fin cfg2.N) (i : Fin 16) (j : Fin 1024) : (iblk V c 16 p : FVec Ideal S16x1024 .f32) (ix2 i j) = (V c main_v99 : FVec Ideal S16x1024 .f32) (ix2 i j) := by
  blk_point [iblk, idx p]
theorem emb17 (t : Fin cfg2.N) (y : S512x1024.Idx) : (win2_17.blk t).view.emb y = ix2 (AttnIdeal.Own.row (bt t) (y 0)) (y 1) := by
  unfold AttnIdeal.Own.row bt
  blk_point [idx t]
theorem emb18 (t : Fin cfg2.N) (y : S512x1024.Idx) : (win2_18.blk t).view.emb y = ix2 (AttnIdeal.Own.row (bt t) (y 0)) (y 1) := by
  unfold AttnIdeal.Own.row bt
  blk_point [idx t]

theorem holds {c : Dev nD} {A : Spec.Args} (hE : Entry V c A) (t : Fin cfg2.N) : AttnIdeal.Own.Holds (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) A (bt t) where
  e0 i j := (blk0 V c t i j).trans (hE.e0 _ j)
  e1 k := (blk1 V c t k).trans (hE.e1 k)
  e2 k := (blk2 V c t k).trans (hE.e2 k)
  e3 i j := (blk3 V c t i j).trans (hE.e3 i j)
  e4 i j := (blk4 V c t i j).trans (hE.e4 i j)
  e5 i j := (blk5 V c t i j).trans (hE.e5 i j)
  e6 i j := (blk6 V c t i j).trans (hE.e6 i j)
  e7 i j := (blk7 V c t i j).trans (hE.e7 i j)
  e8 i j := (blk8 V c t i j).trans (hE.e8 i j)
  e9 i j := (blk9 V c t i j).trans (hE.e9 i j)
  e10 i j := (blk10 V c t i j).trans (hE.e10 i j)
  e11 i j := (blk11 V c t i j).trans (hE.e11 i j)
  e12 i j := (blk12 V c t i j).trans (hE.e12 i j)
  e13 i j := (blk13 V c t i j).trans (hE.e13 i j)
  e14 i j := (blk14 V c t i j).trans (hE.e14 i j)
  e15 i j := (blk15 V c t i j).trans (hE.e15 i j)
  e16 i j := (blk16 V c t i j).trans (hE.e16 i j)

theorem outs_1 (c : Dev nD) (t : Fin cfg2.N) : ((outsAt2 (F := Ideal) (Ix := Unit) (U := UR sig nD τ) (Lvl := ℕ) Variants.none V c t).1 : FVec Ideal S512x1024 .f32) = AttnIdeal.Own.hs (iblk V c 0 t) (iblk V c 1 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) := by
  unfold outsAt2
  dsimp only
  exact out_17 c t (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t)

theorem outs_2 (c : Dev nD) (t : Fin cfg2.N) : ((outsAt2 (F := Ideal) (Ix := Unit) (U := UR sig nD τ) (Lvl := ℕ) Variants.none V c t).2 : FVec Ideal S512x1024 .bf16) = AttnIdeal.Own.xs (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) := by
  unfold outsAt2
  dsimp only
  exact out_18 c t (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t)

/-- No core owes anything. -/
abbrev D₀ : Dev nD → CellTallies nD τ sig Unit := fun _ => 0

theorem final_17 {c : Dev nD} {A : Spec.Args} (hE : Entry V c A) : (dat (F := Ideal) (Ix := Unit) (U := UR sig nD τ) (Lvl := ℕ) Variants.none V D₀ c).arrAt 17 cfg2.N = AttnIdeal.Own.result1 A := by
  refine (dat (F := Ideal) (Ix := Unit) (U := UR sig nD τ) (Lvl := ℕ) Variants.none V D₀ c).arrAt_eq_of_covers 17 _ (by decide +kernel) fun t hf y => ?_
  blk_simp
  rw [after2_17]
  refine Eq.trans (congrArg (outsAt2 (F := Ideal) (Ix := Unit) (U := UR sig nD τ) (Lvl := ℕ) Variants.none V c t).1 (ix2_eta (n0 := 512) (n1 := 1024) y).symm) ?_
  refine Eq.trans ?_ (congrArg _ (emb17 t y).symm)
  rw [outs_1]
  exact (AttnIdeal.Own.hs_at (holds V hE t) (y 0) (y 1)).trans (AttnIdeal.Own.result1_row _ (bt t) (y 0) (y 1)).symm

theorem final_18 {c : Dev nD} {A : Spec.Args} (hE : Entry V c A) : (dat (F := Ideal) (Ix := Unit) (U := UR sig nD τ) (Lvl := ℕ) Variants.none V D₀ c).arrAt 18 cfg2.N = AttnIdeal.Own.result2 A := by
  refine (dat (F := Ideal) (Ix := Unit) (U := UR sig nD τ) (Lvl := ℕ) Variants.none V D₀ c).arrAt_eq_of_covers 18 _ (by decide +kernel) fun t hf y => ?_
  blk_simp
  rw [after2_18]
  refine Eq.trans (congrArg (outsAt2 (F := Ideal) (Ix := Unit) (U := UR sig nD τ) (Lvl := ℕ) Variants.none V c t).2 (ix2_eta (n0 := 512) (n1 := 1024) y).symm) ?_
  refine Eq.trans ?_ (congrArg _ (emb18 t y).symm)
  rw [outs_2]
  exact (AttnIdeal.Own.xs_at (holds V hE t) (y 0) (y 1)).trans (AttnIdeal.Own.result2_row _ (bt t) (y 0) (y 1)).symm

end Cert.LayersIdeal.Own.K2
end
-- ==== Proof.LayersMlp1V.lean ====
/- What a feed-forward call among the calls chained leaves in its result. -/
module
public import Idealize.ShloMosaic.Lib.Claim
public import Idealize.ShloMosaic.Lib.Pipeline.ReadBack
public import proofs.«01_k».proof.Proof.LayersMlp1I
public import proofs.«01_k».proof.Proof.MlpValue
@[expose] public section
set_option maxRecDepth 16384
noncomputable section
open Idealize.ShloMosaic Idealize.ShloMosaic.TcCoe Idealize.SL.Sem
open Idealize.ShloMosaic.Pipeline (Dat)
namespace Cert.LayersIdeal.Own.K1
open Cert.LayersIdeal Cert.LayersIdeal.Gen
variable (V : (c : Dev nD) → (b : Ref sig .tc) → Buf (Elt Ideal) ((c : Thread nD τ).loc b))

/-- Every window's block index. -/
theorem idx : ∀ t : Fin cfg1.N, win1_0.index t = ![t.val / 4, 0] ∧ win1_1.index t = ![t.val / 4, 0] ∧ win1_2.index t = ![0, t.val % 4] ∧ win1_3.index t = ![0, 0] ∧ win1_4.index t = ![0, t.val % 4] ∧ win1_5.index t = ![0, t.val % 4] ∧ win1_6.index t = ![0, 0] ∧ win1_7.index t = ![0, t.val % 4] ∧ win1_8.index t = ![t.val % 4, 0] ∧ win1_9.index t = ![t.val % 4, 0] ∧ win1_10.index t = ![0, 0] ∧ win1_11.index t = ![t.val / 4, 0] :=
  (by decide +kernel : ∀ t : Fin grid1.N, win1_0.index t = ![t.val / 4, 0] ∧ win1_1.index t = ![t.val / 4, 0] ∧ win1_2.index t = ![0, t.val % 4] ∧ win1_3.index t = ![0, 0] ∧ win1_4.index t = ![0, t.val % 4] ∧ win1_5.index t = ![0, t.val % 4] ∧ win1_6.index t = ![0, 0] ∧ win1_7.index t = ![0, t.val % 4] ∧ win1_8.index t = ![t.val % 4, 0] ∧ win1_9.index t = ![t.val % 4, 0] ∧ win1_10.index t = ![0, 0] ∧ win1_11.index t = ![t.val / 4, 0])

/-- A point of the grid, as a number below eight. -/
def pt (t : Fin cfg1.N) : Fin 8 := ⟨t.val, t.isLt⟩

theorem blk0 (c : Dev nD) (p : Fin cfg1.N) (i : Fin 512) (j : Fin 1024) : (iblk V c 0 p : FVec Ideal S512x1024 .bf16) (ix2 i j) = (V c main_v52_1 : FVec Ideal S1024x1024 .bf16) (ix2 (MlpIdeal.Own.row (pt p) i) j) := by
  unfold MlpIdeal.Own.row pt
  blk_point [iblk, idx p]
theorem blk1 (c : Dev nD) (p : Fin cfg1.N) (i : Fin 512) (j : Fin 1024) : (iblk V c 1 p : FVec Ideal S512x1024 .f32) (ix2 i j) = (V c main_v52_0 : FVec Ideal S1024x1024 .f32) (ix2 (MlpIdeal.Own.row (pt p) i) j) := by
  unfold MlpIdeal.Own.row pt
  blk_point [iblk, idx p]
theorem blk2 (c : Dev nD) (p : Fin cfg1.N) (i : Fin 1024) (j : Fin 1024) : (iblk V c 2 p : FVec Ideal S1024x1024 .f32) (ix2 i j) = (V c main_v54 : FVec Ideal S1024x4096 .f32) (ix2 i (MlpIdeal.Own.inn (pt p) j)) := by
  unfold MlpIdeal.Own.inn pt
  blk_point [iblk, idx p]
theorem blk3 (c : Dev nD) (p : Fin cfg1.N) (i : Fin 1024) (j : Fin 16) : (iblk V c 3 p : FVec Ideal S1024x16 .f32) (ix2 i j) = (V c main_v56 : FVec Ideal S1024x16 .f32) (ix2 i j) := by
  blk_point [iblk, idx p]
theorem blk4 (c : Dev nD) (p : Fin cfg1.N) (i : Fin 16) (j : Fin 1024) : (iblk V c 4 p : FVec Ideal S16x1024 .f32) (ix2 i j) = (V c main_v58 : FVec Ideal S16x4096 .f32) (ix2 i (MlpIdeal.Own.inn (pt p) j)) := by
  unfold MlpIdeal.Own.inn pt
  blk_point [iblk, idx p]
theorem blk5 (c : Dev nD) (p : Fin cfg1.N) (i : Fin 1024) (j : Fin 1024) : (iblk V c 5 p : FVec Ideal S1024x1024 .f32) (ix2 i j) = (V c main_v60 : FVec Ideal S1024x4096 .f32) (ix2 i (MlpIdeal.Own.inn (pt p) j)) := by
  unfold MlpIdeal.Own.inn pt
  blk_point [iblk, idx p]
theorem blk6 (c : Dev nD) (p : Fin cfg1.N) (i : Fin 1024) (j : Fin 16) : (iblk V c 6 p : FVec Ideal S1024x16 .f32) (ix2 i j) = (V c main_v62 : FVec Ideal S1024x16 .f32) (ix2 i j) := by
  blk_point [iblk, idx p]
theorem blk7 (c : Dev nD) (p : Fin cfg1.N) (i : Fin 16) (j : Fin 1024) : (iblk V c 7 p : FVec Ideal S16x1024 .f32) (ix2 i j) = (V c main_v64 : FVec Ideal S16x4096 .f32) (ix2 i (MlpIdeal.Own.inn (pt p) j)) := by
  unfold MlpIdeal.Own.inn pt
  blk_point [iblk, idx p]
theorem blk8 (c : Dev nD) (p : Fin cfg1.N) (i : Fin 1024) (j : Fin 1024) : (iblk V c 8 p : FVec Ideal S1024x1024 .f32) (ix2 i j) = (V c main_v66 : FVec Ideal S4096x1024 .f32) (ix2 (MlpIdeal.Own.inn (pt p) i) j) := by
  unfold MlpIdeal.Own.inn pt
  blk_point [iblk, idx p]
theorem blk9 (c : Dev nD) (p : Fin cfg1.N) (i : Fin 1024) (j : Fin 16) : (iblk V c 9 p : FVec Ideal S1024x16 .f32) (ix2 i j) = (V c main_v68 : FVec Ideal S4096x16 .f32) (ix2 (MlpIdeal.Own.inn (pt p) i) j) := by
  unfold MlpIdeal.Own.inn pt
  blk_point [iblk, idx p]
theorem blk10 (c : Dev nD) (p : Fin cfg1.N) (i : Fin 16) (j : Fin 1024) : (iblk V c 10 p : FVec Ideal S16x1024 .f32) (ix2 i j) = (V c main_v70 : FVec Ideal S16x1024 .f32) (ix2 i j) := by
  blk_point [iblk, idx p]
theorem emb11 (t : Fin cfg1.N) (y : S512x1024.Idx) : (win1_11.blk t).view.emb y = ix2 (MlpIdeal.Own.row (pt t) (y 0)) (y 1) := by
  unfold MlpIdeal.Own.row pt
  blk_point [idx t]

theorem pay_first
    (x : FVec Ideal S512x1024 .bf16) (wg : FVec Ideal S1024x1024 .f32) (ag : FVec Ideal S1024x16 .f32) (bg : FVec Ideal S16x1024 .f32)
    (wu : FVec Ideal S1024x1024 .f32) (au : FVec Ideal S1024x16 .f32) (bu : FVec Ideal S16x1024 .f32)
    (wd : FVec Ideal S1024x1024 .f32) (ad : FVec Ideal S1024x16 .f32) (bd : FVec Ideal S16x1024 .f32) (acc : FVec Ideal S512x1024 .f32) (j : S512x1024.Idx) :
    k1_pay2 (F := Ideal) (k1_pay5 x wu au bu) (k1_pay6 x wg ag bg) wd ad bd acc j = acc j + MlpIdeal.Own.part x wg ag bg wu au bu wd ad bd (j 0) (j 1) := by
  pointwise [k1_pay2, k1_pay1, k1_pay4, k1_pay5, k1_pay6, MlpIdeal.Own.part, Spec.lora, Spec.gated, Spec.two]

theorem pay_later
    (x : FVec Ideal S512x1024 .bf16) (wg : FVec Ideal S1024x1024 .f32) (ag : FVec Ideal S1024x16 .f32) (bg : FVec Ideal S16x1024 .f32)
    (wu : FVec Ideal S1024x1024 .f32) (au : FVec Ideal S1024x16 .f32) (bu : FVec Ideal S16x1024 .f32)
    (wd : FVec Ideal S1024x1024 .f32) (ad : FVec Ideal S1024x16 .f32) (bd : FVec Ideal S16x1024 .f32) (acc : FVec Ideal S512x1024 .f32) (j : S512x1024.Idx) :
    k1_pay3 (F := Ideal) (k1_pay5 x wu au bu) (k1_pay6 x wg ag bg) wd ad bd acc j = acc j + MlpIdeal.Own.part x wg ag bg wu au bu wd ad bd (j 0) (j 1) := by
  pointwise [k1_pay3, k1_pay1, k1_pay4, k1_pay5, k1_pay6, MlpIdeal.Own.part, Spec.lora, Spec.gated, Spec.two]

/-- What a point adds, from the call's arrays. -/
theorem part_eq (c : Dev nD) (t : Fin cfg1.N) (r : Fin 512) (d : Fin 1024) : MlpIdeal.Own.part (iblk V c 0 t) (iblk V c 2 t) (iblk V c 3 t) (iblk V c 4 t) (iblk V c 5 t) (iblk V c 6 t) (iblk V c 7 t) (iblk V c 8 t) (iblk V c 9 t) (iblk V c 10 t) r d = MlpIdeal.Own.share (V c main_v52_1) (V c main_v54) (V c main_v56) (V c main_v58) (V c main_v60) (V c main_v62) (V c main_v64) (V c main_v66) (V c main_v68) (V c main_v70) (pt t) r d := by
  simp only [MlpIdeal.Own.part, MlpIdeal.Own.share, MlpIdeal.Own.mid, Spec.lora, blk0, blk2, blk3, blk4, blk5, blk6, blk7, blk8, blk9, blk10]

theorem at_first (c : Dev nD) (t : Fin cfg1.N) (h : t.val % 4 = 0) (r : Fin 512) (d : Fin 1024) :
    (accAt V c t.val t.isLt (ix2 r d) : EReal) = HAdd.hAdd (α := EReal) (β := EReal) (γ := EReal) ((V c main_v52_0 : FVec Ideal S1024x1024 .f32) (ix2 (MlpIdeal.Own.row (pt t) r) d)) (MlpIdeal.Own.share (V c main_v52_1) (V c main_v54) (V c main_v56) (V c main_v58) (V c main_v60) (V c main_v62) (V c main_v64) (V c main_v66) (V c main_v68) (V c main_v70) (pt t) r d) := by
  rw [accAt_first V c t h]
  unfold first
  rw [pay_first]
  exact congrArg₂ (· + ·) (blk1 V c t r d) (part_eq V c t r d)

theorem at_later (c : Dev nD) (t : Fin cfg1.N) (h : ¬ t.val % 4 = 0) (r : Fin 512) (d : Fin 1024) :
    (accAt V c t.val t.isLt (ix2 r d) : EReal) = accAt V c (t.val - 1) (Nat.lt_of_le_of_lt (Nat.sub_le _ _) t.isLt) (ix2 r d) + MlpIdeal.Own.share (V c main_v52_1) (V c main_v54) (V c main_v56) (V c main_v58) (V c main_v60) (V c main_v62) (V c main_v64) (V c main_v66) (V c main_v68) (V c main_v70) (pt t) r d := by
  rw [accAt_later V c t h (Nat.lt_of_le_of_lt (Nat.sub_le _ _) t.isLt)]
  unfold later
  rw [pay_later]
  exact congrArg₂ (· + ·) rfl (part_eq V c t r d)

theorem final_11 (c : Dev nD) (hR : MlpIdeal.Own.Real (V c main_v52_1) (V c main_v54) (V c main_v56) (V c main_v58) (V c main_v60) (V c main_v62) (V c main_v64) (V c main_v68) (V c main_v70)) :
    (dat V c).arrAt 11 cfg1.N = MlpIdeal.Own.result (V c main_v52_1) (V c main_v52_0) (V c main_v54) (V c main_v56) (V c main_v58) (V c main_v60) (V c main_v62) (V c main_v64) (V c main_v66) (V c main_v68) (V c main_v70) := by
  refine (dat V c).arrAt_eq_of_covers 11 _ (by decide +kernel) fun t hf y => ?_
  blk_simp
  rw [after_11]
  refine Eq.trans (congrArg (accAt V c t.val t.isLt) (ix2_eta (n0 := 512) (n1 := 1024) y).symm) ?_
  refine Eq.trans ?_ (congrArg _ (emb11 t y).symm)
  exact MlpIdeal.Own.last_of hR (fun n h r d => accAt V c n h (ix2 r d)) (fun t h r d => at_first V c t h r d) (fun t h r d => at_later V c t h r d) (pt t) ((flush1_11 t).mp hf) (y 0) (y 1)

end Cert.LayersIdeal.Own.K1
end
-- ==== Proof.LayersMlp3V.lean ====
/- What a feed-forward call among the calls chained leaves in its result. -/
module
public import Idealize.ShloMosaic.Lib.Claim
public import Idealize.ShloMosaic.Lib.Pipeline.ReadBack
public import proofs.«01_k».proof.Proof.LayersMlp3I
public import proofs.«01_k».proof.Proof.MlpValue
@[expose] public section
set_option maxRecDepth 16384
noncomputable section
open Idealize.ShloMosaic Idealize.ShloMosaic.TcCoe Idealize.SL.Sem
open Idealize.ShloMosaic.Pipeline (Dat)
namespace Cert.LayersIdeal.Own.K3
open Cert.LayersIdeal Cert.LayersIdeal.Gen
variable (V : (c : Dev nD) → (b : Ref sig .tc) → Buf (Elt Ideal) ((c : Thread nD τ).loc b))

/-- Every window's block index. -/
theorem idx : ∀ t : Fin cfg3.N, win3_0.index t = ![t.val / 4, 0] ∧ win3_1.index t = ![t.val / 4, 0] ∧ win3_2.index t = ![0, t.val % 4] ∧ win3_3.index t = ![0, 0] ∧ win3_4.index t = ![0, t.val % 4] ∧ win3_5.index t = ![0, t.val % 4] ∧ win3_6.index t = ![0, 0] ∧ win3_7.index t = ![0, t.val % 4] ∧ win3_8.index t = ![t.val % 4, 0] ∧ win3_9.index t = ![t.val % 4, 0] ∧ win3_10.index t = ![0, 0] ∧ win3_11.index t = ![t.val / 4, 0] :=
  (by decide +kernel : ∀ t : Fin grid3.N, win3_0.index t = ![t.val / 4, 0] ∧ win3_1.index t = ![t.val / 4, 0] ∧ win3_2.index t = ![0, t.val % 4] ∧ win3_3.index t = ![0, 0] ∧ win3_4.index t = ![0, t.val % 4] ∧ win3_5.index t = ![0, t.val % 4] ∧ win3_6.index t = ![0, 0] ∧ win3_7.index t = ![0, t.val % 4] ∧ win3_8.index t = ![t.val % 4, 0] ∧ win3_9.index t = ![t.val % 4, 0] ∧ win3_10.index t = ![0, 0] ∧ win3_11.index t = ![t.val / 4, 0])

/-- A point of the grid, as a number below eight. -/
def pt (t : Fin cfg3.N) : Fin 8 := ⟨t.val, t.isLt⟩

theorem blk0 (c : Dev nD) (p : Fin cfg3.N) (i : Fin 512) (j : Fin 1024) : (iblk V c 0 p : FVec Ideal S512x1024 .bf16) (ix2 i j) = (V c main_v102_1 : FVec Ideal S1024x1024 .bf16) (ix2 (MlpIdeal.Own.row (pt p) i) j) := by
  unfold MlpIdeal.Own.row pt
  blk_point [iblk, idx p]
theorem blk1 (c : Dev nD) (p : Fin cfg3.N) (i : Fin 512) (j : Fin 1024) : (iblk V c 1 p : FVec Ideal S512x1024 .f32) (ix2 i j) = (V c main_v102_0 : FVec Ideal S1024x1024 .f32) (ix2 (MlpIdeal.Own.row (pt p) i) j) := by
  unfold MlpIdeal.Own.row pt
  blk_point [iblk, idx p]
theorem blk2 (c : Dev nD) (p : Fin cfg3.N) (i : Fin 1024) (j : Fin 1024) : (iblk V c 2 p : FVec Ideal S1024x1024 .f32) (ix2 i j) = (V c main_v104 : FVec Ideal S1024x4096 .f32) (ix2 i (MlpIdeal.Own.inn (pt p) j)) := by
  unfold MlpIdeal.Own.inn pt
  blk_point [iblk, idx p]
theorem blk3 (c : Dev nD) (p : Fin cfg3.N) (i : Fin 1024) (j : Fin 16) : (iblk V c 3 p : FVec Ideal S1024x16 .f32) (ix2 i j) = (V c main_v106 : FVec Ideal S1024x16 .f32) (ix2 i j) := by
  blk_point [iblk, idx p]
theorem blk4 (c : Dev nD) (p : Fin cfg3.N) (i : Fin 16) (j : Fin 1024) : (iblk V c 4 p : FVec Ideal S16x1024 .f32) (ix2 i j) = (V c main_v108 : FVec Ideal S16x4096 .f32) (ix2 i (MlpIdeal.Own.inn (pt p) j)) := by
  unfold MlpIdeal.Own.inn pt
  blk_point [iblk, idx p]
theorem blk5 (c : Dev nD) (p : Fin cfg3.N) (i : Fin 1024) (j : Fin 1024) : (iblk V c 5 p : FVec Ideal S1024x1024 .f32) (ix2 i j) = (V c main_v110 : FVec Ideal S1024x4096 .f32) (ix2 i (MlpIdeal.Own.inn (pt p) j)) := by
  unfold MlpIdeal.Own.inn pt
  blk_point [iblk, idx p]
theorem blk6 (c : Dev nD) (p : Fin cfg3.N) (i : Fin 1024) (j : Fin 16) : (iblk V c 6 p : FVec Ideal S1024x16 .f32) (ix2 i j) = (V c main_v112 : FVec Ideal S1024x16 .f32) (ix2 i j) := by
  blk_point [iblk, idx p]
theorem blk7 (c : Dev nD) (p : Fin cfg3.N) (i : Fin 16) (j : Fin 1024) : (iblk V c 7 p : FVec Ideal S16x1024 .f32) (ix2 i j) = (V c main_v114 : FVec Ideal S16x4096 .f32) (ix2 i (MlpIdeal.Own.inn (pt p) j)) := by
  unfold MlpIdeal.Own.inn pt
  blk_point [iblk, idx p]
theorem blk8 (c : Dev nD) (p : Fin cfg3.N) (i : Fin 1024) (j : Fin 1024) : (iblk V c 8 p : FVec Ideal S1024x1024 .f32) (ix2 i j) = (V c main_v116 : FVec Ideal S4096x1024 .f32) (ix2 (MlpIdeal.Own.inn (pt p) i) j) := by
  unfold MlpIdeal.Own.inn pt
  blk_point [iblk, idx p]
theorem blk9 (c : Dev nD) (p : Fin cfg3.N) (i : Fin 1024) (j : Fin 16) : (iblk V c 9 p : FVec Ideal S1024x16 .f32) (ix2 i j) = (V c main_v118 : FVec Ideal S4096x16 .f32) (ix2 (MlpIdeal.Own.inn (pt p) i) j) := by
  unfold MlpIdeal.Own.inn pt
  blk_point [iblk, idx p]
theorem blk10 (c : Dev nD) (p : Fin cfg3.N) (i : Fin 16) (j : Fin 1024) : (iblk V c 10 p : FVec Ideal S16x1024 .f32) (ix2 i j) = (V c main_v120 : FVec Ideal S16x1024 .f32) (ix2 i j) := by
  blk_point [iblk, idx p]
theorem emb11 (t : Fin cfg3.N) (y : S512x1024.Idx) : (win3_11.blk t).view.emb y = ix2 (MlpIdeal.Own.row (pt t) (y 0)) (y 1) := by
  unfold MlpIdeal.Own.row pt
  blk_point [idx t]

theorem pay_first
    (x : FVec Ideal S512x1024 .bf16) (wg : FVec Ideal S1024x1024 .f32) (ag : FVec Ideal S1024x16 .f32) (bg : FVec Ideal S16x1024 .f32)
    (wu : FVec Ideal S1024x1024 .f32) (au : FVec Ideal S1024x16 .f32) (bu : FVec Ideal S16x1024 .f32)
    (wd : FVec Ideal S1024x1024 .f32) (ad : FVec Ideal S1024x16 .f32) (bd : FVec Ideal S16x1024 .f32) (acc : FVec Ideal S512x1024 .f32) (j : S512x1024.Idx) :
    k3_pay2 (F := Ideal) (k3_pay5 x wu au bu) (k3_pay6 x wg ag bg) wd ad bd acc j = acc j + MlpIdeal.Own.part x wg ag bg wu au bu wd ad bd (j 0) (j 1) := by
  pointwise [k3_pay2, k3_pay1, k3_pay4, k3_pay5, k3_pay6, MlpIdeal.Own.part, Spec.lora, Spec.gated, Spec.two]

theorem pay_later
    (x : FVec Ideal S512x1024 .bf16) (wg : FVec Ideal S1024x1024 .f32) (ag : FVec Ideal S1024x16 .f32) (bg : FVec Ideal S16x1024 .f32)
    (wu : FVec Ideal S1024x1024 .f32) (au : FVec Ideal S1024x16 .f32) (bu : FVec Ideal S16x1024 .f32)
    (wd : FVec Ideal S1024x1024 .f32) (ad : FVec Ideal S1024x16 .f32) (bd : FVec Ideal S16x1024 .f32) (acc : FVec Ideal S512x1024 .f32) (j : S512x1024.Idx) :
    k3_pay3 (F := Ideal) (k3_pay5 x wu au bu) (k3_pay6 x wg ag bg) wd ad bd acc j = acc j + MlpIdeal.Own.part x wg ag bg wu au bu wd ad bd (j 0) (j 1) := by
  pointwise [k3_pay3, k3_pay1, k3_pay4, k3_pay5, k3_pay6, MlpIdeal.Own.part, Spec.lora, Spec.gated, Spec.two]

/-- What a point adds, from the call's arrays. -/
theorem part_eq (c : Dev nD) (t : Fin cfg3.N) (r : Fin 512) (d : Fin 1024) : MlpIdeal.Own.part (iblk V c 0 t) (iblk V c 2 t) (iblk V c 3 t) (iblk V c 4 t) (iblk V c 5 t) (iblk V c 6 t) (iblk V c 7 t) (iblk V c 8 t) (iblk V c 9 t) (iblk V c 10 t) r d = MlpIdeal.Own.share (V c main_v102_1) (V c main_v104) (V c main_v106) (V c main_v108) (V c main_v110) (V c main_v112) (V c main_v114) (V c main_v116) (V c main_v118) (V c main_v120) (pt t) r d := by
  simp only [MlpIdeal.Own.part, MlpIdeal.Own.share, MlpIdeal.Own.mid, Spec.lora, blk0, blk2, blk3, blk4, blk5, blk6, blk7, blk8, blk9, blk10]

theorem at_first (c : Dev nD) (t : Fin cfg3.N) (h : t.val % 4 = 0) (r : Fin 512) (d : Fin 1024) :
    (accAt V c t.val t.isLt (ix2 r d) : EReal) = HAdd.hAdd (α := EReal) (β := EReal) (γ := EReal) ((V c main_v102_0 : FVec Ideal S1024x1024 .f32) (ix2 (MlpIdeal.Own.row (pt t) r) d)) (MlpIdeal.Own.share (V c main_v102_1) (V c main_v104) (V c main_v106) (V c main_v108) (V c main_v110) (V c main_v112) (V c main_v114) (V c main_v116) (V c main_v118) (V c main_v120) (pt t) r d) := by
  rw [accAt_first V c t h]
  unfold first
  rw [pay_first]
  exact congrArg₂ (· + ·) (blk1 V c t r d) (part_eq V c t r d)

theorem at_later (c : Dev nD) (t : Fin cfg3.N) (h : ¬ t.val % 4 = 0) (r : Fin 512) (d : Fin 1024) :
    (accAt V c t.val t.isLt (ix2 r d) : EReal) = accAt V c (t.val - 1) (Nat.lt_of_le_of_lt (Nat.sub_le _ _) t.isLt) (ix2 r d) + MlpIdeal.Own.share (V c main_v102_1) (V c main_v104) (V c main_v106) (V c main_v108) (V c main_v110) (V c main_v112) (V c main_v114) (V c main_v116) (V c main_v118) (V c main_v120) (pt t) r d := by
  rw [accAt_later V c t h (Nat.lt_of_le_of_lt (Nat.sub_le _ _) t.isLt)]
  unfold later
  rw [pay_later]
  exact congrArg₂ (· + ·) rfl (part_eq V c t r d)

theorem final_11 (c : Dev nD) (hR : MlpIdeal.Own.Real (V c main_v102_1) (V c main_v104) (V c main_v106) (V c main_v108) (V c main_v110) (V c main_v112) (V c main_v114) (V c main_v118) (V c main_v120)) :
    (dat V c).arrAt 11 cfg3.N = MlpIdeal.Own.result (V c main_v102_1) (V c main_v102_0) (V c main_v104) (V c main_v106) (V c main_v108) (V c main_v110) (V c main_v112) (V c main_v114) (V c main_v116) (V c main_v118) (V c main_v120) := by
  refine (dat V c).arrAt_eq_of_covers 11 _ (by decide +kernel) fun t hf y => ?_
  blk_simp
  rw [after_11]
  refine Eq.trans (congrArg (accAt V c t.val t.isLt) (ix2_eta (n0 := 512) (n1 := 1024) y).symm) ?_
  refine Eq.trans ?_ (congrArg _ (emb11 t y).symm)
  exact MlpIdeal.Own.last_of hR (fun n h r d => accAt V c n h (ix2 r d)) (fun t h r d => at_first V c t h r d) (fun t h r d => at_later V c t h r d) (pt t) ((flush3_11 t).mp hf) (y 0) (y 1)

end Cert.LayersIdeal.Own.K3
end
-- ==== Proof.LayersFinalV.lean ====
/- What the last of the calls chained leaves in its two results. -/
module
public import Idealize.ShloMosaic.Lib.Claim
public import Idealize.ShloMosaic.Lib.Pipeline.ReadBack
public import proofs.«01_k».proof.Proof.LayersFinalI
public import proofs.«01_k».proof.Proof.FinalValue
@[expose] public section
set_option maxRecDepth 16384
noncomputable section
open Idealize.ShloMosaic Idealize.ShloMosaic.TcCoe Idealize.SL.Sem
open Idealize.ShloMosaic.Pipeline (Dat)
namespace Cert.LayersIdeal.Own.K4
open Cert.LayersIdeal Cert.LayersIdeal.Gen
variable (V : (c : Dev nD) → (b : Ref sig .tc) → Buf (Elt Ideal) ((c : Thread nD τ).loc b))

/-- Every window's block index. -/
theorem idx : ∀ t : Fin cfg4.N, win4_0.index t = ![0, 0] ∧ win4_1.index t = ![0, 0] ∧ win4_2.index t = ![0, t.val] ∧ win4_3.index t = ![0, 0] ∧ win4_4.index t = ![0] ∧ win4_5.index t = ![0, t.val] ∧ win4_6.index t = ![0, 0] :=
  (by decide +kernel : ∀ t : Fin grid4.N, win4_0.index t = ![0, 0] ∧ win4_1.index t = ![0, 0] ∧ win4_2.index t = ![0, t.val] ∧ win4_3.index t = ![0, 0] ∧ win4_4.index t = ![0] ∧ win4_5.index t = ![0, t.val] ∧ win4_6.index t = ![0, 0])

theorem final_5 (c : Dev nD) (ln : FVec Ideal S1024 .f32) (hln : ∀ k : Fin 1024, (V c main_v122 : FVec Ideal S1x1024 .f32) (ix2 0 k) = ln (ix1 k)) :
    (dat V c).arrAt 5 cfg4.N = FinalIdeal.Own.logits (V c main_v121) ln (V c main_arg25) := by
  refine (dat V c).arrAt_eq_of_covers 5 _ (by decide +kernel) fun t _ y => ?_
  blk_simp
  rw [after_5]
  unfold rows FinalIdeal.Own.logits
  generalize t₀ = s
  simp only [← hln]
  pointwise [k4_pay4, k4_pay2, k4_pay1, Spec.rms]
  blk_point [iblk, idx t, idx s]

theorem final_6 (c : Dev nD) (ln : FVec Ideal S1024 .f32) (hln : ∀ k : Fin 1024, (V c main_v122 : FVec Ideal S1x1024 .f32) (ix2 0 k) = ln (ix1 k)) :
    (dat V c).arrAt 6 cfg4.N = FinalIdeal.Own.values (V c main_v121) ln (V c main_arg26) (V c main_arg27) := by
  refine (dat V c).arrAt_eq_of_covers 6 _ (by decide +kernel) fun t _ y => ?_
  blk_simp
  rw [after_6]
  unfold vals FinalIdeal.Own.values
  generalize t₀ = s
  simp only [← hln]
  pointwise [k4_pay3, k4_pay1, Spec.rms]
  blk_point [iblk, idx t, idx s]

end Cert.LayersIdeal.Own.K4
end
-- ==== Proof.LayersValue.lean ====
/- What the calls chained leave in their two results. -/
module
public import Idealize.ShloMosaic.Lib.Claim
public import proofs.«01_k».proof.Proof.LayersHost
public import proofs.«01_k».proof.Proof.LayersRunI
public import proofs.«01_k».proof.Proof.LayersAttn0V
public import proofs.«01_k».proof.Proof.LayersAttn2V
public import proofs.«01_k».proof.Proof.LayersMlp1V
public import proofs.«01_k».proof.Proof.LayersMlp3V
public import proofs.«01_k».proof.Proof.LayersFinalV
@[expose] public section
set_option maxRecDepth 16384
noncomputable section
open Idealize.ShloMosaic Idealize.ShloMosaic.TcCoe Idealize.SL.Sem
namespace Cert.LayersIdeal.Own
open Cert.LayersIdeal Cert.LayersIdeal.Gen

variable (m : (ℓ : Loc nD τ sig) → Buf (Elt Ideal) ℓ)

/-- The arrays in the memory `m`. -/
def arrays (c : Dev nD) : Arrays where
  h := m ((c : Thread nD τ).loc main_arg0)
  ln1 := m ((c : Thread nD τ).loc main_arg1)
  ln2 := m ((c : Thread nD τ).loc main_arg2)
  wq := m ((c : Thread nD τ).loc main_arg3)
  aq := m ((c : Thread nD τ).loc main_arg4)
  bq := m ((c : Thread nD τ).loc main_arg5)
  wk := m ((c : Thread nD τ).loc main_arg6)
  ak := m ((c : Thread nD τ).loc main_arg7)
  bk := m ((c : Thread nD τ).loc main_arg8)
  wv := m ((c : Thread nD τ).loc main_arg9)
  av := m ((c : Thread nD τ).loc main_arg10)
  bv := m ((c : Thread nD τ).loc main_arg11)
  wo := m ((c : Thread nD τ).loc main_arg12)
  ao := m ((c : Thread nD τ).loc main_arg13)
  bo := m ((c : Thread nD τ).loc main_arg14)
  wg := m ((c : Thread nD τ).loc main_arg15)
  ag := m ((c : Thread nD τ).loc main_arg16)
  bg := m ((c : Thread nD τ).loc main_arg17)
  wu := m ((c : Thread nD τ).loc main_arg18)
  au := m ((c : Thread nD τ).loc main_arg19)
  bu := m ((c : Thread nD τ).loc main_arg20)
  wd := m ((c : Thread nD τ).loc main_arg21)
  ad := m ((c : Thread nD τ).loc main_arg22)
  bd := m ((c : Thread nD τ).loc main_arg23)
  lnf := m ((c : Thread nD τ).loc main_arg24)
  lm := m ((c : Thread nD τ).loc main_arg25)
  vw := m ((c : Thread nD τ).loc main_arg26)
  vb := m ((c : Thread nD τ).loc main_arg27)

variable (outs : Outs (F := Ideal)) (c : Dev nD)
theorem keep1 (r : Ref sig .tc) (h1 : r ∉ hostOps0_W) : V1 m c r = m (c, Proc.devRef .tc r) := (V1_of m c r h1)
theorem keep2 (r : Ref sig .tc) (h1 : r ∉ hostOps0_W) (h2 : r ∉ ([main_v52_0, main_v52_1] : List (Ref sig .tc))) : V2 m outs c r = m (c, Proc.devRef .tc r) := (V2_of m outs c r h2).trans (keep1 m c r h1)
theorem keep3 (r : Ref sig .tc) (h1 : r ∉ hostOps0_W) (h2 : r ∉ ([main_v52_0, main_v52_1] : List (Ref sig .tc))) (h3 : r ∉ hostOps1_W) : V3 m outs c r = m (c, Proc.devRef .tc r) := (V3_of m outs c r h3).trans (keep2 m outs c r h1 h2)
theorem keep4 (r : Ref sig .tc) (h1 : r ∉ hostOps0_W) (h2 : r ∉ ([main_v52_0, main_v52_1] : List (Ref sig .tc))) (h3 : r ∉ hostOps1_W) (h4 : r ∉ ([main_v71] : List (Ref sig .tc))) : V4 m outs c r = m (c, Proc.devRef .tc r) := (V4_of m outs c r h4).trans (keep3 m outs c r h1 h2 h3)
theorem keep5 (r : Ref sig .tc) (h1 : r ∉ hostOps0_W) (h2 : r ∉ ([main_v52_0, main_v52_1] : List (Ref sig .tc))) (h3 : r ∉ hostOps1_W) (h4 : r ∉ ([main_v71] : List (Ref sig .tc))) (h5 : r ∉ hostOps2_W) : V5 m outs c r = m (c, Proc.devRef .tc r) := (V5_of m outs c r h5).trans (keep4 m outs c r h1 h2 h3 h4)
theorem keep6 (r : Ref sig .tc) (h1 : r ∉ hostOps0_W) (h2 : r ∉ ([main_v52_0, main_v52_1] : List (Ref sig .tc))) (h3 : r ∉ hostOps1_W) (h4 : r ∉ ([main_v71] : List (Ref sig .tc))) (h5 : r ∉ hostOps2_W) (h6 : r ∉ ([main_v102_0, main_v102_1] : List (Ref sig .tc))) : V6 m outs c r = m (c, Proc.devRef .tc r) := (V6_of m outs c r h6).trans (keep5 m outs c r h1 h2 h3 h4 h5)
theorem keep7 (r : Ref sig .tc) (h1 : r ∉ hostOps0_W) (h2 : r ∉ ([main_v52_0, main_v52_1] : List (Ref sig .tc))) (h3 : r ∉ hostOps1_W) (h4 : r ∉ ([main_v71] : List (Ref sig .tc))) (h5 : r ∉ hostOps2_W) (h6 : r ∉ ([main_v102_0, main_v102_1] : List (Ref sig .tc))) (h7 : r ∉ hostOps3_W) : V7 m outs c r = m (c, Proc.devRef .tc r) := (V7_of m outs c r h7).trans (keep6 m outs c r h1 h2 h3 h4 h5 h6)
theorem keep8 (r : Ref sig .tc) (h1 : r ∉ hostOps0_W) (h2 : r ∉ ([main_v52_0, main_v52_1] : List (Ref sig .tc))) (h3 : r ∉ hostOps1_W) (h4 : r ∉ ([main_v71] : List (Ref sig .tc))) (h5 : r ∉ hostOps2_W) (h6 : r ∉ ([main_v102_0, main_v102_1] : List (Ref sig .tc))) (h7 : r ∉ hostOps3_W) (h8 : r ∉ ([main_v121] : List (Ref sig .tc))) : V8 m outs c r = m (c, Proc.devRef .tc r) := (V8_of m outs c r h8).trans (keep7 m outs c r h1 h2 h3 h4 h5 h6 h7)
theorem keep9 (r : Ref sig .tc) (h1 : r ∉ hostOps0_W) (h2 : r ∉ ([main_v52_0, main_v52_1] : List (Ref sig .tc))) (h3 : r ∉ hostOps1_W) (h4 : r ∉ ([main_v71] : List (Ref sig .tc))) (h5 : r ∉ hostOps2_W) (h6 : r ∉ ([main_v102_0, main_v102_1] : List (Ref sig .tc))) (h7 : r ∉ hostOps3_W) (h8 : r ∉ ([main_v121] : List (Ref sig .tc))) (h9 : r ∉ hostOps4_W) : V9 m outs c r = m (c, Proc.devRef .tc r) := (V9_of m outs c r h9).trans (keep8 m outs c r h1 h2 h3 h4 h5 h6 h7 h8)

theorem entry0 : K0.Entry (Ve0 m) c ((arrays m c).attn 0 (arrays m c).h) where
  e0 i j := congrFun (keep1 m c main_arg0 (by decide)) _
  e1 k := (s0_v50 (V0 m c) k)
  e2 k := (s0_v51 (V0 m c) k)
  e3 r k := s0_v17 (V0 m c) r k
  e4 r k := s0_v21 (V0 m c) r k
  e5 i j := (s0_v27 (V0 m c) i j)
  e6 i j := (s0_v29 (V0 m c) i j)
  e7 i j := (s0_v31 (V0 m c) i j)
  e8 i j := (s0_v33 (V0 m c) i j)
  e9 i j := (s0_v35 (V0 m c) i j)
  e10 i j := (s0_v37 (V0 m c) i j)
  e11 i j := (s0_v39 (V0 m c) i j)
  e12 i j := (s0_v41 (V0 m c) i j)
  e13 i j := (s0_v43 (V0 m c) i j)
  e14 i j := (s0_v45 (V0 m c) i j)
  e15 i j := (s0_v47 (V0 m c) i j)
  e16 i j := (s0_v49 (V0 m c) i j)

/-- The rows after layer 0's attention, -/
theorem at_v52_0 : LayersIdeal.Own.outs m 2 main_v52_0 c = AttnIdeal.Own.result1 ((arrays m c).attn 0 (arrays m c).h) := (outs_main_v52_0 m c).trans (K0.final_17 (Ve0 m) (entry0 m c))
/-- and normed. -/
theorem at_v52_1 : LayersIdeal.Own.outs m 2 main_v52_1 c = AttnIdeal.Own.result2 ((arrays m c).attn 0 (arrays m c).h) := (outs_main_v52_1 m c).trans (K0.final_18 (Ve0 m) (entry0 m c))
theorem w1_wg : (V3 m (s2 m) c main_v54 : FVec Ideal S1024x4096 .f32) = fun i => (arrays m c).wg (ix3 0 (i 0) (i 1)) := (t1_v54 (V2 m (s2 m) c)).trans (congrArg (fun (X : FVec Ideal S2x1024x4096 .f32) => fun i : S1024x4096.Idx => X (ix3 0 (i 0) (i 1))) (keep2 m (s2 m) c main_arg15 (by decide) (by decide)))
theorem w1_ag : (V3 m (s2 m) c main_v56 : FVec Ideal S1024x16 .f32) = fun i => (arrays m c).ag (ix3 0 (i 0) (i 1)) := (t1_v56 (V2 m (s2 m) c)).trans (congrArg (fun (X : FVec Ideal S2x1024x16 .f32) => fun i : S1024x16.Idx => X (ix3 0 (i 0) (i 1))) (keep2 m (s2 m) c main_arg16 (by decide) (by decide)))
theorem w1_bg : (V3 m (s2 m) c main_v58 : FVec Ideal S16x4096 .f32) = fun i => (arrays m c).bg (ix3 0 (i 0) (i 1)) := (t1_v58 (V2 m (s2 m) c)).trans (congrArg (fun (X : FVec Ideal S2x16x4096 .f32) => fun i : S16x4096.Idx => X (ix3 0 (i 0) (i 1))) (keep2 m (s2 m) c main_arg17 (by decide) (by decide)))
theorem w1_wu : (V3 m (s2 m) c main_v60 : FVec Ideal S1024x4096 .f32) = fun i => (arrays m c).wu (ix3 0 (i 0) (i 1)) := (t1_v60 (V2 m (s2 m) c)).trans (congrArg (fun (X : FVec Ideal S2x1024x4096 .f32) => fun i : S1024x4096.Idx => X (ix3 0 (i 0) (i 1))) (keep2 m (s2 m) c main_arg18 (by decide) (by decide)))
theorem w1_au : (V3 m (s2 m) c main_v62 : FVec Ideal S1024x16 .f32) = fun i => (arrays m c).au (ix3 0 (i 0) (i 1)) := (t1_v62 (V2 m (s2 m) c)).trans (congrArg (fun (X : FVec Ideal S2x1024x16 .f32) => fun i : S1024x16.Idx => X (ix3 0 (i 0) (i 1))) (keep2 m (s2 m) c main_arg19 (by decide) (by decide)))
theorem w1_bu : (V3 m (s2 m) c main_v64 : FVec Ideal S16x4096 .f32) = fun i => (arrays m c).bu (ix3 0 (i 0) (i 1)) := (t1_v64 (V2 m (s2 m) c)).trans (congrArg (fun (X : FVec Ideal S2x16x4096 .f32) => fun i : S16x4096.Idx => X (ix3 0 (i 0) (i 1))) (keep2 m (s2 m) c main_arg20 (by decide) (by decide)))
theorem w1_wd : (V3 m (s2 m) c main_v66 : FVec Ideal S4096x1024 .f32) = fun i => (arrays m c).wd (ix3 0 (i 0) (i 1)) := (t1_v66 (V2 m (s2 m) c)).trans (congrArg (fun (X : FVec Ideal S2x4096x1024 .f32) => fun i : S4096x1024.Idx => X (ix3 0 (i 0) (i 1))) (keep2 m (s2 m) c main_arg21 (by decide) (by decide)))
theorem w1_ad : (V3 m (s2 m) c main_v68 : FVec Ideal S4096x16 .f32) = fun i => (arrays m c).ad (ix3 0 (i 0) (i 1)) := (t1_v68 (V2 m (s2 m) c)).trans (congrArg (fun (X : FVec Ideal S2x4096x16 .f32) => fun i : S4096x16.Idx => X (ix3 0 (i 0) (i 1))) (keep2 m (s2 m) c main_arg22 (by decide) (by decide)))
theorem w1_bd : (V3 m (s2 m) c main_v70 : FVec Ideal S16x1024 .f32) = fun i => (arrays m c).bd (ix3 0 (i 0) (i 1)) := (t1_v70 (V2 m (s2 m) c)).trans (congrArg (fun (X : FVec Ideal S2x16x1024 .f32) => fun i : S16x1024.Idx => X (ix3 0 (i 0) (i 1))) (keep2 m (s2 m) c main_arg23 (by decide) (by decide)))

theorem x1_at : V3 m (s2 m) c main_v52_1 = AttnIdeal.Own.result2 ((arrays m c).attn 0 (arrays m c).h) := (V3_of m (s2 m) c main_v52_1 (by decide)).trans ((V2_at_main_v52_1 m (s2 m) c).trans (at_v52_1 m c))
theorem h1_at : V3 m (s2 m) c main_v52_0 = AttnIdeal.Own.result1 ((arrays m c).attn 0 (arrays m c).h) := (V3_of m (s2 m) c main_v52_0 (by decide)).trans ((V2_at_main_v52_0 m (s2 m) c).trans (at_v52_0 m c))

theorem real_x2 (l : Fin 2) (h : FVec Ideal S1024x1024 .f32) (A : Arrays) (hA : A.Real) (i) : Spec.IsReal (AttnIdeal.Own.result2 (A.attn l h) i) := isReal_rms _ _ _ (hA.ln2 _)

/-- The rows after layer 0. -/
theorem at_v71 (hA : (arrays m c).Real) : LayersIdeal.Own.outs m 4 main_v71 c = (arrays m c).layer 0 (arrays m c).h := by
  refine (outs_main_v71 m c).trans ?_
  refine (K1.final_11 (fun c b => V3 m (s2 m) c (Proc.devRef .tc b)) c ⟨?_, ?_, ?_, ?_, ?_, ?_, ?_, ?_, ?_⟩).trans ?_
  · intro i; rw [x1_at m c]; exact real_x2 0 _ _ hA i
  · intro i; rw [w1_wg m c]; exact hA.wg _
  · intro i; rw [w1_ag m c]; exact hA.ag _
  · intro i; rw [w1_bg m c]; exact hA.bg _
  · intro i; rw [w1_wu m c]; exact hA.wu _
  · intro i; rw [w1_au m c]; exact hA.au _
  · intro i; rw [w1_bu m c]; exact hA.bu _
  · intro i; rw [w1_ad m c]; exact hA.ad _
  · intro i; rw [w1_bd m c]; exact hA.bd _
  rw [x1_at m c, h1_at m c, w1_wg m c, w1_ag m c, w1_bg m c, w1_wu m c, w1_au m c, w1_bu m c, w1_wd m c, w1_ad m c, w1_bd m c]
  rfl

variable (hA : (arrays m c).Real)
include hA

theorem entry2 : K2.Entry (Ve2 m (s4 m)) c ((arrays m c).attn 1 ((arrays m c).layer 0 (arrays m c).h)) where
  e0 i j := congrFun ((V5_of m (s4 m) c main_v71 (by decide)).trans ((V4_at_main_v71 m (s4 m) c).trans (at_v71 m c hA))) _
  e1 k := (s2_v100 (V4 m (s4 m) c) k).trans (congrFun (keep4 m (s4 m) c main_arg1 (by decide) (by decide) (by decide) (by decide)) _)
  e2 k := (s2_v101 (V4 m (s4 m) c) k).trans (congrFun (keep4 m (s4 m) c main_arg2 (by decide) (by decide) (by decide) (by decide)) _)
  e3 r k := (congrFun ((V5_of m (s4 m) c main_v17 (by decide)).trans ((V4_of m (s4 m) c main_v17 (by decide)).trans ((V3_of m (s4 m) c main_v17 (by decide)).trans (V2_of m (s4 m) c main_v17 (by decide))))) _).trans (s0_v17 (V0 m c) r k)
  e4 r k := (congrFun ((V5_of m (s4 m) c main_v21 (by decide)).trans ((V4_of m (s4 m) c main_v21 (by decide)).trans ((V3_of m (s4 m) c main_v21 (by decide)).trans (V2_of m (s4 m) c main_v21 (by decide))))) _).trans (s0_v21 (V0 m c) r k)
  e5 i j := (s2_v77 (V4 m (s4 m) c) i j).trans (congrFun (keep4 m (s4 m) c main_arg3 (by decide) (by decide) (by decide) (by decide)) _)
  e6 i j := (s2_v79 (V4 m (s4 m) c) i j).trans (congrFun (keep4 m (s4 m) c main_arg4 (by decide) (by decide) (by decide) (by decide)) _)
  e7 i j := (s2_v81 (V4 m (s4 m) c) i j).trans (congrFun (keep4 m (s4 m) c main_arg5 (by decide) (by decide) (by decide) (by decide)) _)
  e8 i j := (s2_v83 (V4 m (s4 m) c) i j).trans (congrFun (keep4 m (s4 m) c main_arg6 (by decide) (by decide) (by decide) (by decide)) _)
  e9 i j := (s2_v85 (V4 m (s4 m) c) i j).trans (congrFun (keep4 m (s4 m) c main_arg7 (by decide) (by decide) (by decide) (by decide)) _)
  e10 i j := (s2_v87 (V4 m (s4 m) c) i j).trans (congrFun (keep4 m (s4 m) c main_arg8 (by decide) (by decide) (by decide) (by decide)) _)
  e11 i j := (s2_v89 (V4 m (s4 m) c) i j).trans (congrFun (keep4 m (s4 m) c main_arg9 (by decide) (by decide) (by decide) (by decide)) _)
  e12 i j := (s2_v91 (V4 m (s4 m) c) i j).trans (congrFun (keep4 m (s4 m) c main_arg10 (by decide) (by decide) (by decide) (by decide)) _)
  e13 i j := (s2_v93 (V4 m (s4 m) c) i j).trans (congrFun (keep4 m (s4 m) c main_arg11 (by decide) (by decide) (by decide) (by decide)) _)
  e14 i j := (s2_v95 (V4 m (s4 m) c) i j).trans (congrFun (keep4 m (s4 m) c main_arg12 (by decide) (by decide) (by decide) (by decide)) _)
  e15 i j := (s2_v97 (V4 m (s4 m) c) i j).trans (congrFun (keep4 m (s4 m) c main_arg13 (by decide) (by decide) (by decide) (by decide)) _)
  e16 i j := (s2_v99 (V4 m (s4 m) c) i j).trans (congrFun (keep4 m (s4 m) c main_arg14 (by decide) (by decide) (by decide) (by decide)) _)

/-- The rows after layer 1's attention, -/
theorem at_v102_0 : LayersIdeal.Own.outs m 6 main_v102_0 c = AttnIdeal.Own.result1 ((arrays m c).attn 1 ((arrays m c).layer 0 (arrays m c).h)) := (outs_main_v102_0 m c).trans (K2.final_17 (Ve2 m (s4 m)) (entry2 m c hA))
/-- and normed. -/
theorem at_v102_1 : LayersIdeal.Own.outs m 6 main_v102_1 c = AttnIdeal.Own.result2 ((arrays m c).attn 1 ((arrays m c).layer 0 (arrays m c).h)) := (outs_main_v102_1 m c).trans (K2.final_18 (Ve2 m (s4 m)) (entry2 m c hA))
omit hA
theorem w3_wg : (V7 m (s6 m) c main_v104 : FVec Ideal S1024x4096 .f32) = fun i => (arrays m c).wg (ix3 1 (i 0) (i 1)) := (t3_v104 (V6 m (s6 m) c)).trans (congrArg (fun (X : FVec Ideal S2x1024x4096 .f32) => fun i : S1024x4096.Idx => X (ix3 1 (i 0) (i 1))) (keep6 m (s6 m) c main_arg15 (by decide) (by decide) (by decide) (by decide) (by decide) (by decide)))
theorem w3_ag : (V7 m (s6 m) c main_v106 : FVec Ideal S1024x16 .f32) = fun i => (arrays m c).ag (ix3 1 (i 0) (i 1)) := (t3_v106 (V6 m (s6 m) c)).trans (congrArg (fun (X : FVec Ideal S2x1024x16 .f32) => fun i : S1024x16.Idx => X (ix3 1 (i 0) (i 1))) (keep6 m (s6 m) c main_arg16 (by decide) (by decide) (by decide) (by decide) (by decide) (by decide)))
theorem w3_bg : (V7 m (s6 m) c main_v108 : FVec Ideal S16x4096 .f32) = fun i => (arrays m c).bg (ix3 1 (i 0) (i 1)) := (t3_v108 (V6 m (s6 m) c)).trans (congrArg (fun (X : FVec Ideal S2x16x4096 .f32) => fun i : S16x4096.Idx => X (ix3 1 (i 0) (i 1))) (keep6 m (s6 m) c main_arg17 (by decide) (by decide) (by decide) (by decide) (by decide) (by decide)))
theorem w3_wu : (V7 m (s6 m) c main_v110 : FVec Ideal S1024x4096 .f32) = fun i => (arrays m c).wu (ix3 1 (i 0) (i 1)) := (t3_v110 (V6 m (s6 m) c)).trans (congrArg (fun (X : FVec Ideal S2x1024x4096 .f32) => fun i : S1024x4096.Idx => X (ix3 1 (i 0) (i 1))) (keep6 m (s6 m) c main_arg18 (by decide) (by decide) (by decide) (by decide) (by decide) (by decide)))
theorem w3_au : (V7 m (s6 m) c main_v112 : FVec Ideal S1024x16 .f32) = fun i => (arrays m c).au (ix3 1 (i 0) (i 1)) := (t3_v112 (V6 m (s6 m) c)).trans (congrArg (fun (X : FVec Ideal S2x1024x16 .f32) => fun i : S1024x16.Idx => X (ix3 1 (i 0) (i 1))) (keep6 m (s6 m) c main_arg19 (by decide) (by decide) (by decide) (by decide) (by decide) (by decide)))
theorem w3_bu : (V7 m (s6 m) c main_v114 : FVec Ideal S16x4096 .f32) = fun i => (arrays m c).bu (ix3 1 (i 0) (i 1)) := (t3_v114 (V6 m (s6 m) c)).trans (congrArg (fun (X : FVec Ideal S2x16x4096 .f32) => fun i : S16x4096.Idx => X (ix3 1 (i 0) (i 1))) (keep6 m (s6 m) c main_arg20 (by decide) (by decide) (by decide) (by decide) (by decide) (by decide)))
theorem w3_wd : (V7 m (s6 m) c main_v116 : FVec Ideal S4096x1024 .f32) = fun i => (arrays m c).wd (ix3 1 (i 0) (i 1)) := (t3_v116 (V6 m (s6 m) c)).trans (congrArg (fun (X : FVec Ideal S2x4096x1024 .f32) => fun i : S4096x1024.Idx => X (ix3 1 (i 0) (i 1))) (keep6 m (s6 m) c main_arg21 (by decide) (by decide) (by decide) (by decide) (by decide) (by decide)))
theorem w3_ad : (V7 m (s6 m) c main_v118 : FVec Ideal S4096x16 .f32) = fun i => (arrays m c).ad (ix3 1 (i 0) (i 1)) := (t3_v118 (V6 m (s6 m) c)).trans (congrArg (fun (X : FVec Ideal S2x4096x16 .f32) => fun i : S4096x16.Idx => X (ix3 1 (i 0) (i 1))) (keep6 m (s6 m) c main_arg22 (by decide) (by decide) (by decide) (by decide) (by decide) (by decide)))
theorem w3_bd : (V7 m (s6 m) c main_v120 : FVec Ideal S16x1024 .f32) = fun i => (arrays m c).bd (ix3 1 (i 0) (i 1)) := (t3_v120 (V6 m (s6 m) c)).trans (congrArg (fun (X : FVec Ideal S2x16x1024 .f32) => fun i : S16x1024.Idx => X (ix3 1 (i 0) (i 1))) (keep6 m (s6 m) c main_arg23 (by decide) (by decide) (by decide) (by decide) (by decide) (by decide)))
include hA
theorem x3_at : V7 m (s6 m) c main_v102_1 = AttnIdeal.Own.result2 ((arrays m c).attn 1 ((arrays m c).layer 0 (arrays m c).h)) := (V7_of m (s6 m) c main_v102_1 (by decide)).trans ((V6_at_main_v102_1 m (s6 m) c).trans (at_v102_1 m c hA))
theorem h3_at : V7 m (s6 m) c main_v102_0 = AttnIdeal.Own.result1 ((arrays m c).attn 1 ((arrays m c).layer 0 (arrays m c).h)) := (V7_of m (s6 m) c main_v102_0 (by decide)).trans ((V6_at_main_v102_0 m (s6 m) c).trans (at_v102_0 m c hA))

/-- The rows after layer 1. -/
theorem at_v121 : LayersIdeal.Own.outs m 8 main_v121 c = (arrays m c).layer 1 ((arrays m c).layer 0 (arrays m c).h) := by
  refine (outs_main_v121 m c).trans ?_
  refine (K3.final_11 (fun c b => V7 m (s6 m) c (Proc.devRef .tc b)) c ⟨?_, ?_, ?_, ?_, ?_, ?_, ?_, ?_, ?_⟩).trans ?_
  · intro i; rw [x3_at m c hA]; exact real_x2 1 _ _ hA i
  · intro i; rw [w3_wg m c]; exact hA.wg _
  · intro i; rw [w3_ag m c]; exact hA.ag _
  · intro i; rw [w3_bg m c]; exact hA.bg _
  · intro i; rw [w3_wu m c]; exact hA.wu _
  · intro i; rw [w3_au m c]; exact hA.au _
  · intro i; rw [w3_bu m c]; exact hA.bu _
  · intro i; rw [w3_ad m c]; exact hA.ad _
  · intro i; rw [w3_bd m c]; exact hA.bd _
  rw [x3_at m c hA, h3_at m c hA, w3_wg m c, w3_ag m c, w3_bg m c, w3_wu m c, w3_au m c, w3_bu m c, w3_wd m c, w3_ad m c, w3_bd m c]
  rfl

theorem h4_at : V9 m (s8 m) c main_v121 = (arrays m c).layer 1 ((arrays m c).layer 0 (arrays m c).h) := (V9_of m (s8 m) c main_v121 (by decide)).trans ((V8_at_main_v121 m (s8 m) c).trans (at_v121 m c hA))

/-- The logits, -/
theorem at_logits : LayersIdeal.Own.outs m 10 main_v123_0 c = (arrays m c).logits := by
  refine (outs_main_v123_0 m c).trans ((K4.final_5 (fun c b => V9 m (s8 m) c (Proc.devRef .tc b)) c (arrays m c).lnf (fun k => (s4_v122 (V8 m (s8 m) c) k).trans (congrFun (keep8 m (s8 m) c main_arg24 (by decide) (by decide) (by decide) (by decide) (by decide) (by decide) (by decide) (by decide)) _))).trans ?_)
  rw [h4_at m c hA, keep9 m (s8 m) c main_arg25 (by decide) (by decide) (by decide) (by decide) (by decide) (by decide) (by decide) (by decide) (by decide)]
  rfl
/-- and the values. -/
theorem at_values : LayersIdeal.Own.outs m 10 main_v123_1 c = (arrays m c).values := by
  refine (outs_main_v123_1 m c).trans ((K4.final_6 (fun c b => V9 m (s8 m) c (Proc.devRef .tc b)) c (arrays m c).lnf (fun k => (s4_v122 (V8 m (s8 m) c) k).trans (congrFun (keep8 m (s8 m) c main_arg24 (by decide) (by decide) (by decide) (by decide) (by decide) (by decide) (by decide) (by decide)) _))).trans ?_)
  rw [h4_at m c hA, keep9 m (s8 m) c main_arg26 (by decide) (by decide) (by decide) (by decide) (by decide) (by decide) (by decide) (by decide) (by decide), keep9 m (s8 m) c main_arg27 (by decide) (by decide) (by decide) (by decide) (by decide) (by decide) (by decide) (by decide) (by decide)]
  rfl
end Cert.LayersIdeal.Own
end
-- ==== Proof.LayersRefTerms.lean ====
/- The reference of the calls chained: its layers are the layers' functions. -/
module
public import Idealize.ShloMosaic.Lib.Claim
public import Idealize.ShloMosaic.Lib.Pipeline.ValueKit
public import proofs.«01_k».proof.Proof.Gen.LayersRefIdeal.Run
public import proofs.«01_k».proof.Proof.LayersSpec
public import proofs.«01_k».proof.Proof.AttnRefOut
@[expose] public section
set_option maxRecDepth 16384
noncomputable section
open Idealize.ShloMosaic Idealize.ShloMosaic.TcCoe Idealize.SL.Sem
namespace Cert.AttnRefIdeal.Own
open Cert.AttnRefIdeal Cert.AttnRefIdeal.Gen Cert.AttnRefIdeal.Value
/-- `v12`, of the terms it is written with. -/
def t_v12  : FVec Ideal S512x32 .f32 :=
  mulf (broadcastInDim S512x32 ![0, 1] bcast_S512x1_S512x32_0_1 (broadcastInDim S512x1 ![0] bcast_S512_S512x1_0 (sitofp .f32 (iotaInDim S512 32 0)))) (broadcastInDim S512x32 ![0, 1] bcast_S1x32_S512x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (sitofp .f32 (iotaInDim S32 32 0)) (broadcastInDim S32 ![] bcast_S_S32 (constant S_ .f32 0x42000000#32)))))))
theorem t_v12_of (V : Valuation τ sig (Elt Ideal)) : res_main_v12 V = t_v12  := rfl
/-- `v13`, of the terms it is written with. -/
def t_v13 (r_v12 : FVec Ideal S512x32 .f32) : FVec Ideal S512x64 .f32 :=
  concatenate S512x64 1 [⟨S512x32, r_v12⟩, ⟨S512x32, r_v12⟩] concatenates_S512x32_S512x32_S512x64_d1
theorem t_v13_congr (r_v12 r_v12' : FVec Ideal S512x32 .f32) (hr_v12 : r_v12 = r_v12') : t_v13 r_v12 = t_v13 r_v12' := by
  subst hr_v12
  rfl
theorem t_v13_of (V : Valuation τ sig (Elt Ideal)) : res_main_v13 V = t_v13 (res_main_v12 V) := rfl
/-- `v14`, of the terms it is written with. -/
def t_v14 (r_v13 : FVec Ideal S512x64 .f32) : FVec Ideal S512x64 .f32 :=
  Host.cos r_v13
theorem t_v14_congr (r_v13 r_v13' : FVec Ideal S512x64 .f32) (hr_v13 : r_v13 = r_v13') : t_v14 r_v13 = t_v14 r_v13' := by
  subst hr_v13
  rfl
theorem t_v14_of (V : Valuation τ sig (Elt Ideal)) : res_main_v14 V = t_v14 (res_main_v13 V) := rfl
/-- `v15`, of the terms it is written with. -/
def t_v15 (r_v13 : FVec Ideal S512x64 .f32) : FVec Ideal S512x64 .f32 :=
  Host.sin r_v13
theorem t_v15_congr (r_v13 r_v13' : FVec Ideal S512x64 .f32) (hr_v13 : r_v13 = r_v13') : t_v15 r_v13 = t_v15 r_v13' := by
  subst hr_v13
  rfl
theorem t_v15_of (V : Valuation τ sig (Elt Ideal)) : res_main_v15 V = t_v15 (res_main_v13 V) := rfl
/-- `v34`, of the terms it is written with. -/
def t_v34 (a0 : FVec Ideal S1024x1024 .f32) (a1 : FVec Ideal S1024 .f32) : FVec Ideal S1024x1024 .f32 :=
  mulf (mulf a0 (broadcastInDim S1024x1024 ![0, 1] bcast_S1024x1_S1024x1024_0_1 (Host.rsqrt (addf (Host.divf (broadcastInDim S1024x1 ![0] bcast_S1024_S1024x1_0 (Host.reduceAdd (mulf a0 a0) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x3727C5AC#32)))))) (broadcastInDim S1024x1024 ![0, 1] bcast_S1x1024_S1024x1024_0_1 (broadcastInDim S1x1024 ![1] bcast_S1024_S1x1024_1 a1))
theorem t_v34_congr (a0 a0' : FVec Ideal S1024x1024 .f32) (ha0 : a0 = a0') (a1 a1' : FVec Ideal S1024 .f32) (ha1 : a1 = a1') : t_v34 a0 a1 = t_v34 a0' a1' := by
  subst ha0 ha1
  rfl
theorem t_v34_of (V : Valuation τ sig (Elt Ideal)) : res_main_v34 V = t_v34 (V (Proc.devRef .tc main_arg0)) (V (Proc.devRef .tc main_arg1)) := rfl
/-- `v41`, of the terms it is written with. -/
def t_v41 (r_v34 : FVec Ideal S1024x1024 .f32) (a3 : FVec Ideal S1024x1024 .f32) (a4 : FVec Ideal S1024x16 .f32) (a5 : FVec Ideal S16x1024 .f32) : FVec Ideal S2x512x16x64 .f32 :=
  shapeCast _ (addf (Host.dotGeneral dot_S1024x1024_S1024x1024_S1024x1024_1_0_0_1_n_n none r_v34 a3) (mulf (Host.dotGeneral dot_S1024x16_S16x1024_S1024x1024_1_0_0_1_n_n none (Host.dotGeneral dot_S1024x1024_S1024x16_S1024x16_1_0_0_1_n_n none r_v34 a4) a5) (broadcastInDim S1024x1024 ![] bcast_S_S1024x1024 (constant S_ .f32 0x40000000#32)))) shapeCasts_S1024x1024_S2x512x16x64
theorem t_v41_congr (r_v34 r_v34' : FVec Ideal S1024x1024 .f32) (hr_v34 : r_v34 = r_v34') (a3 a3' : FVec Ideal S1024x1024 .f32) (ha3 : a3 = a3') (a4 a4' : FVec Ideal S1024x16 .f32) (ha4 : a4 = a4') (a5 a5' : FVec Ideal S16x1024 .f32) (ha5 : a5 = a5') : t_v41 r_v34 a3 a4 a5 = t_v41 r_v34' a3' a4' a5' := by
  subst hr_v34 ha3 ha4 ha5
  rfl
theorem t_v41_of (V : Valuation τ sig (Elt Ideal)) : res_main_v41 V = t_v41 (res_main_v34 V) (V (Proc.devRef .tc main_arg3)) (V (Proc.devRef .tc main_arg4)) (V (Proc.devRef .tc main_arg5)) := rfl
/-- `v48`, of the terms it is written with. -/
def t_v48 (r_v34 : FVec Ideal S1024x1024 .f32) (a6 : FVec Ideal S1024x1024 .f32) (a7 : FVec Ideal S1024x16 .f32) (a8 : FVec Ideal S16x1024 .f32) : FVec Ideal S2x512x16x64 .f32 :=
  shapeCast _ (addf (Host.dotGeneral dot_S1024x1024_S1024x1024_S1024x1024_1_0_0_1_n_n none r_v34 a6) (mulf (Host.dotGeneral dot_S1024x16_S16x1024_S1024x1024_1_0_0_1_n_n none (Host.dotGeneral dot_S1024x1024_S1024x16_S1024x16_1_0_0_1_n_n none r_v34 a7) a8) (broadcastInDim S1024x1024 ![] bcast_S_S1024x1024 (constant S_ .f32 0x40000000#32)))) shapeCasts_S1024x1024_S2x512x16x64
theorem t_v48_congr (r_v34 r_v34' : FVec Ideal S1024x1024 .f32) (hr_v34 : r_v34 = r_v34') (a6 a6' : FVec Ideal S1024x1024 .f32) (ha6 : a6 = a6') (a7 a7' : FVec Ideal S1024x16 .f32) (ha7 : a7 = a7') (a8 a8' : FVec Ideal S16x1024 .f32) (ha8 : a8 = a8') : t_v48 r_v34 a6 a7 a8 = t_v48 r_v34' a6' a7' a8' := by
  subst hr_v34 ha6 ha7 ha8
  rfl
theorem t_v48_of (V : Valuation τ sig (Elt Ideal)) : res_main_v48 V = t_v48 (res_main_v34 V) (V (Proc.devRef .tc main_arg6)) (V (Proc.devRef .tc main_arg7)) (V (Proc.devRef .tc main_arg8)) := rfl
/-- `v83`, of the terms it is written with. -/
def t_v83 (r_v14 : FVec Ideal S512x64 .f32) (r_v15 : FVec Ideal S512x64 .f32) (r_v41 : FVec Ideal S2x512x16x64 .f32) (r_v48 : FVec Ideal S2x512x16x64 .f32) : FVec Ideal S2x16x512x512 .f32 :=
  addf (mulf (Host.dotGeneral dot_S2x512x16x64_S2x512x16x64_S2x16x512x512_3_3_1_1_02_02 none (addf (mulf r_v41 (broadcastInDim S2x512x16x64 ![0, 1, 2, 3] bcast_S1x512x1x64_S2x512x16x64_0_1_2_3 (broadcastInDim S1x512x1x64 ![1, 3] bcast_S512x64_S1x512x1x64_1_3 r_v14))) (mulf (concatenate S2x512x16x64 3 [⟨S2x512x16x32, (Host.negf (extractStridedSlice S2x512x16x32 ![0, 0, 0, 32] r_v41 slices_S2x512x16x64_S2x512x16x32_0_0_0_32))⟩, ⟨S2x512x16x32, (extractStridedSlice S2x512x16x32 ![0, 0, 0, 0] r_v41 slices_S2x512x16x64_S2x512x16x32_0_0_0_0)⟩] concatenates_S2x512x16x32_S2x512x16x32_S2x512x16x64_d3) (broadcastInDim S2x512x16x64 ![0, 1, 2, 3] bcast_S1x512x1x64_S2x512x16x64_0_1_2_3 (broadcastInDim S1x512x1x64 ![1, 3] bcast_S512x64_S1x512x1x64_1_3 r_v15)))) (addf (mulf r_v48 (broadcastInDim S2x512x16x64 ![0, 1, 2, 3] bcast_S1x512x1x64_S2x512x16x64_0_1_2_3 (broadcastInDim S1x512x1x64 ![1, 3] bcast_S512x64_S1x512x1x64_1_3 r_v14))) (mulf (concatenate S2x512x16x64 3 [⟨S2x512x16x32, (Host.negf (extractStridedSlice S2x512x16x32 ![0, 0, 0, 32] r_v48 slices_S2x512x16x64_S2x512x16x32_0_0_0_32))⟩, ⟨S2x512x16x32, (extractStridedSlice S2x512x16x32 ![0, 0, 0, 0] r_v48 slices_S2x512x16x64_S2x512x16x32_0_0_0_0)⟩] concatenates_S2x512x16x32_S2x512x16x32_S2x512x16x64_d3) (broadcastInDim S2x512x16x64 ![0, 1, 2, 3] bcast_S1x512x1x64_S2x512x16x64_0_1_2_3 (broadcastInDim S1x512x1x64 ![1, 3] bcast_S512x64_S1x512x1x64_1_3 r_v15))))) (broadcastInDim S2x16x512x512 ![] bcast_S_S2x16x512x512 (Host.divf (constant S_ .f32 0x3F800000#32) (Host.sqrt (constant S_ .f32 0x42800000#32))))) (broadcastInDim S2x16x512x512 ![0, 1, 2, 3] bcast_S1x1x512x512_S2x16x512x512_0_1_2_3 (id (select (broadcastInDim S1x1x512x512 ![2, 3] bcast_S512x512_S1x1x512x512_2_3 (select (cmpi .sge (addi (iotaInDim S512x512 32 0) (broadcastInDim S512x512 ![] bcast_S_S512x512 (constantI S_ 32 0#32))) (iotaInDim S512x512 32 1)) (broadcastInDim S512x512 ![] bcast_S_S512x512 (constantI S_ 1 1#1)) (broadcastInDim S512x512 ![] bcast_S_S512x512 (constantI S_ 1 0#1)))) (broadcastInDim S1x1x512x512 ![] bcast_S_S1x1x512x512 (constant S_ .f32 0x00000000#32)) (broadcastInDim S1x1x512x512 ![] bcast_S_S1x1x512x512 (constant S_ .f32 0xFF800000#32)))))
theorem t_v83_congr (r_v14 r_v14' : FVec Ideal S512x64 .f32) (hr_v14 : r_v14 = r_v14') (r_v15 r_v15' : FVec Ideal S512x64 .f32) (hr_v15 : r_v15 = r_v15') (r_v41 r_v41' : FVec Ideal S2x512x16x64 .f32) (hr_v41 : r_v41 = r_v41') (r_v48 r_v48' : FVec Ideal S2x512x16x64 .f32) (hr_v48 : r_v48 = r_v48') : t_v83 r_v14 r_v15 r_v41 r_v48 = t_v83 r_v14' r_v15' r_v41' r_v48' := by
  subst hr_v14 hr_v15 hr_v41 hr_v48
  rfl
theorem t_v83_of (V : Valuation τ sig (Elt Ideal)) : res_main_v83 V = t_v83 (res_main_v14 V) (res_main_v15 V) (res_main_v41 V) (res_main_v48 V) := rfl
/-- `v90`, of the terms it is written with. -/
def t_v90 (r_v83 : FVec Ideal S2x16x512x512 .f32) : FVec Ideal S2x16x512x512 .f32 :=
  Host.exp (subf r_v83 (broadcastInDim S2x16x512x512 ![0, 1, 2, 3] bcast_S2x16x512x1_S2x16x512x512_0_1_2_3 (broadcastInDim S2x16x512x1 ![0, 1, 2] bcast_S2x16x512_S2x16x512x1_0_1_2 (maximumf (broadcastInDim S2x16x512 ![] bcast_S_S2x16x512 (constant S_ .f32 0xFF800000#32)) (Host.reduce FloatOps.maximumf r_v83 (constant S_ .f32 0xFF800000#32) reducesTo_S2x16x512x512_S2x16x512_d3 h_S_)))))
theorem t_v90_congr (r_v83 r_v83' : FVec Ideal S2x16x512x512 .f32) (hr_v83 : r_v83 = r_v83') : t_v90 r_v83 = t_v90 r_v83' := by
  subst hr_v83
  rfl
theorem t_v90_of (V : Valuation τ sig (Elt Ideal)) : res_main_v90 V = t_v90 (res_main_v83 V) := rfl
/-- `v97`, of the terms it is written with. -/
def t_v97 (r_v34 : FVec Ideal S1024x1024 .f32) (r_v90 : FVec Ideal S2x16x512x512 .f32) (a9 : FVec Ideal S1024x1024 .f32) (a10 : FVec Ideal S1024x16 .f32) (a11 : FVec Ideal S16x1024 .f32) : FVec Ideal S1024x1024 .f32 :=
  shapeCast _ (transpose S2x512x16x64 [0, 3, 1, 2] (Host.dotGeneral dot_S2x512x16x64_S2x16x512x512_S2x16x64x512_1_3_3_2_02_01 none (shapeCast _ (addf (Host.dotGeneral dot_S1024x1024_S1024x1024_S1024x1024_1_0_0_1_n_n none r_v34 a9) (mulf (Host.dotGeneral dot_S1024x16_S16x1024_S1024x1024_1_0_0_1_n_n none (Host.dotGeneral dot_S1024x1024_S1024x16_S1024x16_1_0_0_1_n_n none r_v34 a10) a11) (broadcastInDim S1024x1024 ![] bcast_S_S1024x1024 (constant S_ .f32 0x40000000#32)))) shapeCasts_S1024x1024_S2x512x16x64) (Host.divf r_v90 (broadcastInDim S2x16x512x512 ![0, 1, 2, 3] bcast_S2x16x512x1_S2x16x512x512_0_1_2_3 (broadcastInDim S2x16x512x1 ![0, 1, 2] bcast_S2x16x512_S2x16x512x1_0_1_2 (Host.reduceAdd r_v90 (constant S_ .f32 0x00000000#32) reducesTo_S2x16x512x512_S2x16x512_d3 h_S_))))) transposes_S2x16x64x512_S2x512x16x64_0_3_1_2) shapeCasts_S2x512x16x64_S1024x1024
theorem t_v97_congr (r_v34 r_v34' : FVec Ideal S1024x1024 .f32) (hr_v34 : r_v34 = r_v34') (r_v90 r_v90' : FVec Ideal S2x16x512x512 .f32) (hr_v90 : r_v90 = r_v90') (a9 a9' : FVec Ideal S1024x1024 .f32) (ha9 : a9 = a9') (a10 a10' : FVec Ideal S1024x16 .f32) (ha10 : a10 = a10') (a11 a11' : FVec Ideal S16x1024 .f32) (ha11 : a11 = a11') : t_v97 r_v34 r_v90 a9 a10 a11 = t_v97 r_v34' r_v90' a9' a10' a11' := by
  subst hr_v34 hr_v90 ha9 ha10 ha11
  rfl
theorem t_v97_of (V : Valuation τ sig (Elt Ideal)) : res_main_v97 V = t_v97 (res_main_v34 V) (res_main_v90 V) (V (Proc.devRef .tc main_arg9)) (V (Proc.devRef .tc main_arg10)) (V (Proc.devRef .tc main_arg11)) := rfl
/-- `v104`, of the terms it is written with. -/
def t_v104 (r_v97 : FVec Ideal S1024x1024 .f32) (a0 : FVec Ideal S1024x1024 .f32) (a12 : FVec Ideal S1024x1024 .f32) (a13 : FVec Ideal S1024x16 .f32) (a14 : FVec Ideal S16x1024 .f32) : FVec Ideal S1024x1024 .f32 :=
  addf a0 (addf (Host.dotGeneral dot_S1024x1024_S1024x1024_S1024x1024_1_0_0_1_n_n none r_v97 a12) (mulf (Host.dotGeneral dot_S1024x16_S16x1024_S1024x1024_1_0_0_1_n_n none (Host.dotGeneral dot_S1024x1024_S1024x16_S1024x16_1_0_0_1_n_n none r_v97 a13) a14) (broadcastInDim S1024x1024 ![] bcast_S_S1024x1024 (constant S_ .f32 0x40000000#32))))
theorem t_v104_congr (r_v97 r_v97' : FVec Ideal S1024x1024 .f32) (hr_v97 : r_v97 = r_v97') (a0 a0' : FVec Ideal S1024x1024 .f32) (ha0 : a0 = a0') (a12 a12' : FVec Ideal S1024x1024 .f32) (ha12 : a12 = a12') (a13 a13' : FVec Ideal S1024x16 .f32) (ha13 : a13 = a13') (a14 a14' : FVec Ideal S16x1024 .f32) (ha14 : a14 = a14') : t_v104 r_v97 a0 a12 a13 a14 = t_v104 r_v97' a0' a12' a13' a14' := by
  subst hr_v97 ha0 ha12 ha13 ha14
  rfl
theorem t_v104_of (V : Valuation τ sig (Elt Ideal)) : res_main_v104 V = t_v104 (res_main_v97 V) (V (Proc.devRef .tc main_arg0)) (V (Proc.devRef .tc main_arg12)) (V (Proc.devRef .tc main_arg13)) (V (Proc.devRef .tc main_arg14)) := rfl
variable (a0 : FVec Ideal S1024x1024 .f32) (a1 : FVec Ideal S1024 .f32) (a2 : FVec Ideal S1024 .f32) (a3 : FVec Ideal S1024x1024 .f32) (a4 : FVec Ideal S1024x16 .f32) (a5 : FVec Ideal S16x1024 .f32) (a6 : FVec Ideal S1024x1024 .f32) (a7 : FVec Ideal S1024x16 .f32) (a8 : FVec Ideal S16x1024 .f32) (a9 : FVec Ideal S1024x1024 .f32) (a10 : FVec Ideal S1024x16 .f32) (a11 : FVec Ideal S16x1024 .f32) (a12 : FVec Ideal S1024x1024 .f32) (a13 : FVec Ideal S1024x16 .f32) (a14 : FVec Ideal S16x1024 .f32)
/-- The valuation at fifteen given arrays. -/
def val : Valuation τ sig (Elt Ideal) :=
  Function.update (Function.update (Function.update (Function.update (Function.update (Function.update (Function.update (Function.update (Function.update (Function.update (Function.update (Function.update (Function.update (Function.update (Function.update (fun _ _ => Classical.ofNonempty) (Proc.devRef .tc main_arg0) a0) (Proc.devRef .tc main_arg1) a1) (Proc.devRef .tc main_arg2) a2) (Proc.devRef .tc main_arg3) a3) (Proc.devRef .tc main_arg4) a4) (Proc.devRef .tc main_arg5) a5) (Proc.devRef .tc main_arg6) a6) (Proc.devRef .tc main_arg7) a7) (Proc.devRef .tc main_arg8) a8) (Proc.devRef .tc main_arg9) a9) (Proc.devRef .tc main_arg10) a10) (Proc.devRef .tc main_arg11) a11) (Proc.devRef .tc main_arg12) a12) (Proc.devRef .tc main_arg13) a13) (Proc.devRef .tc main_arg14) a14
theorem val_0 : val a0 a1 a2 a3 a4 a5 a6 a7 a8 a9 a10 a11 a12 a13 a14 (Proc.devRef .tc main_arg0) = a0 := by
  unfold val
  simp (disch := decide) only [Function.update_self, Function.update_of_ne, ne_eq]
theorem val_1 : val a0 a1 a2 a3 a4 a5 a6 a7 a8 a9 a10 a11 a12 a13 a14 (Proc.devRef .tc main_arg1) = a1 := by
  unfold val
  simp (disch := decide) only [Function.update_self, Function.update_of_ne, ne_eq]
theorem val_2 : val a0 a1 a2 a3 a4 a5 a6 a7 a8 a9 a10 a11 a12 a13 a14 (Proc.devRef .tc main_arg2) = a2 := by
  unfold val
  simp (disch := decide) only [Function.update_self, Function.update_of_ne, ne_eq]
theorem val_3 : val a0 a1 a2 a3 a4 a5 a6 a7 a8 a9 a10 a11 a12 a13 a14 (Proc.devRef .tc main_arg3) = a3 := by
  unfold val
  simp (disch := decide) only [Function.update_self, Function.update_of_ne, ne_eq]
theorem val_4 : val a0 a1 a2 a3 a4 a5 a6 a7 a8 a9 a10 a11 a12 a13 a14 (Proc.devRef .tc main_arg4) = a4 := by
  unfold val
  simp (disch := decide) only [Function.update_self, Function.update_of_ne, ne_eq]
theorem val_5 : val a0 a1 a2 a3 a4 a5 a6 a7 a8 a9 a10 a11 a12 a13 a14 (Proc.devRef .tc main_arg5) = a5 := by
  unfold val
  simp (disch := decide) only [Function.update_self, Function.update_of_ne, ne_eq]
theorem val_6 : val a0 a1 a2 a3 a4 a5 a6 a7 a8 a9 a10 a11 a12 a13 a14 (Proc.devRef .tc main_arg6) = a6 := by
  unfold val
  simp (disch := decide) only [Function.update_self, Function.update_of_ne, ne_eq]
theorem val_7 : val a0 a1 a2 a3 a4 a5 a6 a7 a8 a9 a10 a11 a12 a13 a14 (Proc.devRef .tc main_arg7) = a7 := by
  unfold val
  simp (disch := decide) only [Function.update_self, Function.update_of_ne, ne_eq]
theorem val_8 : val a0 a1 a2 a3 a4 a5 a6 a7 a8 a9 a10 a11 a12 a13 a14 (Proc.devRef .tc main_arg8) = a8 := by
  unfold val
  simp (disch := decide) only [Function.update_self, Function.update_of_ne, ne_eq]
theorem val_9 : val a0 a1 a2 a3 a4 a5 a6 a7 a8 a9 a10 a11 a12 a13 a14 (Proc.devRef .tc main_arg9) = a9 := by
  unfold val
  simp (disch := decide) only [Function.update_self, Function.update_of_ne, ne_eq]
theorem val_10 : val a0 a1 a2 a3 a4 a5 a6 a7 a8 a9 a10 a11 a12 a13 a14 (Proc.devRef .tc main_arg10) = a10 := by
  unfold val
  simp (disch := decide) only [Function.update_self, Function.update_of_ne, ne_eq]
theorem val_11 : val a0 a1 a2 a3 a4 a5 a6 a7 a8 a9 a10 a11 a12 a13 a14 (Proc.devRef .tc main_arg11) = a11 := by
  unfold val
  simp (disch := decide) only [Function.update_self, Function.update_of_ne, ne_eq]
theorem val_12 : val a0 a1 a2 a3 a4 a5 a6 a7 a8 a9 a10 a11 a12 a13 a14 (Proc.devRef .tc main_arg12) = a12 := by
  unfold val
  simp (disch := decide) only [Function.update_self, Function.update_of_ne, ne_eq]
theorem val_13 : val a0 a1 a2 a3 a4 a5 a6 a7 a8 a9 a10 a11 a12 a13 a14 (Proc.devRef .tc main_arg13) = a13 := by
  unfold val
  simp (disch := decide) only [Function.update_self, Function.update_of_ne, ne_eq]
theorem val_14 : val a0 a1 a2 a3 a4 a5 a6 a7 a8 a9 a10 a11 a12 a13 a14 (Proc.devRef .tc main_arg14) = a14 := by
  unfold val
  simp (disch := decide) only [Function.update_self, Function.update_of_ne, ne_eq]
/-- `v12`, of the arrays. -/
def U_v12 : FVec Ideal S512x32 .f32 := t_v12
theorem u_v12 : res_main_v12 (val a0 a1 a2 a3 a4 a5 a6 a7 a8 a9 a10 a11 a12 a13 a14) = U_v12  := (t_v12_of (val a0 a1 a2 a3 a4 a5 a6 a7 a8 a9 a10 a11 a12 a13 a14))
/-- `v13`, of the arrays. -/
def U_v13 : FVec Ideal S512x64 .f32 := t_v13 (U_v12 )
theorem u_v13 : res_main_v13 (val a0 a1 a2 a3 a4 a5 a6 a7 a8 a9 a10 a11 a12 a13 a14) = U_v13  := (t_v13_of (val a0 a1 a2 a3 a4 a5 a6 a7 a8 a9 a10 a11 a12 a13 a14)).trans (t_v13_congr _ _ (u_v12 a0 a1 a2 a3 a4 a5 a6 a7 a8 a9 a10 a11 a12 a13 a14))
/-- `v14`, of the arrays. -/
def U_v14 : FVec Ideal S512x64 .f32 := t_v14 (U_v13 )
theorem u_v14 : res_main_v14 (val a0 a1 a2 a3 a4 a5 a6 a7 a8 a9 a10 a11 a12 a13 a14) = U_v14  := (t_v14_of (val a0 a1 a2 a3 a4 a5 a6 a7 a8 a9 a10 a11 a12 a13 a14)).trans (t_v14_congr _ _ (u_v13 a0 a1 a2 a3 a4 a5 a6 a7 a8 a9 a10 a11 a12 a13 a14))
/-- `v15`, of the arrays. -/
def U_v15 : FVec Ideal S512x64 .f32 := t_v15 (U_v13 )
theorem u_v15 : res_main_v15 (val a0 a1 a2 a3 a4 a5 a6 a7 a8 a9 a10 a11 a12 a13 a14) = U_v15  := (t_v15_of (val a0 a1 a2 a3 a4 a5 a6 a7 a8 a9 a10 a11 a12 a13 a14)).trans (t_v15_congr _ _ (u_v13 a0 a1 a2 a3 a4 a5 a6 a7 a8 a9 a10 a11 a12 a13 a14))
/-- `v34`, of the arrays. -/
def U_v34 : FVec Ideal S1024x1024 .f32 := t_v34 a0 a1
theorem u_v34 : res_main_v34 (val a0 a1 a2 a3 a4 a5 a6 a7 a8 a9 a10 a11 a12 a13 a14) = U_v34 a0 a1 := (t_v34_of (val a0 a1 a2 a3 a4 a5 a6 a7 a8 a9 a10 a11 a12 a13 a14)).trans (t_v34_congr _ _ (val_0 a0 a1 a2 a3 a4 a5 a6 a7 a8 a9 a10 a11 a12 a13 a14) _ _ (val_1 a0 a1 a2 a3 a4 a5 a6 a7 a8 a9 a10 a11 a12 a13 a14))
/-- `v41`, of the arrays. -/
def U_v41 : FVec Ideal S2x512x16x64 .f32 := t_v41 (U_v34 a0 a1) a3 a4 a5
theorem u_v41 : res_main_v41 (val a0 a1 a2 a3 a4 a5 a6 a7 a8 a9 a10 a11 a12 a13 a14) = U_v41 a0 a1 a3 a4 a5 := (t_v41_of (val a0 a1 a2 a3 a4 a5 a6 a7 a8 a9 a10 a11 a12 a13 a14)).trans (t_v41_congr _ _ (u_v34 a0 a1 a2 a3 a4 a5 a6 a7 a8 a9 a10 a11 a12 a13 a14) _ _ (val_3 a0 a1 a2 a3 a4 a5 a6 a7 a8 a9 a10 a11 a12 a13 a14) _ _ (val_4 a0 a1 a2 a3 a4 a5 a6 a7 a8 a9 a10 a11 a12 a13 a14) _ _ (val_5 a0 a1 a2 a3 a4 a5 a6 a7 a8 a9 a10 a11 a12 a13 a14))
/-- `v48`, of the arrays. -/
def U_v48 : FVec Ideal S2x512x16x64 .f32 := t_v48 (U_v34 a0 a1) a6 a7 a8
theorem u_v48 : res_main_v48 (val a0 a1 a2 a3 a4 a5 a6 a7 a8 a9 a10 a11 a12 a13 a14) = U_v48 a0 a1 a6 a7 a8 := (t_v48_of (val a0 a1 a2 a3 a4 a5 a6 a7 a8 a9 a10 a11 a12 a13 a14)).trans (t_v48_congr _ _ (u_v34 a0 a1 a2 a3 a4 a5 a6 a7 a8 a9 a10 a11 a12 a13 a14) _ _ (val_6 a0 a1 a2 a3 a4 a5 a6 a7 a8 a9 a10 a11 a12 a13 a14) _ _ (val_7 a0 a1 a2 a3 a4 a5 a6 a7 a8 a9 a10 a11 a12 a13 a14) _ _ (val_8 a0 a1 a2 a3 a4 a5 a6 a7 a8 a9 a10 a11 a12 a13 a14))
/-- `v83`, of the arrays. -/
def U_v83 : FVec Ideal S2x16x512x512 .f32 := t_v83 (U_v14 ) (U_v15 ) (U_v41 a0 a1 a3 a4 a5) (U_v48 a0 a1 a6 a7 a8)
theorem u_v83 : res_main_v83 (val a0 a1 a2 a3 a4 a5 a6 a7 a8 a9 a10 a11 a12 a13 a14) = U_v83 a0 a1 a3 a4 a5 a6 a7 a8 := (t_v83_of (val a0 a1 a2 a3 a4 a5 a6 a7 a8 a9 a10 a11 a12 a13 a14)).trans (t_v83_congr _ _ (u_v14 a0 a1 a2 a3 a4 a5 a6 a7 a8 a9 a10 a11 a12 a13 a14) _ _ (u_v15 a0 a1 a2 a3 a4 a5 a6 a7 a8 a9 a10 a11 a12 a13 a14) _ _ (u_v41 a0 a1 a2 a3 a4 a5 a6 a7 a8 a9 a10 a11 a12 a13 a14) _ _ (u_v48 a0 a1 a2 a3 a4 a5 a6 a7 a8 a9 a10 a11 a12 a13 a14))
/-- `v90`, of the arrays. -/
def U_v90 : FVec Ideal S2x16x512x512 .f32 := t_v90 (U_v83 a0 a1 a3 a4 a5 a6 a7 a8)
theorem u_v90 : res_main_v90 (val a0 a1 a2 a3 a4 a5 a6 a7 a8 a9 a10 a11 a12 a13 a14) = U_v90 a0 a1 a3 a4 a5 a6 a7 a8 := (t_v90_of (val a0 a1 a2 a3 a4 a5 a6 a7 a8 a9 a10 a11 a12 a13 a14)).trans (t_v90_congr _ _ (u_v83 a0 a1 a2 a3 a4 a5 a6 a7 a8 a9 a10 a11 a12 a13 a14))
/-- `v97`, of the arrays. -/
def U_v97 : FVec Ideal S1024x1024 .f32 := t_v97 (U_v34 a0 a1) (U_v90 a0 a1 a3 a4 a5 a6 a7 a8) a9 a10 a11
theorem u_v97 : res_main_v97 (val a0 a1 a2 a3 a4 a5 a6 a7 a8 a9 a10 a11 a12 a13 a14) = U_v97 a0 a1 a3 a4 a5 a6 a7 a8 a9 a10 a11 := (t_v97_of (val a0 a1 a2 a3 a4 a5 a6 a7 a8 a9 a10 a11 a12 a13 a14)).trans (t_v97_congr _ _ (u_v34 a0 a1 a2 a3 a4 a5 a6 a7 a8 a9 a10 a11 a12 a13 a14) _ _ (u_v90 a0 a1 a2 a3 a4 a5 a6 a7 a8 a9 a10 a11 a12 a13 a14) _ _ (val_9 a0 a1 a2 a3 a4 a5 a6 a7 a8 a9 a10 a11 a12 a13 a14) _ _ (val_10 a0 a1 a2 a3 a4 a5 a6 a7 a8 a9 a10 a11 a12 a13 a14) _ _ (val_11 a0 a1 a2 a3 a4 a5 a6 a7 a8 a9 a10 a11 a12 a13 a14))
/-- `v104`, of the arrays. -/
def U_v104 : FVec Ideal S1024x1024 .f32 := t_v104 (U_v97 a0 a1 a3 a4 a5 a6 a7 a8 a9 a10 a11) a0 a12 a13 a14
theorem u_v104 : res_main_v104 (val a0 a1 a2 a3 a4 a5 a6 a7 a8 a9 a10 a11 a12 a13 a14) = U_v104 a0 a1 a3 a4 a5 a6 a7 a8 a9 a10 a11 a12 a13 a14 := (t_v104_of (val a0 a1 a2 a3 a4 a5 a6 a7 a8 a9 a10 a11 a12 a13 a14)).trans (t_v104_congr _ _ (u_v97 a0 a1 a2 a3 a4 a5 a6 a7 a8 a9 a10 a11 a12 a13 a14) _ _ (val_0 a0 a1 a2 a3 a4 a5 a6 a7 a8 a9 a10 a11 a12 a13 a14) _ _ (val_12 a0 a1 a2 a3 a4 a5 a6 a7 a8 a9 a10 a11 a12 a13 a14) _ _ (val_13 a0 a1 a2 a3 a4 a5 a6 a7 a8 a9 a10 a11 a12 a13 a14) _ _ (val_14 a0 a1 a2 a3 a4 a5 a6 a7 a8 a9 a10 a11 a12 a13 a14))
/-- The operands, of the arrays. -/
def argsOf : Spec.Args where
  h := fun i j => a0 (ix2 i j)
  ln1 := fun k => a1 (ix1 k)
  ln2 := fun k => a2 (ix1 k)
  wq := fun i j => a3 (ix2 i j)
  aq := fun i j => a4 (ix2 i j)
  bq := fun i j => a5 (ix2 i j)
  wk := fun i j => a6 (ix2 i j)
  ak := fun i j => a7 (ix2 i j)
  bk := fun i j => a8 (ix2 i j)
  wv := fun i j => a9 (ix2 i j)
  av := fun i j => a10 (ix2 i j)
  bv := fun i j => a11 (ix2 i j)
  wo := fun i j => a12 (ix2 i j)
  ao := fun i j => a13 (ix2 i j)
  bo := fun i j => a14 (ix2 i j)
theorem args_val : args (val a0 a1 a2 a3 a4 a5 a6 a7 a8 a9 a10 a11 a12 a13 a14) = argsOf a0 a1 a2 a3 a4 a5 a6 a7 a8 a9 a10 a11 a12 a13 a14 := by
  unfold args argsOf
  rw [Spec.Args.mk.injEq]
  exact ⟨funext fun i => funext fun j => congrFun (val_0 a0 a1 a2 a3 a4 a5 a6 a7 a8 a9 a10 a11 a12 a13 a14) (ix2 i j), funext fun k => congrFun (val_1 a0 a1 a2 a3 a4 a5 a6 a7 a8 a9 a10 a11 a12 a13 a14) (ix1 k), funext fun k => congrFun (val_2 a0 a1 a2 a3 a4 a5 a6 a7 a8 a9 a10 a11 a12 a13 a14) (ix1 k), funext fun i => funext fun j => congrFun (val_3 a0 a1 a2 a3 a4 a5 a6 a7 a8 a9 a10 a11 a12 a13 a14) (ix2 i j), funext fun i => funext fun j => congrFun (val_4 a0 a1 a2 a3 a4 a5 a6 a7 a8 a9 a10 a11 a12 a13 a14) (ix2 i j), funext fun i => funext fun j => congrFun (val_5 a0 a1 a2 a3 a4 a5 a6 a7 a8 a9 a10 a11 a12 a13 a14) (ix2 i j), funext fun i => funext fun j => congrFun (val_6 a0 a1 a2 a3 a4 a5 a6 a7 a8 a9 a10 a11 a12 a13 a14) (ix2 i j), funext fun i => funext fun j => congrFun (val_7 a0 a1 a2 a3 a4 a5 a6 a7 a8 a9 a10 a11 a12 a13 a14) (ix2 i j), funext fun i => funext fun j => congrFun (val_8 a0 a1 a2 a3 a4 a5 a6 a7 a8 a9 a10 a11 a12 a13 a14) (ix2 i j), funext fun i => funext fun j => congrFun (val_9 a0 a1 a2 a3 a4 a5 a6 a7 a8 a9 a10 a11 a12 a13 a14) (ix2 i j), funext fun i => funext fun j => congrFun (val_10 a0 a1 a2 a3 a4 a5 a6 a7 a8 a9 a10 a11 a12 a13 a14) (ix2 i j), funext fun i => funext fun j => congrFun (val_11 a0 a1 a2 a3 a4 a5 a6 a7 a8 a9 a10 a11 a12 a13 a14) (ix2 i j), funext fun i => funext fun j => congrFun (val_12 a0 a1 a2 a3 a4 a5 a6 a7 a8 a9 a10 a11 a12 a13 a14) (ix2 i j), funext fun i => funext fun j => congrFun (val_13 a0 a1 a2 a3 a4 a5 a6 a7 a8 a9 a10 a11 a12 a13 a14) (ix2 i j), funext fun i => funext fun j => congrFun (val_14 a0 a1 a2 a3 a4 a5 a6 a7 a8 a9 a10 a11 a12 a13 a14) (ix2 i j)⟩
theorem normed_congr (x x' : FVec Ideal S1024x1024 .f32) (hx : x = x') (w w' : FVec Ideal S1024 .f32) (hw : w = w') : normed x w = normed x' w' := by
  subst hx hw
  rfl
theorem out1 : U_v104 a0 a1 a3 a4 a5 a6 a7 a8 a9 a10 a11 a12 a13 a14 = AttnIdeal.Own.result1 (argsOf a0 a1 a2 a3 a4 a5 a6 a7 a8 a9 a10 a11 a12 a13 a14) :=
  ((u_v104 a0 a1 a2 a3 a4 a5 a6 a7 a8 a9 a10 a11 a12 a13 a14).symm.trans (result1_eq (val a0 a1 a2 a3 a4 a5 a6 a7 a8 a9 a10 a11 a12 a13 a14))).trans (congrArg AttnIdeal.Own.result1 (args_val a0 a1 a2 a3 a4 a5 a6 a7 a8 a9 a10 a11 a12 a13 a14))
theorem out2 : normed (U_v104 a0 a1 a3 a4 a5 a6 a7 a8 a9 a10 a11 a12 a13 a14) a2 = AttnIdeal.Own.result2 (argsOf a0 a1 a2 a3 a4 a5 a6 a7 a8 a9 a10 a11 a12 a13 a14) :=
  ((normed_congr _ _ (u_v104 a0 a1 a2 a3 a4 a5 a6 a7 a8 a9 a10 a11 a12 a13 a14).symm _ _ (val_2 a0 a1 a2 a3 a4 a5 a6 a7 a8 a9 a10 a11 a12 a13 a14).symm).trans (result2_eq (val a0 a1 a2 a3 a4 a5 a6 a7 a8 a9 a10 a11 a12 a13 a14))).trans (congrArg AttnIdeal.Own.result2 (args_val a0 a1 a2 a3 a4 a5 a6 a7 a8 a9 a10 a11 a12 a13 a14))
end Cert.AttnRefIdeal.Own
end
-- ==== Proof.LayersRefValue.lean ====
/- The reference of the calls chained: its layers are the layers' functions. -/
module
public import Idealize.ShloMosaic.Lib.Claim
public import Idealize.ShloMosaic.Lib.Pipeline.ValueKit
public import proofs.«01_k».proof.Proof.Gen.LayersRefIdeal.Run
public import proofs.«01_k».proof.Proof.LayersSpec
public import proofs.«01_k».proof.Proof.AttnRefOut
public import proofs.«01_k».proof.Proof.LayersRefTerms
@[expose] public section
set_option maxRecDepth 16384
noncomputable section
open Idealize.ShloMosaic Idealize.ShloMosaic.TcCoe Idealize.SL.Sem
namespace Cert.LayersRefIdeal.Own
open Cert.LayersRefIdeal Cert.LayersRefIdeal.Gen Cert.LayersRefIdeal.Value
variable (V0 : Valuation τ sig (Elt Ideal))

/-- `v12`, of the terms it is written with. -/
def t_v12  : FVec Ideal S512x32 .f32 :=
  mulf (broadcastInDim S512x32 ![0, 1] bcast_S512x1_S512x32_0_1 (broadcastInDim S512x1 ![0] bcast_S512_S512x1_0 (sitofp .f32 (iotaInDim S512 32 0)))) (broadcastInDim S512x32 ![0, 1] bcast_S1x32_S512x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (sitofp .f32 (iotaInDim S32 32 0)) (broadcastInDim S32 ![] bcast_S_S32 (constant S_ .f32 0x42000000#32)))))))
/-- `v13`, of the terms it is written with. -/
def t_v13 (r_v12 : FVec Ideal S512x32 .f32) : FVec Ideal S512x64 .f32 :=
  concatenate S512x64 1 [⟨S512x32, r_v12⟩, ⟨S512x32, r_v12⟩] concatenates_S512x32_S512x32_S512x64_d1
/-- `v14`, of the terms it is written with. -/
def t_v14 (r_v13 : FVec Ideal S512x64 .f32) : FVec Ideal S512x64 .f32 :=
  Host.cos r_v13
/-- `v15`, of the terms it is written with. -/
def t_v15 (r_v13 : FVec Ideal S512x64 .f32) : FVec Ideal S512x64 .f32 :=
  Host.sin r_v13
/-- `v34`, of the terms it is written with. -/
def t_v34 (a0 : FVec Ideal S1024x1024 .f32) (a1 : FVec Ideal S1024 .f32) : FVec Ideal S1024x1024 .f32 :=
  mulf (mulf a0 (broadcastInDim S1024x1024 ![0, 1] bcast_S1024x1_S1024x1024_0_1 (Host.rsqrt (addf (Host.divf (broadcastInDim S1024x1 ![0] bcast_S1024_S1024x1_0 (Host.reduceAdd (mulf a0 a0) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x3727C5AC#32)))))) (broadcastInDim S1024x1024 ![0, 1] bcast_S1x1024_S1024x1024_0_1 (broadcastInDim S1x1024 ![1] bcast_S1024_S1x1024_1 a1))
/-- `v41`, of the terms it is written with. -/
def t_v41 (r_v34 : FVec Ideal S1024x1024 .f32) (a3 : FVec Ideal S1024x1024 .f32) (a4 : FVec Ideal S1024x16 .f32) (a5 : FVec Ideal S16x1024 .f32) : FVec Ideal S2x512x16x64 .f32 :=
  shapeCast _ (addf (Host.dotGeneral dot_S1024x1024_S1024x1024_S1024x1024_1_0_0_1_n_n none r_v34 a3) (mulf (Host.dotGeneral dot_S1024x16_S16x1024_S1024x1024_1_0_0_1_n_n none (Host.dotGeneral dot_S1024x1024_S1024x16_S1024x16_1_0_0_1_n_n none r_v34 a4) a5) (broadcastInDim S1024x1024 ![] bcast_S_S1024x1024 (constant S_ .f32 0x40000000#32)))) shapeCasts_S1024x1024_S2x512x16x64
/-- `v48`, of the terms it is written with. -/
def t_v48 (r_v34 : FVec Ideal S1024x1024 .f32) (a6 : FVec Ideal S1024x1024 .f32) (a7 : FVec Ideal S1024x16 .f32) (a8 : FVec Ideal S16x1024 .f32) : FVec Ideal S2x512x16x64 .f32 :=
  shapeCast _ (addf (Host.dotGeneral dot_S1024x1024_S1024x1024_S1024x1024_1_0_0_1_n_n none r_v34 a6) (mulf (Host.dotGeneral dot_S1024x16_S16x1024_S1024x1024_1_0_0_1_n_n none (Host.dotGeneral dot_S1024x1024_S1024x16_S1024x16_1_0_0_1_n_n none r_v34 a7) a8) (broadcastInDim S1024x1024 ![] bcast_S_S1024x1024 (constant S_ .f32 0x40000000#32)))) shapeCasts_S1024x1024_S2x512x16x64
/-- `v83`, of the terms it is written with. -/
def t_v83 (r_v14 : FVec Ideal S512x64 .f32) (r_v15 : FVec Ideal S512x64 .f32) (r_v41 : FVec Ideal S2x512x16x64 .f32) (r_v48 : FVec Ideal S2x512x16x64 .f32) : FVec Ideal S2x16x512x512 .f32 :=
  addf (mulf (Host.dotGeneral dot_S2x512x16x64_S2x512x16x64_S2x16x512x512_3_3_1_1_02_02 none (addf (mulf r_v41 (broadcastInDim S2x512x16x64 ![0, 1, 2, 3] bcast_S1x512x1x64_S2x512x16x64_0_1_2_3 (broadcastInDim S1x512x1x64 ![1, 3] bcast_S512x64_S1x512x1x64_1_3 r_v14))) (mulf (concatenate S2x512x16x64 3 [⟨S2x512x16x32, (Host.negf (extractStridedSlice S2x512x16x32 ![0, 0, 0, 32] r_v41 slices_S2x512x16x64_S2x512x16x32_0_0_0_32))⟩, ⟨S2x512x16x32, (extractStridedSlice S2x512x16x32 ![0, 0, 0, 0] r_v41 slices_S2x512x16x64_S2x512x16x32_0_0_0_0)⟩] concatenates_S2x512x16x32_S2x512x16x32_S2x512x16x64_d3) (broadcastInDim S2x512x16x64 ![0, 1, 2, 3] bcast_S1x512x1x64_S2x512x16x64_0_1_2_3 (broadcastInDim S1x512x1x64 ![1, 3] bcast_S512x64_S1x512x1x64_1_3 r_v15)))) (addf (mulf r_v48 (broadcastInDim S2x512x16x64 ![0, 1, 2, 3] bcast_S1x512x1x64_S2x512x16x64_0_1_2_3 (broadcastInDim S1x512x1x64 ![1, 3] bcast_S512x64_S1x512x1x64_1_3 r_v14))) (mulf (concatenate S2x512x16x64 3 [⟨S2x512x16x32, (Host.negf (extractStridedSlice S2x512x16x32 ![0, 0, 0, 32] r_v48 slices_S2x512x16x64_S2x512x16x32_0_0_0_32))⟩, ⟨S2x512x16x32, (extractStridedSlice S2x512x16x32 ![0, 0, 0, 0] r_v48 slices_S2x512x16x64_S2x512x16x32_0_0_0_0)⟩] concatenates_S2x512x16x32_S2x512x16x32_S2x512x16x64_d3) (broadcastInDim S2x512x16x64 ![0, 1, 2, 3] bcast_S1x512x1x64_S2x512x16x64_0_1_2_3 (broadcastInDim S1x512x1x64 ![1, 3] bcast_S512x64_S1x512x1x64_1_3 r_v15))))) (broadcastInDim S2x16x512x512 ![] bcast_S_S2x16x512x512 (Host.divf (constant S_ .f32 0x3F800000#32) (Host.sqrt (constant S_ .f32 0x42800000#32))))) (broadcastInDim S2x16x512x512 ![0, 1, 2, 3] bcast_S1x1x512x512_S2x16x512x512_0_1_2_3 (id (select (broadcastInDim S1x1x512x512 ![2, 3] bcast_S512x512_S1x1x512x512_2_3 (select (cmpi .sge (addi (iotaInDim S512x512 32 0) (broadcastInDim S512x512 ![] bcast_S_S512x512 (constantI S_ 32 0#32))) (iotaInDim S512x512 32 1)) (broadcastInDim S512x512 ![] bcast_S_S512x512 (constantI S_ 1 1#1)) (broadcastInDim S512x512 ![] bcast_S_S512x512 (constantI S_ 1 0#1)))) (broadcastInDim S1x1x512x512 ![] bcast_S_S1x1x512x512 (constant S_ .f32 0x00000000#32)) (broadcastInDim S1x1x512x512 ![] bcast_S_S1x1x512x512 (constant S_ .f32 0xFF800000#32)))))
/-- `v90`, of the terms it is written with. -/
def t_v90 (r_v83 : FVec Ideal S2x16x512x512 .f32) : FVec Ideal S2x16x512x512 .f32 :=
  Host.exp (subf r_v83 (broadcastInDim S2x16x512x512 ![0, 1, 2, 3] bcast_S2x16x512x1_S2x16x512x512_0_1_2_3 (broadcastInDim S2x16x512x1 ![0, 1, 2] bcast_S2x16x512_S2x16x512x1_0_1_2 (maximumf (broadcastInDim S2x16x512 ![] bcast_S_S2x16x512 (constant S_ .f32 0xFF800000#32)) (Host.reduce FloatOps.maximumf r_v83 (constant S_ .f32 0xFF800000#32) reducesTo_S2x16x512x512_S2x16x512_d3 h_S_)))))
/-- `v97`, of the terms it is written with. -/
def t_v97 (r_v34 : FVec Ideal S1024x1024 .f32) (r_v90 : FVec Ideal S2x16x512x512 .f32) (a9 : FVec Ideal S1024x1024 .f32) (a10 : FVec Ideal S1024x16 .f32) (a11 : FVec Ideal S16x1024 .f32) : FVec Ideal S1024x1024 .f32 :=
  shapeCast _ (transpose S2x512x16x64 [0, 3, 1, 2] (Host.dotGeneral dot_S2x512x16x64_S2x16x512x512_S2x16x64x512_1_3_3_2_02_01 none (shapeCast _ (addf (Host.dotGeneral dot_S1024x1024_S1024x1024_S1024x1024_1_0_0_1_n_n none r_v34 a9) (mulf (Host.dotGeneral dot_S1024x16_S16x1024_S1024x1024_1_0_0_1_n_n none (Host.dotGeneral dot_S1024x1024_S1024x16_S1024x16_1_0_0_1_n_n none r_v34 a10) a11) (broadcastInDim S1024x1024 ![] bcast_S_S1024x1024 (constant S_ .f32 0x40000000#32)))) shapeCasts_S1024x1024_S2x512x16x64) (Host.divf r_v90 (broadcastInDim S2x16x512x512 ![0, 1, 2, 3] bcast_S2x16x512x1_S2x16x512x512_0_1_2_3 (broadcastInDim S2x16x512x1 ![0, 1, 2] bcast_S2x16x512_S2x16x512x1_0_1_2 (Host.reduceAdd r_v90 (constant S_ .f32 0x00000000#32) reducesTo_S2x16x512x512_S2x16x512_d3 h_S_))))) transposes_S2x16x64x512_S2x512x16x64_0_3_1_2) shapeCasts_S2x512x16x64_S1024x1024
/-- `v104`, of the terms it is written with. -/
def t_v104 (r_v97 : FVec Ideal S1024x1024 .f32) (a0 : FVec Ideal S1024x1024 .f32) (a12 : FVec Ideal S1024x1024 .f32) (a13 : FVec Ideal S1024x16 .f32) (a14 : FVec Ideal S16x1024 .f32) : FVec Ideal S1024x1024 .f32 :=
  addf a0 (addf (Host.dotGeneral dot_S1024x1024_S1024x1024_S1024x1024_1_0_0_1_n_n none r_v97 a12) (mulf (Host.dotGeneral dot_S1024x16_S16x1024_S1024x1024_1_0_0_1_n_n none (Host.dotGeneral dot_S1024x1024_S1024x16_S1024x16_1_0_0_1_n_n none r_v97 a13) a14) (broadcastInDim S1024x1024 ![] bcast_S_S1024x1024 (constant S_ .f32 0x40000000#32))))
theorem t_v12_eq  : t_v12  = AttnRefIdeal.Own.t_v12  := rfl
theorem t_v13_eq (r_v12 : FVec Ideal S512x32 .f32) : t_v13 r_v12 = AttnRefIdeal.Own.t_v13 r_v12 := rfl
theorem t_v14_eq (r_v13 : FVec Ideal S512x64 .f32) : t_v14 r_v13 = AttnRefIdeal.Own.t_v14 r_v13 := rfl
theorem t_v15_eq (r_v13 : FVec Ideal S512x64 .f32) : t_v15 r_v13 = AttnRefIdeal.Own.t_v15 r_v13 := rfl
theorem t_v34_eq (a0 : FVec Ideal S1024x1024 .f32) (a1 : FVec Ideal S1024 .f32) : t_v34 a0 a1 = AttnRefIdeal.Own.t_v34 a0 a1 := rfl
theorem t_v41_eq (r_v34 : FVec Ideal S1024x1024 .f32) (a3 : FVec Ideal S1024x1024 .f32) (a4 : FVec Ideal S1024x16 .f32) (a5 : FVec Ideal S16x1024 .f32) : t_v41 r_v34 a3 a4 a5 = AttnRefIdeal.Own.t_v41 r_v34 a3 a4 a5 := rfl
theorem t_v48_eq (r_v34 : FVec Ideal S1024x1024 .f32) (a6 : FVec Ideal S1024x1024 .f32) (a7 : FVec Ideal S1024x16 .f32) (a8 : FVec Ideal S16x1024 .f32) : t_v48 r_v34 a6 a7 a8 = AttnRefIdeal.Own.t_v48 r_v34 a6 a7 a8 := rfl
theorem t_v83_eq (r_v14 : FVec Ideal S512x64 .f32) (r_v15 : FVec Ideal S512x64 .f32) (r_v41 : FVec Ideal S2x512x16x64 .f32) (r_v48 : FVec Ideal S2x512x16x64 .f32) : t_v83 r_v14 r_v15 r_v41 r_v48 = AttnRefIdeal.Own.t_v83 r_v14 r_v15 r_v41 r_v48 := rfl
theorem t_v90_eq (r_v83 : FVec Ideal S2x16x512x512 .f32) : t_v90 r_v83 = AttnRefIdeal.Own.t_v90 r_v83 := rfl
theorem t_v97_eq (r_v34 : FVec Ideal S1024x1024 .f32) (r_v90 : FVec Ideal S2x16x512x512 .f32) (a9 : FVec Ideal S1024x1024 .f32) (a10 : FVec Ideal S1024x16 .f32) (a11 : FVec Ideal S16x1024 .f32) : t_v97 r_v34 r_v90 a9 a10 a11 = AttnRefIdeal.Own.t_v97 r_v34 r_v90 a9 a10 a11 := rfl
theorem t_v104_eq (r_v97 : FVec Ideal S1024x1024 .f32) (a0 : FVec Ideal S1024x1024 .f32) (a12 : FVec Ideal S1024x1024 .f32) (a13 : FVec Ideal S1024x16 .f32) (a14 : FVec Ideal S16x1024 .f32) : t_v104 r_v97 a0 a12 a13 a14 = AttnRefIdeal.Own.t_v104 r_v97 a0 a12 a13 a14 := rfl
/-- The rows `h`, normed. -/
def t_normed (h : FVec Ideal S1024x1024 .f32) (w : FVec Ideal S1024 .f32) : FVec Ideal S1024x1024 .f32 :=
  mulf (mulf h (broadcastInDim S1024x1024 ![0, 1] bcast_S1024x1_S1024x1024_0_1 (Host.rsqrt (addf (Host.divf (broadcastInDim S1024x1 ![0] bcast_S1024_S1024x1_0 (Host.reduceAdd (mulf h h) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x3727C5AC#32)))))) (broadcastInDim S1024x1024 ![0, 1] bcast_S1x1024_S1024x1024_0_1 (broadcastInDim S1x1024 ![1] bcast_S1024_S1x1024_1 w))
theorem t_normed_eq (h : FVec Ideal S1024x1024 .f32) (w : FVec Ideal S1024 .f32) : t_normed h w = AttnRefIdeal.Own.normed h w := rfl
/-- The arrays the reference is given. -/
def arrays : LayersIdeal.Own.Arrays where
  h := V0 (Proc.devRef .tc main_arg0)
  ln1 := V0 (Proc.devRef .tc main_arg1)
  ln2 := V0 (Proc.devRef .tc main_arg2)
  wq := V0 (Proc.devRef .tc main_arg3)
  aq := V0 (Proc.devRef .tc main_arg4)
  bq := V0 (Proc.devRef .tc main_arg5)
  wk := V0 (Proc.devRef .tc main_arg6)
  ak := V0 (Proc.devRef .tc main_arg7)
  bk := V0 (Proc.devRef .tc main_arg8)
  wv := V0 (Proc.devRef .tc main_arg9)
  av := V0 (Proc.devRef .tc main_arg10)
  bv := V0 (Proc.devRef .tc main_arg11)
  wo := V0 (Proc.devRef .tc main_arg12)
  ao := V0 (Proc.devRef .tc main_arg13)
  bo := V0 (Proc.devRef .tc main_arg14)
  wg := V0 (Proc.devRef .tc main_arg15)
  ag := V0 (Proc.devRef .tc main_arg16)
  bg := V0 (Proc.devRef .tc main_arg17)
  wu := V0 (Proc.devRef .tc main_arg18)
  au := V0 (Proc.devRef .tc main_arg19)
  bu := V0 (Proc.devRef .tc main_arg20)
  wd := V0 (Proc.devRef .tc main_arg21)
  ad := V0 (Proc.devRef .tc main_arg22)
  bd := V0 (Proc.devRef .tc main_arg23)
  lnf := V0 (Proc.devRef .tc main_arg24)
  lm := V0 (Proc.devRef .tc main_arg25)
  vw := V0 (Proc.devRef .tc main_arg26)
  vb := V0 (Proc.devRef .tc main_arg27)
/-- Layer 0's operand 0. -/
def p0_0 : FVec Ideal S1024x1024 .f32 := V0 (Proc.devRef .tc main_arg0)
/-- Layer 0's operand 1. -/
def p0_1 : FVec Ideal S1024 .f32 := shapeCast S1024 (extractStridedSlice S1x1024 ![0, 0] (V0 (Proc.devRef .tc main_arg1)) slices_S2x1024_S1x1024_0_0) shapeCasts_S1x1024_S1024
/-- Layer 0's operand 2. -/
def p0_2 : FVec Ideal S1024 .f32 := shapeCast S1024 (extractStridedSlice S1x1024 ![0, 0] (V0 (Proc.devRef .tc main_arg2)) slices_S2x1024_S1x1024_0_0) shapeCasts_S1x1024_S1024
/-- Layer 0's operand 3. -/
def p0_3 : FVec Ideal S1024x1024 .f32 := shapeCast S1024x1024 (extractStridedSlice S1x1024x1024 ![0, 0, 0] (V0 (Proc.devRef .tc main_arg3)) slices_S2x1024x1024_S1x1024x1024_0_0_0) shapeCasts_S1x1024x1024_S1024x1024
/-- Layer 0's operand 4. -/
def p0_4 : FVec Ideal S1024x16 .f32 := shapeCast S1024x16 (extractStridedSlice S1x1024x16 ![0, 0, 0] (V0 (Proc.devRef .tc main_arg4)) slices_S2x1024x16_S1x1024x16_0_0_0) shapeCasts_S1x1024x16_S1024x16
/-- Layer 0's operand 5. -/
def p0_5 : FVec Ideal S16x1024 .f32 := shapeCast S16x1024 (extractStridedSlice S1x16x1024 ![0, 0, 0] (V0 (Proc.devRef .tc main_arg5)) slices_S2x16x1024_S1x16x1024_0_0_0) shapeCasts_S1x16x1024_S16x1024
/-- Layer 0's operand 6. -/
def p0_6 : FVec Ideal S1024x1024 .f32 := shapeCast S1024x1024 (extractStridedSlice S1x1024x1024 ![0, 0, 0] (V0 (Proc.devRef .tc main_arg6)) slices_S2x1024x1024_S1x1024x1024_0_0_0) shapeCasts_S1x1024x1024_S1024x1024
/-- Layer 0's operand 7. -/
def p0_7 : FVec Ideal S1024x16 .f32 := shapeCast S1024x16 (extractStridedSlice S1x1024x16 ![0, 0, 0] (V0 (Proc.devRef .tc main_arg7)) slices_S2x1024x16_S1x1024x16_0_0_0) shapeCasts_S1x1024x16_S1024x16
/-- Layer 0's operand 8. -/
def p0_8 : FVec Ideal S16x1024 .f32 := shapeCast S16x1024 (extractStridedSlice S1x16x1024 ![0, 0, 0] (V0 (Proc.devRef .tc main_arg8)) slices_S2x16x1024_S1x16x1024_0_0_0) shapeCasts_S1x16x1024_S16x1024
/-- Layer 0's operand 9. -/
def p0_9 : FVec Ideal S1024x1024 .f32 := shapeCast S1024x1024 (extractStridedSlice S1x1024x1024 ![0, 0, 0] (V0 (Proc.devRef .tc main_arg9)) slices_S2x1024x1024_S1x1024x1024_0_0_0) shapeCasts_S1x1024x1024_S1024x1024
/-- Layer 0's operand 10. -/
def p0_10 : FVec Ideal S1024x16 .f32 := shapeCast S1024x16 (extractStridedSlice S1x1024x16 ![0, 0, 0] (V0 (Proc.devRef .tc main_arg10)) slices_S2x1024x16_S1x1024x16_0_0_0) shapeCasts_S1x1024x16_S1024x16
/-- Layer 0's operand 11. -/
def p0_11 : FVec Ideal S16x1024 .f32 := shapeCast S16x1024 (extractStridedSlice S1x16x1024 ![0, 0, 0] (V0 (Proc.devRef .tc main_arg11)) slices_S2x16x1024_S1x16x1024_0_0_0) shapeCasts_S1x16x1024_S16x1024
/-- Layer 0's operand 12. -/
def p0_12 : FVec Ideal S1024x1024 .f32 := shapeCast S1024x1024 (extractStridedSlice S1x1024x1024 ![0, 0, 0] (V0 (Proc.devRef .tc main_arg12)) slices_S2x1024x1024_S1x1024x1024_0_0_0) shapeCasts_S1x1024x1024_S1024x1024
/-- Layer 0's operand 13. -/
def p0_13 : FVec Ideal S1024x16 .f32 := shapeCast S1024x16 (extractStridedSlice S1x1024x16 ![0, 0, 0] (V0 (Proc.devRef .tc main_arg13)) slices_S2x1024x16_S1x1024x16_0_0_0) shapeCasts_S1x1024x16_S1024x16
/-- Layer 0's operand 14. -/
def p0_14 : FVec Ideal S16x1024 .f32 := shapeCast S16x1024 (extractStridedSlice S1x16x1024 ![0, 0, 0] (V0 (Proc.devRef .tc main_arg14)) slices_S2x16x1024_S1x16x1024_0_0_0) shapeCasts_S1x16x1024_S16x1024
theorem e0_v12 : (res_main_v12 V0 : FVec Ideal S512x32 .f32) = AttnRefIdeal.Own.U_v12  :=
  (show (res_main_v12 V0 : FVec Ideal S512x32 .f32) = t_v12  from rfl).trans ((t_v12_eq ))
theorem e0_v13 : (res_main_v13 V0 : FVec Ideal S512x64 .f32) = AttnRefIdeal.Own.U_v13  :=
  (show (res_main_v13 V0 : FVec Ideal S512x64 .f32) = t_v13 (res_main_v12 V0) from rfl).trans ((t_v13_eq (res_main_v12 V0)).trans (AttnRefIdeal.Own.t_v13_congr _ _ (e0_v12 V0)))
theorem e0_v14 : (res_main_v14 V0 : FVec Ideal S512x64 .f32) = AttnRefIdeal.Own.U_v14  :=
  (show (res_main_v14 V0 : FVec Ideal S512x64 .f32) = t_v14 (res_main_v13 V0) from rfl).trans ((t_v14_eq (res_main_v13 V0)).trans (AttnRefIdeal.Own.t_v14_congr _ _ (e0_v13 V0)))
theorem e0_v15 : (res_main_v15 V0 : FVec Ideal S512x64 .f32) = AttnRefIdeal.Own.U_v15  :=
  (show (res_main_v15 V0 : FVec Ideal S512x64 .f32) = t_v15 (res_main_v13 V0) from rfl).trans ((t_v15_eq (res_main_v13 V0)).trans (AttnRefIdeal.Own.t_v15_congr _ _ (e0_v13 V0)))
theorem e0_v36 : (res_main_v36 V0 : FVec Ideal S1024x1024 .f32) = AttnRefIdeal.Own.U_v34 (p0_0 V0) (p0_1 V0) :=
  (show (res_main_v36 V0 : FVec Ideal S1024x1024 .f32) = t_v34 (p0_0 V0) (p0_1 V0) from rfl).trans ((t_v34_eq (p0_0 V0) (p0_1 V0)).trans (AttnRefIdeal.Own.t_v34_congr _ _ rfl _ _ rfl))
theorem e0_v49 : (res_main_v49 V0 : FVec Ideal S2x512x16x64 .f32) = AttnRefIdeal.Own.U_v41 (p0_0 V0) (p0_1 V0) (p0_3 V0) (p0_4 V0) (p0_5 V0) :=
  (show (res_main_v49 V0 : FVec Ideal S2x512x16x64 .f32) = t_v41 (res_main_v36 V0) (p0_3 V0) (p0_4 V0) (p0_5 V0) from rfl).trans ((t_v41_eq (res_main_v36 V0) (p0_3 V0) (p0_4 V0) (p0_5 V0)).trans (AttnRefIdeal.Own.t_v41_congr _ _ (e0_v36 V0) _ _ rfl _ _ rfl _ _ rfl))
theorem e0_v62 : (res_main_v62 V0 : FVec Ideal S2x512x16x64 .f32) = AttnRefIdeal.Own.U_v48 (p0_0 V0) (p0_1 V0) (p0_6 V0) (p0_7 V0) (p0_8 V0) :=
  (show (res_main_v62 V0 : FVec Ideal S2x512x16x64 .f32) = t_v48 (res_main_v36 V0) (p0_6 V0) (p0_7 V0) (p0_8 V0) from rfl).trans ((t_v48_eq (res_main_v36 V0) (p0_6 V0) (p0_7 V0) (p0_8 V0)).trans (AttnRefIdeal.Own.t_v48_congr _ _ (e0_v36 V0) _ _ rfl _ _ rfl _ _ rfl))
theorem e0_v103 : (res_main_v103 V0 : FVec Ideal S2x16x512x512 .f32) = AttnRefIdeal.Own.U_v83 (p0_0 V0) (p0_1 V0) (p0_3 V0) (p0_4 V0) (p0_5 V0) (p0_6 V0) (p0_7 V0) (p0_8 V0) :=
  (show (res_main_v103 V0 : FVec Ideal S2x16x512x512 .f32) = t_v83 (res_main_v14 V0) (res_main_v15 V0) (res_main_v49 V0) (res_main_v62 V0) from rfl).trans ((t_v83_eq (res_main_v14 V0) (res_main_v15 V0) (res_main_v49 V0) (res_main_v62 V0)).trans (AttnRefIdeal.Own.t_v83_congr _ _ (e0_v14 V0) _ _ (e0_v15 V0) _ _ (e0_v49 V0) _ _ (e0_v62 V0)))
theorem e0_v110 : (res_main_v110 V0 : FVec Ideal S2x16x512x512 .f32) = AttnRefIdeal.Own.U_v90 (p0_0 V0) (p0_1 V0) (p0_3 V0) (p0_4 V0) (p0_5 V0) (p0_6 V0) (p0_7 V0) (p0_8 V0) :=
  (show (res_main_v110 V0 : FVec Ideal S2x16x512x512 .f32) = t_v90 (res_main_v103 V0) from rfl).trans ((t_v90_eq (res_main_v103 V0)).trans (AttnRefIdeal.Own.t_v90_congr _ _ (e0_v103 V0)))
theorem e0_v117 : (res_main_v117 V0 : FVec Ideal S1024x1024 .f32) = AttnRefIdeal.Own.U_v97 (p0_0 V0) (p0_1 V0) (p0_3 V0) (p0_4 V0) (p0_5 V0) (p0_6 V0) (p0_7 V0) (p0_8 V0) (p0_9 V0) (p0_10 V0) (p0_11 V0) :=
  (show (res_main_v117 V0 : FVec Ideal S1024x1024 .f32) = t_v97 (res_main_v36 V0) (res_main_v110 V0) (p0_9 V0) (p0_10 V0) (p0_11 V0) from rfl).trans ((t_v97_eq (res_main_v36 V0) (res_main_v110 V0) (p0_9 V0) (p0_10 V0) (p0_11 V0)).trans (AttnRefIdeal.Own.t_v97_congr _ _ (e0_v36 V0) _ _ (e0_v110 V0) _ _ rfl _ _ rfl _ _ rfl))
theorem e0_v130 : (res_main_v130 V0 : FVec Ideal S1024x1024 .f32) = AttnRefIdeal.Own.U_v104 (p0_0 V0) (p0_1 V0) (p0_3 V0) (p0_4 V0) (p0_5 V0) (p0_6 V0) (p0_7 V0) (p0_8 V0) (p0_9 V0) (p0_10 V0) (p0_11 V0) (p0_12 V0) (p0_13 V0) (p0_14 V0) :=
  (show (res_main_v130 V0 : FVec Ideal S1024x1024 .f32) = t_v104 (res_main_v117 V0) (p0_0 V0) (p0_12 V0) (p0_13 V0) (p0_14 V0) from rfl).trans ((t_v104_eq (res_main_v117 V0) (p0_0 V0) (p0_12 V0) (p0_13 V0) (p0_14 V0)).trans (AttnRefIdeal.Own.t_v104_congr _ _ (e0_v117 V0) _ _ rfl _ _ rfl _ _ rfl _ _ rfl))
theorem args0 : AttnRefIdeal.Own.argsOf (p0_0 V0) (p0_1 V0) (p0_2 V0) (p0_3 V0) (p0_4 V0) (p0_5 V0) (p0_6 V0) (p0_7 V0) (p0_8 V0) (p0_9 V0) (p0_10 V0) (p0_11 V0) (p0_12 V0) (p0_13 V0) (p0_14 V0) = (arrays V0).attn 0 ((arrays V0).h) := by
  unfold AttnRefIdeal.Own.argsOf LayersIdeal.Own.Arrays.attn
  rw [Spec.Args.mk.injEq]
  refine ⟨rfl, ?_, ?_, ?_, ?_, ?_, ?_, ?_, ?_, ?_, ?_, ?_, ?_, ?_, ?_⟩
  · funext k; pointwise [arrays, p0_1]
  · funext k; pointwise [arrays, p0_2]
  · funext i j; pointwise [arrays, p0_3]
  · funext i j; pointwise [arrays, p0_4]
  · funext i j; pointwise [arrays, p0_5]
  · funext i j; pointwise [arrays, p0_6]
  · funext i j; pointwise [arrays, p0_7]
  · funext i j; pointwise [arrays, p0_8]
  · funext i j; pointwise [arrays, p0_9]
  · funext i j; pointwise [arrays, p0_10]
  · funext i j; pointwise [arrays, p0_11]
  · funext i j; pointwise [arrays, p0_12]
  · funext i j; pointwise [arrays, p0_13]
  · funext i j; pointwise [arrays, p0_14]
/-- Layer 0's rows after the attention, -/
theorem res_v130 : (res_main_v130 V0 : FVec Ideal S1024x1024 .f32) = AttnIdeal.Own.result1 ((arrays V0).attn 0 ((arrays V0).h)) :=
  ((e0_v130 V0).trans (AttnRefIdeal.Own.out1 (p0_0 V0) (p0_1 V0) (p0_2 V0) (p0_3 V0) (p0_4 V0) (p0_5 V0) (p0_6 V0) (p0_7 V0) (p0_8 V0) (p0_9 V0) (p0_10 V0) (p0_11 V0) (p0_12 V0) (p0_13 V0) (p0_14 V0))).trans (congrArg AttnIdeal.Own.result1 (args0 V0))
/-- normed, -/
theorem res_v145 : (res_main_v145 V0 : FVec Ideal S1024x1024 .f32) = AttnIdeal.Own.result2 ((arrays V0).attn 0 ((arrays V0).h)) :=
  ((show (res_main_v145 V0 : FVec Ideal S1024x1024 .f32) = t_normed (res_main_v130 V0) (p0_2 V0) from rfl).trans ((t_normed_eq _ _).trans (AttnRefIdeal.Own.normed_congr _ _ (e0_v130 V0) _ _ rfl))).trans ((AttnRefIdeal.Own.out2 (p0_0 V0) (p0_1 V0) (p0_2 V0) (p0_3 V0) (p0_4 V0) (p0_5 V0) (p0_6 V0) (p0_7 V0) (p0_8 V0) (p0_9 V0) (p0_10 V0) (p0_11 V0) (p0_12 V0) (p0_13 V0) (p0_14 V0)).trans (congrArg AttnIdeal.Own.result2 (args0 V0)))
/-- the gated unit's result of them, -/
theorem mlp0 : (res_main_v184 V0 : FVec Ideal S1024x1024 .f32) = (arrays V0).mlp 0 (res_main_v145 V0) (res_main_v130 V0) := by
  unfold res_main_v184 res_main_v171 res_main_v157 LayersIdeal.Own.Arrays.mlp
  generalize res_main_v145 V0 = x
  generalize res_main_v130 V0 = h
  funext i
  pointwise [arrays, MlpIdeal.Own.result, MlpIdeal.Own.mid, Spec.lora, Spec.gated, Spec.two, Ideal.logistic]
/-- and after the layer. -/
theorem res_v184 : (res_main_v184 V0 : FVec Ideal S1024x1024 .f32) = (arrays V0).layer 0 ((arrays V0).h) :=
  (mlp0 V0).trans (show (arrays V0).mlp 0 (res_main_v145 V0) (res_main_v130 V0) = (arrays V0).mlp 0 (AttnIdeal.Own.result2 ((arrays V0).attn 0 ((arrays V0).h))) (AttnIdeal.Own.result1 ((arrays V0).attn 0 ((arrays V0).h))) from congr (congrArg ((arrays V0).mlp 0) (res_v145 V0)) (res_v130 V0))
/-- Layer 1's operand 0. -/
def p1_0 : FVec Ideal S1024x1024 .f32 := res_main_v184 V0
/-- Layer 1's operand 1. -/
def p1_1 : FVec Ideal S1024 .f32 := shapeCast S1024 (extractStridedSlice S1x1024 ![1, 0] (V0 (Proc.devRef .tc main_arg1)) slices_S2x1024_S1x1024_1_0) shapeCasts_S1x1024_S1024
/-- Layer 1's operand 2. -/
def p1_2 : FVec Ideal S1024 .f32 := shapeCast S1024 (extractStridedSlice S1x1024 ![1, 0] (V0 (Proc.devRef .tc main_arg2)) slices_S2x1024_S1x1024_1_0) shapeCasts_S1x1024_S1024
/-- Layer 1's operand 3. -/
def p1_3 : FVec Ideal S1024x1024 .f32 := shapeCast S1024x1024 (extractStridedSlice S1x1024x1024 ![1, 0, 0] (V0 (Proc.devRef .tc main_arg3)) slices_S2x1024x1024_S1x1024x1024_1_0_0) shapeCasts_S1x1024x1024_S1024x1024
/-- Layer 1's operand 4. -/
def p1_4 : FVec Ideal S1024x16 .f32 := shapeCast S1024x16 (extractStridedSlice S1x1024x16 ![1, 0, 0] (V0 (Proc.devRef .tc main_arg4)) slices_S2x1024x16_S1x1024x16_1_0_0) shapeCasts_S1x1024x16_S1024x16
/-- Layer 1's operand 5. -/
def p1_5 : FVec Ideal S16x1024 .f32 := shapeCast S16x1024 (extractStridedSlice S1x16x1024 ![1, 0, 0] (V0 (Proc.devRef .tc main_arg5)) slices_S2x16x1024_S1x16x1024_1_0_0) shapeCasts_S1x16x1024_S16x1024
/-- Layer 1's operand 6. -/
def p1_6 : FVec Ideal S1024x1024 .f32 := shapeCast S1024x1024 (extractStridedSlice S1x1024x1024 ![1, 0, 0] (V0 (Proc.devRef .tc main_arg6)) slices_S2x1024x1024_S1x1024x1024_1_0_0) shapeCasts_S1x1024x1024_S1024x1024
/-- Layer 1's operand 7. -/
def p1_7 : FVec Ideal S1024x16 .f32 := shapeCast S1024x16 (extractStridedSlice S1x1024x16 ![1, 0, 0] (V0 (Proc.devRef .tc main_arg7)) slices_S2x1024x16_S1x1024x16_1_0_0) shapeCasts_S1x1024x16_S1024x16
/-- Layer 1's operand 8. -/
def p1_8 : FVec Ideal S16x1024 .f32 := shapeCast S16x1024 (extractStridedSlice S1x16x1024 ![1, 0, 0] (V0 (Proc.devRef .tc main_arg8)) slices_S2x16x1024_S1x16x1024_1_0_0) shapeCasts_S1x16x1024_S16x1024
/-- Layer 1's operand 9. -/
def p1_9 : FVec Ideal S1024x1024 .f32 := shapeCast S1024x1024 (extractStridedSlice S1x1024x1024 ![1, 0, 0] (V0 (Proc.devRef .tc main_arg9)) slices_S2x1024x1024_S1x1024x1024_1_0_0) shapeCasts_S1x1024x1024_S1024x1024
/-- Layer 1's operand 10. -/
def p1_10 : FVec Ideal S1024x16 .f32 := shapeCast S1024x16 (extractStridedSlice S1x1024x16 ![1, 0, 0] (V0 (Proc.devRef .tc main_arg10)) slices_S2x1024x16_S1x1024x16_1_0_0) shapeCasts_S1x1024x16_S1024x16
/-- Layer 1's operand 11. -/
def p1_11 : FVec Ideal S16x1024 .f32 := shapeCast S16x1024 (extractStridedSlice S1x16x1024 ![1, 0, 0] (V0 (Proc.devRef .tc main_arg11)) slices_S2x16x1024_S1x16x1024_1_0_0) shapeCasts_S1x16x1024_S16x1024
/-- Layer 1's operand 12. -/
def p1_12 : FVec Ideal S1024x1024 .f32 := shapeCast S1024x1024 (extractStridedSlice S1x1024x1024 ![1, 0, 0] (V0 (Proc.devRef .tc main_arg12)) slices_S2x1024x1024_S1x1024x1024_1_0_0) shapeCasts_S1x1024x1024_S1024x1024
/-- Layer 1's operand 13. -/
def p1_13 : FVec Ideal S1024x16 .f32 := shapeCast S1024x16 (extractStridedSlice S1x1024x16 ![1, 0, 0] (V0 (Proc.devRef .tc main_arg13)) slices_S2x1024x16_S1x1024x16_1_0_0) shapeCasts_S1x1024x16_S1024x16
/-- Layer 1's operand 14. -/
def p1_14 : FVec Ideal S16x1024 .f32 := shapeCast S16x1024 (extractStridedSlice S1x16x1024 ![1, 0, 0] (V0 (Proc.devRef .tc main_arg14)) slices_S2x16x1024_S1x16x1024_1_0_0) shapeCasts_S1x16x1024_S16x1024
theorem e1_v12 : (res_main_v12 V0 : FVec Ideal S512x32 .f32) = AttnRefIdeal.Own.U_v12  :=
  (show (res_main_v12 V0 : FVec Ideal S512x32 .f32) = t_v12  from rfl).trans ((t_v12_eq ))
theorem e1_v13 : (res_main_v13 V0 : FVec Ideal S512x64 .f32) = AttnRefIdeal.Own.U_v13  :=
  (show (res_main_v13 V0 : FVec Ideal S512x64 .f32) = t_v13 (res_main_v12 V0) from rfl).trans ((t_v13_eq (res_main_v12 V0)).trans (AttnRefIdeal.Own.t_v13_congr _ _ (e1_v12 V0)))
theorem e1_v14 : (res_main_v14 V0 : FVec Ideal S512x64 .f32) = AttnRefIdeal.Own.U_v14  :=
  (show (res_main_v14 V0 : FVec Ideal S512x64 .f32) = t_v14 (res_main_v13 V0) from rfl).trans ((t_v14_eq (res_main_v13 V0)).trans (AttnRefIdeal.Own.t_v14_congr _ _ (e1_v13 V0)))
theorem e1_v15 : (res_main_v15 V0 : FVec Ideal S512x64 .f32) = AttnRefIdeal.Own.U_v15  :=
  (show (res_main_v15 V0 : FVec Ideal S512x64 .f32) = t_v15 (res_main_v13 V0) from rfl).trans ((t_v15_eq (res_main_v13 V0)).trans (AttnRefIdeal.Own.t_v15_congr _ _ (e1_v13 V0)))
theorem e1_v199 : (res_main_v199 V0 : FVec Ideal S1024x1024 .f32) = AttnRefIdeal.Own.U_v34 (p1_0 V0) (p1_1 V0) :=
  (show (res_main_v199 V0 : FVec Ideal S1024x1024 .f32) = t_v34 (p1_0 V0) (p1_1 V0) from rfl).trans ((t_v34_eq (p1_0 V0) (p1_1 V0)).trans (AttnRefIdeal.Own.t_v34_congr _ _ rfl _ _ rfl))
theorem e1_v212 : (res_main_v212 V0 : FVec Ideal S2x512x16x64 .f32) = AttnRefIdeal.Own.U_v41 (p1_0 V0) (p1_1 V0) (p1_3 V0) (p1_4 V0) (p1_5 V0) :=
  (show (res_main_v212 V0 : FVec Ideal S2x512x16x64 .f32) = t_v41 (res_main_v199 V0) (p1_3 V0) (p1_4 V0) (p1_5 V0) from rfl).trans ((t_v41_eq (res_main_v199 V0) (p1_3 V0) (p1_4 V0) (p1_5 V0)).trans (AttnRefIdeal.Own.t_v41_congr _ _ (e1_v199 V0) _ _ rfl _ _ rfl _ _ rfl))
theorem e1_v225 : (res_main_v225 V0 : FVec Ideal S2x512x16x64 .f32) = AttnRefIdeal.Own.U_v48 (p1_0 V0) (p1_1 V0) (p1_6 V0) (p1_7 V0) (p1_8 V0) :=
  (show (res_main_v225 V0 : FVec Ideal S2x512x16x64 .f32) = t_v48 (res_main_v199 V0) (p1_6 V0) (p1_7 V0) (p1_8 V0) from rfl).trans ((t_v48_eq (res_main_v199 V0) (p1_6 V0) (p1_7 V0) (p1_8 V0)).trans (AttnRefIdeal.Own.t_v48_congr _ _ (e1_v199 V0) _ _ rfl _ _ rfl _ _ rfl))
theorem e1_v266 : (res_main_v266 V0 : FVec Ideal S2x16x512x512 .f32) = AttnRefIdeal.Own.U_v83 (p1_0 V0) (p1_1 V0) (p1_3 V0) (p1_4 V0) (p1_5 V0) (p1_6 V0) (p1_7 V0) (p1_8 V0) :=
  (show (res_main_v266 V0 : FVec Ideal S2x16x512x512 .f32) = t_v83 (res_main_v14 V0) (res_main_v15 V0) (res_main_v212 V0) (res_main_v225 V0) from rfl).trans ((t_v83_eq (res_main_v14 V0) (res_main_v15 V0) (res_main_v212 V0) (res_main_v225 V0)).trans (AttnRefIdeal.Own.t_v83_congr _ _ (e1_v14 V0) _ _ (e1_v15 V0) _ _ (e1_v212 V0) _ _ (e1_v225 V0)))
theorem e1_v273 : (res_main_v273 V0 : FVec Ideal S2x16x512x512 .f32) = AttnRefIdeal.Own.U_v90 (p1_0 V0) (p1_1 V0) (p1_3 V0) (p1_4 V0) (p1_5 V0) (p1_6 V0) (p1_7 V0) (p1_8 V0) :=
  (show (res_main_v273 V0 : FVec Ideal S2x16x512x512 .f32) = t_v90 (res_main_v266 V0) from rfl).trans ((t_v90_eq (res_main_v266 V0)).trans (AttnRefIdeal.Own.t_v90_congr _ _ (e1_v266 V0)))
theorem e1_v280 : (res_main_v280 V0 : FVec Ideal S1024x1024 .f32) = AttnRefIdeal.Own.U_v97 (p1_0 V0) (p1_1 V0) (p1_3 V0) (p1_4 V0) (p1_5 V0) (p1_6 V0) (p1_7 V0) (p1_8 V0) (p1_9 V0) (p1_10 V0) (p1_11 V0) :=
  (show (res_main_v280 V0 : FVec Ideal S1024x1024 .f32) = t_v97 (res_main_v199 V0) (res_main_v273 V0) (p1_9 V0) (p1_10 V0) (p1_11 V0) from rfl).trans ((t_v97_eq (res_main_v199 V0) (res_main_v273 V0) (p1_9 V0) (p1_10 V0) (p1_11 V0)).trans (AttnRefIdeal.Own.t_v97_congr _ _ (e1_v199 V0) _ _ (e1_v273 V0) _ _ rfl _ _ rfl _ _ rfl))
theorem e1_v293 : (res_main_v293 V0 : FVec Ideal S1024x1024 .f32) = AttnRefIdeal.Own.U_v104 (p1_0 V0) (p1_1 V0) (p1_3 V0) (p1_4 V0) (p1_5 V0) (p1_6 V0) (p1_7 V0) (p1_8 V0) (p1_9 V0) (p1_10 V0) (p1_11 V0) (p1_12 V0) (p1_13 V0) (p1_14 V0) :=
  (show (res_main_v293 V0 : FVec Ideal S1024x1024 .f32) = t_v104 (res_main_v280 V0) (p1_0 V0) (p1_12 V0) (p1_13 V0) (p1_14 V0) from rfl).trans ((t_v104_eq (res_main_v280 V0) (p1_0 V0) (p1_12 V0) (p1_13 V0) (p1_14 V0)).trans (AttnRefIdeal.Own.t_v104_congr _ _ (e1_v280 V0) _ _ rfl _ _ rfl _ _ rfl _ _ rfl))
theorem args1 : AttnRefIdeal.Own.argsOf (p1_0 V0) (p1_1 V0) (p1_2 V0) (p1_3 V0) (p1_4 V0) (p1_5 V0) (p1_6 V0) (p1_7 V0) (p1_8 V0) (p1_9 V0) (p1_10 V0) (p1_11 V0) (p1_12 V0) (p1_13 V0) (p1_14 V0) = (arrays V0).attn 1 (res_main_v184 V0) := by
  unfold AttnRefIdeal.Own.argsOf LayersIdeal.Own.Arrays.attn
  rw [Spec.Args.mk.injEq]
  refine ⟨rfl, ?_, ?_, ?_, ?_, ?_, ?_, ?_, ?_, ?_, ?_, ?_, ?_, ?_, ?_⟩
  · funext k; pointwise [arrays, p1_1]
  · funext k; pointwise [arrays, p1_2]
  · funext i j; pointwise [arrays, p1_3]
  · funext i j; pointwise [arrays, p1_4]
  · funext i j; pointwise [arrays, p1_5]
  · funext i j; pointwise [arrays, p1_6]
  · funext i j; pointwise [arrays, p1_7]
  · funext i j; pointwise [arrays, p1_8]
  · funext i j; pointwise [arrays, p1_9]
  · funext i j; pointwise [arrays, p1_10]
  · funext i j; pointwise [arrays, p1_11]
  · funext i j; pointwise [arrays, p1_12]
  · funext i j; pointwise [arrays, p1_13]
  · funext i j; pointwise [arrays, p1_14]
/-- Layer 1's rows after the attention, -/
theorem res_v293 : (res_main_v293 V0 : FVec Ideal S1024x1024 .f32) = AttnIdeal.Own.result1 ((arrays V0).attn 1 (res_main_v184 V0)) :=
  ((e1_v293 V0).trans (AttnRefIdeal.Own.out1 (p1_0 V0) (p1_1 V0) (p1_2 V0) (p1_3 V0) (p1_4 V0) (p1_5 V0) (p1_6 V0) (p1_7 V0) (p1_8 V0) (p1_9 V0) (p1_10 V0) (p1_11 V0) (p1_12 V0) (p1_13 V0) (p1_14 V0))).trans (congrArg AttnIdeal.Own.result1 (args1 V0))
/-- normed, -/
theorem res_v308 : (res_main_v308 V0 : FVec Ideal S1024x1024 .f32) = AttnIdeal.Own.result2 ((arrays V0).attn 1 (res_main_v184 V0)) :=
  ((show (res_main_v308 V0 : FVec Ideal S1024x1024 .f32) = t_normed (res_main_v293 V0) (p1_2 V0) from rfl).trans ((t_normed_eq _ _).trans (AttnRefIdeal.Own.normed_congr _ _ (e1_v293 V0) _ _ rfl))).trans ((AttnRefIdeal.Own.out2 (p1_0 V0) (p1_1 V0) (p1_2 V0) (p1_3 V0) (p1_4 V0) (p1_5 V0) (p1_6 V0) (p1_7 V0) (p1_8 V0) (p1_9 V0) (p1_10 V0) (p1_11 V0) (p1_12 V0) (p1_13 V0) (p1_14 V0)).trans (congrArg AttnIdeal.Own.result2 (args1 V0)))
/-- the gated unit's result of them, -/
theorem mlp1 : (res_main_v347 V0 : FVec Ideal S1024x1024 .f32) = (arrays V0).mlp 1 (res_main_v308 V0) (res_main_v293 V0) := by
  unfold res_main_v347 res_main_v334 res_main_v320 LayersIdeal.Own.Arrays.mlp
  generalize res_main_v308 V0 = x
  generalize res_main_v293 V0 = h
  funext i
  pointwise [arrays, MlpIdeal.Own.result, MlpIdeal.Own.mid, Spec.lora, Spec.gated, Spec.two, Ideal.logistic]
/-- and after the layer. -/
theorem res_v347 : (res_main_v347 V0 : FVec Ideal S1024x1024 .f32) = (arrays V0).layer 1 (res_main_v184 V0) :=
  (mlp1 V0).trans (show (arrays V0).mlp 1 (res_main_v308 V0) (res_main_v293 V0) = (arrays V0).mlp 1 (AttnIdeal.Own.result2 ((arrays V0).attn 1 (res_main_v184 V0))) (AttnIdeal.Own.result1 ((arrays V0).attn 1 (res_main_v184 V0))) from congr (congrArg ((arrays V0).mlp 1) (res_v308 V0)) (res_v293 V0))
end Cert.LayersRefIdeal.Own
end
-- ==== Proof.LayersRefFinal.lean ====
/- The reference of the calls chained: its layers are the layers' functions. -/
module
public import Idealize.ShloMosaic.Lib.Claim
public import Idealize.ShloMosaic.Lib.Pipeline.ValueKit
public import proofs.«01_k».proof.Proof.Gen.LayersRefIdeal.Run
public import proofs.«01_k».proof.Proof.LayersSpec
public import proofs.«01_k».proof.Proof.AttnRefOut
public import proofs.«01_k».proof.Proof.LayersRefValue
public import proofs.«01_k».proof.Proof.FinalValue
@[expose] public section
set_option maxRecDepth 16384
noncomputable section
open Idealize.ShloMosaic Idealize.ShloMosaic.TcCoe Idealize.SL.Sem
namespace Cert.LayersRefIdeal.Own
open Cert.LayersRefIdeal Cert.LayersRefIdeal.Gen Cert.LayersRefIdeal.Value
variable (V0 : Valuation τ sig (Elt Ideal))

/-- The last layer's rows, of the rows the reference is given. -/
theorem rows : (res_main_v347 V0 : FVec Ideal S1024x1024 .f32) = (arrays V0).layer 1 ((arrays V0).layer 0 (arrays V0).h) :=
  (res_v347 V0).trans (congrArg ((arrays V0).layer 1) (res_v184 V0))
/-- The reference's logits are the layers' logits, -/
theorem logits : (Host.dotGeneral (F := Ideal) (φ₁ := .f32) (φ₂ := .f32) dot_S1024x1024_S1024x32000_S1024x32000_1_0_0_1_n_n none (res_main_v360 V0) (arrays V0).lm : FVec Ideal S1024x32000 .f32) = (arrays V0).logits := by
  have e : (Host.dotGeneral (F := Ideal) (φ₁ := .f32) (φ₂ := .f32) dot_S1024x1024_S1024x32000_S1024x32000_1_0_0_1_n_n none (res_main_v360 V0) (arrays V0).lm : FVec Ideal S1024x32000 .f32) = FinalIdeal.Own.logits (res_main_v347 V0) (arrays V0).lnf (arrays V0).lm := by
    unfold res_main_v360
    generalize res_main_v347 V0 = h
    exact FinalRefIdeal.Own.ref_5 h (arrays V0).lnf (arrays V0).lm
  exact e.trans (congrArg (fun h => FinalIdeal.Own.logits h (arrays V0).lnf (arrays V0).lm) (rows V0))
/-- and its values the layers' values. -/
theorem values : (addf (Host.dotGeneral (F := Ideal) (φ₁ := .f32) (φ₂ := .f32) dot_S1024x1024_S1024x1_S1024x1_1_0_0_1_n_n none (res_main_v360 V0) (arrays V0).vw) (broadcastInDim S1024x1 ![] bcast_S_S1024x1 (shapeCast _ (arrays V0).vb shapeCasts_S1_S_)) : FVec Ideal S1024x1 .f32) = (arrays V0).values := by
  have e : (addf (Host.dotGeneral (F := Ideal) (φ₁ := .f32) (φ₂ := .f32) dot_S1024x1024_S1024x1_S1024x1_1_0_0_1_n_n none (res_main_v360 V0) (arrays V0).vw) (broadcastInDim S1024x1 ![] bcast_S_S1024x1 (shapeCast _ (arrays V0).vb shapeCasts_S1_S_)) : FVec Ideal S1024x1 .f32) = FinalIdeal.Own.values (res_main_v347 V0) (arrays V0).lnf (arrays V0).vw (arrays V0).vb := by
    unfold res_main_v360
    generalize res_main_v347 V0 = h
    exact FinalRefIdeal.Own.ref_6 h (arrays V0).lnf (arrays V0).vw (arrays V0).vb
  exact e.trans (congrArg (fun h => FinalIdeal.Own.values h (arrays V0).lnf (arrays V0).vw (arrays V0).vb) (rows V0))
end Cert.LayersRefIdeal.Own
end
-- ==== Proof.LayersClaim.lean ====
/- What the calls chained and their reference leave: the same functions of the arrays. -/
module
public import proofs.«01_k».proof.Proof.LayersFrame
public import proofs.«01_k».proof.Proof.LayersValue
public import proofs.«01_k».proof.Proof.LayersRefFinal
@[expose] public section
set_option maxRecDepth 16384
noncomputable section
open Idealize.ShloMosaic Idealize.ShloMosaic.TcCoe Idealize.SL.Sem
namespace Cert.LayersIdeal.Own
open Cert.LayersIdeal Cert.LayersIdeal.Gen

/-- The calls chained end with the logits and the values of the arrays, and their arguments unchanged. -/
theorem run_value (m : (ℓ : Loc nD τ sig) → Buf (Elt Ideal) ℓ) (hA : ∀ c, (arrays m c).Real) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v123_0) = (arrays m c).logits
      ∧ r.2.mem ((c.tc : Thread nD τ).loc main_v123_1) = (arrays m c).values
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) := by
  refine (θ_run _ _ _).mono (fun r h c => ?_) (run_all m ρ)
  exact ⟨(h.1 c (Proc.devRef .tc main_v123_0) (Finset.mem_filter.mpr ⟨StableHlo.devRef_mem_tcRefs main_v123_0, by decide⟩)).trans ((V10_at_main_v123_0 m (outs m) c).trans (at_logits m c (hA c))),
    (h.1 c (Proc.devRef .tc main_v123_1) (Finset.mem_filter.mpr ⟨StableHlo.devRef_mem_tcRefs main_v123_1, by decide⟩)).trans ((V10_at_main_v123_1 m (outs m) c).trans (at_values m c (hA c))),
    (h.1 c (Proc.devRef .tc main_arg0) (Finset.mem_filter.mpr ⟨StableHlo.devRef_mem_tcRefs main_arg0, by decide⟩)).trans (V10_main_arg0 m (outs m) c),
    (h.1 c (Proc.devRef .tc main_arg1) (Finset.mem_filter.mpr ⟨StableHlo.devRef_mem_tcRefs main_arg1, by decide⟩)).trans (V10_main_arg1 m (outs m) c),
    (h.1 c (Proc.devRef .tc main_arg2) (Finset.mem_filter.mpr ⟨StableHlo.devRef_mem_tcRefs main_arg2, by decide⟩)).trans (V10_main_arg2 m (outs m) c),
    (h.1 c (Proc.devRef .tc main_arg3) (Finset.mem_filter.mpr ⟨StableHlo.devRef_mem_tcRefs main_arg3, by decide⟩)).trans (V10_main_arg3 m (outs m) c),
    (h.1 c (Proc.devRef .tc main_arg4) (Finset.mem_filter.mpr ⟨StableHlo.devRef_mem_tcRefs main_arg4, by decide⟩)).trans (V10_main_arg4 m (outs m) c),
    (h.1 c (Proc.devRef .tc main_arg5) (Finset.mem_filter.mpr ⟨StableHlo.devRef_mem_tcRefs main_arg5, by decide⟩)).trans (V10_main_arg5 m (outs m) c),
    (h.1 c (Proc.devRef .tc main_arg6) (Finset.mem_filter.mpr ⟨StableHlo.devRef_mem_tcRefs main_arg6, by decide⟩)).trans (V10_main_arg6 m (outs m) c),
    (h.1 c (Proc.devRef .tc main_arg7) (Finset.mem_filter.mpr ⟨StableHlo.devRef_mem_tcRefs main_arg7, by decide⟩)).trans (V10_main_arg7 m (outs m) c),
    (h.1 c (Proc.devRef .tc main_arg8) (Finset.mem_filter.mpr ⟨StableHlo.devRef_mem_tcRefs main_arg8, by decide⟩)).trans (V10_main_arg8 m (outs m) c),
    (h.1 c (Proc.devRef .tc main_arg9) (Finset.mem_filter.mpr ⟨StableHlo.devRef_mem_tcRefs main_arg9, by decide⟩)).trans (V10_main_arg9 m (outs m) c),
    (h.1 c (Proc.devRef .tc main_arg10) (Finset.mem_filter.mpr ⟨StableHlo.devRef_mem_tcRefs main_arg10, by decide⟩)).trans (V10_main_arg10 m (outs m) c),
    (h.1 c (Proc.devRef .tc main_arg11) (Finset.mem_filter.mpr ⟨StableHlo.devRef_mem_tcRefs main_arg11, by decide⟩)).trans (V10_main_arg11 m (outs m) c),
    (h.1 c (Proc.devRef .tc main_arg12) (Finset.mem_filter.mpr ⟨StableHlo.devRef_mem_tcRefs main_arg12, by decide⟩)).trans (V10_main_arg12 m (outs m) c),
    (h.1 c (Proc.devRef .tc main_arg13) (Finset.mem_filter.mpr ⟨StableHlo.devRef_mem_tcRefs main_arg13, by decide⟩)).trans (V10_main_arg13 m (outs m) c),
    (h.1 c (Proc.devRef .tc main_arg14) (Finset.mem_filter.mpr ⟨StableHlo.devRef_mem_tcRefs main_arg14, by decide⟩)).trans (V10_main_arg14 m (outs m) c),
    (h.1 c (Proc.devRef .tc main_arg15) (Finset.mem_filter.mpr ⟨StableHlo.devRef_mem_tcRefs main_arg15, by decide⟩)).trans (V10_main_arg15 m (outs m) c),
    (h.1 c (Proc.devRef .tc main_arg16) (Finset.mem_filter.mpr ⟨StableHlo.devRef_mem_tcRefs main_arg16, by decide⟩)).trans (V10_main_arg16 m (outs m) c),
    (h.1 c (Proc.devRef .tc main_arg17) (Finset.mem_filter.mpr ⟨StableHlo.devRef_mem_tcRefs main_arg17, by decide⟩)).trans (V10_main_arg17 m (outs m) c),
    (h.1 c (Proc.devRef .tc main_arg18) (Finset.mem_filter.mpr ⟨StableHlo.devRef_mem_tcRefs main_arg18, by decide⟩)).trans (V10_main_arg18 m (outs m) c),
    (h.1 c (Proc.devRef .tc main_arg19) (Finset.mem_filter.mpr ⟨StableHlo.devRef_mem_tcRefs main_arg19, by decide⟩)).trans (V10_main_arg19 m (outs m) c),
    (h.1 c (Proc.devRef .tc main_arg20) (Finset.mem_filter.mpr ⟨StableHlo.devRef_mem_tcRefs main_arg20, by decide⟩)).trans (V10_main_arg20 m (outs m) c),
    (h.1 c (Proc.devRef .tc main_arg21) (Finset.mem_filter.mpr ⟨StableHlo.devRef_mem_tcRefs main_arg21, by decide⟩)).trans (V10_main_arg21 m (outs m) c),
    (h.1 c (Proc.devRef .tc main_arg22) (Finset.mem_filter.mpr ⟨StableHlo.devRef_mem_tcRefs main_arg22, by decide⟩)).trans (V10_main_arg22 m (outs m) c),
    (h.1 c (Proc.devRef .tc main_arg23) (Finset.mem_filter.mpr ⟨StableHlo.devRef_mem_tcRefs main_arg23, by decide⟩)).trans (V10_main_arg23 m (outs m) c),
    (h.1 c (Proc.devRef .tc main_arg24) (Finset.mem_filter.mpr ⟨StableHlo.devRef_mem_tcRefs main_arg24, by decide⟩)).trans (V10_main_arg24 m (outs m) c),
    (h.1 c (Proc.devRef .tc main_arg25) (Finset.mem_filter.mpr ⟨StableHlo.devRef_mem_tcRefs main_arg25, by decide⟩)).trans (V10_main_arg25 m (outs m) c),
    (h.1 c (Proc.devRef .tc main_arg26) (Finset.mem_filter.mpr ⟨StableHlo.devRef_mem_tcRefs main_arg26, by decide⟩)).trans (V10_main_arg26 m (outs m) c),
    (h.1 c (Proc.devRef .tc main_arg27) (Finset.mem_filter.mpr ⟨StableHlo.devRef_mem_tcRefs main_arg27, by decide⟩)).trans (V10_main_arg27 m (outs m) c)⟩

end Cert.LayersIdeal.Own
namespace Cert.LayersRefIdeal.Own
open Cert.LayersRefIdeal Cert.LayersRefIdeal.Gen Cert.LayersRefIdeal.Value

/-- The reference ends with the same functions of the arrays it is given. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v361) = (arrays (StableHlo.launchContents m c)).logits
      ∧ r.2.mem ((c.tc : Thread nD τ).loc main_v365) = (arrays (StableHlo.launchContents m c)).values
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run _ _ _).mono (fun r h c => ⟨(h c).1.trans (logits (StableHlo.launchContents m c)), (h c).2.1.trans (values (StableHlo.launchContents m c)), (h c).2.2⟩) (Cert.LayersRefIdeal.Value.run m ρ)

end Cert.LayersRefIdeal.Own
end
-- ==== Proof.lean ====
/- The proof of every claim of this certificate. -/
module

public import proofs.«01_k».proof.Defs
public import proofs.«01_k».proof.Proof.LayersFrame
public import proofs.«01_k».proof.Proof.Gen.Own.Layers.RegionsD
public import proofs.«01_k».proof.Proof.Gen.LayersRefIdeal
public import proofs.«01_k».proof.Proof.Gen.LayersRefIdeal.Run
public import proofs.«01_k».proof.Proof.Gen.Own.LayersIdeal.RegionsD
public import proofs.«01_k».proof.Proof.Gen.Final
public import proofs.«01_k».proof.Proof.Gen.Final.Frame
public import proofs.«01_k».proof.Proof.FinalValue
public import proofs.«01_k».proof.Proof.FinalRunBits
public import proofs.«01_k».proof.Proof.MlpValue
public import proofs.«01_k».proof.Proof.Finite
public import proofs.«01_k».proof.Proof.Gen.Mlp
public import proofs.«01_k».proof.Proof.Gen.Mlp.Frame
public import proofs.«01_k».proof.Proof.Gen.MlpIdeal
public import proofs.«01_k».proof.Proof.Gen.MlpIdeal.Frame
public import proofs.«01_k».proof.Proof.Gen.MlpRefIdeal
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnRefIdeal
public import proofs.«01_k».proof.Proof.Gen.MlpRefIdeal.Run
public import proofs.«01_k».proof.Proof.Gen.AttnRefIdeal.Run
public import proofs.«01_k».proof.Proof.AttnRefOut
public import proofs.«01_k».proof.Proof.LayersFinite
public import proofs.«01_k».proof.Proof.LayersClaim
public import Idealize.ShloMosaic.Adequacy
public import Idealize.ShloMosaic.Init

@[expose] public section

noncomputable section

namespace Cert.Proof

open Idealize.ShloMosaic Idealize.SL.Sem

/-- The final call ends over the machine's numbers, with its arguments unchanged and every counter at zero. -/
theorem frame_Final : Cert.quiescent_Final := fun m ρ _ => Cert.Final.Own.frame m ρ

/-- The final call over the extended reals ends, with its arguments unchanged and every counter at zero. -/
theorem frame_FinalIdeal : Cert.quiescent_FinalIdeal := fun m ρ _ => Cert.FinalIdeal.Own.frame m ρ

/-- The final call's reference ends, with its arguments unchanged. -/
theorem frame_FinalRefIdeal : Cert.quiescent_FinalRefIdeal := fun m ρ _ =>
  (θ_run _ _ _).mono (fun r h => ⟨fun c => (h c).2.2, sem_eq_zero_of_no_sems (by decide) r.2⟩) (Cert.FinalRefIdeal.Value.run m ρ)

/-- The MLP call's reference ends, with its arguments unchanged. -/
theorem frame_MlpRefIdeal : Cert.quiescent_MlpRefIdeal := fun m ρ _ =>
  (θ_run _ _ _).mono (fun r h => ⟨fun c => (h c).2, sem_eq_zero_of_no_sems (by decide) r.2⟩) (Cert.MlpRefIdeal.Value.run m ρ)

/-- The attention call's reference ends, with its arguments unchanged. -/
theorem frame_AttnRefIdeal : Cert.quiescent_AttnRefIdeal := fun m ρ _ =>
  (θ_run _ _ _).mono (fun r h => ⟨fun c => (h c).2.2, sem_eq_zero_of_no_sems (by decide) r.2⟩) (Cert.AttnRefIdeal.Value.run m ρ)

/-- The final call and its reference leave equal logits and equal values. -/
theorem algebraic_Final : Cert.algebraic_FinalIdeal_FinalRefIdeal := by
  pair_intro
  · run_from Cert.FinalIdeal.Own.run_main m g
  · run_from Cert.FinalRefIdeal.Value.run m' g'
    · rw [Cert.FinalIdeal.Own.final_5 m c]; exact Cert.FinalRefIdeal.Own.ref_5 _ _ _
    · rw [Cert.FinalIdeal.Own.final_6 m c]; exact Cert.FinalRefIdeal.Own.ref_6 _ _ _ _

/-- The calls chained, end to end: they end, with their arguments unchanged. -/
theorem frame_Layers : Cert.quiescent_Layers := fun m ρ _ => Cert.Layers.Own.frame m ρ

/-- The same over the idealized numbers. -/
theorem frame_LayersIdeal : Cert.quiescent_LayersIdeal := fun m ρ _ => Cert.LayersIdeal.Own.frame m ρ

/-- The reference of the calls chained ends, with its arguments unchanged. -/
theorem frame_LayersRefIdeal : Cert.quiescent_LayersRefIdeal := fun m ρ _ =>
  (θ_run _ _ _).mono (fun r h => ⟨fun c => (h c).2.2, sem_eq_zero_of_no_sems (by decide) r.2⟩) (Cert.LayersRefIdeal.Value.run m ρ)

/-- The precondition over the kernel's arguments, read back. -/
theorem mlp_real (m : (ℓ : Loc Cert.MlpIdeal.nD Cert.MlpIdeal.τ Cert.MlpIdeal.sig) → Buf (Elt Ideal) ℓ) (h : Cert.Pre_MlpIdeal_finite m) (c : Dev Cert.MlpIdeal.nD) :
    Cert.MlpIdeal.Own.Real (m ((c.tc : Thread Cert.MlpIdeal.nD Cert.MlpIdeal.τ).loc Cert.MlpIdeal.main_arg0)) (m ((c.tc : Thread Cert.MlpIdeal.nD Cert.MlpIdeal.τ).loc Cert.MlpIdeal.main_arg2)) (m ((c.tc : Thread Cert.MlpIdeal.nD Cert.MlpIdeal.τ).loc Cert.MlpIdeal.main_arg3))
      (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6))
      (m ((c.tc : Thread Cert.MlpIdeal.nD Cert.MlpIdeal.τ).loc Cert.MlpIdeal.main_arg7)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) := by
  obtain ⟨h0, h1, h2, h3, h4, h5, h6, h7, h8⟩ := Cert.Pre_finite.Own.real _ _ _ _ _ _ _ _ _ _ _ (h c)
  exact ⟨h0, h1, h2, h3, h4, h5, h6, h7, h8⟩

/-- The MLP call and its reference leave equal results, when the nine arrays of the precondition are real. -/
theorem algebraic_Mlp : Cert.algebraic_MlpIdeal_MlpRefIdeal_pre_finite := by
  intro m g m' g' hpre hagree
  refine ⟨_, Cert.MlpIdeal.Own.run m (mlp_real m hpre) g, (θ_run _ _ _).mono (fun r h c => ⟨(h c).1.trans ?_, (h c).2⟩) (Cert.MlpRefIdeal.Own.run m' g')⟩
  obtain ⟨e0, e1, e2, e3, e4, e5, e6, e7, e8, e9, e10⟩ := hagree c
  rw [e0, e1, e2, e3, e4, e5, e6, e7, e8, e9, e10]

/-- The attention call and its reference leave equal activations and equal normalized activations. -/
theorem algebraic_Attn : Cert.algebraic_AttnIdeal_AttnRefIdeal := by
  intro m g m' g' _ hagree
  refine ⟨_, _, Cert.AttnIdeal.Own.run m g, (θ_run _ _ _).mono (fun r h c => ?_) (Cert.AttnRefIdeal.Own.run m' g')⟩
  obtain ⟨e0, e1, e2, e3, e4, e5, e6, e7, e8, e9, e10, e11, e12, e13, e14⟩ := hagree c
  have ea := Cert.AttnRefIdeal.Own.args_eq (StableHlo.launchContents m' c) m c e0 e1 e2 e3 e4 e5 e6 e7 e8 e9 e10 e11 e12 e13 e14
  exact ⟨(h c).1.trans (congrArg _ ea), (h c).2.1.trans (congrArg _ ea), (h c).2.2⟩

/-- The precondition over the chained calls' arguments, read back. -/
theorem layers_real (m : (ℓ : Loc Cert.LayersIdeal.nD Cert.LayersIdeal.τ Cert.LayersIdeal.sig) → Buf (Elt Ideal) ℓ) (h : Cert.Pre_LayersIdeal_finite_layers m) (c : Dev Cert.LayersIdeal.nD) :
    (Cert.LayersIdeal.Own.arrays m c).Real := by
  obtain ⟨h0, h1, h2, h3, h4, h5, h6, h7, h8⟩ := Cert.Pre_finite_layers.Own.real _ _ _ _ _ _ _ _ _ _ _ _ _ _ _ _ _ _ _ _ _ _ _ _ _ _ _ _ (h c)
  exact ⟨h0, h1, h2, h3, h4, h5, h6, h7, h8⟩

/-- The calls chained and their reference leave equal logits and equal values, when the nine arrays of the precondition are real. -/
theorem algebraic_Layers : Cert.algebraic_LayersIdeal_LayersRefIdeal_pre_finite_layers := by
  intro m g m' g' hpre hagree
  refine ⟨_, _, Cert.LayersIdeal.Own.run_value m (layers_real m hpre) g, (θ_run _ _ _).mono (fun r h c => ?_) (Cert.LayersRefIdeal.Own.run_value m' g')⟩
  obtain ⟨e0, e1, e2, e3, e4, e5, e6, e7, e8, e9, e10, e11, e12, e13, e14, e15, e16, e17, e18, e19, e20, e21, e22, e23, e24, e25, e26, e27⟩ := hagree c
  have ea : Cert.LayersRefIdeal.Own.arrays (StableHlo.launchContents m' c) = Cert.LayersIdeal.Own.arrays m c := by
    unfold Cert.LayersRefIdeal.Own.arrays Cert.LayersIdeal.Own.arrays
    rw [Cert.LayersIdeal.Own.Arrays.mk.injEq]
    exact ⟨e0, e1, e2, e3, e4, e5, e6, e7, e8, e9, e10, e11, e12, e13, e14, e15, e16, e17, e18, e19, e20, e21, e22, e23, e24, e25, e26, e27⟩
  exact ⟨(h c).1.trans (congrArg Cert.LayersIdeal.Own.Arrays.logits ea), (h c).2.1.trans (congrArg Cert.LayersIdeal.Own.Arrays.values ea), (h c).2.2⟩

theorem claim : Cert.Claim := ⟨Cert.Final.Gen.facts, Cert.FinalIdeal.Gen.facts, Cert.FinalRefIdeal.Gen.facts, Cert.Mlp.Gen.facts, Cert.MlpIdeal.Gen.facts, Cert.MlpRefIdeal.Gen.facts, Cert.Attn.Gen.facts, Cert.AttnIdeal.Gen.facts, Cert.AttnRefIdeal.Gen.facts, Cert.Layers.Gen.facts, Cert.LayersIdeal.Gen.facts, Cert.LayersRefIdeal.Gen.facts, Cert.Pre_finite.Own.facts, Cert.Pre_finite_layers.Own.facts,
  frame_Final, frame_FinalIdeal, frame_FinalRefIdeal,
  fun m ρ _ => Cert.Mlp.Gen.frame m ρ, fun m ρ _ => Cert.MlpIdeal.Gen.frame m ρ, fun m ρ _ => Cert.MlpIdeal.Gen.frame m ρ, frame_MlpRefIdeal, fun m ρ _ => frame_MlpRefIdeal m ρ trivial,
  fun m ρ _ => Cert.Attn.Gen.frame m ρ, fun m ρ _ => Cert.AttnIdeal.Gen.frame m ρ, frame_AttnRefIdeal,
  frame_Layers, frame_LayersIdeal, fun m ρ _ => frame_LayersIdeal m ρ trivial, frame_LayersRefIdeal, fun m ρ _ => frame_LayersRefIdeal m ρ trivial,
  trivial, algebraic_Final, trivial, algebraic_Mlp, IdealRules.named_const.statement _ _ _ _ _ rfl, algebraic_Attn, IdealRules.named_const.statement _ _ _ _ _ rfl, algebraic_Layers⟩

end Cert.Proof

end
